-- ==== Defs.lean ====
def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_RmsBwdAdd (m : (ℓ : Loc Cert.RmsBwdAdd.nD Cert.RmsBwdAdd.τ Cert.RmsBwdAdd.sig) → Buf (Elt Bits) ℓ) : Prop :=
  True

def Pre_RmsBwdAddIdeal (m : (ℓ : Loc Cert.RmsBwdAddIdeal.nD Cert.RmsBwdAddIdeal.τ Cert.RmsBwdAddIdeal.sig) → Buf (Elt Ideal) ℓ) : Prop :=
  True

def Pre_RmsBwdAddRefIdeal (m : (ℓ : Loc Cert.RmsBwdAddRefIdeal.nD Cert.RmsBwdAddRefIdeal.τ Cert.RmsBwdAddRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_RmsFwdRes (m : (ℓ : Loc Cert.RmsFwdRes.nD Cert.RmsFwdRes.τ Cert.RmsFwdRes.sig) → Buf (Elt Bits) ℓ) : Prop :=
  True

def Pre_RmsFwdResIdeal (m : (ℓ : Loc Cert.RmsFwdResIdeal.nD Cert.RmsFwdResIdeal.τ Cert.RmsFwdResIdeal.sig) → Buf (Elt Ideal) ℓ) : Prop :=
  True

def Pre_RmsFwdResRefIdeal (m : (ℓ : Loc Cert.RmsFwdResRefIdeal.nD Cert.RmsFwdResRefIdeal.τ Cert.RmsFwdResRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_DnconvFwd (m : (ℓ : Loc Cert.DnconvFwd.nD Cert.DnconvFwd.τ Cert.DnconvFwd.sig) → Buf (Elt Bits) ℓ) : Prop :=
  True

def Pre_DnconvFwdIdeal (m : (ℓ : Loc Cert.DnconvFwdIdeal.nD Cert.DnconvFwdIdeal.τ Cert.DnconvFwdIdeal.sig) → Buf (Elt Ideal) ℓ) : Prop :=
  True

def Pre_DnconvFwdRefIdeal (m : (ℓ : Loc Cert.DnconvFwdRefIdeal.nD Cert.DnconvFwdRefIdeal.τ Cert.DnconvFwdRefIdeal.sig) → Buf (Elt Ideal) ℓ) : Prop :=
  True

def Pre_DnconvBwd (m : (ℓ : Loc Cert.DnconvBwd.nD Cert.DnconvBwd.τ Cert.DnconvBwd.sig) → Buf (Elt Bits) ℓ) : Prop :=
  True

def Pre_DnconvBwdIdeal (m : (ℓ : Loc Cert.DnconvBwdIdeal.nD Cert.DnconvBwdIdeal.τ Cert.DnconvBwdIdeal.sig) → Buf (Elt Ideal) ℓ) : Prop :=
  True

def Pre_DnconvBwdIdeal_finite_gradient [hPre_finite_gradient : Cert.Pre_finite_gradient.Facts] (m : (ℓ : Loc Cert.DnconvBwdIdeal.nD Cert.DnconvBwdIdeal.τ Cert.DnconvBwdIdeal.sig) → Buf (Elt Ideal) ℓ) : Prop :=
  ∀ c : Dev Cert.DnconvBwdIdeal.nD,
    (Cert.Pre_finite_gradient.fn (F := Ideal) (m ((c.tc : Thread Cert.DnconvBwdIdeal.nD Cert.DnconvBwdIdeal.τ).loc Cert.DnconvBwdIdeal.main_arg0)) (m ((c.tc : Thread Cert.DnconvBwdIdeal.nD Cert.DnconvBwdIdeal.τ).loc Cert.DnconvBwdIdeal.main_arg1)) (m ((c.tc : Thread Cert.DnconvBwdIdeal.nD Cert.DnconvBwdIdeal.τ).loc Cert.DnconvBwdIdeal.main_arg2))) = (fun _ => 1#1)

def Pre_DnconvBwdRefIdeal (m : (ℓ : Loc Cert.DnconvBwdRefIdeal.nD Cert.DnconvBwdRefIdeal.τ Cert.DnconvBwdRefIdeal.sig) → Buf (Elt Ideal) ℓ) : Prop :=
  True

def Pre_DnconvBwdRefIdeal_finite_gradient [hPre_finite_gradient : Cert.Pre_finite_gradient.Facts] (m : (ℓ : Loc Cert.DnconvBwdRefIdeal.nD Cert.DnconvBwdRefIdeal.τ Cert.DnconvBwdRefIdeal.sig) → Buf (Elt Ideal) ℓ) : Prop :=
  ∀ c : Dev Cert.DnconvBwdRefIdeal.nD,
    (Cert.Pre_finite_gradient.fn (F := Ideal) (m ((c.tc : Thread Cert.DnconvBwdRefIdeal.nD Cert.DnconvBwdRefIdeal.τ).loc Cert.DnconvBwdRefIdeal.main_arg0)) (m ((c.tc : Thread Cert.DnconvBwdRefIdeal.nD Cert.DnconvBwdRefIdeal.τ).loc Cert.DnconvBwdRefIdeal.main_arg1)) (m ((c.tc : Thread Cert.DnconvBwdRefIdeal.nD Cert.DnconvBwdRefIdeal.τ).loc Cert.DnconvBwdRefIdeal.main_arg2))) = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_queries [hPre_finite_queries : Cert.Pre_finite_queries.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_queries.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_queries [hPre_finite_queries : Cert.Pre_finite_queries.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_queries.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))) = (fun _ => 1#1)

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_BranchDx (m : (ℓ : Loc Cert.BranchDx.nD Cert.BranchDx.τ Cert.BranchDx.sig) → Buf (Elt Bits) ℓ) : Prop :=
  True

def Pre_BranchDxIdeal (m : (ℓ : Loc Cert.BranchDxIdeal.nD Cert.BranchDxIdeal.τ Cert.BranchDxIdeal.sig) → Buf (Elt Ideal) ℓ) : Prop :=
  True

def Pre_BranchDxRefIdeal (m : (ℓ : Loc Cert.BranchDxRefIdeal.nD Cert.BranchDxRefIdeal.τ Cert.BranchDxRefIdeal.sig) → Buf (Elt Ideal) ℓ) : Prop :=
  True

def Pre_MixDx (m : (ℓ : Loc Cert.MixDx.nD Cert.MixDx.τ Cert.MixDx.sig) → Buf (Elt Bits) ℓ) : Prop :=
  True

def Pre_MixDxIdeal (m : (ℓ : Loc Cert.MixDxIdeal.nD Cert.MixDxIdeal.τ Cert.MixDxIdeal.sig) → Buf (Elt Ideal) ℓ) : Prop :=
  True

def Pre_MixDxRefIdeal (m : (ℓ : Loc Cert.MixDxRefIdeal.nD Cert.MixDxRefIdeal.τ Cert.MixDxRefIdeal.sig) → Buf (Elt Ideal) ℓ) : Prop :=
  True

def Pre_SquareDw (m : (ℓ : Loc Cert.SquareDw.nD Cert.SquareDw.τ Cert.SquareDw.sig) → Buf (Elt Bits) ℓ) : Prop :=
  True

def Pre_SquareDwIdeal (m : (ℓ : Loc Cert.SquareDwIdeal.nD Cert.SquareDwIdeal.τ Cert.SquareDwIdeal.sig) → Buf (Elt Ideal) ℓ) : Prop :=
  True

def Pre_SquareDwRefIdeal (m : (ℓ : Loc Cert.SquareDwRefIdeal.nD Cert.SquareDwRefIdeal.τ Cert.SquareDwRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamDnConv (m : (ℓ : Loc Cert.AdamDnConv.nD Cert.AdamDnConv.τ Cert.AdamDnConv.sig) → Buf (Elt Bits) ℓ) : Prop :=
  True

def Pre_AdamDnConvIdeal (m : (ℓ : Loc Cert.AdamDnConvIdeal.nD Cert.AdamDnConvIdeal.τ Cert.AdamDnConvIdeal.sig) → Buf (Elt Ideal) ℓ) : Prop :=
  True

def Pre_AdamDnConvRefIdeal (m : (ℓ : Loc Cert.AdamDnConvRefIdeal.nD Cert.AdamDnConvRefIdeal.τ Cert.AdamDnConvRefIdeal.sig) → Buf (Elt Ideal) ℓ) : Prop :=
  True

def Pre_AdamFfnConv (m : (ℓ : Loc Cert.AdamFfnConv.nD Cert.AdamFfnConv.τ Cert.AdamFfnConv.sig) → Buf (Elt Bits) ℓ) : Prop :=
  True

def Pre_AdamFfnConvIdeal (m : (ℓ : Loc Cert.AdamFfnConvIdeal.nD Cert.AdamFfnConvIdeal.τ Cert.AdamFfnConvIdeal.sig) → Buf (Elt Ideal) ℓ) : Prop :=
  True

def Pre_AdamFfnConvRefIdeal (m : (ℓ : Loc Cert.AdamFfnConvRefIdeal.nD Cert.AdamFfnConvRefIdeal.τ Cert.AdamFfnConvRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2))
      ∧ r.2.sem = fun _ => 0)

def quiescent_RmsBwdAdd [hRmsBwdAdd : Cert.RmsBwdAdd.Facts] : Prop :=
  ∀ (m : (ℓ : Loc Cert.RmsBwdAdd.nD Cert.RmsBwdAdd.τ Cert.RmsBwdAdd.sig) → Buf (Elt Bits) ℓ) (g : Dev Cert.RmsBwdAdd.nD → PrngReg), Pre_RmsBwdAdd m →
    θ_run (Cert.RmsBwdAdd.defs (F := Bits)) (onTc (τ := Cert.RmsBwdAdd.τ) (Cert.RmsBwdAdd.main (F := Bits))) ⟨m, fun _ => 0, g⟩ (fun r => (∀ c : Dev Cert.RmsBwdAdd.nD,
      r.2.mem ((c.tc : Thread Cert.RmsBwdAdd.nD Cert.RmsBwdAdd.τ).loc Cert.RmsBwdAdd.main_arg0) = m ((c.tc : Thread Cert.RmsBwdAdd.nD Cert.RmsBwdAdd.τ).loc Cert.RmsBwdAdd.main_arg0)
      ∧ r.2.mem ((c.tc : Thread Cert.RmsBwdAdd.nD Cert.RmsBwdAdd.τ).loc Cert.RmsBwdAdd.main_arg1) = m ((c.tc : Thread Cert.RmsBwdAdd.nD Cert.RmsBwdAdd.τ).loc Cert.RmsBwdAdd.main_arg1)
      ∧ r.2.mem ((c.tc : Thread Cert.RmsBwdAdd.nD Cert.RmsBwdAdd.τ).loc Cert.RmsBwdAdd.main_arg2) = m ((c.tc : Thread Cert.RmsBwdAdd.nD Cert.RmsBwdAdd.τ).loc Cert.RmsBwdAdd.main_arg2)
      ∧ r.2.mem ((c.tc : Thread Cert.RmsBwdAdd.nD Cert.RmsBwdAdd.τ).loc Cert.RmsBwdAdd.main_arg3) = m ((c.tc : Thread Cert.RmsBwdAdd.nD Cert.RmsBwdAdd.τ).loc Cert.RmsBwdAdd.main_arg3))
      ∧ r.2.sem = fun _ => 0)

def quiescent_RmsBwdAddIdeal [hRmsBwdAddIdeal : Cert.RmsBwdAddIdeal.Facts] : Prop :=
  ∀ (m : (ℓ : Loc Cert.RmsBwdAddIdeal.nD Cert.RmsBwdAddIdeal.τ Cert.RmsBwdAddIdeal.sig) → Buf (Elt Ideal) ℓ) (g : Dev Cert.RmsBwdAddIdeal.nD → PrngReg), Pre_RmsBwdAddIdeal m →
    θ_run (Cert.RmsBwdAddIdeal.defs (F := Ideal)) (onTc (τ := Cert.RmsBwdAddIdeal.τ) (Cert.RmsBwdAddIdeal.main (F := Ideal))) ⟨m, fun _ => 0, g⟩ (fun r => (∀ c : Dev Cert.RmsBwdAddIdeal.nD,
      r.2.mem ((c.tc : Thread Cert.RmsBwdAddIdeal.nD Cert.RmsBwdAddIdeal.τ).loc Cert.RmsBwdAddIdeal.main_arg0) = m ((c.tc : Thread Cert.RmsBwdAddIdeal.nD Cert.RmsBwdAddIdeal.τ).loc Cert.RmsBwdAddIdeal.main_arg0)
      ∧ r.2.mem ((c.tc : Thread Cert.RmsBwdAddIdeal.nD Cert.RmsBwdAddIdeal.τ).loc Cert.RmsBwdAddIdeal.main_arg1) = m ((c.tc : Thread Cert.RmsBwdAddIdeal.nD Cert.RmsBwdAddIdeal.τ).loc Cert.RmsBwdAddIdeal.main_arg1)
      ∧ r.2.mem ((c.tc : Thread Cert.RmsBwdAddIdeal.nD Cert.RmsBwdAddIdeal.τ).loc Cert.RmsBwdAddIdeal.main_arg2) = m ((c.tc : Thread Cert.RmsBwdAddIdeal.nD Cert.RmsBwdAddIdeal.τ).loc Cert.RmsBwdAddIdeal.main_arg2)
      ∧ r.2.mem ((c.tc : Thread Cert.RmsBwdAddIdeal.nD Cert.RmsBwdAddIdeal.τ).loc Cert.RmsBwdAddIdeal.main_arg3) = m ((c.tc : Thread Cert.RmsBwdAddIdeal.nD Cert.RmsBwdAddIdeal.τ).loc Cert.RmsBwdAddIdeal.main_arg3))
      ∧ r.2.sem = fun _ => 0)

def quiescent_RmsBwdAddRefIdeal [hRmsBwdAddRefIdeal : Cert.RmsBwdAddRefIdeal.Facts] : Prop :=
  ∀ (m : (ℓ : Loc Cert.RmsBwdAddRefIdeal.nD Cert.RmsBwdAddRefIdeal.τ Cert.RmsBwdAddRefIdeal.sig) → Buf (Elt Ideal) ℓ) (g : Dev Cert.RmsBwdAddRefIdeal.nD → PrngReg), Pre_RmsBwdAddRefIdeal m →
    θ_run (Cert.RmsBwdAddRefIdeal.defs (F := Ideal)) (onTc (τ := Cert.RmsBwdAddRefIdeal.τ) (Cert.RmsBwdAddRefIdeal.main (F := Ideal))) ⟨m, fun _ => 0, g⟩ (fun r => (∀ c : Dev Cert.RmsBwdAddRefIdeal.nD,
      r.2.mem ((c.tc : Thread Cert.RmsBwdAddRefIdeal.nD Cert.RmsBwdAddRefIdeal.τ).loc Cert.RmsBwdAddRefIdeal.main_arg0) = m ((c.tc : Thread Cert.RmsBwdAddRefIdeal.nD Cert.RmsBwdAddRefIdeal.τ).loc Cert.RmsBwdAddRefIdeal.main_arg0)
      ∧ r.2.mem ((c.tc : Thread Cert.RmsBwdAddRefIdeal.nD Cert.RmsBwdAddRefIdeal.τ).loc Cert.RmsBwdAddRefIdeal.main_arg1) = m ((c.tc : Thread Cert.RmsBwdAddRefIdeal.nD Cert.RmsBwdAddRefIdeal.τ).loc Cert.RmsBwdAddRefIdeal.main_arg1)
      ∧ r.2.mem ((c.tc : Thread Cert.RmsBwdAddRefIdeal.nD Cert.RmsBwdAddRefIdeal.τ).loc Cert.RmsBwdAddRefIdeal.main_arg2) = m ((c.tc : Thread Cert.RmsBwdAddRefIdeal.nD Cert.RmsBwdAddRefIdeal.τ).loc Cert.RmsBwdAddRefIdeal.main_arg2)
      ∧ r.2.mem ((c.tc : Thread Cert.RmsBwdAddRefIdeal.nD Cert.RmsBwdAddRefIdeal.τ).loc Cert.RmsBwdAddRefIdeal.main_arg3) = m ((c.tc : Thread Cert.RmsBwdAddRefIdeal.nD Cert.RmsBwdAddRefIdeal.τ).loc Cert.RmsBwdAddRefIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_RmsFwdRes [hRmsFwdRes : Cert.RmsFwdRes.Facts] : Prop :=
  ∀ (m : (ℓ : Loc Cert.RmsFwdRes.nD Cert.RmsFwdRes.τ Cert.RmsFwdRes.sig) → Buf (Elt Bits) ℓ) (g : Dev Cert.RmsFwdRes.nD → PrngReg), Pre_RmsFwdRes m →
    θ_run (Cert.RmsFwdRes.defs (F := Bits)) (onTc (τ := Cert.RmsFwdRes.τ) (Cert.RmsFwdRes.main (F := Bits))) ⟨m, fun _ => 0, g⟩ (fun r => (∀ c : Dev Cert.RmsFwdRes.nD,
      r.2.mem ((c.tc : Thread Cert.RmsFwdRes.nD Cert.RmsFwdRes.τ).loc Cert.RmsFwdRes.main_arg0) = m ((c.tc : Thread Cert.RmsFwdRes.nD Cert.RmsFwdRes.τ).loc Cert.RmsFwdRes.main_arg0)
      ∧ r.2.mem ((c.tc : Thread Cert.RmsFwdRes.nD Cert.RmsFwdRes.τ).loc Cert.RmsFwdRes.main_arg1) = m ((c.tc : Thread Cert.RmsFwdRes.nD Cert.RmsFwdRes.τ).loc Cert.RmsFwdRes.main_arg1)
      ∧ r.2.mem ((c.tc : Thread Cert.RmsFwdRes.nD Cert.RmsFwdRes.τ).loc Cert.RmsFwdRes.main_arg2) = m ((c.tc : Thread Cert.RmsFwdRes.nD Cert.RmsFwdRes.τ).loc Cert.RmsFwdRes.main_arg2))
      ∧ r.2.sem = fun _ => 0)

def quiescent_RmsFwdResIdeal [hRmsFwdResIdeal : Cert.RmsFwdResIdeal.Facts] : Prop :=
  ∀ (m : (ℓ : Loc Cert.RmsFwdResIdeal.nD Cert.RmsFwdResIdeal.τ Cert.RmsFwdResIdeal.sig) → Buf (Elt Ideal) ℓ) (g : Dev Cert.RmsFwdResIdeal.nD → PrngReg), Pre_RmsFwdResIdeal m →
    θ_run (Cert.RmsFwdResIdeal.defs (F := Ideal)) (onTc (τ := Cert.RmsFwdResIdeal.τ) (Cert.RmsFwdResIdeal.main (F := Ideal))) ⟨m, fun _ => 0, g⟩ (fun r => (∀ c : Dev Cert.RmsFwdResIdeal.nD,
      r.2.mem ((c.tc : Thread Cert.RmsFwdResIdeal.nD Cert.RmsFwdResIdeal.τ).loc Cert.RmsFwdResIdeal.main_arg0) = m ((c.tc : Thread Cert.RmsFwdResIdeal.nD Cert.RmsFwdResIdeal.τ).loc Cert.RmsFwdResIdeal.main_arg0)
      ∧ r.2.mem ((c.tc : Thread Cert.RmsFwdResIdeal.nD Cert.RmsFwdResIdeal.τ).loc Cert.RmsFwdResIdeal.main_arg1) = m ((c.tc : Thread Cert.RmsFwdResIdeal.nD Cert.RmsFwdResIdeal.τ).loc Cert.RmsFwdResIdeal.main_arg1)
      ∧ r.2.mem ((c.tc : Thread Cert.RmsFwdResIdeal.nD Cert.RmsFwdResIdeal.τ).loc Cert.RmsFwdResIdeal.main_arg2) = m ((c.tc : Thread Cert.RmsFwdResIdeal.nD Cert.RmsFwdResIdeal.τ).loc Cert.RmsFwdResIdeal.main_arg2))
      ∧ r.2.sem = fun _ => 0)

def quiescent_RmsFwdResRefIdeal [hRmsFwdResRefIdeal : Cert.RmsFwdResRefIdeal.Facts] : Prop :=
  ∀ (m : (ℓ : Loc Cert.RmsFwdResRefIdeal.nD Cert.RmsFwdResRefIdeal.τ Cert.RmsFwdResRefIdeal.sig) → Buf (Elt Ideal) ℓ) (g : Dev Cert.RmsFwdResRefIdeal.nD → PrngReg), Pre_RmsFwdResRefIdeal m →
    θ_run (Cert.RmsFwdResRefIdeal.defs (F := Ideal)) (onTc (τ := Cert.RmsFwdResRefIdeal.τ) (Cert.RmsFwdResRefIdeal.main (F := Ideal))) ⟨m, fun _ => 0, g⟩ (fun r => (∀ c : Dev Cert.RmsFwdResRefIdeal.nD,
      r.2.mem ((c.tc : Thread Cert.RmsFwdResRefIdeal.nD Cert.RmsFwdResRefIdeal.τ).loc Cert.RmsFwdResRefIdeal.main_arg0) = m ((c.tc : Thread Cert.RmsFwdResRefIdeal.nD Cert.RmsFwdResRefIdeal.τ).loc Cert.RmsFwdResRefIdeal.main_arg0)
      ∧ r.2.mem ((c.tc : Thread Cert.RmsFwdResRefIdeal.nD Cert.RmsFwdResRefIdeal.τ).loc Cert.RmsFwdResRefIdeal.main_arg1) = m ((c.tc : Thread Cert.RmsFwdResRefIdeal.nD Cert.RmsFwdResRefIdeal.τ).loc Cert.RmsFwdResRefIdeal.main_arg1)
      ∧ r.2.mem ((c.tc : Thread Cert.RmsFwdResRefIdeal.nD Cert.RmsFwdResRefIdeal.τ).loc Cert.RmsFwdResRefIdeal.main_arg2) = m ((c.tc : Thread Cert.RmsFwdResRefIdeal.nD Cert.RmsFwdResRefIdeal.τ).loc Cert.RmsFwdResRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1)
      ∧ r.2.mem ((c.tc : Thread Cert.GluFwdRefIdeal.nD Cert.GluFwdRefIdeal.τ).loc Cert.GluFwdRefIdeal.main_arg2) = m ((c.tc : Thread Cert.GluFwdRefIdeal.nD Cert.GluFwdRefIdeal.τ).loc Cert.GluFwdRefIdeal.main_arg2))
      ∧ r.2.sem = fun _ => 0)

def quiescent_DnconvFwd [hDnconvFwd : Cert.DnconvFwd.Facts] : Prop :=
  ∀ (m : (ℓ : Loc Cert.DnconvFwd.nD Cert.DnconvFwd.τ Cert.DnconvFwd.sig) → Buf (Elt Bits) ℓ) (g : Dev Cert.DnconvFwd.nD → PrngReg), Pre_DnconvFwd m →
    θ_run (Cert.DnconvFwd.defs (F := Bits)) (onTc (τ := Cert.DnconvFwd.τ) (Cert.DnconvFwd.main (F := Bits))) ⟨m, fun _ => 0, g⟩ (fun r => (∀ c : Dev Cert.DnconvFwd.nD,
      r.2.mem ((c.tc : Thread Cert.DnconvFwd.nD Cert.DnconvFwd.τ).loc Cert.DnconvFwd.main_arg0) = m ((c.tc : Thread Cert.DnconvFwd.nD Cert.DnconvFwd.τ).loc Cert.DnconvFwd.main_arg0)
      ∧ r.2.mem ((c.tc : Thread Cert.DnconvFwd.nD Cert.DnconvFwd.τ).loc Cert.DnconvFwd.main_arg1) = m ((c.tc : Thread Cert.DnconvFwd.nD Cert.DnconvFwd.τ).loc Cert.DnconvFwd.main_arg1))
      ∧ r.2.sem = fun _ => 0)

def quiescent_DnconvFwdIdeal [hDnconvFwdIdeal : Cert.DnconvFwdIdeal.Facts] : Prop :=
  ∀ (m : (ℓ : Loc Cert.DnconvFwdIdeal.nD Cert.DnconvFwdIdeal.τ Cert.DnconvFwdIdeal.sig) → Buf (Elt Ideal) ℓ) (g : Dev Cert.DnconvFwdIdeal.nD → PrngReg), Pre_DnconvFwdIdeal m →
    θ_run (Cert.DnconvFwdIdeal.defs (F := Ideal)) (onTc (τ := Cert.DnconvFwdIdeal.τ) (Cert.DnconvFwdIdeal.main (F := Ideal))) ⟨m, fun _ => 0, g⟩ (fun r => (∀ c : Dev Cert.DnconvFwdIdeal.nD,
      r.2.mem ((c.tc : Thread Cert.DnconvFwdIdeal.nD Cert.DnconvFwdIdeal.τ).loc Cert.DnconvFwdIdeal.main_arg0) = m ((c.tc : Thread Cert.DnconvFwdIdeal.nD Cert.DnconvFwdIdeal.τ).loc Cert.DnconvFwdIdeal.main_arg0)
      ∧ r.2.mem ((c.tc : Thread Cert.DnconvFwdIdeal.nD Cert.DnconvFwdIdeal.τ).loc Cert.DnconvFwdIdeal.main_arg1) = m ((c.tc : Thread Cert.DnconvFwdIdeal.nD Cert.DnconvFwdIdeal.τ).loc Cert.DnconvFwdIdeal.main_arg1))
      ∧ r.2.sem = fun _ => 0)

def quiescent_DnconvFwdRefIdeal [hDnconvFwdRefIdeal : Cert.DnconvFwdRefIdeal.Facts] : Prop :=
  ∀ (m : (ℓ : Loc Cert.DnconvFwdRefIdeal.nD Cert.DnconvFwdRefIdeal.τ Cert.DnconvFwdRefIdeal.sig) → Buf (Elt Ideal) ℓ) (g : Dev Cert.DnconvFwdRefIdeal.nD → PrngReg), Pre_DnconvFwdRefIdeal m →
    θ_run (Cert.DnconvFwdRefIdeal.defs (F := Ideal)) (onTc (τ := Cert.DnconvFwdRefIdeal.τ) (Cert.DnconvFwdRefIdeal.main (F := Ideal))) ⟨m, fun _ => 0, g⟩ (fun r => (∀ c : Dev Cert.DnconvFwdRefIdeal.nD,
      r.2.mem ((c.tc : Thread Cert.DnconvFwdRefIdeal.nD Cert.DnconvFwdRefIdeal.τ).loc Cert.DnconvFwdRefIdeal.main_arg0) = m ((c.tc : Thread Cert.DnconvFwdRefIdeal.nD Cert.DnconvFwdRefIdeal.τ).loc Cert.DnconvFwdRefIdeal.main_arg0)
      ∧ r.2.mem ((c.tc : Thread Cert.DnconvFwdRefIdeal.nD Cert.DnconvFwdRefIdeal.τ).loc Cert.DnconvFwdRefIdeal.main_arg1) = m ((c.tc : Thread Cert.DnconvFwdRefIdeal.nD Cert.DnconvFwdRefIdeal.τ).loc Cert.DnconvFwdRefIdeal.main_arg1))
      ∧ r.2.sem = fun _ => 0)

def quiescent_DnconvBwd [hDnconvBwd : Cert.DnconvBwd.Facts] : Prop :=
  ∀ (m : (ℓ : Loc Cert.DnconvBwd.nD Cert.DnconvBwd.τ Cert.DnconvBwd.sig) → Buf (Elt Bits) ℓ) (g : Dev Cert.DnconvBwd.nD → PrngReg), Pre_DnconvBwd m →
    θ_run (Cert.DnconvBwd.defs (F := Bits)) (onTc (τ := Cert.DnconvBwd.τ) (Cert.DnconvBwd.main (F := Bits))) ⟨m, fun _ => 0, g⟩ (fun r => (∀ c : Dev Cert.DnconvBwd.nD,
      r.2.mem ((c.tc : Thread Cert.DnconvBwd.nD Cert.DnconvBwd.τ).loc Cert.DnconvBwd.main_arg0) = m ((c.tc : Thread Cert.DnconvBwd.nD Cert.DnconvBwd.τ).loc Cert.DnconvBwd.main_arg0)
      ∧ r.2.mem ((c.tc : Thread Cert.DnconvBwd.nD Cert.DnconvBwd.τ).loc Cert.DnconvBwd.main_arg1) = m ((c.tc : Thread Cert.DnconvBwd.nD Cert.DnconvBwd.τ).loc Cert.DnconvBwd.main_arg1)
      ∧ r.2.mem ((c.tc : Thread Cert.DnconvBwd.nD Cert.DnconvBwd.τ).loc Cert.DnconvBwd.main_arg2) = m ((c.tc : Thread Cert.DnconvBwd.nD Cert.DnconvBwd.τ).loc Cert.DnconvBwd.main_arg2))
      ∧ r.2.sem = fun _ => 0)

def quiescent_DnconvBwdIdeal [hDnconvBwdIdeal : Cert.DnconvBwdIdeal.Facts] : Prop :=
  ∀ (m : (ℓ : Loc Cert.DnconvBwdIdeal.nD Cert.DnconvBwdIdeal.τ Cert.DnconvBwdIdeal.sig) → Buf (Elt Ideal) ℓ) (g : Dev Cert.DnconvBwdIdeal.nD → PrngReg), Pre_DnconvBwdIdeal m →
    θ_run (Cert.DnconvBwdIdeal.defs (F := Ideal)) (onTc (τ := Cert.DnconvBwdIdeal.τ) (Cert.DnconvBwdIdeal.main (F := Ideal))) ⟨m, fun _ => 0, g⟩ (fun r => (∀ c : Dev Cert.DnconvBwdIdeal.nD,
      r.2.mem ((c.tc : Thread Cert.DnconvBwdIdeal.nD Cert.DnconvBwdIdeal.τ).loc Cert.DnconvBwdIdeal.main_arg0) = m ((c.tc : Thread Cert.DnconvBwdIdeal.nD Cert.DnconvBwdIdeal.τ).loc Cert.DnconvBwdIdeal.main_arg0)
      ∧ r.2.mem ((c.tc : Thread Cert.DnconvBwdIdeal.nD Cert.DnconvBwdIdeal.τ).loc Cert.DnconvBwdIdeal.main_arg1) = m ((c.tc : Thread Cert.DnconvBwdIdeal.nD Cert.DnconvBwdIdeal.τ).loc Cert.DnconvBwdIdeal.main_arg1)
      ∧ r.2.mem ((c.tc : Thread Cert.DnconvBwdIdeal.nD Cert.DnconvBwdIdeal.τ).loc Cert.DnconvBwdIdeal.main_arg2) = m ((c.tc : Thread Cert.DnconvBwdIdeal.nD Cert.DnconvBwdIdeal.τ).loc Cert.DnconvBwdIdeal.main_arg2))
      ∧ r.2.sem = fun _ => 0)

def quiescent_DnconvBwdIdeal_pre_finite_gradient [hDnconvBwdIdeal : Cert.DnconvBwdIdeal.Facts] [hPre_finite_gradient : Cert.Pre_finite_gradient.Facts] : Prop :=
  ∀ (m : (ℓ : Loc Cert.DnconvBwdIdeal.nD Cert.DnconvBwdIdeal.τ Cert.DnconvBwdIdeal.sig) → Buf (Elt Ideal) ℓ) (g : Dev Cert.DnconvBwdIdeal.nD → PrngReg), Pre_DnconvBwdIdeal_finite_gradient m →
    θ_run (Cert.DnconvBwdIdeal.defs (F := Ideal)) (onTc (τ := Cert.DnconvBwdIdeal.τ) (Cert.DnconvBwdIdeal.main (F := Ideal))) ⟨m, fun _ => 0, g⟩ (fun r => (∀ c : Dev Cert.DnconvBwdIdeal.nD,
      r.2.mem ((c.tc : Thread Cert.DnconvBwdIdeal.nD Cert.DnconvBwdIdeal.τ).loc Cert.DnconvBwdIdeal.main_arg0) = m ((c.tc : Thread Cert.DnconvBwdIdeal.nD Cert.DnconvBwdIdeal.τ).loc Cert.DnconvBwdIdeal.main_arg0)
      ∧ r.2.mem ((c.tc : Thread Cert.DnconvBwdIdeal.nD Cert.DnconvBwdIdeal.τ).loc Cert.DnconvBwdIdeal.main_arg1) = m ((c.tc : Thread Cert.DnconvBwdIdeal.nD Cert.DnconvBwdIdeal.τ).loc Cert.DnconvBwdIdeal.main_arg1)
      ∧ r.2.mem ((c.tc : Thread Cert.DnconvBwdIdeal.nD Cert.DnconvBwdIdeal.τ).loc Cert.DnconvBwdIdeal.main_arg2) = m ((c.tc : Thread Cert.DnconvBwdIdeal.nD Cert.DnconvBwdIdeal.τ).loc Cert.DnconvBwdIdeal.main_arg2))
      ∧ r.2.sem = fun _ => 0)

def quiescent_DnconvBwdRefIdeal [hDnconvBwdRefIdeal : Cert.DnconvBwdRefIdeal.Facts] : Prop :=
  ∀ (m : (ℓ : Loc Cert.DnconvBwdRefIdeal.nD Cert.DnconvBwdRefIdeal.τ Cert.DnconvBwdRefIdeal.sig) → Buf (Elt Ideal) ℓ) (g : Dev Cert.DnconvBwdRefIdeal.nD → PrngReg), Pre_DnconvBwdRefIdeal m →
    θ_run (Cert.DnconvBwdRefIdeal.defs (F := Ideal)) (onTc (τ := Cert.DnconvBwdRefIdeal.τ) (Cert.DnconvBwdRefIdeal.main (F := Ideal))) ⟨m, fun _ => 0, g⟩ (fun r => (∀ c : Dev Cert.DnconvBwdRefIdeal.nD,
      r.2.mem ((c.tc : Thread Cert.DnconvBwdRefIdeal.nD Cert.DnconvBwdRefIdeal.τ).loc Cert.DnconvBwdRefIdeal.main_arg0) = m ((c.tc : Thread Cert.DnconvBwdRefIdeal.nD Cert.DnconvBwdRefIdeal.τ).loc Cert.DnconvBwdRefIdeal.main_arg0)
      ∧ r.2.mem ((c.tc : Thread Cert.DnconvBwdRefIdeal.nD Cert.DnconvBwdRefIdeal.τ).loc Cert.DnconvBwdRefIdeal.main_arg1) = m ((c.tc : Thread Cert.DnconvBwdRefIdeal.nD Cert.DnconvBwdRefIdeal.τ).loc Cert.DnconvBwdRefIdeal.main_arg1)
      ∧ r.2.mem ((c.tc : Thread Cert.DnconvBwdRefIdeal.nD Cert.DnconvBwdRefIdeal.τ).loc Cert.DnconvBwdRefIdeal.main_arg2) = m ((c.tc : Thread Cert.DnconvBwdRefIdeal.nD Cert.DnconvBwdRefIdeal.τ).loc Cert.DnconvBwdRefIdeal.main_arg2))
      ∧ r.2.sem = fun _ => 0)

def quiescent_DnconvBwdRefIdeal_pre_finite_gradient [hDnconvBwdRefIdeal : Cert.DnconvBwdRefIdeal.Facts] [hPre_finite_gradient : Cert.Pre_finite_gradient.Facts] : Prop :=
  ∀ (m : (ℓ : Loc Cert.DnconvBwdRefIdeal.nD Cert.DnconvBwdRefIdeal.τ Cert.DnconvBwdRefIdeal.sig) → Buf (Elt Ideal) ℓ) (g : Dev Cert.DnconvBwdRefIdeal.nD → PrngReg), Pre_DnconvBwdRefIdeal_finite_gradient m →
    θ_run (Cert.DnconvBwdRefIdeal.defs (F := Ideal)) (onTc (τ := Cert.DnconvBwdRefIdeal.τ) (Cert.DnconvBwdRefIdeal.main (F := Ideal))) ⟨m, fun _ => 0, g⟩ (fun r => (∀ c : Dev Cert.DnconvBwdRefIdeal.nD,
      r.2.mem ((c.tc : Thread Cert.DnconvBwdRefIdeal.nD Cert.DnconvBwdRefIdeal.τ).loc Cert.DnconvBwdRefIdeal.main_arg0) = m ((c.tc : Thread Cert.DnconvBwdRefIdeal.nD Cert.DnconvBwdRefIdeal.τ).loc Cert.DnconvBwdRefIdeal.main_arg0)
      ∧ r.2.mem ((c.tc : Thread Cert.DnconvBwdRefIdeal.nD Cert.DnconvBwdRefIdeal.τ).loc Cert.DnconvBwdRefIdeal.main_arg1) = m ((c.tc : Thread Cert.DnconvBwdRefIdeal.nD Cert.DnconvBwdRefIdeal.τ).loc Cert.DnconvBwdRefIdeal.main_arg1)
      ∧ r.2.mem ((c.tc : Thread Cert.DnconvBwdRefIdeal.nD Cert.DnconvBwdRefIdeal.τ).loc Cert.DnconvBwdRefIdeal.main_arg2) = m ((c.tc : Thread Cert.DnconvBwdRefIdeal.nD Cert.DnconvBwdRefIdeal.τ).loc Cert.DnconvBwdRefIdeal.main_arg2))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_finite_queries [hAttnFwdIdeal : Cert.AttnFwdIdeal.Facts] [hPre_finite_queries : Cert.Pre_finite_queries.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_queries m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_finite_queries [hAttnFwdRefIdeal : Cert.AttnFwdRefIdeal.Facts] [hPre_finite_queries : Cert.Pre_finite_queries.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_queries m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1))
      ∧ r.2.sem = fun _ => 0)

def quiescent_BranchDx [hBranchDx : Cert.BranchDx.Facts] : Prop :=
  ∀ (m : (ℓ : Loc Cert.BranchDx.nD Cert.BranchDx.τ Cert.BranchDx.sig) → Buf (Elt Bits) ℓ) (g : Dev Cert.BranchDx.nD → PrngReg), Pre_BranchDx m →
    θ_run (Cert.BranchDx.defs (F := Bits)) (onTc (τ := Cert.BranchDx.τ) (Cert.BranchDx.main (F := Bits))) ⟨m, fun _ => 0, g⟩ (fun r => (∀ c : Dev Cert.BranchDx.nD,
      r.2.mem ((c.tc : Thread Cert.BranchDx.nD Cert.BranchDx.τ).loc Cert.BranchDx.main_arg0) = m ((c.tc : Thread Cert.BranchDx.nD Cert.BranchDx.τ).loc Cert.BranchDx.main_arg0)
      ∧ r.2.mem ((c.tc : Thread Cert.BranchDx.nD Cert.BranchDx.τ).loc Cert.BranchDx.main_arg1) = m ((c.tc : Thread Cert.BranchDx.nD Cert.BranchDx.τ).loc Cert.BranchDx.main_arg1))
      ∧ r.2.sem = fun _ => 0)

def quiescent_BranchDxIdeal [hBranchDxIdeal : Cert.BranchDxIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg), Pre_BranchDxIdeal m →
    θ_run (Cert.BranchDxIdeal.defs (F := Ideal)) (onTc (τ := Cert.BranchDxIdeal.τ) (Cert.BranchDxIdeal.main (F := Ideal))) ⟨m, fun _ => 0, g⟩ (fun r => (∀ c : Dev Cert.BranchDxIdeal.nD,
      r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
      ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ r.2.sem = fun _ => 0)

def quiescent_BranchDxRefIdeal [hBranchDxRefIdeal : Cert.BranchDxRefIdeal.Facts] : Prop :=
  ∀ (m : (ℓ : Loc Cert.BranchDxRefIdeal.nD Cert.BranchDxRefIdeal.τ Cert.BranchDxRefIdeal.sig) → Buf (Elt Ideal) ℓ) (g : Dev Cert.BranchDxRefIdeal.nD → PrngReg), Pre_BranchDxRefIdeal m →
    θ_run (Cert.BranchDxRefIdeal.defs (F := Ideal)) (onTc (τ := Cert.BranchDxRefIdeal.τ) (Cert.BranchDxRefIdeal.main (F := Ideal))) ⟨m, fun _ => 0, g⟩ (fun r => (∀ c : Dev Cert.BranchDxRefIdeal.nD,
      r.2.mem ((c.tc : Thread Cert.BranchDxRefIdeal.nD Cert.BranchDxRefIdeal.τ).loc Cert.BranchDxRefIdeal.main_arg0) = m ((c.tc : Thread Cert.BranchDxRefIdeal.nD Cert.BranchDxRefIdeal.τ).loc Cert.BranchDxRefIdeal.main_arg0)
      ∧ r.2.mem ((c.tc : Thread Cert.BranchDxRefIdeal.nD Cert.BranchDxRefIdeal.τ).loc Cert.BranchDxRefIdeal.main_arg1) = m ((c.tc : Thread Cert.BranchDxRefIdeal.nD Cert.BranchDxRefIdeal.τ).loc Cert.BranchDxRefIdeal.main_arg1))
      ∧ r.2.sem = fun _ => 0)

def quiescent_MixDx [hMixDx : Cert.MixDx.Facts] : Prop :=
  ∀ (m : (ℓ : Loc Cert.MixDx.nD Cert.MixDx.τ Cert.MixDx.sig) → Buf (Elt Bits) ℓ) (g : Dev Cert.MixDx.nD → PrngReg), Pre_MixDx m →
    θ_run (Cert.MixDx.defs (F := Bits)) (onTc (τ := Cert.MixDx.τ) (Cert.MixDx.main (F := Bits))) ⟨m, fun _ => 0, g⟩ (fun r => (∀ c : Dev Cert.MixDx.nD,
      r.2.mem ((c.tc : Thread Cert.MixDx.nD Cert.MixDx.τ).loc Cert.MixDx.main_arg0) = m ((c.tc : Thread Cert.MixDx.nD Cert.MixDx.τ).loc Cert.MixDx.main_arg0)
      ∧ r.2.mem ((c.tc : Thread Cert.MixDx.nD Cert.MixDx.τ).loc Cert.MixDx.main_arg1) = m ((c.tc : Thread Cert.MixDx.nD Cert.MixDx.τ).loc Cert.MixDx.main_arg1))
      ∧ r.2.sem = fun _ => 0)

def quiescent_MixDxIdeal [hMixDxIdeal : Cert.MixDxIdeal.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1))
      ∧ r.2.sem = fun _ => 0)

def quiescent_MixDxRefIdeal [hMixDxRefIdeal : Cert.MixDxRefIdeal.Facts] : Prop :=
  ∀ (m : (ℓ : Loc Cert.MixDxRefIdeal.nD Cert.MixDxRefIdeal.τ Cert.MixDxRefIdeal.sig) → Buf (Elt Ideal) ℓ) (g : Dev Cert.MixDxRefIdeal.nD → PrngReg), Pre_MixDxRefIdeal m →
    θ_run (Cert.MixDxRefIdeal.defs (F := Ideal)) (onTc (τ := Cert.MixDxRefIdeal.τ) (Cert.MixDxRefIdeal.main (F := Ideal))) ⟨m, fun _ => 0, g⟩ (fun r => (∀ c : Dev Cert.MixDxRefIdeal.nD,
      r.2.mem ((c.tc : Thread Cert.MixDxRefIdeal.nD Cert.MixDxRefIdeal.τ).loc Cert.MixDxRefIdeal.main_arg0) = m ((c.tc : Thread Cert.MixDxRefIdeal.nD Cert.MixDxRefIdeal.τ).loc Cert.MixDxRefIdeal.main_arg0)
      ∧ r.2.mem ((c.tc : Thread Cert.MixDxRefIdeal.nD Cert.MixDxRefIdeal.τ).loc Cert.MixDxRefIdeal.main_arg1) = m ((c.tc : Thread Cert.MixDxRefIdeal.nD Cert.MixDxRefIdeal.τ).loc Cert.MixDxRefIdeal.main_arg1))
      ∧ r.2.sem = fun _ => 0)

def quiescent_SquareDw [hSquareDw : Cert.SquareDw.Facts] : Prop :=
  ∀ (m : (ℓ : Loc Cert.SquareDw.nD Cert.SquareDw.τ Cert.SquareDw.sig) → Buf (Elt Bits) ℓ) (g : Dev Cert.SquareDw.nD → PrngReg), Pre_SquareDw m →
    θ_run (Cert.SquareDw.defs (F := Bits)) (onTc (τ := Cert.SquareDw.τ) (Cert.SquareDw.main (F := Bits))) ⟨m, fun _ => 0, g⟩ (fun r => (∀ c : Dev Cert.SquareDw.nD,
      r.2.mem ((c.tc : Thread Cert.SquareDw.nD Cert.SquareDw.τ).loc Cert.SquareDw.main_arg0) = m ((c.tc : Thread Cert.SquareDw.nD Cert.SquareDw.τ).loc Cert.SquareDw.main_arg0)
      ∧ r.2.mem ((c.tc : Thread Cert.SquareDw.nD Cert.SquareDw.τ).loc Cert.SquareDw.main_arg1) = m ((c.tc : Thread Cert.SquareDw.nD Cert.SquareDw.τ).loc Cert.SquareDw.main_arg1))
      ∧ r.2.sem = fun _ => 0)

def quiescent_SquareDwIdeal [hSquareDwIdeal : Cert.SquareDwIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg), Pre_SquareDwIdeal m →
    θ_run (Cert.SquareDwIdeal.defs (F := Ideal)) (onTc (τ := Cert.SquareDwIdeal.τ) (Cert.SquareDwIdeal.main (F := Ideal))) ⟨m, fun _ => 0, g⟩ (fun r => (∀ c : Dev Cert.SquareDwIdeal.nD,
      r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
      ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1))
      ∧ r.2.sem = fun _ => 0)

def quiescent_SquareDwRefIdeal [hSquareDwRefIdeal : Cert.SquareDwRefIdeal.Facts] : Prop :=
  ∀ (m : (ℓ : Loc Cert.SquareDwRefIdeal.nD Cert.SquareDwRefIdeal.τ Cert.SquareDwRefIdeal.sig) → Buf (Elt Ideal) ℓ) (g : Dev Cert.SquareDwRefIdeal.nD → PrngReg), Pre_SquareDwRefIdeal m →
    θ_run (Cert.SquareDwRefIdeal.defs (F := Ideal)) (onTc (τ := Cert.SquareDwRefIdeal.τ) (Cert.SquareDwRefIdeal.main (F := Ideal))) ⟨m, fun _ => 0, g⟩ (fun r => (∀ c : Dev Cert.SquareDwRefIdeal.nD,
      r.2.mem ((c.tc : Thread Cert.SquareDwRefIdeal.nD Cert.SquareDwRefIdeal.τ).loc Cert.SquareDwRefIdeal.main_arg0) = m ((c.tc : Thread Cert.SquareDwRefIdeal.nD Cert.SquareDwRefIdeal.τ).loc Cert.SquareDwRefIdeal.main_arg0)
      ∧ r.2.mem ((c.tc : Thread Cert.SquareDwRefIdeal.nD Cert.SquareDwRefIdeal.τ).loc Cert.SquareDwRefIdeal.main_arg1) = m ((c.tc : Thread Cert.SquareDwRefIdeal.nD Cert.SquareDwRefIdeal.τ).loc Cert.SquareDwRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamDnConv [hAdamDnConv : Cert.AdamDnConv.Facts] : Prop :=
  ∀ (m : (ℓ : Loc Cert.AdamDnConv.nD Cert.AdamDnConv.τ Cert.AdamDnConv.sig) → Buf (Elt Bits) ℓ) (g : Dev Cert.AdamDnConv.nD → PrngReg), Pre_AdamDnConv m →
    θ_run (Cert.AdamDnConv.defs (F := Bits)) (onTc (τ := Cert.AdamDnConv.τ) (Cert.AdamDnConv.main (F := Bits))) ⟨m, fun _ => 0, g⟩ (fun r => (∀ c : Dev Cert.AdamDnConv.nD,
      r.2.mem ((c.tc : Thread Cert.AdamDnConv.nD Cert.AdamDnConv.τ).loc Cert.AdamDnConv.main_arg0) = m ((c.tc : Thread Cert.AdamDnConv.nD Cert.AdamDnConv.τ).loc Cert.AdamDnConv.main_arg0)
      ∧ r.2.mem ((c.tc : Thread Cert.AdamDnConv.nD Cert.AdamDnConv.τ).loc Cert.AdamDnConv.main_arg1) = m ((c.tc : Thread Cert.AdamDnConv.nD Cert.AdamDnConv.τ).loc Cert.AdamDnConv.main_arg1)
      ∧ r.2.mem ((c.tc : Thread Cert.AdamDnConv.nD Cert.AdamDnConv.τ).loc Cert.AdamDnConv.main_arg2) = m ((c.tc : Thread Cert.AdamDnConv.nD Cert.AdamDnConv.τ).loc Cert.AdamDnConv.main_arg2)
      ∧ r.2.mem ((c.tc : Thread Cert.AdamDnConv.nD Cert.AdamDnConv.τ).loc Cert.AdamDnConv.main_arg3) = m ((c.tc : Thread Cert.AdamDnConv.nD Cert.AdamDnConv.τ).loc Cert.AdamDnConv.main_arg3))
      ∧ r.2.sem = fun _ => 0)

def quiescent_AdamDnConvIdeal [hAdamDnConvIdeal : Cert.AdamDnConvIdeal.Facts] : Prop :=
  ∀ (m : (ℓ : Loc Cert.AdamDnConvIdeal.nD Cert.AdamDnConvIdeal.τ Cert.AdamDnConvIdeal.sig) → Buf (Elt Ideal) ℓ) (g : Dev Cert.AdamDnConvIdeal.nD → PrngReg), Pre_AdamDnConvIdeal m →
    θ_run (Cert.AdamDnConvIdeal.defs (F := Ideal)) (onTc (τ := Cert.AdamDnConvIdeal.τ) (Cert.AdamDnConvIdeal.main (F := Ideal))) ⟨m, fun _ => 0, g⟩ (fun r => (∀ c : Dev Cert.AdamDnConvIdeal.nD,
      r.2.mem ((c.tc : Thread Cert.AdamDnConvIdeal.nD Cert.AdamDnConvIdeal.τ).loc Cert.AdamDnConvIdeal.main_arg0) = m ((c.tc : Thread Cert.AdamDnConvIdeal.nD Cert.AdamDnConvIdeal.τ).loc Cert.AdamDnConvIdeal.main_arg0)
      ∧ r.2.mem ((c.tc : Thread Cert.AdamDnConvIdeal.nD Cert.AdamDnConvIdeal.τ).loc Cert.AdamDnConvIdeal.main_arg1) = m ((c.tc : Thread Cert.AdamDnConvIdeal.nD Cert.AdamDnConvIdeal.τ).loc Cert.AdamDnConvIdeal.main_arg1)
      ∧ r.2.mem ((c.tc : Thread Cert.AdamDnConvIdeal.nD Cert.AdamDnConvIdeal.τ).loc Cert.AdamDnConvIdeal.main_arg2) = m ((c.tc : Thread Cert.AdamDnConvIdeal.nD Cert.AdamDnConvIdeal.τ).loc Cert.AdamDnConvIdeal.main_arg2)
      ∧ r.2.mem ((c.tc : Thread Cert.AdamDnConvIdeal.nD Cert.AdamDnConvIdeal.τ).loc Cert.AdamDnConvIdeal.main_arg3) = m ((c.tc : Thread Cert.AdamDnConvIdeal.nD Cert.AdamDnConvIdeal.τ).loc Cert.AdamDnConvIdeal.main_arg3))
      ∧ r.2.sem = fun _ => 0)

def quiescent_AdamDnConvRefIdeal [hAdamDnConvRefIdeal : Cert.AdamDnConvRefIdeal.Facts] : Prop :=
  ∀ (m : (ℓ : Loc Cert.AdamDnConvRefIdeal.nD Cert.AdamDnConvRefIdeal.τ Cert.AdamDnConvRefIdeal.sig) → Buf (Elt Ideal) ℓ) (g : Dev Cert.AdamDnConvRefIdeal.nD → PrngReg), Pre_AdamDnConvRefIdeal m →
    θ_run (Cert.AdamDnConvRefIdeal.defs (F := Ideal)) (onTc (τ := Cert.AdamDnConvRefIdeal.τ) (Cert.AdamDnConvRefIdeal.main (F := Ideal))) ⟨m, fun _ => 0, g⟩ (fun r => (∀ c : Dev Cert.AdamDnConvRefIdeal.nD,
      r.2.mem ((c.tc : Thread Cert.AdamDnConvRefIdeal.nD Cert.AdamDnConvRefIdeal.τ).loc Cert.AdamDnConvRefIdeal.main_arg0) = m ((c.tc : Thread Cert.AdamDnConvRefIdeal.nD Cert.AdamDnConvRefIdeal.τ).loc Cert.AdamDnConvRefIdeal.main_arg0)
      ∧ r.2.mem ((c.tc : Thread Cert.AdamDnConvRefIdeal.nD Cert.AdamDnConvRefIdeal.τ).loc Cert.AdamDnConvRefIdeal.main_arg1) = m ((c.tc : Thread Cert.AdamDnConvRefIdeal.nD Cert.AdamDnConvRefIdeal.τ).loc Cert.AdamDnConvRefIdeal.main_arg1)
      ∧ r.2.mem ((c.tc : Thread Cert.AdamDnConvRefIdeal.nD Cert.AdamDnConvRefIdeal.τ).loc Cert.AdamDnConvRefIdeal.main_arg2) = m ((c.tc : Thread Cert.AdamDnConvRefIdeal.nD Cert.AdamDnConvRefIdeal.τ).loc Cert.AdamDnConvRefIdeal.main_arg2)
      ∧ r.2.mem ((c.tc : Thread Cert.AdamDnConvRefIdeal.nD Cert.AdamDnConvRefIdeal.τ).loc Cert.AdamDnConvRefIdeal.main_arg3) = m ((c.tc : Thread Cert.AdamDnConvRefIdeal.nD Cert.AdamDnConvRefIdeal.τ).loc Cert.AdamDnConvRefIdeal.main_arg3))
      ∧ r.2.sem = fun _ => 0)

def quiescent_AdamFfnConv [hAdamFfnConv : Cert.AdamFfnConv.Facts] : Prop :=
  ∀ (m : (ℓ : Loc Cert.AdamFfnConv.nD Cert.AdamFfnConv.τ Cert.AdamFfnConv.sig) → Buf (Elt Bits) ℓ) (g : Dev Cert.AdamFfnConv.nD → PrngReg), Pre_AdamFfnConv m →
    θ_run (Cert.AdamFfnConv.defs (F := Bits)) (onTc (τ := Cert.AdamFfnConv.τ) (Cert.AdamFfnConv.main (F := Bits))) ⟨m, fun _ => 0, g⟩ (fun r => (∀ c : Dev Cert.AdamFfnConv.nD,
      r.2.mem ((c.tc : Thread Cert.AdamFfnConv.nD Cert.AdamFfnConv.τ).loc Cert.AdamFfnConv.main_arg0) = m ((c.tc : Thread Cert.AdamFfnConv.nD Cert.AdamFfnConv.τ).loc Cert.AdamFfnConv.main_arg0)
      ∧ r.2.mem ((c.tc : Thread Cert.AdamFfnConv.nD Cert.AdamFfnConv.τ).loc Cert.AdamFfnConv.main_arg1) = m ((c.tc : Thread Cert.AdamFfnConv.nD Cert.AdamFfnConv.τ).loc Cert.AdamFfnConv.main_arg1)
      ∧ r.2.mem ((c.tc : Thread Cert.AdamFfnConv.nD Cert.AdamFfnConv.τ).loc Cert.AdamFfnConv.main_arg2) = m ((c.tc : Thread Cert.AdamFfnConv.nD Cert.AdamFfnConv.τ).loc Cert.AdamFfnConv.main_arg2)
      ∧ r.2.mem ((c.tc : Thread Cert.AdamFfnConv.nD Cert.AdamFfnConv.τ).loc Cert.AdamFfnConv.main_arg3) = m ((c.tc : Thread Cert.AdamFfnConv.nD Cert.AdamFfnConv.τ).loc Cert.AdamFfnConv.main_arg3))
      ∧ r.2.sem = fun _ => 0)

def quiescent_AdamFfnConvIdeal [hAdamFfnConvIdeal : Cert.AdamFfnConvIdeal.Facts] : Prop :=
  ∀ (m : (ℓ : Loc Cert.AdamFfnConvIdeal.nD Cert.AdamFfnConvIdeal.τ Cert.AdamFfnConvIdeal.sig) → Buf (Elt Ideal) ℓ) (g : Dev Cert.AdamFfnConvIdeal.nD → PrngReg), Pre_AdamFfnConvIdeal m →
    θ_run (Cert.AdamFfnConvIdeal.defs (F := Ideal)) (onTc (τ := Cert.AdamFfnConvIdeal.τ) (Cert.AdamFfnConvIdeal.main (F := Ideal))) ⟨m, fun _ => 0, g⟩ (fun r => (∀ c : Dev Cert.AdamFfnConvIdeal.nD,
      r.2.mem ((c.tc : Thread Cert.AdamFfnConvIdeal.nD Cert.AdamFfnConvIdeal.τ).loc Cert.AdamFfnConvIdeal.main_arg0) = m ((c.tc : Thread Cert.AdamFfnConvIdeal.nD Cert.AdamFfnConvIdeal.τ).loc Cert.AdamFfnConvIdeal.main_arg0)
      ∧ r.2.mem ((c.tc : Thread Cert.AdamFfnConvIdeal.nD Cert.AdamFfnConvIdeal.τ).loc Cert.AdamFfnConvIdeal.main_arg1) = m ((c.tc : Thread Cert.AdamFfnConvIdeal.nD Cert.AdamFfnConvIdeal.τ).loc Cert.AdamFfnConvIdeal.main_arg1)
      ∧ r.2.mem ((c.tc : Thread Cert.AdamFfnConvIdeal.nD Cert.AdamFfnConvIdeal.τ).loc Cert.AdamFfnConvIdeal.main_arg2) = m ((c.tc : Thread Cert.AdamFfnConvIdeal.nD Cert.AdamFfnConvIdeal.τ).loc Cert.AdamFfnConvIdeal.main_arg2)
      ∧ r.2.mem ((c.tc : Thread Cert.AdamFfnConvIdeal.nD Cert.AdamFfnConvIdeal.τ).loc Cert.AdamFfnConvIdeal.main_arg3) = m ((c.tc : Thread Cert.AdamFfnConvIdeal.nD Cert.AdamFfnConvIdeal.τ).loc Cert.AdamFfnConvIdeal.main_arg3))
      ∧ r.2.sem = fun _ => 0)

def quiescent_AdamFfnConvRefIdeal [hAdamFfnConvRefIdeal : Cert.AdamFfnConvRefIdeal.Facts] : Prop :=
  ∀ (m : (ℓ : Loc Cert.AdamFfnConvRefIdeal.nD Cert.AdamFfnConvRefIdeal.τ Cert.AdamFfnConvRefIdeal.sig) → Buf (Elt Ideal) ℓ) (g : Dev Cert.AdamFfnConvRefIdeal.nD → PrngReg), Pre_AdamFfnConvRefIdeal m →
    θ_run (Cert.AdamFfnConvRefIdeal.defs (F := Ideal)) (onTc (τ := Cert.AdamFfnConvRefIdeal.τ) (Cert.AdamFfnConvRefIdeal.main (F := Ideal))) ⟨m, fun _ => 0, g⟩ (fun r => (∀ c : Dev Cert.AdamFfnConvRefIdeal.nD,
      r.2.mem ((c.tc : Thread Cert.AdamFfnConvRefIdeal.nD Cert.AdamFfnConvRefIdeal.τ).loc Cert.AdamFfnConvRefIdeal.main_arg0) = m ((c.tc : Thread Cert.AdamFfnConvRefIdeal.nD Cert.AdamFfnConvRefIdeal.τ).loc Cert.AdamFfnConvRefIdeal.main_arg0)
      ∧ r.2.mem ((c.tc : Thread Cert.AdamFfnConvRefIdeal.nD Cert.AdamFfnConvRefIdeal.τ).loc Cert.AdamFfnConvRefIdeal.main_arg1) = m ((c.tc : Thread Cert.AdamFfnConvRefIdeal.nD Cert.AdamFfnConvRefIdeal.τ).loc Cert.AdamFfnConvRefIdeal.main_arg1)
      ∧ r.2.mem ((c.tc : Thread Cert.AdamFfnConvRefIdeal.nD Cert.AdamFfnConvRefIdeal.τ).loc Cert.AdamFfnConvRefIdeal.main_arg2) = m ((c.tc : Thread Cert.AdamFfnConvRefIdeal.nD Cert.AdamFfnConvRefIdeal.τ).loc Cert.AdamFfnConvRefIdeal.main_arg2)
      ∧ r.2.mem ((c.tc : Thread Cert.AdamFfnConvRefIdeal.nD Cert.AdamFfnConvRefIdeal.τ).loc Cert.AdamFfnConvRefIdeal.main_arg3) = m ((c.tc : Thread Cert.AdamFfnConvRefIdeal.nD Cert.AdamFfnConvRefIdeal.τ).loc Cert.AdamFfnConvRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)) →
    ∃ (v0 : (c : Dev Cert.RmsBwdIdeal.nD) → Buf (Elt Ideal) ((c.tc : Thread Cert.RmsBwdIdeal.nD Cert.RmsBwdIdeal.τ).loc Cert.RmsBwdIdeal.main_v1_0)) (v1 : (c : Dev Cert.RmsBwdIdeal.nD) → Buf (Elt Ideal) ((c.tc : Thread Cert.RmsBwdIdeal.nD Cert.RmsBwdIdeal.τ).loc Cert.RmsBwdIdeal.main_v2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v1_0) = v0 c
          ∧ r.2.mem ((c.tc : Thread Cert.RmsBwdIdeal.nD Cert.RmsBwdIdeal.τ).loc Cert.RmsBwdIdeal.main_v2) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v36) = v0 c
          ∧ r.2.mem ((c.tc : Thread Cert.RmsBwdRefIdeal.nD Cert.RmsBwdRefIdeal.τ).loc Cert.RmsBwdRefIdeal.main_v21) = v1 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2))

def preserves_RmsBwdAdd_RmsBwdAddIdeal : Prop :=
  True

def algebraic_RmsBwdAddIdeal_RmsBwdAddRefIdeal [hRmsBwdAddIdeal : Cert.RmsBwdAddIdeal.Facts] [hRmsBwdAddRefIdeal : Cert.RmsBwdAddRefIdeal.Facts] : Prop :=
  ∀ (m : (ℓ : Loc Cert.RmsBwdAddIdeal.nD Cert.RmsBwdAddIdeal.τ Cert.RmsBwdAddIdeal.sig) → Buf (Elt Ideal) ℓ) (g : Dev Cert.RmsBwdAddIdeal.nD → PrngReg)
    (m' : (ℓ : Loc Cert.RmsBwdAddRefIdeal.nD Cert.RmsBwdAddRefIdeal.τ Cert.RmsBwdAddRefIdeal.sig) → Buf (Elt Ideal) ℓ) (g' : Dev Cert.RmsBwdAddRefIdeal.nD → PrngReg), Pre_RmsBwdAddIdeal m →
    (∀ c : Dev Cert.RmsBwdAddIdeal.nD,
      m' ((c.tc : Thread Cert.RmsBwdAddRefIdeal.nD Cert.RmsBwdAddRefIdeal.τ).loc Cert.RmsBwdAddRefIdeal.main_arg0) = m ((c.tc : Thread Cert.RmsBwdAddIdeal.nD Cert.RmsBwdAddIdeal.τ).loc Cert.RmsBwdAddIdeal.main_arg0)
      ∧ m' ((c.tc : Thread Cert.RmsBwdAddRefIdeal.nD Cert.RmsBwdAddRefIdeal.τ).loc Cert.RmsBwdAddRefIdeal.main_arg1) = m ((c.tc : Thread Cert.RmsBwdAddIdeal.nD Cert.RmsBwdAddIdeal.τ).loc Cert.RmsBwdAddIdeal.main_arg1)
      ∧ m' ((c.tc : Thread Cert.RmsBwdAddRefIdeal.nD Cert.RmsBwdAddRefIdeal.τ).loc Cert.RmsBwdAddRefIdeal.main_arg2) = m ((c.tc : Thread Cert.RmsBwdAddIdeal.nD Cert.RmsBwdAddIdeal.τ).loc Cert.RmsBwdAddIdeal.main_arg2)
      ∧ m' ((c.tc : Thread Cert.RmsBwdAddRefIdeal.nD Cert.RmsBwdAddRefIdeal.τ).loc Cert.RmsBwdAddRefIdeal.main_arg3) = m ((c.tc : Thread Cert.RmsBwdAddIdeal.nD Cert.RmsBwdAddIdeal.τ).loc Cert.RmsBwdAddIdeal.main_arg3)) →
    ∃ (v0 : (c : Dev Cert.RmsBwdAddIdeal.nD) → Buf (Elt Ideal) ((c.tc : Thread Cert.RmsBwdAddIdeal.nD Cert.RmsBwdAddIdeal.τ).loc Cert.RmsBwdAddIdeal.main_v1_0)) (v1 : (c : Dev Cert.RmsBwdAddIdeal.nD) → Buf (Elt Ideal) ((c.tc : Thread Cert.RmsBwdAddIdeal.nD Cert.RmsBwdAddIdeal.τ).loc Cert.RmsBwdAddIdeal.main_v2)),
      θ_run (Cert.RmsBwdAddIdeal.defs (F := Ideal)) (onTc (τ := Cert.RmsBwdAddIdeal.τ) (Cert.RmsBwdAddIdeal.main (F := Ideal))) ⟨m, fun _ => 0, g⟩ (fun r => ∀ c : Dev Cert.RmsBwdAddIdeal.nD,
          r.2.mem ((c.tc : Thread Cert.RmsBwdAddIdeal.nD Cert.RmsBwdAddIdeal.τ).loc Cert.RmsBwdAddIdeal.main_v1_0) = v0 c
          ∧ r.2.mem ((c.tc : Thread Cert.RmsBwdAddIdeal.nD Cert.RmsBwdAddIdeal.τ).loc Cert.RmsBwdAddIdeal.main_v2) = v1 c
          ∧ r.2.mem ((c.tc : Thread Cert.RmsBwdAddIdeal.nD Cert.RmsBwdAddIdeal.τ).loc Cert.RmsBwdAddIdeal.main_arg0) = m ((c.tc : Thread Cert.RmsBwdAddIdeal.nD Cert.RmsBwdAddIdeal.τ).loc Cert.RmsBwdAddIdeal.main_arg0)
          ∧ r.2.mem ((c.tc : Thread Cert.RmsBwdAddIdeal.nD Cert.RmsBwdAddIdeal.τ).loc Cert.RmsBwdAddIdeal.main_arg1) = m ((c.tc : Thread Cert.RmsBwdAddIdeal.nD Cert.RmsBwdAddIdeal.τ).loc Cert.RmsBwdAddIdeal.main_arg1)
          ∧ r.2.mem ((c.tc : Thread Cert.RmsBwdAddIdeal.nD Cert.RmsBwdAddIdeal.τ).loc Cert.RmsBwdAddIdeal.main_arg2) = m ((c.tc : Thread Cert.RmsBwdAddIdeal.nD Cert.RmsBwdAddIdeal.τ).loc Cert.RmsBwdAddIdeal.main_arg2)
          ∧ r.2.mem ((c.tc : Thread Cert.RmsBwdAddIdeal.nD Cert.RmsBwdAddIdeal.τ).loc Cert.RmsBwdAddIdeal.main_arg3) = m ((c.tc : Thread Cert.RmsBwdAddIdeal.nD Cert.RmsBwdAddIdeal.τ).loc Cert.RmsBwdAddIdeal.main_arg3))
      ∧ θ_run (Cert.RmsBwdAddRefIdeal.defs (F := Ideal)) (onTc (τ := Cert.RmsBwdAddRefIdeal.τ) (Cert.RmsBwdAddRefIdeal.main (F := Ideal))) ⟨m', fun _ => 0, g'⟩ (fun r => ∀ c : Dev Cert.RmsBwdAddRefIdeal.nD,
          r.2.mem ((c.tc : Thread Cert.RmsBwdAddRefIdeal.nD Cert.RmsBwdAddRefIdeal.τ).loc Cert.RmsBwdAddRefIdeal.main_v36) = v0 c
          ∧ r.2.mem ((c.tc : Thread Cert.RmsBwdAddRefIdeal.nD Cert.RmsBwdAddRefIdeal.τ).loc Cert.RmsBwdAddRefIdeal.main_v21) = v1 c
          ∧ r.2.mem ((c.tc : Thread Cert.RmsBwdAddRefIdeal.nD Cert.RmsBwdAddRefIdeal.τ).loc Cert.RmsBwdAddRefIdeal.main_arg0) = m' ((c.tc : Thread Cert.RmsBwdAddRefIdeal.nD Cert.RmsBwdAddRefIdeal.τ).loc Cert.RmsBwdAddRefIdeal.main_arg0)
          ∧ r.2.mem ((c.tc : Thread Cert.RmsBwdAddRefIdeal.nD Cert.RmsBwdAddRefIdeal.τ).loc Cert.RmsBwdAddRefIdeal.main_arg1) = m' ((c.tc : Thread Cert.RmsBwdAddRefIdeal.nD Cert.RmsBwdAddRefIdeal.τ).loc Cert.RmsBwdAddRefIdeal.main_arg1)
          ∧ r.2.mem ((c.tc : Thread Cert.RmsBwdAddRefIdeal.nD Cert.RmsBwdAddRefIdeal.τ).loc Cert.RmsBwdAddRefIdeal.main_arg2) = m' ((c.tc : Thread Cert.RmsBwdAddRefIdeal.nD Cert.RmsBwdAddRefIdeal.τ).loc Cert.RmsBwdAddRefIdeal.main_arg2)
          ∧ r.2.mem ((c.tc : Thread Cert.RmsBwdAddRefIdeal.nD Cert.RmsBwdAddRefIdeal.τ).loc Cert.RmsBwdAddRefIdeal.main_arg3) = m' ((c.tc : Thread Cert.RmsBwdAddRefIdeal.nD Cert.RmsBwdAddRefIdeal.τ).loc Cert.RmsBwdAddRefIdeal.main_arg3))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_RmsFwdRes_RmsFwdResIdeal : Prop :=
  True

def algebraic_RmsFwdResIdeal_RmsFwdResRefIdeal [hRmsFwdResIdeal : Cert.RmsFwdResIdeal.Facts] [hRmsFwdResRefIdeal : Cert.RmsFwdResRefIdeal.Facts] : Prop :=
  ∀ (m : (ℓ : Loc Cert.RmsFwdResIdeal.nD Cert.RmsFwdResIdeal.τ Cert.RmsFwdResIdeal.sig) → Buf (Elt Ideal) ℓ) (g : Dev Cert.RmsFwdResIdeal.nD → PrngReg)
    (m' : (ℓ : Loc Cert.RmsFwdResRefIdeal.nD Cert.RmsFwdResRefIdeal.τ Cert.RmsFwdResRefIdeal.sig) → Buf (Elt Ideal) ℓ) (g' : Dev Cert.RmsFwdResRefIdeal.nD → PrngReg), Pre_RmsFwdResIdeal m →
    (∀ c : Dev Cert.RmsFwdResIdeal.nD,
      m' ((c.tc : Thread Cert.RmsFwdResRefIdeal.nD Cert.RmsFwdResRefIdeal.τ).loc Cert.RmsFwdResRefIdeal.main_arg0) = m ((c.tc : Thread Cert.RmsFwdResIdeal.nD Cert.RmsFwdResIdeal.τ).loc Cert.RmsFwdResIdeal.main_arg0)
      ∧ m' ((c.tc : Thread Cert.RmsFwdResRefIdeal.nD Cert.RmsFwdResRefIdeal.τ).loc Cert.RmsFwdResRefIdeal.main_arg1) = m ((c.tc : Thread Cert.RmsFwdResIdeal.nD Cert.RmsFwdResIdeal.τ).loc Cert.RmsFwdResIdeal.main_arg1)
      ∧ m' ((c.tc : Thread Cert.RmsFwdResRefIdeal.nD Cert.RmsFwdResRefIdeal.τ).loc Cert.RmsFwdResRefIdeal.main_arg2) = m ((c.tc : Thread Cert.RmsFwdResIdeal.nD Cert.RmsFwdResIdeal.τ).loc Cert.RmsFwdResIdeal.main_arg2)) →
    ∃ (v0 : (c : Dev Cert.RmsFwdResIdeal.nD) → Buf (Elt Ideal) ((c.tc : Thread Cert.RmsFwdResIdeal.nD Cert.RmsFwdResIdeal.τ).loc Cert.RmsFwdResIdeal.main_v1)),
      θ_run (Cert.RmsFwdResIdeal.defs (F := Ideal)) (onTc (τ := Cert.RmsFwdResIdeal.τ) (Cert.RmsFwdResIdeal.main (F := Ideal))) ⟨m, fun _ => 0, g⟩ (fun r => ∀ c : Dev Cert.RmsFwdResIdeal.nD,
          r.2.mem ((c.tc : Thread Cert.RmsFwdResIdeal.nD Cert.RmsFwdResIdeal.τ).loc Cert.RmsFwdResIdeal.main_v1) = v0 c
          ∧ r.2.mem ((c.tc : Thread Cert.RmsFwdResIdeal.nD Cert.RmsFwdResIdeal.τ).loc Cert.RmsFwdResIdeal.main_arg0) = m ((c.tc : Thread Cert.RmsFwdResIdeal.nD Cert.RmsFwdResIdeal.τ).loc Cert.RmsFwdResIdeal.main_arg0)
          ∧ r.2.mem ((c.tc : Thread Cert.RmsFwdResIdeal.nD Cert.RmsFwdResIdeal.τ).loc Cert.RmsFwdResIdeal.main_arg1) = m ((c.tc : Thread Cert.RmsFwdResIdeal.nD Cert.RmsFwdResIdeal.τ).loc Cert.RmsFwdResIdeal.main_arg1)
          ∧ r.2.mem ((c.tc : Thread Cert.RmsFwdResIdeal.nD Cert.RmsFwdResIdeal.τ).loc Cert.RmsFwdResIdeal.main_arg2) = m ((c.tc : Thread Cert.RmsFwdResIdeal.nD Cert.RmsFwdResIdeal.τ).loc Cert.RmsFwdResIdeal.main_arg2))
      ∧ θ_run (Cert.RmsFwdResRefIdeal.defs (F := Ideal)) (onTc (τ := Cert.RmsFwdResRefIdeal.τ) (Cert.RmsFwdResRefIdeal.main (F := Ideal))) ⟨m', fun _ => 0, g'⟩ (fun r => ∀ c : Dev Cert.RmsFwdResRefIdeal.nD,
          r.2.mem ((c.tc : Thread Cert.RmsFwdResRefIdeal.nD Cert.RmsFwdResRefIdeal.τ).loc Cert.RmsFwdResRefIdeal.main_v13) = v0 c
          ∧ r.2.mem ((c.tc : Thread Cert.RmsFwdResRefIdeal.nD Cert.RmsFwdResRefIdeal.τ).loc Cert.RmsFwdResRefIdeal.main_arg0) = m' ((c.tc : Thread Cert.RmsFwdResRefIdeal.nD Cert.RmsFwdResRefIdeal.τ).loc Cert.RmsFwdResRefIdeal.main_arg0)
          ∧ r.2.mem ((c.tc : Thread Cert.RmsFwdResRefIdeal.nD Cert.RmsFwdResRefIdeal.τ).loc Cert.RmsFwdResRefIdeal.main_arg1) = m' ((c.tc : Thread Cert.RmsFwdResRefIdeal.nD Cert.RmsFwdResRefIdeal.τ).loc Cert.RmsFwdResRefIdeal.main_arg1)
          ∧ r.2.mem ((c.tc : Thread Cert.RmsFwdResRefIdeal.nD Cert.RmsFwdResRefIdeal.τ).loc Cert.RmsFwdResRefIdeal.main_arg2) = m' ((c.tc : Thread Cert.RmsFwdResRefIdeal.nD Cert.RmsFwdResRefIdeal.τ).loc Cert.RmsFwdResRefIdeal.main_arg2))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v17) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v31) = v0 c
          ∧ r.2.mem ((c.tc : Thread Cert.MergeBwdRefIdeal.nD Cert.MergeBwdRefIdeal.τ).loc Cert.MergeBwdRefIdeal.main_v32) = v1 c
          ∧ r.2.mem ((c.tc : Thread Cert.MergeBwdRefIdeal.nD Cert.MergeBwdRefIdeal.τ).loc Cert.MergeBwdRefIdeal.main_v33) = v2 c
          ∧ r.2.mem ((c.tc : Thread Cert.MergeBwdRefIdeal.nD Cert.MergeBwdRefIdeal.τ).loc Cert.MergeBwdRefIdeal.main_v34) = v3 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)
      ∧ m' ((c.tc : Thread Cert.GluFwdRefIdeal.nD Cert.GluFwdRefIdeal.τ).loc Cert.GluFwdRefIdeal.main_arg2) = m ((c.tc : Thread Cert.GluFwdIdeal.nD Cert.GluFwdIdeal.τ).loc Cert.GluFwdIdeal.main_arg2)) →
    ∃ (v0 : (c : Dev Cert.GluFwdIdeal.nD) → Buf (Elt Ideal) ((c.tc : Thread Cert.GluFwdIdeal.nD Cert.GluFwdIdeal.τ).loc Cert.GluFwdIdeal.main_v1)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v1) = v0 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v31) = v0 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1)
          ∧ r.2.mem ((c.tc : Thread Cert.GluFwdRefIdeal.nD Cert.GluFwdRefIdeal.τ).loc Cert.GluFwdRefIdeal.main_arg2) = m' ((c.tc : Thread Cert.GluFwdRefIdeal.nD Cert.GluFwdRefIdeal.τ).loc Cert.GluFwdRefIdeal.main_arg2))

def preserves_DnconvFwd_DnconvFwdIdeal : Prop :=
  True

def algebraic_DnconvFwdIdeal_DnconvFwdRefIdeal [hDnconvFwdIdeal : Cert.DnconvFwdIdeal.Facts] [hDnconvFwdRefIdeal : Cert.DnconvFwdRefIdeal.Facts] : Prop :=
  ∀ (m : (ℓ : Loc Cert.DnconvFwdIdeal.nD Cert.DnconvFwdIdeal.τ Cert.DnconvFwdIdeal.sig) → Buf (Elt Ideal) ℓ) (g : Dev Cert.DnconvFwdIdeal.nD → PrngReg)
    (m' : (ℓ : Loc Cert.DnconvFwdRefIdeal.nD Cert.DnconvFwdRefIdeal.τ Cert.DnconvFwdRefIdeal.sig) → Buf (Elt Ideal) ℓ) (g' : Dev Cert.DnconvFwdRefIdeal.nD → PrngReg), Pre_DnconvFwdIdeal m →
    (∀ c : Dev Cert.DnconvFwdIdeal.nD,
      m' ((c.tc : Thread Cert.DnconvFwdRefIdeal.nD Cert.DnconvFwdRefIdeal.τ).loc Cert.DnconvFwdRefIdeal.main_arg0) = m ((c.tc : Thread Cert.DnconvFwdIdeal.nD Cert.DnconvFwdIdeal.τ).loc Cert.DnconvFwdIdeal.main_arg0)
      ∧ m' ((c.tc : Thread Cert.DnconvFwdRefIdeal.nD Cert.DnconvFwdRefIdeal.τ).loc Cert.DnconvFwdRefIdeal.main_arg1) = m ((c.tc : Thread Cert.DnconvFwdIdeal.nD Cert.DnconvFwdIdeal.τ).loc Cert.DnconvFwdIdeal.main_arg1)) →
    ∃ (v0 : (c : Dev Cert.DnconvFwdIdeal.nD) → Buf (Elt Ideal) ((c.tc : Thread Cert.DnconvFwdIdeal.nD Cert.DnconvFwdIdeal.τ).loc Cert.DnconvFwdIdeal.main_v0)),
      θ_run (Cert.DnconvFwdIdeal.defs (F := Ideal)) (onTc (τ := Cert.DnconvFwdIdeal.τ) (Cert.DnconvFwdIdeal.main (F := Ideal))) ⟨m, fun _ => 0, g⟩ (fun r => ∀ c : Dev Cert.DnconvFwdIdeal.nD,
          r.2.mem ((c.tc : Thread Cert.DnconvFwdIdeal.nD Cert.DnconvFwdIdeal.τ).loc Cert.DnconvFwdIdeal.main_v0) = v0 c
          ∧ r.2.mem ((c.tc : Thread Cert.DnconvFwdIdeal.nD Cert.DnconvFwdIdeal.τ).loc Cert.DnconvFwdIdeal.main_arg0) = m ((c.tc : Thread Cert.DnconvFwdIdeal.nD Cert.DnconvFwdIdeal.τ).loc Cert.DnconvFwdIdeal.main_arg0)
          ∧ r.2.mem ((c.tc : Thread Cert.DnconvFwdIdeal.nD Cert.DnconvFwdIdeal.τ).loc Cert.DnconvFwdIdeal.main_arg1) = m ((c.tc : Thread Cert.DnconvFwdIdeal.nD Cert.DnconvFwdIdeal.τ).loc Cert.DnconvFwdIdeal.main_arg1))
      ∧ θ_run (Cert.DnconvFwdRefIdeal.defs (F := Ideal)) (onTc (τ := Cert.DnconvFwdRefIdeal.τ) (Cert.DnconvFwdRefIdeal.main (F := Ideal))) ⟨m', fun _ => 0, g'⟩ (fun r => ∀ c : Dev Cert.DnconvFwdRefIdeal.nD,
          r.2.mem ((c.tc : Thread Cert.DnconvFwdRefIdeal.nD Cert.DnconvFwdRefIdeal.τ).loc Cert.DnconvFwdRefIdeal.main_v32) = v0 c
          ∧ r.2.mem ((c.tc : Thread Cert.DnconvFwdRefIdeal.nD Cert.DnconvFwdRefIdeal.τ).loc Cert.DnconvFwdRefIdeal.main_arg0) = m' ((c.tc : Thread Cert.DnconvFwdRefIdeal.nD Cert.DnconvFwdRefIdeal.τ).loc Cert.DnconvFwdRefIdeal.main_arg0)
          ∧ r.2.mem ((c.tc : Thread Cert.DnconvFwdRefIdeal.nD Cert.DnconvFwdRefIdeal.τ).loc Cert.DnconvFwdRefIdeal.main_arg1) = m' ((c.tc : Thread Cert.DnconvFwdRefIdeal.nD Cert.DnconvFwdRefIdeal.τ).loc Cert.DnconvFwdRefIdeal.main_arg1))

def preserves_DnconvBwd_DnconvBwdIdeal : Prop :=
  True

def algebraic_DnconvBwdIdeal_DnconvBwdRefIdeal_pre_finite_gradient [hDnconvBwdIdeal : Cert.DnconvBwdIdeal.Facts] [hDnconvBwdRefIdeal : Cert.DnconvBwdRefIdeal.Facts] [hPre_finite_gradient : Cert.Pre_finite_gradient.Facts] : Prop :=
  ∀ (m : (ℓ : Loc Cert.DnconvBwdIdeal.nD Cert.DnconvBwdIdeal.τ Cert.DnconvBwdIdeal.sig) → Buf (Elt Ideal) ℓ) (g : Dev Cert.DnconvBwdIdeal.nD → PrngReg)
    (m' : (ℓ : Loc Cert.DnconvBwdRefIdeal.nD Cert.DnconvBwdRefIdeal.τ Cert.DnconvBwdRefIdeal.sig) → Buf (Elt Ideal) ℓ) (g' : Dev Cert.DnconvBwdRefIdeal.nD → PrngReg), Pre_DnconvBwdIdeal_finite_gradient m →
    (∀ c : Dev Cert.DnconvBwdIdeal.nD,
      m' ((c.tc : Thread Cert.DnconvBwdRefIdeal.nD Cert.DnconvBwdRefIdeal.τ).loc Cert.DnconvBwdRefIdeal.main_arg0) = m ((c.tc : Thread Cert.DnconvBwdIdeal.nD Cert.DnconvBwdIdeal.τ).loc Cert.DnconvBwdIdeal.main_arg0)
      ∧ m' ((c.tc : Thread Cert.DnconvBwdRefIdeal.nD Cert.DnconvBwdRefIdeal.τ).loc Cert.DnconvBwdRefIdeal.main_arg1) = m ((c.tc : Thread Cert.DnconvBwdIdeal.nD Cert.DnconvBwdIdeal.τ).loc Cert.DnconvBwdIdeal.main_arg1)
      ∧ m' ((c.tc : Thread Cert.DnconvBwdRefIdeal.nD Cert.DnconvBwdRefIdeal.τ).loc Cert.DnconvBwdRefIdeal.main_arg2) = m ((c.tc : Thread Cert.DnconvBwdIdeal.nD Cert.DnconvBwdIdeal.τ).loc Cert.DnconvBwdIdeal.main_arg2)) →
    ∃ (v0 : (c : Dev Cert.DnconvBwdIdeal.nD) → Buf (Elt Ideal) ((c.tc : Thread Cert.DnconvBwdIdeal.nD Cert.DnconvBwdIdeal.τ).loc Cert.DnconvBwdIdeal.main_v0_0)) (v1 : (c : Dev Cert.DnconvBwdIdeal.nD) → Buf (Elt Ideal) ((c.tc : Thread Cert.DnconvBwdIdeal.nD Cert.DnconvBwdIdeal.τ).loc Cert.DnconvBwdIdeal.main_v0_1)),
      θ_run (Cert.DnconvBwdIdeal.defs (F := Ideal)) (onTc (τ := Cert.DnconvBwdIdeal.τ) (Cert.DnconvBwdIdeal.main (F := Ideal))) ⟨m, fun _ => 0, g⟩ (fun r => ∀ c : Dev Cert.DnconvBwdIdeal.nD,
          r.2.mem ((c.tc : Thread Cert.DnconvBwdIdeal.nD Cert.DnconvBwdIdeal.τ).loc Cert.DnconvBwdIdeal.main_v0_0) = v0 c
          ∧ r.2.mem ((c.tc : Thread Cert.DnconvBwdIdeal.nD Cert.DnconvBwdIdeal.τ).loc Cert.DnconvBwdIdeal.main_v0_1) = v1 c
          ∧ r.2.mem ((c.tc : Thread Cert.DnconvBwdIdeal.nD Cert.DnconvBwdIdeal.τ).loc Cert.DnconvBwdIdeal.main_arg0) = m ((c.tc : Thread Cert.DnconvBwdIdeal.nD Cert.DnconvBwdIdeal.τ).loc Cert.DnconvBwdIdeal.main_arg0)
          ∧ r.2.mem ((c.tc : Thread Cert.DnconvBwdIdeal.nD Cert.DnconvBwdIdeal.τ).loc Cert.DnconvBwdIdeal.main_arg1) = m ((c.tc : Thread Cert.DnconvBwdIdeal.nD Cert.DnconvBwdIdeal.τ).loc Cert.DnconvBwdIdeal.main_arg1)
          ∧ r.2.mem ((c.tc : Thread Cert.DnconvBwdIdeal.nD Cert.DnconvBwdIdeal.τ).loc Cert.DnconvBwdIdeal.main_arg2) = m ((c.tc : Thread Cert.DnconvBwdIdeal.nD Cert.DnconvBwdIdeal.τ).loc Cert.DnconvBwdIdeal.main_arg2))
      ∧ θ_run (Cert.DnconvBwdRefIdeal.defs (F := Ideal)) (onTc (τ := Cert.DnconvBwdRefIdeal.τ) (Cert.DnconvBwdRefIdeal.main (F := Ideal))) ⟨m', fun _ => 0, g'⟩ (fun r => ∀ c : Dev Cert.DnconvBwdRefIdeal.nD,
          r.2.mem ((c.tc : Thread Cert.DnconvBwdRefIdeal.nD Cert.DnconvBwdRefIdeal.τ).loc Cert.DnconvBwdRefIdeal.main_v87) = v0 c
          ∧ r.2.mem ((c.tc : Thread Cert.DnconvBwdRefIdeal.nD Cert.DnconvBwdRefIdeal.τ).loc Cert.DnconvBwdRefIdeal.main_v81) = v1 c
          ∧ r.2.mem ((c.tc : Thread Cert.DnconvBwdRefIdeal.nD Cert.DnconvBwdRefIdeal.τ).loc Cert.DnconvBwdRefIdeal.main_arg0) = m' ((c.tc : Thread Cert.DnconvBwdRefIdeal.nD Cert.DnconvBwdRefIdeal.τ).loc Cert.DnconvBwdRefIdeal.main_arg0)
          ∧ r.2.mem ((c.tc : Thread Cert.DnconvBwdRefIdeal.nD Cert.DnconvBwdRefIdeal.τ).loc Cert.DnconvBwdRefIdeal.main_arg1) = m' ((c.tc : Thread Cert.DnconvBwdRefIdeal.nD Cert.DnconvBwdRefIdeal.τ).loc Cert.DnconvBwdRefIdeal.main_arg1)
          ∧ r.2.mem ((c.tc : Thread Cert.DnconvBwdRefIdeal.nD Cert.DnconvBwdRefIdeal.τ).loc Cert.DnconvBwdRefIdeal.main_arg2) = m' ((c.tc : Thread Cert.DnconvBwdRefIdeal.nD Cert.DnconvBwdRefIdeal.τ).loc Cert.DnconvBwdRefIdeal.main_arg2))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v1)) (v1 : (c : Dev Cert.LossHeadIdeal.nD) → Buf (Elt Ideal) ((c.tc : Thread Cert.LossHeadIdeal.nD Cert.LossHeadIdeal.τ).loc Cert.LossHeadIdeal.main_v0_0)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1) = v0 c
          ∧ r.2.mem ((c.tc : Thread Cert.LossHeadIdeal.nD Cert.LossHeadIdeal.τ).loc Cert.LossHeadIdeal.main_v0_0) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v8) = v0 c
          ∧ r.2.mem ((c.tc : Thread Cert.LossHeadRefIdeal.nD Cert.LossHeadRefIdeal.τ).loc Cert.LossHeadRefIdeal.main_v14) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_AttnFwd_AttnFwdIdeal : Prop :=
  IdealRules.named_const.Statement Cert.AttnFwdIdeal.κ "mask" .f32 0xF149F2CA#32 ⊥

def algebraic_AttnFwdIdeal_AttnFwdRefIdeal_pre_finite_queries [hAttnFwdIdeal : Cert.AttnFwdIdeal.Facts] [hAttnFwdRefIdeal : Cert.AttnFwdRefIdeal.Facts] [hPre_finite_queries : Cert.Pre_finite_queries.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_queries m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v28)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v28) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v135) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)) →
    ∃ (v0 : (c : Dev Cert.ProjDxIdeal.nD) → Buf (Elt Ideal) ((c.tc : Thread Cert.ProjDxIdeal.nD Cert.ProjDxIdeal.τ).loc Cert.ProjDxIdeal.main_v0)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v4) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v5) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v0)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v2) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1))

def preserves_BranchDx_BranchDxIdeal : Prop :=
  True

def algebraic_BranchDxIdeal_BranchDxRefIdeal [hBranchDxIdeal : Cert.BranchDxIdeal.Facts] [hBranchDxRefIdeal : Cert.BranchDxRefIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg)
    (m' : (ℓ : Loc Cert.BranchDxRefIdeal.nD Cert.BranchDxRefIdeal.τ Cert.BranchDxRefIdeal.sig) → Buf (Elt Ideal) ℓ) (g' : Dev Cert.BranchDxRefIdeal.nD → PrngReg), Pre_BranchDxIdeal m →
    (∀ c : Dev Cert.BranchDxIdeal.nD,
      m' ((c.tc : Thread Cert.BranchDxRefIdeal.nD Cert.BranchDxRefIdeal.τ).loc Cert.BranchDxRefIdeal.main_arg0) = m ((c.tc : Thread Cert.BranchDxIdeal.nD Cert.BranchDxIdeal.τ).loc Cert.BranchDxIdeal.main_arg0)
      ∧ m' ((c.tc : Thread Cert.BranchDxRefIdeal.nD Cert.BranchDxRefIdeal.τ).loc Cert.BranchDxRefIdeal.main_arg1) = m ((c.tc : Thread Cert.BranchDxIdeal.nD Cert.BranchDxIdeal.τ).loc Cert.BranchDxIdeal.main_arg1)) →
    ∃ (v0 : (c : Dev Cert.BranchDxIdeal.nD) → Buf (Elt Ideal) ((c.tc : Thread Cert.BranchDxIdeal.nD Cert.BranchDxIdeal.τ).loc Cert.BranchDxIdeal.main_v0)),
      θ_run (Cert.BranchDxIdeal.defs (F := Ideal)) (onTc (τ := Cert.BranchDxIdeal.τ) (Cert.BranchDxIdeal.main (F := Ideal))) ⟨m, fun _ => 0, g⟩ (fun r => ∀ c : Dev Cert.BranchDxIdeal.nD,
          r.2.mem ((c.tc : Thread Cert.BranchDxIdeal.nD Cert.BranchDxIdeal.τ).loc Cert.BranchDxIdeal.main_v0) = v0 c
          ∧ r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
          ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ θ_run (Cert.BranchDxRefIdeal.defs (F := Ideal)) (onTc (τ := Cert.BranchDxRefIdeal.τ) (Cert.BranchDxRefIdeal.main (F := Ideal))) ⟨m', fun _ => 0, g'⟩ (fun r => ∀ c : Dev Cert.BranchDxRefIdeal.nD,
          r.2.mem ((c.tc : Thread Cert.BranchDxRefIdeal.nD Cert.BranchDxRefIdeal.τ).loc Cert.BranchDxRefIdeal.main_v5) = v0 c
          ∧ r.2.mem ((c.tc : Thread Cert.BranchDxRefIdeal.nD Cert.BranchDxRefIdeal.τ).loc Cert.BranchDxRefIdeal.main_arg0) = m' ((c.tc : Thread Cert.BranchDxRefIdeal.nD Cert.BranchDxRefIdeal.τ).loc Cert.BranchDxRefIdeal.main_arg0)
          ∧ r.2.mem ((c.tc : Thread Cert.BranchDxRefIdeal.nD Cert.BranchDxRefIdeal.τ).loc Cert.BranchDxRefIdeal.main_arg1) = m' ((c.tc : Thread Cert.BranchDxRefIdeal.nD Cert.BranchDxRefIdeal.τ).loc Cert.BranchDxRefIdeal.main_arg1))

def preserves_MixDx_MixDxIdeal : Prop :=
  True

def algebraic_MixDxIdeal_MixDxRefIdeal [hMixDxIdeal : Cert.MixDxIdeal.Facts] [hMixDxRefIdeal : Cert.MixDxRefIdeal.Facts] : Prop :=
  ∀ (m : (ℓ : Loc Cert.MixDxIdeal.nD Cert.MixDxIdeal.τ Cert.MixDxIdeal.sig) → Buf (Elt Ideal) ℓ) (g : Dev Cert.MixDxIdeal.nD → PrngReg)
    (m' : (ℓ : Loc Cert.MixDxRefIdeal.nD Cert.MixDxRefIdeal.τ Cert.MixDxRefIdeal.sig) → Buf (Elt Ideal) ℓ) (g' : Dev Cert.MixDxRefIdeal.nD → PrngReg), Pre_MixDxIdeal m →
    (∀ c : Dev Cert.MixDxIdeal.nD,
      m' ((c.tc : Thread Cert.MixDxRefIdeal.nD Cert.MixDxRefIdeal.τ).loc Cert.MixDxRefIdeal.main_arg0) = m ((c.tc : Thread Cert.MixDxIdeal.nD Cert.MixDxIdeal.τ).loc Cert.MixDxIdeal.main_arg0)
      ∧ m' ((c.tc : Thread Cert.MixDxRefIdeal.nD Cert.MixDxRefIdeal.τ).loc Cert.MixDxRefIdeal.main_arg1) = m ((c.tc : Thread Cert.MixDxIdeal.nD Cert.MixDxIdeal.τ).loc Cert.MixDxIdeal.main_arg1)) →
    ∃ (v0 : (c : Dev Cert.MixDxIdeal.nD) → Buf (Elt Ideal) ((c.tc : Thread Cert.MixDxIdeal.nD Cert.MixDxIdeal.τ).loc Cert.MixDxIdeal.main_v0)),
      θ_run (Cert.MixDxIdeal.defs (F := Ideal)) (onTc (τ := Cert.MixDxIdeal.τ) (Cert.MixDxIdeal.main (F := Ideal))) ⟨m, fun _ => 0, g⟩ (fun r => ∀ c : Dev Cert.MixDxIdeal.nD,
          r.2.mem ((c.tc : Thread Cert.MixDxIdeal.nD Cert.MixDxIdeal.τ).loc Cert.MixDxIdeal.main_v0) = v0 c
          ∧ r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
          ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1))
      ∧ θ_run (Cert.MixDxRefIdeal.defs (F := Ideal)) (onTc (τ := Cert.MixDxRefIdeal.τ) (Cert.MixDxRefIdeal.main (F := Ideal))) ⟨m', fun _ => 0, g'⟩ (fun r => ∀ c : Dev Cert.MixDxRefIdeal.nD,
          r.2.mem ((c.tc : Thread Cert.MixDxRefIdeal.nD Cert.MixDxRefIdeal.τ).loc Cert.MixDxRefIdeal.main_v4) = v0 c
          ∧ r.2.mem ((c.tc : Thread Cert.MixDxRefIdeal.nD Cert.MixDxRefIdeal.τ).loc Cert.MixDxRefIdeal.main_arg0) = m' ((c.tc : Thread Cert.MixDxRefIdeal.nD Cert.MixDxRefIdeal.τ).loc Cert.MixDxRefIdeal.main_arg0)
          ∧ r.2.mem ((c.tc : Thread Cert.MixDxRefIdeal.nD Cert.MixDxRefIdeal.τ).loc Cert.MixDxRefIdeal.main_arg1) = m' ((c.tc : Thread Cert.MixDxRefIdeal.nD Cert.MixDxRefIdeal.τ).loc Cert.MixDxRefIdeal.main_arg1))

def preserves_SquareDw_SquareDwIdeal : Prop :=
  True

def algebraic_SquareDwIdeal_SquareDwRefIdeal [hSquareDwIdeal : Cert.SquareDwIdeal.Facts] [hSquareDwRefIdeal : Cert.SquareDwRefIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg)
    (m' : (ℓ : Loc Cert.SquareDwRefIdeal.nD Cert.SquareDwRefIdeal.τ Cert.SquareDwRefIdeal.sig) → Buf (Elt Ideal) ℓ) (g' : Dev Cert.SquareDwRefIdeal.nD → PrngReg), Pre_SquareDwIdeal m →
    (∀ c : Dev Cert.SquareDwIdeal.nD,
      m' ((c.tc : Thread Cert.SquareDwRefIdeal.nD Cert.SquareDwRefIdeal.τ).loc Cert.SquareDwRefIdeal.main_arg0) = m ((c.tc : Thread Cert.SquareDwIdeal.nD Cert.SquareDwIdeal.τ).loc Cert.SquareDwIdeal.main_arg0)
      ∧ m' ((c.tc : Thread Cert.SquareDwRefIdeal.nD Cert.SquareDwRefIdeal.τ).loc Cert.SquareDwRefIdeal.main_arg1) = m ((c.tc : Thread Cert.SquareDwIdeal.nD Cert.SquareDwIdeal.τ).loc Cert.SquareDwIdeal.main_arg1)) →
    ∃ (v0 : (c : Dev Cert.SquareDwIdeal.nD) → Buf (Elt Ideal) ((c.tc : Thread Cert.SquareDwIdeal.nD Cert.SquareDwIdeal.τ).loc Cert.SquareDwIdeal.main_v0)),
      θ_run (Cert.SquareDwIdeal.defs (F := Ideal)) (onTc (τ := Cert.SquareDwIdeal.τ) (Cert.SquareDwIdeal.main (F := Ideal))) ⟨m, fun _ => 0, g⟩ (fun r => ∀ c : Dev Cert.SquareDwIdeal.nD,
          r.2.mem ((c.tc : Thread Cert.SquareDwIdeal.nD Cert.SquareDwIdeal.τ).loc Cert.SquareDwIdeal.main_v0) = v0 c
          ∧ r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
          ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1))
      ∧ θ_run (Cert.SquareDwRefIdeal.defs (F := Ideal)) (onTc (τ := Cert.SquareDwRefIdeal.τ) (Cert.SquareDwRefIdeal.main (F := Ideal))) ⟨m', fun _ => 0, g'⟩ (fun r => ∀ c : Dev Cert.SquareDwRefIdeal.nD,
          r.2.mem ((c.tc : Thread Cert.SquareDwRefIdeal.nD Cert.SquareDwRefIdeal.τ).loc Cert.SquareDwRefIdeal.main_v5) = v0 c
          ∧ r.2.mem ((c.tc : Thread Cert.SquareDwRefIdeal.nD Cert.SquareDwRefIdeal.τ).loc Cert.SquareDwRefIdeal.main_arg0) = m' ((c.tc : Thread Cert.SquareDwRefIdeal.nD Cert.SquareDwRefIdeal.τ).loc Cert.SquareDwRefIdeal.main_arg0)
          ∧ r.2.mem ((c.tc : Thread Cert.SquareDwRefIdeal.nD Cert.SquareDwRefIdeal.τ).loc Cert.SquareDwRefIdeal.main_arg1) = m' ((c.tc : Thread Cert.SquareDwRefIdeal.nD Cert.SquareDwRefIdeal.τ).loc Cert.SquareDwRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v4) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v5) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v0) = v0 c
          ∧ r.2.mem ((c.tc : Thread Cert.AdamInRefIdeal.nD Cert.AdamInRefIdeal.τ).loc Cert.AdamInRefIdeal.main_v24) = v1 c
          ∧ r.2.mem ((c.tc : Thread Cert.AdamInRefIdeal.nD Cert.AdamInRefIdeal.τ).loc Cert.AdamInRefIdeal.main_v5) = v2 c
          ∧ r.2.mem ((c.tc : Thread Cert.AdamInRefIdeal.nD Cert.AdamInRefIdeal.τ).loc Cert.AdamInRefIdeal.main_v11) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamSquare_AdamSquareIdeal : Prop :=
  True

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)) (v3 : (c : Dev Cert.AdamSquareIdeal.nD) → Buf (Elt Ideal) ((c.tc : Thread Cert.AdamSquareIdeal.nD Cert.AdamSquareIdeal.τ).loc Cert.AdamSquareIdeal.main_v0_3)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_v0_3) = v3 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_arg1) = v0 c
          ∧ r.2.mem ((c.tc : Thread Cert.AdamSquareRefIdeal.nD Cert.AdamSquareRefIdeal.τ).loc Cert.AdamSquareRefIdeal.main_v23) = v1 c
          ∧ r.2.mem ((c.tc : Thread Cert.AdamSquareRefIdeal.nD Cert.AdamSquareRefIdeal.τ).loc Cert.AdamSquareRefIdeal.main_v4) = v2 c
          ∧ r.2.mem ((c.tc : Thread Cert.AdamSquareRefIdeal.nD Cert.AdamSquareRefIdeal.τ).loc Cert.AdamSquareRefIdeal.main_v10) = v3 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_arg1) = v0 c
          ∧ r.2.mem ((c.tc : Thread Cert.AdamUpRefIdeal.nD Cert.AdamUpRefIdeal.τ).loc Cert.AdamUpRefIdeal.main_v23) = v1 c
          ∧ r.2.mem ((c.tc : Thread Cert.AdamUpRefIdeal.nD Cert.AdamUpRefIdeal.τ).loc Cert.AdamUpRefIdeal.main_v4) = v2 c
          ∧ r.2.mem ((c.tc : Thread Cert.AdamUpRefIdeal.nD Cert.AdamUpRefIdeal.τ).loc Cert.AdamUpRefIdeal.main_v10) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_arg1) = v0 c
          ∧ r.2.mem ((c.tc : Thread Cert.AdamDownRefIdeal.nD Cert.AdamDownRefIdeal.τ).loc Cert.AdamDownRefIdeal.main_v23) = v1 c
          ∧ r.2.mem ((c.tc : Thread Cert.AdamDownRefIdeal.nD Cert.AdamDownRefIdeal.τ).loc Cert.AdamDownRefIdeal.main_v4) = v2 c
          ∧ r.2.mem ((c.tc : Thread Cert.AdamDownRefIdeal.nD Cert.AdamDownRefIdeal.τ).loc Cert.AdamDownRefIdeal.main_v10) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamDnConv_AdamDnConvIdeal : Prop :=
  True

def algebraic_AdamDnConvIdeal_AdamDnConvRefIdeal [hAdamDnConvIdeal : Cert.AdamDnConvIdeal.Facts] [hAdamDnConvRefIdeal : Cert.AdamDnConvRefIdeal.Facts] : Prop :=
  ∀ (m : (ℓ : Loc Cert.AdamDnConvIdeal.nD Cert.AdamDnConvIdeal.τ Cert.AdamDnConvIdeal.sig) → Buf (Elt Ideal) ℓ) (g : Dev Cert.AdamDnConvIdeal.nD → PrngReg)
    (m' : (ℓ : Loc Cert.AdamDnConvRefIdeal.nD Cert.AdamDnConvRefIdeal.τ Cert.AdamDnConvRefIdeal.sig) → Buf (Elt Ideal) ℓ) (g' : Dev Cert.AdamDnConvRefIdeal.nD → PrngReg), Pre_AdamDnConvIdeal m →
    (∀ c : Dev Cert.AdamDnConvIdeal.nD,
      m' ((c.tc : Thread Cert.AdamDnConvRefIdeal.nD Cert.AdamDnConvRefIdeal.τ).loc Cert.AdamDnConvRefIdeal.main_arg0) = m ((c.tc : Thread Cert.AdamDnConvIdeal.nD Cert.AdamDnConvIdeal.τ).loc Cert.AdamDnConvIdeal.main_arg0)
      ∧ m' ((c.tc : Thread Cert.AdamDnConvRefIdeal.nD Cert.AdamDnConvRefIdeal.τ).loc Cert.AdamDnConvRefIdeal.main_arg1) = m ((c.tc : Thread Cert.AdamDnConvIdeal.nD Cert.AdamDnConvIdeal.τ).loc Cert.AdamDnConvIdeal.main_arg1)
      ∧ m' ((c.tc : Thread Cert.AdamDnConvRefIdeal.nD Cert.AdamDnConvRefIdeal.τ).loc Cert.AdamDnConvRefIdeal.main_arg2) = m ((c.tc : Thread Cert.AdamDnConvIdeal.nD Cert.AdamDnConvIdeal.τ).loc Cert.AdamDnConvIdeal.main_arg2)
      ∧ m' ((c.tc : Thread Cert.AdamDnConvRefIdeal.nD Cert.AdamDnConvRefIdeal.τ).loc Cert.AdamDnConvRefIdeal.main_arg3) = m ((c.tc : Thread Cert.AdamDnConvIdeal.nD Cert.AdamDnConvIdeal.τ).loc Cert.AdamDnConvIdeal.main_arg3)) →
    ∃ (v0 : (c : Dev Cert.AdamDnConvIdeal.nD) → Buf (Elt Ideal) ((c.tc : Thread Cert.AdamDnConvIdeal.nD Cert.AdamDnConvIdeal.τ).loc Cert.AdamDnConvIdeal.main_v0_0)) (v1 : (c : Dev Cert.AdamDnConvIdeal.nD) → Buf (Elt Ideal) ((c.tc : Thread Cert.AdamDnConvIdeal.nD Cert.AdamDnConvIdeal.τ).loc Cert.AdamDnConvIdeal.main_v0_1)) (v2 : (c : Dev Cert.AdamDnConvIdeal.nD) → Buf (Elt Ideal) ((c.tc : Thread Cert.AdamDnConvIdeal.nD Cert.AdamDnConvIdeal.τ).loc Cert.AdamDnConvIdeal.main_v0_2)) (v3 : (c : Dev Cert.AdamDnConvIdeal.nD) → Buf (Elt Ideal) ((c.tc : Thread Cert.AdamDnConvIdeal.nD Cert.AdamDnConvIdeal.τ).loc Cert.AdamDnConvIdeal.main_v0_3)),
      θ_run (Cert.AdamDnConvIdeal.defs (F := Ideal)) (onTc (τ := Cert.AdamDnConvIdeal.τ) (Cert.AdamDnConvIdeal.main (F := Ideal))) ⟨m, fun _ => 0, g⟩ (fun r => ∀ c : Dev Cert.AdamDnConvIdeal.nD,
          r.2.mem ((c.tc : Thread Cert.AdamDnConvIdeal.nD Cert.AdamDnConvIdeal.τ).loc Cert.AdamDnConvIdeal.main_v0_0) = v0 c
          ∧ r.2.mem ((c.tc : Thread Cert.AdamDnConvIdeal.nD Cert.AdamDnConvIdeal.τ).loc Cert.AdamDnConvIdeal.main_v0_1) = v1 c
          ∧ r.2.mem ((c.tc : Thread Cert.AdamDnConvIdeal.nD Cert.AdamDnConvIdeal.τ).loc Cert.AdamDnConvIdeal.main_v0_2) = v2 c
          ∧ r.2.mem ((c.tc : Thread Cert.AdamDnConvIdeal.nD Cert.AdamDnConvIdeal.τ).loc Cert.AdamDnConvIdeal.main_v0_3) = v3 c
          ∧ r.2.mem ((c.tc : Thread Cert.AdamDnConvIdeal.nD Cert.AdamDnConvIdeal.τ).loc Cert.AdamDnConvIdeal.main_arg0) = m ((c.tc : Thread Cert.AdamDnConvIdeal.nD Cert.AdamDnConvIdeal.τ).loc Cert.AdamDnConvIdeal.main_arg0)
          ∧ r.2.mem ((c.tc : Thread Cert.AdamDnConvIdeal.nD Cert.AdamDnConvIdeal.τ).loc Cert.AdamDnConvIdeal.main_arg1) = m ((c.tc : Thread Cert.AdamDnConvIdeal.nD Cert.AdamDnConvIdeal.τ).loc Cert.AdamDnConvIdeal.main_arg1)
          ∧ r.2.mem ((c.tc : Thread Cert.AdamDnConvIdeal.nD Cert.AdamDnConvIdeal.τ).loc Cert.AdamDnConvIdeal.main_arg2) = m ((c.tc : Thread Cert.AdamDnConvIdeal.nD Cert.AdamDnConvIdeal.τ).loc Cert.AdamDnConvIdeal.main_arg2)
          ∧ r.2.mem ((c.tc : Thread Cert.AdamDnConvIdeal.nD Cert.AdamDnConvIdeal.τ).loc Cert.AdamDnConvIdeal.main_arg3) = m ((c.tc : Thread Cert.AdamDnConvIdeal.nD Cert.AdamDnConvIdeal.τ).loc Cert.AdamDnConvIdeal.main_arg3))
      ∧ θ_run (Cert.AdamDnConvRefIdeal.defs (F := Ideal)) (onTc (τ := Cert.AdamDnConvRefIdeal.τ) (Cert.AdamDnConvRefIdeal.main (F := Ideal))) ⟨m', fun _ => 0, g'⟩ (fun r => ∀ c : Dev Cert.AdamDnConvRefIdeal.nD,
          r.2.mem ((c.tc : Thread Cert.AdamDnConvRefIdeal.nD Cert.AdamDnConvRefIdeal.τ).loc Cert.AdamDnConvRefIdeal.main_arg1) = v0 c
          ∧ r.2.mem ((c.tc : Thread Cert.AdamDnConvRefIdeal.nD Cert.AdamDnConvRefIdeal.τ).loc Cert.AdamDnConvRefIdeal.main_v23) = v1 c
          ∧ r.2.mem ((c.tc : Thread Cert.AdamDnConvRefIdeal.nD Cert.AdamDnConvRefIdeal.τ).loc Cert.AdamDnConvRefIdeal.main_v4) = v2 c
          ∧ r.2.mem ((c.tc : Thread Cert.AdamDnConvRefIdeal.nD Cert.AdamDnConvRefIdeal.τ).loc Cert.AdamDnConvRefIdeal.main_v10) = v3 c
          ∧ r.2.mem ((c.tc : Thread Cert.AdamDnConvRefIdeal.nD Cert.AdamDnConvRefIdeal.τ).loc Cert.AdamDnConvRefIdeal.main_arg0) = m' ((c.tc : Thread Cert.AdamDnConvRefIdeal.nD Cert.AdamDnConvRefIdeal.τ).loc Cert.AdamDnConvRefIdeal.main_arg0)
          ∧ r.2.mem ((c.tc : Thread Cert.AdamDnConvRefIdeal.nD Cert.AdamDnConvRefIdeal.τ).loc Cert.AdamDnConvRefIdeal.main_arg1) = m' ((c.tc : Thread Cert.AdamDnConvRefIdeal.nD Cert.AdamDnConvRefIdeal.τ).loc Cert.AdamDnConvRefIdeal.main_arg1)
          ∧ r.2.mem ((c.tc : Thread Cert.AdamDnConvRefIdeal.nD Cert.AdamDnConvRefIdeal.τ).loc Cert.AdamDnConvRefIdeal.main_arg2) = m' ((c.tc : Thread Cert.AdamDnConvRefIdeal.nD Cert.AdamDnConvRefIdeal.τ).loc Cert.AdamDnConvRefIdeal.main_arg2)
          ∧ r.2.mem ((c.tc : Thread Cert.AdamDnConvRefIdeal.nD Cert.AdamDnConvRefIdeal.τ).loc Cert.AdamDnConvRefIdeal.main_arg3) = m' ((c.tc : Thread Cert.AdamDnConvRefIdeal.nD Cert.AdamDnConvRefIdeal.τ).loc Cert.AdamDnConvRefIdeal.main_arg3))

def preserves_AdamFfnConv_AdamFfnConvIdeal : Prop :=
  True

def algebraic_AdamFfnConvIdeal_AdamFfnConvRefIdeal [hAdamFfnConvIdeal : Cert.AdamFfnConvIdeal.Facts] [hAdamFfnConvRefIdeal : Cert.AdamFfnConvRefIdeal.Facts] : Prop :=
  ∀ (m : (ℓ : Loc Cert.AdamFfnConvIdeal.nD Cert.AdamFfnConvIdeal.τ Cert.AdamFfnConvIdeal.sig) → Buf (Elt Ideal) ℓ) (g : Dev Cert.AdamFfnConvIdeal.nD → PrngReg)
    (m' : (ℓ : Loc Cert.AdamFfnConvRefIdeal.nD Cert.AdamFfnConvRefIdeal.τ Cert.AdamFfnConvRefIdeal.sig) → Buf (Elt Ideal) ℓ) (g' : Dev Cert.AdamFfnConvRefIdeal.nD → PrngReg), Pre_AdamFfnConvIdeal m →
    (∀ c : Dev Cert.AdamFfnConvIdeal.nD,
      m' ((c.tc : Thread Cert.AdamFfnConvRefIdeal.nD Cert.AdamFfnConvRefIdeal.τ).loc Cert.AdamFfnConvRefIdeal.main_arg0) = m ((c.tc : Thread Cert.AdamFfnConvIdeal.nD Cert.AdamFfnConvIdeal.τ).loc Cert.AdamFfnConvIdeal.main_arg0)
      ∧ m' ((c.tc : Thread Cert.AdamFfnConvRefIdeal.nD Cert.AdamFfnConvRefIdeal.τ).loc Cert.AdamFfnConvRefIdeal.main_arg1) = m ((c.tc : Thread Cert.AdamFfnConvIdeal.nD Cert.AdamFfnConvIdeal.τ).loc Cert.AdamFfnConvIdeal.main_arg1)
      ∧ m' ((c.tc : Thread Cert.AdamFfnConvRefIdeal.nD Cert.AdamFfnConvRefIdeal.τ).loc Cert.AdamFfnConvRefIdeal.main_arg2) = m ((c.tc : Thread Cert.AdamFfnConvIdeal.nD Cert.AdamFfnConvIdeal.τ).loc Cert.AdamFfnConvIdeal.main_arg2)
      ∧ m' ((c.tc : Thread Cert.AdamFfnConvRefIdeal.nD Cert.AdamFfnConvRefIdeal.τ).loc Cert.AdamFfnConvRefIdeal.main_arg3) = m ((c.tc : Thread Cert.AdamFfnConvIdeal.nD Cert.AdamFfnConvIdeal.τ).loc Cert.AdamFfnConvIdeal.main_arg3)) →
    ∃ (v0 : (c : Dev Cert.AdamFfnConvIdeal.nD) → Buf (Elt Ideal) ((c.tc : Thread Cert.AdamFfnConvIdeal.nD Cert.AdamFfnConvIdeal.τ).loc Cert.AdamFfnConvIdeal.main_v0_0)) (v1 : (c : Dev Cert.AdamFfnConvIdeal.nD) → Buf (Elt Ideal) ((c.tc : Thread Cert.AdamFfnConvIdeal.nD Cert.AdamFfnConvIdeal.τ).loc Cert.AdamFfnConvIdeal.main_v0_1)) (v2 : (c : Dev Cert.AdamFfnConvIdeal.nD) → Buf (Elt Ideal) ((c.tc : Thread Cert.AdamFfnConvIdeal.nD Cert.AdamFfnConvIdeal.τ).loc Cert.AdamFfnConvIdeal.main_v0_2)) (v3 : (c : Dev Cert.AdamFfnConvIdeal.nD) → Buf (Elt Ideal) ((c.tc : Thread Cert.AdamFfnConvIdeal.nD Cert.AdamFfnConvIdeal.τ).loc Cert.AdamFfnConvIdeal.main_v0_3)),
      θ_run (Cert.AdamFfnConvIdeal.defs (F := Ideal)) (onTc (τ := Cert.AdamFfnConvIdeal.τ) (Cert.AdamFfnConvIdeal.main (F := Ideal))) ⟨m, fun _ => 0, g⟩ (fun r => ∀ c : Dev Cert.AdamFfnConvIdeal.nD,
          r.2.mem ((c.tc : Thread Cert.AdamFfnConvIdeal.nD Cert.AdamFfnConvIdeal.τ).loc Cert.AdamFfnConvIdeal.main_v0_0) = v0 c
          ∧ r.2.mem ((c.tc : Thread Cert.AdamFfnConvIdeal.nD Cert.AdamFfnConvIdeal.τ).loc Cert.AdamFfnConvIdeal.main_v0_1) = v1 c
          ∧ r.2.mem ((c.tc : Thread Cert.AdamFfnConvIdeal.nD Cert.AdamFfnConvIdeal.τ).loc Cert.AdamFfnConvIdeal.main_v0_2) = v2 c
          ∧ r.2.mem ((c.tc : Thread Cert.AdamFfnConvIdeal.nD Cert.AdamFfnConvIdeal.τ).loc Cert.AdamFfnConvIdeal.main_v0_3) = v3 c
          ∧ r.2.mem ((c.tc : Thread Cert.AdamFfnConvIdeal.nD Cert.AdamFfnConvIdeal.τ).loc Cert.AdamFfnConvIdeal.main_arg0) = m ((c.tc : Thread Cert.AdamFfnConvIdeal.nD Cert.AdamFfnConvIdeal.τ).loc Cert.AdamFfnConvIdeal.main_arg0)
          ∧ r.2.mem ((c.tc : Thread Cert.AdamFfnConvIdeal.nD Cert.AdamFfnConvIdeal.τ).loc Cert.AdamFfnConvIdeal.main_arg1) = m ((c.tc : Thread Cert.AdamFfnConvIdeal.nD Cert.AdamFfnConvIdeal.τ).loc Cert.AdamFfnConvIdeal.main_arg1)
          ∧ r.2.mem ((c.tc : Thread Cert.AdamFfnConvIdeal.nD Cert.AdamFfnConvIdeal.τ).loc Cert.AdamFfnConvIdeal.main_arg2) = m ((c.tc : Thread Cert.AdamFfnConvIdeal.nD Cert.AdamFfnConvIdeal.τ).loc Cert.AdamFfnConvIdeal.main_arg2)
          ∧ r.2.mem ((c.tc : Thread Cert.AdamFfnConvIdeal.nD Cert.AdamFfnConvIdeal.τ).loc Cert.AdamFfnConvIdeal.main_arg3) = m ((c.tc : Thread Cert.AdamFfnConvIdeal.nD Cert.AdamFfnConvIdeal.τ).loc Cert.AdamFfnConvIdeal.main_arg3))
      ∧ θ_run (Cert.AdamFfnConvRefIdeal.defs (F := Ideal)) (onTc (τ := Cert.AdamFfnConvRefIdeal.τ) (Cert.AdamFfnConvRefIdeal.main (F := Ideal))) ⟨m', fun _ => 0, g'⟩ (fun r => ∀ c : Dev Cert.AdamFfnConvRefIdeal.nD,
          r.2.mem ((c.tc : Thread Cert.AdamFfnConvRefIdeal.nD Cert.AdamFfnConvRefIdeal.τ).loc Cert.AdamFfnConvRefIdeal.main_arg1) = v0 c
          ∧ r.2.mem ((c.tc : Thread Cert.AdamFfnConvRefIdeal.nD Cert.AdamFfnConvRefIdeal.τ).loc Cert.AdamFfnConvRefIdeal.main_v23) = v1 c
          ∧ r.2.mem ((c.tc : Thread Cert.AdamFfnConvRefIdeal.nD Cert.AdamFfnConvRefIdeal.τ).loc Cert.AdamFfnConvRefIdeal.main_v4) = v2 c
          ∧ r.2.mem ((c.tc : Thread Cert.AdamFfnConvRefIdeal.nD Cert.AdamFfnConvRefIdeal.τ).loc Cert.AdamFfnConvRefIdeal.main_v10) = v3 c
          ∧ r.2.mem ((c.tc : Thread Cert.AdamFfnConvRefIdeal.nD Cert.AdamFfnConvRefIdeal.τ).loc Cert.AdamFfnConvRefIdeal.main_arg0) = m' ((c.tc : Thread Cert.AdamFfnConvRefIdeal.nD Cert.AdamFfnConvRefIdeal.τ).loc Cert.AdamFfnConvRefIdeal.main_arg0)
          ∧ r.2.mem ((c.tc : Thread Cert.AdamFfnConvRefIdeal.nD Cert.AdamFfnConvRefIdeal.τ).loc Cert.AdamFfnConvRefIdeal.main_arg1) = m' ((c.tc : Thread Cert.AdamFfnConvRefIdeal.nD Cert.AdamFfnConvRefIdeal.τ).loc Cert.AdamFfnConvRefIdeal.main_arg1)
          ∧ r.2.mem ((c.tc : Thread Cert.AdamFfnConvRefIdeal.nD Cert.AdamFfnConvRefIdeal.τ).loc Cert.AdamFfnConvRefIdeal.main_arg2) = m' ((c.tc : Thread Cert.AdamFfnConvRefIdeal.nD Cert.AdamFfnConvRefIdeal.τ).loc Cert.AdamFfnConvRefIdeal.main_arg2)
          ∧ r.2.mem ((c.tc : Thread Cert.AdamFfnConvRefIdeal.nD Cert.AdamFfnConvRefIdeal.τ).loc Cert.AdamFfnConvRefIdeal.main_arg3) = m' ((c.tc : Thread Cert.AdamFfnConvRefIdeal.nD Cert.AdamFfnConvRefIdeal.τ).loc Cert.AdamFfnConvRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_arg1) = v0 c
          ∧ r.2.mem ((c.tc : Thread Cert.AdamSmallRefIdeal.nD Cert.AdamSmallRefIdeal.τ).loc Cert.AdamSmallRefIdeal.main_v23) = v1 c
          ∧ r.2.mem ((c.tc : Thread Cert.AdamSmallRefIdeal.nD Cert.AdamSmallRefIdeal.τ).loc Cert.AdamSmallRefIdeal.main_v4) = v2 c
          ∧ r.2.mem ((c.tc : Thread Cert.AdamSmallRefIdeal.nD Cert.AdamSmallRefIdeal.τ).loc Cert.AdamSmallRefIdeal.main_v10) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hRmsBwd : Cert.RmsBwd.Facts) (hRmsBwdIdeal : Cert.RmsBwdIdeal.Facts) (hRmsBwdRefIdeal : Cert.RmsBwdRefIdeal.Facts) (hRmsBwdAdd : Cert.RmsBwdAdd.Facts) (hRmsBwdAddIdeal : Cert.RmsBwdAddIdeal.Facts) (hRmsBwdAddRefIdeal : Cert.RmsBwdAddRefIdeal.Facts) (hRmsFwd : Cert.RmsFwd.Facts) (hRmsFwdIdeal : Cert.RmsFwdIdeal.Facts) (hRmsFwdRefIdeal : Cert.RmsFwdRefIdeal.Facts) (hRmsFwdRes : Cert.RmsFwdRes.Facts) (hRmsFwdResIdeal : Cert.RmsFwdResIdeal.Facts) (hRmsFwdResRefIdeal : Cert.RmsFwdResRefIdeal.Facts) (hMergeFwd : Cert.MergeFwd.Facts) (hMergeFwdIdeal : Cert.MergeFwdIdeal.Facts) (hMergeFwdRefIdeal : Cert.MergeFwdRefIdeal.Facts) (hMergeBwd : Cert.MergeBwd.Facts) (hMergeBwdIdeal : Cert.MergeBwdIdeal.Facts) (hMergeBwdRefIdeal : Cert.MergeBwdRefIdeal.Facts) (hGluFwd : Cert.GluFwd.Facts) (hGluFwdIdeal : Cert.GluFwdIdeal.Facts) (hGluFwdRefIdeal : Cert.GluFwdRefIdeal.Facts) (hDnconvFwd : Cert.DnconvFwd.Facts) (hDnconvFwdIdeal : Cert.DnconvFwdIdeal.Facts) (hDnconvFwdRefIdeal : Cert.DnconvFwdRefIdeal.Facts) (hDnconvBwd : Cert.DnconvBwd.Facts) (hDnconvBwdIdeal : Cert.DnconvBwdIdeal.Facts) (hDnconvBwdRefIdeal : Cert.DnconvBwdRefIdeal.Facts) (hLossHead : Cert.LossHead.Facts) (hLossHeadIdeal : Cert.LossHeadIdeal.Facts) (hLossHeadRefIdeal : Cert.LossHeadRefIdeal.Facts) (hAttnFwd : Cert.AttnFwd.Facts) (hAttnFwdIdeal : Cert.AttnFwdIdeal.Facts) (hAttnFwdRefIdeal : Cert.AttnFwdRefIdeal.Facts) (hProjDx : Cert.ProjDx.Facts) (hProjDxIdeal : Cert.ProjDxIdeal.Facts) (hProjDxRefIdeal : Cert.ProjDxRefIdeal.Facts) (hProjDw : Cert.ProjDw.Facts) (hProjDwIdeal : Cert.ProjDwIdeal.Facts) (hProjDwRefIdeal : Cert.ProjDwRefIdeal.Facts) (hBranch : Cert.Branch.Facts) (hBranchIdeal : Cert.BranchIdeal.Facts) (hBranchRefIdeal : Cert.BranchRefIdeal.Facts) (hBranchDx : Cert.BranchDx.Facts) (hBranchDxIdeal : Cert.BranchDxIdeal.Facts) (hBranchDxRefIdeal : Cert.BranchDxRefIdeal.Facts) (hMixDx : Cert.MixDx.Facts) (hMixDxIdeal : Cert.MixDxIdeal.Facts) (hMixDxRefIdeal : Cert.MixDxRefIdeal.Facts) (hSquareDw : Cert.SquareDw.Facts) (hSquareDwIdeal : Cert.SquareDwIdeal.Facts) (hSquareDwRefIdeal : Cert.SquareDwRefIdeal.Facts) (hDown : Cert.Down.Facts) (hDownIdeal : Cert.DownIdeal.Facts) (hDownRefIdeal : Cert.DownRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUp : Cert.Up.Facts) (hUpIdeal : Cert.UpIdeal.Facts) (hUpRefIdeal : Cert.UpRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hProj : Cert.Proj.Facts) (hProjIdeal : Cert.ProjIdeal.Facts) (hProjRefIdeal : Cert.ProjRefIdeal.Facts) (hAdamIn : Cert.AdamIn.Facts) (hAdamInIdeal : Cert.AdamInIdeal.Facts) (hAdamInRefIdeal : Cert.AdamInRefIdeal.Facts) (hAdamSquare : Cert.AdamSquare.Facts) (hAdamSquareIdeal : Cert.AdamSquareIdeal.Facts) (hAdamSquareRefIdeal : Cert.AdamSquareRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamDnConv : Cert.AdamDnConv.Facts) (hAdamDnConvIdeal : Cert.AdamDnConvIdeal.Facts) (hAdamDnConvRefIdeal : Cert.AdamDnConvRefIdeal.Facts) (hAdamFfnConv : Cert.AdamFfnConv.Facts) (hAdamFfnConvIdeal : Cert.AdamFfnConvIdeal.Facts) (hAdamFfnConvRefIdeal : Cert.AdamFfnConvRefIdeal.Facts) (hAdamSmall : Cert.AdamSmall.Facts) (hAdamSmallIdeal : Cert.AdamSmallIdeal.Facts) (hAdamSmallRefIdeal : Cert.AdamSmallRefIdeal.Facts) (hPre_finite_gradient : Cert.Pre_finite_gradient.Facts) (hPre_finite_queries : Cert.Pre_finite_queries.Facts),
    quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_RmsBwdAdd (hRmsBwdAdd := hRmsBwdAdd)
    ∧ quiescent_RmsBwdAddIdeal (hRmsBwdAddIdeal := hRmsBwdAddIdeal)
    ∧ quiescent_RmsBwdAddRefIdeal (hRmsBwdAddRefIdeal := hRmsBwdAddRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_RmsFwdRes (hRmsFwdRes := hRmsFwdRes)
    ∧ quiescent_RmsFwdResIdeal (hRmsFwdResIdeal := hRmsFwdResIdeal)
    ∧ quiescent_RmsFwdResRefIdeal (hRmsFwdResRefIdeal := hRmsFwdResRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_DnconvFwd (hDnconvFwd := hDnconvFwd)
    ∧ quiescent_DnconvFwdIdeal (hDnconvFwdIdeal := hDnconvFwdIdeal)
    ∧ quiescent_DnconvFwdRefIdeal (hDnconvFwdRefIdeal := hDnconvFwdRefIdeal)
    ∧ quiescent_DnconvBwd (hDnconvBwd := hDnconvBwd)
    ∧ quiescent_DnconvBwdIdeal (hDnconvBwdIdeal := hDnconvBwdIdeal)
    ∧ quiescent_DnconvBwdIdeal_pre_finite_gradient (hDnconvBwdIdeal := hDnconvBwdIdeal) (hPre_finite_gradient := hPre_finite_gradient)
    ∧ quiescent_DnconvBwdRefIdeal (hDnconvBwdRefIdeal := hDnconvBwdRefIdeal)
    ∧ quiescent_DnconvBwdRefIdeal_pre_finite_gradient (hDnconvBwdRefIdeal := hDnconvBwdRefIdeal) (hPre_finite_gradient := hPre_finite_gradient)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_AttnFwd (hAttnFwd := hAttnFwd)
    ∧ quiescent_AttnFwdIdeal (hAttnFwdIdeal := hAttnFwdIdeal)
    ∧ quiescent_AttnFwdIdeal_pre_finite_queries (hAttnFwdIdeal := hAttnFwdIdeal) (hPre_finite_queries := hPre_finite_queries)
    ∧ quiescent_AttnFwdRefIdeal (hAttnFwdRefIdeal := hAttnFwdRefIdeal)
    ∧ quiescent_AttnFwdRefIdeal_pre_finite_queries (hAttnFwdRefIdeal := hAttnFwdRefIdeal) (hPre_finite_queries := hPre_finite_queries)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_Branch (hBranch := hBranch)
    ∧ quiescent_BranchIdeal (hBranchIdeal := hBranchIdeal)
    ∧ quiescent_BranchRefIdeal (hBranchRefIdeal := hBranchRefIdeal)
    ∧ quiescent_BranchDx (hBranchDx := hBranchDx)
    ∧ quiescent_BranchDxIdeal (hBranchDxIdeal := hBranchDxIdeal)
    ∧ quiescent_BranchDxRefIdeal (hBranchDxRefIdeal := hBranchDxRefIdeal)
    ∧ quiescent_MixDx (hMixDx := hMixDx)
    ∧ quiescent_MixDxIdeal (hMixDxIdeal := hMixDxIdeal)
    ∧ quiescent_MixDxRefIdeal (hMixDxRefIdeal := hMixDxRefIdeal)
    ∧ quiescent_SquareDw (hSquareDw := hSquareDw)
    ∧ quiescent_SquareDwIdeal (hSquareDwIdeal := hSquareDwIdeal)
    ∧ quiescent_SquareDwRefIdeal (hSquareDwRefIdeal := hSquareDwRefIdeal)
    ∧ quiescent_Down (hDown := hDown)
    ∧ quiescent_DownIdeal (hDownIdeal := hDownIdeal)
    ∧ quiescent_DownRefIdeal (hDownRefIdeal := hDownRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_Up (hUp := hUp)
    ∧ quiescent_UpIdeal (hUpIdeal := hUpIdeal)
    ∧ quiescent_UpRefIdeal (hUpRefIdeal := hUpRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_Proj (hProj := hProj)
    ∧ quiescent_ProjIdeal (hProjIdeal := hProjIdeal)
    ∧ quiescent_ProjRefIdeal (hProjRefIdeal := hProjRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamDnConv (hAdamDnConv := hAdamDnConv)
    ∧ quiescent_AdamDnConvIdeal (hAdamDnConvIdeal := hAdamDnConvIdeal)
    ∧ quiescent_AdamDnConvRefIdeal (hAdamDnConvRefIdeal := hAdamDnConvRefIdeal)
    ∧ quiescent_AdamFfnConv (hAdamFfnConv := hAdamFfnConv)
    ∧ quiescent_AdamFfnConvIdeal (hAdamFfnConvIdeal := hAdamFfnConvIdeal)
    ∧ quiescent_AdamFfnConvRefIdeal (hAdamFfnConvRefIdeal := hAdamFfnConvRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_RmsBwdAdd_RmsBwdAddIdeal
    ∧ algebraic_RmsBwdAddIdeal_RmsBwdAddRefIdeal (hRmsBwdAddIdeal := hRmsBwdAddIdeal) (hRmsBwdAddRefIdeal := hRmsBwdAddRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_RmsFwdRes_RmsFwdResIdeal
    ∧ algebraic_RmsFwdResIdeal_RmsFwdResRefIdeal (hRmsFwdResIdeal := hRmsFwdResIdeal) (hRmsFwdResRefIdeal := hRmsFwdResRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_GluFwd_GluFwdIdeal
    ∧ algebraic_GluFwdIdeal_GluFwdRefIdeal (hGluFwdIdeal := hGluFwdIdeal) (hGluFwdRefIdeal := hGluFwdRefIdeal)
    ∧ preserves_DnconvFwd_DnconvFwdIdeal
    ∧ algebraic_DnconvFwdIdeal_DnconvFwdRefIdeal (hDnconvFwdIdeal := hDnconvFwdIdeal) (hDnconvFwdRefIdeal := hDnconvFwdRefIdeal)
    ∧ preserves_DnconvBwd_DnconvBwdIdeal
    ∧ algebraic_DnconvBwdIdeal_DnconvBwdRefIdeal_pre_finite_gradient (hDnconvBwdIdeal := hDnconvBwdIdeal) (hDnconvBwdRefIdeal := hDnconvBwdRefIdeal) (hPre_finite_gradient := hPre_finite_gradient)
    ∧ preserves_LossHead_LossHeadIdeal
    ∧ algebraic_LossHeadIdeal_LossHeadRefIdeal (hLossHeadIdeal := hLossHeadIdeal) (hLossHeadRefIdeal := hLossHeadRefIdeal)
    ∧ preserves_AttnFwd_AttnFwdIdeal
    ∧ algebraic_AttnFwdIdeal_AttnFwdRefIdeal_pre_finite_queries (hAttnFwdIdeal := hAttnFwdIdeal) (hAttnFwdRefIdeal := hAttnFwdRefIdeal) (hPre_finite_queries := hPre_finite_queries)
    ∧ preserves_ProjDx_ProjDxIdeal
    ∧ algebraic_ProjDxIdeal_ProjDxRefIdeal (hProjDxIdeal := hProjDxIdeal) (hProjDxRefIdeal := hProjDxRefIdeal)
    ∧ preserves_ProjDw_ProjDwIdeal
    ∧ algebraic_ProjDwIdeal_ProjDwRefIdeal (hProjDwIdeal := hProjDwIdeal) (hProjDwRefIdeal := hProjDwRefIdeal)
    ∧ preserves_Branch_BranchIdeal
    ∧ algebraic_BranchIdeal_BranchRefIdeal (hBranchIdeal := hBranchIdeal) (hBranchRefIdeal := hBranchRefIdeal)
    ∧ preserves_BranchDx_BranchDxIdeal
    ∧ algebraic_BranchDxIdeal_BranchDxRefIdeal (hBranchDxIdeal := hBranchDxIdeal) (hBranchDxRefIdeal := hBranchDxRefIdeal)
    ∧ preserves_MixDx_MixDxIdeal
    ∧ algebraic_MixDxIdeal_MixDxRefIdeal (hMixDxIdeal := hMixDxIdeal) (hMixDxRefIdeal := hMixDxRefIdeal)
    ∧ preserves_SquareDw_SquareDwIdeal
    ∧ algebraic_SquareDwIdeal_SquareDwRefIdeal (hSquareDwIdeal := hSquareDwIdeal) (hSquareDwRefIdeal := hSquareDwRefIdeal)
    ∧ preserves_Down_DownIdeal
    ∧ algebraic_DownIdeal_DownRefIdeal (hDownIdeal := hDownIdeal) (hDownRefIdeal := hDownRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_Up_UpIdeal
    ∧ algebraic_UpIdeal_UpRefIdeal (hUpIdeal := hUpIdeal) (hUpRefIdeal := hUpRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_Proj_ProjIdeal
    ∧ algebraic_ProjIdeal_ProjRefIdeal (hProjIdeal := hProjIdeal) (hProjRefIdeal := hProjRefIdeal)
    ∧ preserves_AdamIn_AdamInIdeal
    ∧ algebraic_AdamInIdeal_AdamInRefIdeal (hAdamInIdeal := hAdamInIdeal) (hAdamInRefIdeal := hAdamInRefIdeal)
    ∧ preserves_AdamSquare_AdamSquareIdeal
    ∧ algebraic_AdamSquareIdeal_AdamSquareRefIdeal (hAdamSquareIdeal := hAdamSquareIdeal) (hAdamSquareRefIdeal := hAdamSquareRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamDnConv_AdamDnConvIdeal
    ∧ algebraic_AdamDnConvIdeal_AdamDnConvRefIdeal (hAdamDnConvIdeal := hAdamDnConvIdeal) (hAdamDnConvRefIdeal := hAdamDnConvRefIdeal)
    ∧ preserves_AdamFfnConv_AdamFfnConvIdeal
    ∧ algebraic_AdamFfnConvIdeal_AdamFfnConvRefIdeal (hAdamFfnConvIdeal := hAdamFfnConvIdeal) (hAdamFfnConvRefIdeal := hAdamFfnConvRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_finite_gradient.lean ====
abbrev S4096x15360 : Shape := ⟨2, ![4096, 15360]⟩
abbrev S3x4096x2048 : Shape := ⟨3, ![3, 4096, 2048]⟩
abbrev S4x6144 : Shape := ⟨2, ![4, 6144]⟩
abbrev S_ : Shape := ⟨0, ![]⟩

class Facts : Prop where
  bcast_S_S3x4096x2048 : S_.BroadcastsInDim S3x4096x2048 (![] : Fin 0 → Fin S3x4096x2048.rank)
  reducesTo_S3x4096x2048_S_d0_1_2 : S3x4096x2048.ReducesTo [0, 1, 2] S_
  h_S_ : 0 < S_.numel

variable [Facts]

def fn {F : FTy → Type} [FloatOps F] (main_arg0 : FVec F S4096x15360 .f32) (main_arg1 : FVec F S3x4096x2048 .f32) (main_arg2 : FVec F S4x6144 .f32) : IVec S_ 1 :=
  let main_v0 : FVec F S3x4096x2048 .f32 := Host.absf main_arg1
  let main_cst : FVec F S_ .f32 := constant S_ .f32 0x7F800000#32
  let main_v1 : FVec F S3x4096x2048 .f32 := broadcastInDim S3x4096x2048 ![] bcast_S_S3x4096x2048 main_cst
  let main_v2 : IVec S3x4096x2048 1 := cmpf .olt main_v0 main_v1
  let main_c : IVec S_ 1 := constantI S_ 1 1#1
  let main_v3 : IVec S_ 1 := (fun x v => Host.reduce IntOp.andi x v reducesTo_S3x4096x2048_S_d0_1_2 h_S_) main_v2 main_c
  main_v3
-- ==== Pre_finite_queries.lean ====
abbrev S4096x15360 : Shape := ⟨2, ![4096, 15360]⟩
abbrev S1x4096 : Shape := ⟨2, ![1, 4096]⟩
abbrev S16 : Shape := ⟨1, ![16]⟩
abbrev S4096x2560 : Shape := ⟨2, ![4096, 2560]⟩
abbrev S_ : Shape := ⟨0, ![]⟩

class Facts : Prop where
  slices_S4096x15360_S4096x2560_0_0 : S4096x15360.Slices ![0, 0] S4096x2560
  bcast_S_S4096x2560 : S_.BroadcastsInDim S4096x2560 (![] : Fin 0 → Fin S4096x2560.rank)
  reducesTo_S4096x2560_S_d0_1 : S4096x2560.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S4096x15360 .f32) (main_arg1 : IVec S1x4096 32) (main_arg2 : FVec F S16 .f32) : IVec S_ 1 :=
  let main_v0 : FVec F S4096x2560 .f32 := (extractStridedSlice S4096x2560 ![0, 0] · slices_S4096x15360_S4096x2560_0_0) main_arg0
  let main_v1 : FVec F S4096x2560 .f32 := Host.absf main_v0
  let main_cst : FVec F S_ .f32 := constant S_ .f32 0x7F800000#32
  let main_v2 : FVec F S4096x2560 .f32 := broadcastInDim S4096x2560 ![] bcast_S_S4096x2560 main_cst
  let main_v3 : IVec S4096x2560 1 := cmpf .olt main_v1 main_v2
  let main_c : IVec S_ 1 := constantI S_ 1 1#1
  let main_v4 : IVec S_ 1 := (fun x v => Host.reduce IntOp.andi x v reducesTo_S4096x2560_S_d0_1 h_S_) main_v3 main_c
  let main_v5 : FVec F S16 .f32 := Host.absf main_arg2
  let main_cst_0 : FVec F S_ .f32 := constant S_ .f32 0x7F800000#32
  let main_v6 : FVec F S16 .f32 := broadcastInDim S16 ![] bcast_S_S16 main_cst_0
  let main_v7 : IVec S16 1 := cmpf .olt main_v5 main_v6
  let main_c_1 : IVec S_ 1 := constantI S_ 1 1#1
  let main_v8 : IVec S_ 1 := (fun x v => Host.reduce IntOp.andi x v reducesTo_S16_S_d0 h_S_) main_v7 main_c_1
  let main_v9 : IVec S_ 1 := andi main_v4 main_v8
  main_v9
-- ==== RmsBwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S1x2048, .f32⟩
  | .hbm, ⟨6, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RmsBwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S2048, .f32⟩
  | .hbm, ⟨31, _⟩ => ⟨S4096x2048, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x2048, .f32⟩
  | .hbm, ⟨36, _⟩ => ⟨S4096x2048, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== RmsBwdAdd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S1x2048, .f32⟩
  | .hbm, ⟨7, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsBwdAddRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== RmsFwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== RmsFwdRes.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RmsFwdResRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== MergeFwd.lean ====
abbrev S4096x15360 : Shape := ⟨2, ![4096, 15360]⟩
abbrev S4096x2048 : Shape := ⟨2, ![4096, 2048]⟩
abbrev S512x512 : Shape := ⟨2, ![512, 512]⟩

abbrev nBuf : Space → Nat
  | .hbm => 4
  | .vmem => 10
  | .smem => 0
  | _ => 0

abbrev bufTy : (tb : Table) → Fin (tcTables nBuf tb) → BufTy
  | .hbm, ⟨0, _⟩ => ⟨S4096x15360, .f32⟩
  | .hbm, ⟨1, _⟩ => ⟨S4096x2048, .f32⟩
  | .hbm, ⟨2, _⟩ => ⟨S4096x2048, .f32⟩
  | .hbm, ⟨3, _⟩ => ⟨S4096x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | _, _ => ⟨S4096x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MergeFwdRefIdeal.lean ====
abbrev S4096x15360 : Shape := ⟨2, ![4096, 15360]⟩
abbrev S4096x2048 : Shape := ⟨2, ![4096, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x15360, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .bf16⟩
  | _, _ => ⟨S4096x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== MergeBwd.lean ====
abbrev S4096x15360 : Shape := ⟨2, ![4096, 15360]⟩
abbrev S4096x2048 : Shape := ⟨2, ![4096, 2048]⟩
abbrev S512x512 : Shape := ⟨2, ![512, 512]⟩

abbrev nBuf : Space → Nat
  | .hbm => 8
  | .vmem => 18
  | .smem => 0
  | _ => 0

abbrev bufTy : (tb : Table) → Fin (tcTables nBuf tb) → BufTy
  | .hbm, ⟨0, _⟩ => ⟨S4096x15360, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S4096x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | _, _ => ⟨S4096x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeBwdRefIdeal.lean ====
abbrev S4096x15360 : Shape := ⟨2, ![4096, 15360]⟩
abbrev S4096x2048 : Shape := ⟨2, ![4096, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4096x15360, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .bf16⟩
  | .hbm, ⟨42, _⟩ => ⟨S4096x2048, .bf16⟩
  | .hbm, ⟨43, _⟩ => ⟨S4096x2048, .bf16⟩
  | .hbm, ⟨44, _⟩ => ⟨S4096x2048, .bf16⟩
  | _, _ => ⟨S4096x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== GluFwd.lean ====
abbrev S4096x11264 : Shape := ⟨2, ![4096, 11264]⟩
abbrev S3x11264 : Shape := ⟨2, ![3, 11264]⟩
abbrev S11264 : Shape := ⟨1, ![11264]⟩
abbrev S1x11264 : Shape := ⟨2, ![1, 11264]⟩
abbrev S4096x5632 : Shape := ⟨2, ![4096, 5632]⟩
abbrev S512x512 : Shape := ⟨2, ![512, 512]⟩
abbrev S8x512 : Shape := ⟨2, ![8, 512]⟩
abbrev S3x512 : Shape := ⟨2, ![3, 512]⟩
abbrev S1x512 : Shape := ⟨2, ![1, 512]⟩
abbrev S520x512 : Shape := ⟨2, ![520, 512]⟩

abbrev nBuf : Space → Nat
  | .hbm => 5
  | .vmem => 18
  | .smem => 0
  | _ => 0

abbrev bufTy : (tb : Table) → Fin (tcTables nBuf tb) → BufTy
  | .hbm, ⟨0, _⟩ => ⟨S4096x11264, .f32⟩
  | .hbm, ⟨1, _⟩ => ⟨S3x11264, .f32⟩
  | .hbm, ⟨2, _⟩ => ⟨S11264, .f32⟩
  | .hbm, ⟨3, _⟩ => ⟨S1x11264, .f32⟩
  | .hbm, ⟨4, _⟩ => ⟨S4096x5632, .bf16⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x512, .bf16⟩
  | .local _ .vmem, ⟨17, _⟩ => ⟨S512x512, .bf16⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi c11_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GluFwdRefIdeal.lean ====
abbrev S4096x11264 : Shape := ⟨2, ![4096, 11264]⟩
abbrev S3x11264 : Shape := ⟨2, ![3, 11264]⟩
abbrev S11264 : Shape := ⟨1, ![11264]⟩
abbrev S1x4096x11264 : Shape := ⟨3, ![1, 4096, 11264]⟩
abbrev S_ : Shape := ⟨0, ![]⟩
abbrev S1x2x11264 : Shape := ⟨3, ![1, 2, 11264]⟩
abbrev S1x4098x11264 : Shape := ⟨3, ![1, 4098, 11264]⟩
abbrev S1x11264 : Shape := ⟨2, ![1, 11264]⟩
abbrev S1x1x11264 : Shape := ⟨3, ![1, 1, 11264]⟩
abbrev S1x4096x5632 : Shape := ⟨3, ![1, 4096, 5632]⟩
abbrev S4096x5632 : Shape := ⟨2, ![4096, 5632]⟩

abbrev nBuf : Space → Nat
  | .hbm => 44
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S3x11264, .f32⟩
  | .hbm, ⟨2, _⟩ => ⟨S11264, .f32⟩
  | .hbm, ⟨3, _⟩ => ⟨S1x4096x11264, .f32⟩
  | .hbm, ⟨4, _⟩ => ⟨S_, .f32⟩
  | .hbm, ⟨5, _⟩ => ⟨S1x2x11264, .f32⟩
  | .hbm, ⟨6, _⟩ => ⟨S1x4098x11264, .f32⟩
  | .hbm, ⟨7, _⟩ => ⟨S1x4096x11264, .f32⟩
  | .hbm, ⟨8, _⟩ => ⟨S1x11264, .f32⟩
  | .hbm, ⟨9, _⟩ => ⟨S11264, .f32⟩
  | .hbm, ⟨10, _⟩ => ⟨S1x1x11264, .f32⟩
  | .hbm, ⟨11, _⟩ => ⟨S1x4096x11264, .f32⟩
  | .hbm, ⟨12, _⟩ => ⟨S1x4096x11264, .f32⟩
  | .hbm, ⟨13, _⟩ => ⟨S1x4096x11264, .f32⟩
  | .hbm, ⟨14, _⟩ => ⟨S1x11264, .f32⟩
  | .hbm, ⟨15, _⟩ => ⟨S11264, .f32⟩
  | .hbm, ⟨16, _⟩ => ⟨S1x1x11264, .f32⟩
  | .hbm, ⟨17, _⟩ => ⟨S1x4096x11264, .f32⟩
  | .hbm, ⟨18, _⟩ => ⟨S1x4096x11264, .f32⟩
  | .hbm, ⟨19, _⟩ => ⟨S1x4096x11264, .f32⟩
  | .hbm, ⟨20, _⟩ => ⟨S1x4096x11264, .f32⟩
  | .hbm, ⟨21, _⟩ => ⟨S1x11264, .f32⟩
  | .hbm, ⟨22, _⟩ => ⟨S11264, .f32⟩
  | .hbm, ⟨23, _⟩ => ⟨S1x1x11264, .f32⟩
  | .hbm, ⟨24, _⟩ => ⟨S1x4096x11264, .f32⟩
  | .hbm, ⟨25, _⟩ => ⟨S1x4096x11264, .f32⟩
  | .hbm, ⟨26, _⟩ => ⟨S1x4096x11264, .f32⟩
  | .hbm, ⟨27, _⟩ => ⟨S1x1x11264, .f32⟩
  | .hbm, ⟨28, _⟩ => ⟨S1x4096x11264, .f32⟩
  | .hbm, ⟨29, _⟩ => ⟨S1x4096x11264, .f32⟩
  | .hbm, ⟨30, _⟩ => ⟨S1x4096x5632, .f32⟩
  | .hbm, ⟨31, _⟩ => ⟨S1x4096x5632, .f32⟩
  | .hbm, ⟨32, _⟩ => ⟨S1x4096x5632, .f32⟩
  | .hbm, ⟨33, _⟩ => ⟨S1x4096x5632, .f32⟩
  | .hbm, ⟨34, _⟩ => ⟨S_, .f32⟩
  | .hbm, ⟨35, _⟩ => ⟨S1x4096x5632, .f32⟩
  | .hbm, ⟨36, _⟩ => ⟨S1x4096x5632, .f32⟩
  | .hbm, ⟨37, _⟩ => ⟨S_, .f32⟩
  | .hbm, ⟨38, _⟩ => ⟨S1x4096x5632, .f32⟩
  | .hbm, ⟨39, _⟩ => ⟨S1x4096x5632, .f32⟩
  | .hbm, ⟨40, _⟩ => ⟨S1x4096x5632, .f32⟩
  | .hbm, ⟨41, _⟩ => ⟨S1x4096x5632, .f32⟩
  | .hbm, ⟨42, _⟩ => ⟨S4096x5632, .f32⟩
  | .hbm, ⟨43, _⟩ => ⟨S4096x5632, .bf16⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== DnconvFwd.lean ====
abbrev S4096x15360 : Shape := ⟨2, ![4096, 15360]⟩
abbrev S4x6144 : Shape := ⟨2, ![4, 6144]⟩
abbrev S4096x6144 : Shape := ⟨2, ![4096, 6144]⟩
abbrev S512x512 : Shape := ⟨2, ![512, 512]⟩
abbrev S8x512 : Shape := ⟨2, ![8, 512]⟩
abbrev S4x512 : Shape := ⟨2, ![4, 512]⟩
abbrev S520x512 : Shape := ⟨2, ![520, 512]⟩
abbrev S1x512 : Shape := ⟨2, ![1, 512]⟩

abbrev nBuf : Space → Nat
  | .hbm => 3
  | .vmem => 8
  | .smem => 0
  | _ => 0

abbrev bufTy : (tb : Table) → Fin (tcTables nBuf tb) → BufTy
  | .hbm, ⟨0, _⟩ => ⟨S4096x15360, .f32⟩
  | .hbm, ⟨1, _⟩ => ⟨S4x6144, .f32⟩
  | .hbm, ⟨2, _⟩ => ⟨S4096x6144, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S512x512, .f32⟩
  | .local _ .vmem, ⟨7, _⟩ => ⟨S512x512, .f32⟩
  | _, _ => ⟨S4096x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let v3 : BitVec 32 := Scalar.addi c6_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DnconvFwdRefIdeal.lean ====
abbrev S4096x15360 : Shape := ⟨2, ![4096, 15360]⟩
abbrev S4x6144 : Shape := ⟨2, ![4, 6144]⟩
abbrev S4096x6144 : Shape := ⟨2, ![4096, 6144]⟩
abbrev S1x4096x6144 : Shape := ⟨3, ![1, 4096, 6144]⟩
abbrev S_ : Shape := ⟨0, ![]⟩
abbrev S1x3x6144 : Shape := ⟨3, ![1, 3, 6144]⟩
abbrev S1x4099x6144 : Shape := ⟨3, ![1, 4099, 6144]⟩
abbrev S1x6144 : Shape := ⟨2, ![1, 6144]⟩
abbrev S6144 : Shape := ⟨1, ![6144]⟩
abbrev S1x1x6144 : Shape := ⟨3, ![1, 1, 6144]⟩

abbrev nBuf : Space → Nat
  | .hbm => 44
  | .vmem => 0
  | .smem => 0
  | _ => 0

abbrev bufTy : (tb : Table) → Fin (tcTables nBuf tb) → BufTy
  | .hbm, ⟨0, _⟩ => ⟨S4096x15360, .f32⟩
  | .hbm, ⟨1, _⟩ => ⟨S4x6144, .f32⟩
  | .hbm, ⟨2, _⟩ => ⟨S4096x6144, .f32⟩
  | .hbm, ⟨3, _⟩ => ⟨S1x4096x6144, .f32⟩
  | .hbm, ⟨4, _⟩ => ⟨S_, .f32⟩
  | .hbm, ⟨5, _⟩ => ⟨S1x3x6144, .f32⟩
  | .hbm, ⟨6, _⟩ => ⟨S1x4099x6144, .f32⟩
  | .hbm, ⟨7, _⟩ => ⟨S1x4096x6144, .f32⟩
  | .hbm, ⟨8, _⟩ => ⟨S1x6144, .f32⟩
  | .hbm, ⟨9, _⟩ => ⟨S6144, .f32⟩
  | .hbm, ⟨10, _⟩ => ⟨S1x1x6144, .f32⟩
  | .hbm, ⟨11, _⟩ => ⟨S1x4096x6144, .f32⟩
  | .hbm, ⟨12, _⟩ => ⟨S1x4096x6144, .f32⟩
  | .hbm, ⟨13, _⟩ => ⟨S1x4096x6144, .f32⟩
  | .hbm, ⟨14, _⟩ => ⟨S1x6144, .f32⟩
  | .hbm, ⟨15, _⟩ => ⟨S6144, .f32⟩
  | .hbm, ⟨16, _⟩ => ⟨S1x1x6144, .f32⟩
  | .hbm, ⟨17, _⟩ => ⟨S1x4096x6144, .f32⟩
  | .hbm, ⟨18, _⟩ => ⟨S1x4096x6144, .f32⟩
  | .hbm, ⟨19, _⟩ => ⟨S1x4096x6144, .f32⟩
  | .hbm, ⟨20, _⟩ => ⟨S1x4096x6144, .f32⟩
  | .hbm, ⟨21, _⟩ => ⟨S1x6144, .f32⟩
  | .hbm, ⟨22, _⟩ => ⟨S6144, .f32⟩
  | .hbm, ⟨23, _⟩ => ⟨S1x1x6144, .f32⟩
  | .hbm, ⟨24, _⟩ => ⟨S1x4096x6144, .f32⟩
  | .hbm, ⟨25, _⟩ => ⟨S1x4096x6144, .f32⟩
  | .hbm, ⟨26, _⟩ => ⟨S1x4096x6144, .f32⟩
  | .hbm, ⟨27, _⟩ => ⟨S1x4096x6144, .f32⟩
  | .hbm, ⟨28, _⟩ => ⟨S1x6144, .f32⟩
  | .hbm, ⟨29, _⟩ => ⟨S6144, .f32⟩
  | .hbm, ⟨30, _⟩ => ⟨S1x1x6144, .f32⟩
  | .hbm, ⟨31, _⟩ => ⟨S1x4096x6144, .f32⟩
  | .hbm, ⟨32, _⟩ => ⟨S1x4096x6144, .f32⟩
  | .hbm, ⟨33, _⟩ => ⟨S1x4096x6144, .f32⟩
  | .hbm, ⟨34, _⟩ => ⟨S1x4096x6144, .f32⟩
  | .hbm, ⟨35, _⟩ => ⟨S1x4096x6144, .f32⟩
  | .hbm, ⟨36, _⟩ => ⟨S_, .f32⟩
  | .hbm, ⟨37, _⟩ => ⟨S1x4096x6144, .f32⟩
  | .hbm, ⟨38, _⟩ => ⟨S1x4096x6144, .f32⟩
  | .hbm, ⟨39, _⟩ => ⟨S_, .f32⟩
  | .hbm, ⟨40, _⟩ => ⟨S1x4096x6144, .f32⟩
  | .hbm, ⟨41, _⟩ => ⟨S1x4096x6144, .f32⟩
  | .hbm, ⟨42, _⟩ => ⟨S1x4096x6144, .f32⟩
  | .hbm, ⟨43, _⟩ => ⟨S4096x6144, .f32⟩
  | _, _ => ⟨S4096x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== DnconvBwd.lean ====
abbrev S4096x15360 : Shape := ⟨2, ![4096, 15360]⟩
abbrev S3x4096x2048 : Shape := ⟨3, ![3, 4096, 2048]⟩
abbrev S4x6144 : Shape := ⟨2, ![4, 6144]⟩
abbrev S4096x6144 : Shape := ⟨2, ![4096, 6144]⟩
abbrev S512x512 : Shape := ⟨2, ![512, 512]⟩
abbrev S8x512 : Shape := ⟨2, ![8, 512]⟩
abbrev S1x512x512 : Shape := ⟨3, ![1, 512, 512]⟩
abbrev S1x8x512 : Shape := ⟨3, ![1, 8, 512]⟩
abbrev S4x512 : Shape := ⟨2, ![4, 512]⟩
abbrev S520x512 : Shape := ⟨2, ![520, 512]⟩
abbrev S528x512 : Shape := ⟨2, ![528, 512]⟩
abbrev S1x512 : Shape := ⟨2, ![1, 512]⟩
abbrev S512 : Shape := ⟨1, ![512]⟩

abbrev nBuf : Space → Nat
  | .hbm => 5
  | .vmem => 16
  | .smem => 0
  | _ => 0

abbrev bufTy : (tb : Table) → Fin (tcTables nBuf tb) → BufTy
  | .hbm, ⟨0, _⟩ => ⟨S4096x15360, .f32⟩
  | .hbm, ⟨1, _⟩ => ⟨S3x4096x2048, .f32⟩
  | .hbm, ⟨2, _⟩ => ⟨S4x6144, .f32⟩
  | .hbm, ⟨3, _⟩ => ⟨S4096x6144, .bf16⟩
  | .hbm, ⟨4, _⟩ => ⟨S4x6144, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S1x512x512, .f32⟩
  | .local _ .vmem, ⟨7, _⟩ => ⟨S1x512x512, .f32⟩
  | .local _ .vmem, ⟨8, _⟩ => ⟨S1x8x512, .f32⟩
  | .local _ .vmem, ⟨9, _⟩ => ⟨S1x8x512, .f32⟩
  | .local _ .vmem, ⟨10, _⟩ => ⟨S4x512, .f32⟩
  | .local _ .vmem, ⟨11, _⟩ => ⟨S4x512, .f32⟩
  | .local _ .vmem, ⟨12, _⟩ => ⟨S512x512, .bf16⟩
  | .local _ .vmem, ⟨13, _⟩ => ⟨S512x512, .bf16⟩
  | .local _ .vmem, ⟨14, _⟩ => ⟨S4x512, .f32⟩
  | .local _ .vmem, ⟨15, _⟩ => ⟨S4x512, .f32⟩
  | _, _ => ⟨S4096x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let v3 : BitVec 32 := Scalar.addi c6_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c6_i32 : BitVec 32 := 6#32
  let v3 : BitVec 32 := Scalar.addi c6_i32 arg0
  let c0_i32 : BitVec 32 := 0#32
  ![v2.toNat, v3.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi arg1 c1_i32_4
  let c64_i32 : BitVec 32 := 64#32
  let v18 : BitVec 32 := Scalar.muli v17 c64_i32
  let c511_i32 : BitVec 32 := 511#32
  let v19 : BitVec 32 := Scalar.minsi v18 c511_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi arg0 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  ![v16.toNat, v19.toNat, v29.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== DnconvBwdRefIdeal.lean ====
abbrev S4096x15360 : Shape := ⟨2, ![4096, 15360]⟩
abbrev S3x4096x2048 : Shape := ⟨3, ![3, 4096, 2048]⟩
abbrev S4x6144 : Shape := ⟨2, ![4, 6144]⟩
abbrev S1x4096x2048 : Shape := ⟨3, ![1, 4096, 2048]⟩
abbrev S4096x2048 : Shape := ⟨2, ![4096, 2048]⟩
abbrev S4096x6144 : Shape := ⟨2, ![4096, 6144]⟩
abbrev S1x4096x6144 : Shape := ⟨3, ![1, 4096, 6144]⟩
abbrev S_ : Shape := ⟨0, ![]⟩
abbrev S1x3x6144 : Shape := ⟨3, ![1, 3, 6144]⟩
abbrev S1x4099x6144 : Shape := ⟨3, ![1, 4099, 6144]⟩
abbrev S1x6144 : Shape := ⟨2, ![1, 6144]⟩
abbrev S6144 : Shape := ⟨1, ![6144]⟩
abbrev S1x1x6144 : Shape := ⟨3, ![1, 1, 6144]⟩

abbrev nBuf : Space → Nat
  | .hbm => 124
  | .vmem => 0
  | .smem => 0
  | _ => 0

abbrev bufTy : (tb : Table) → Fin (tcTables nBuf tb) → BufTy
  | .hbm, ⟨0, _⟩ => ⟨S4096x15360, .f32⟩
  | .hbm, ⟨1, _⟩ => ⟨S3x4096x2048, .f32⟩
  | .hbm, ⟨2, _⟩ => ⟨S4x6144, .f32⟩
  | .hbm, ⟨3, _⟩ => ⟨S1x4096x2048, .f32⟩
  | .hbm, ⟨4, _⟩ => ⟨S4096x2048, .f32⟩
  | .hbm, ⟨5, _⟩ => ⟨S1x4096x2048, .f32⟩
  | .hbm, ⟨6, _⟩ => ⟨S4096x2048, .f32⟩
  | .hbm, ⟨7, _⟩ => ⟨S1x4096x2048, .f32⟩
  | .hbm, ⟨8, _⟩ => ⟨S4096x2048, .f32⟩
  | .hbm, ⟨9, _⟩ => ⟨S4096x6144, .f32⟩
  | .hbm, ⟨10, _⟩ => ⟨S4096x6144, .f32⟩
  | .hbm, ⟨11, _⟩ => ⟨S1x4096x6144, .f32⟩
  | .hbm, ⟨12, _⟩ => ⟨S_, .f32⟩
  | .hbm, ⟨13, _⟩ => ⟨S1x3x6144, .f32⟩
  | .hbm, ⟨14, _⟩ => ⟨S1x4099x6144, .f32⟩
  | .hbm, ⟨15, _⟩ => ⟨S_, .f32⟩
  | .hbm, ⟨16, _⟩ => ⟨S1x3x6144, .f32⟩
  | .hbm, ⟨17, _⟩ => ⟨S1x4096x6144, .f32⟩
  | .hbm, ⟨18, _⟩ => ⟨S1x6144, .f32⟩
  | .hbm, ⟨19, _⟩ => ⟨S6144, .f32⟩
  | .hbm, ⟨20, _⟩ => ⟨S1x1x6144, .f32⟩
  | .hbm, ⟨21, _⟩ => ⟨S1x4096x6144, .f32⟩
  | .hbm, ⟨22, _⟩ => ⟨S1x4096x6144, .f32⟩
  | .hbm, ⟨23, _⟩ => ⟨S1x4096x6144, .f32⟩
  | .hbm, ⟨24, _⟩ => ⟨S1x6144, .f32⟩
  | .hbm, ⟨25, _⟩ => ⟨S6144, .f32⟩
  | .hbm, ⟨26, _⟩ => ⟨S1x1x6144, .f32⟩
  | .hbm, ⟨27, _⟩ => ⟨S1x4096x6144, .f32⟩
  | .hbm, ⟨28, _⟩ => ⟨S1x4096x6144, .f32⟩
  | .hbm, ⟨29, _⟩ => ⟨S1x4096x6144, .f32⟩
  | .hbm, ⟨30, _⟩ => ⟨S1x4096x6144, .f32⟩
  | .hbm, ⟨31, _⟩ => ⟨S1x6144, .f32⟩
  | .hbm, ⟨32, _⟩ => ⟨S6144, .f32⟩
  | .hbm, ⟨33, _⟩ => ⟨S1x1x6144, .f32⟩
  | .hbm, ⟨34, _⟩ => ⟨S1x4096x6144, .f32⟩
  | .hbm, ⟨35, _⟩ => ⟨S1x4096x6144, .f32⟩
  | .hbm, ⟨36, _⟩ => ⟨S1x4096x6144, .f32⟩
  | .hbm, ⟨37, _⟩ => ⟨S1x4096x6144, .f32⟩
  | .hbm, ⟨38, _⟩ => ⟨S1x6144, .f32⟩
  | .hbm, ⟨39, _⟩ => ⟨S6144, .f32⟩
  | .hbm, ⟨40, _⟩ => ⟨S1x1x6144, .f32⟩
  | .hbm, ⟨41, _⟩ => ⟨S1x4096x6144, .f32⟩
  | .hbm, ⟨42, _⟩ => ⟨S1x4096x6144, .f32⟩
  | .hbm, ⟨43, _⟩ => ⟨S1x4096x6144, .f32⟩
  | .hbm, ⟨44, _⟩ => ⟨S1x4096x6144, .f32⟩
  | .hbm, ⟨45, _⟩ => ⟨S1x4096x6144, .f32⟩
  | .hbm, ⟨46, _⟩ => ⟨S_, .f32⟩
  | .hbm, ⟨47, _⟩ => ⟨S1x4096x6144, .f32⟩
  | .hbm, ⟨48, _⟩ => ⟨S1x4096x6144, .f32⟩
  | .hbm, ⟨49, _⟩ => ⟨S_, .f32⟩
  | .hbm, ⟨50, _⟩ => ⟨S1x4096x6144, .f32⟩
  | .hbm, ⟨51, _⟩ => ⟨S1x4096x6144, .f32⟩
  | .hbm, ⟨52, _⟩ => ⟨S_, .f32⟩
  | .hbm, ⟨53, _⟩ => ⟨S1x4096x6144, .f32⟩
  | .hbm, ⟨54, _⟩ => ⟨S1x4096x6144, .f32⟩
  | .hbm, ⟨55, _⟩ => ⟨S1x4096x6144, .f32⟩
  | .hbm, ⟨56, _⟩ => ⟨S1x4096x6144, .f32⟩
  | .hbm, ⟨57, _⟩ => ⟨S1x4096x6144, .f32⟩
  | .hbm, ⟨58, _⟩ => ⟨S1x4096x6144, .f32⟩
  | .hbm, ⟨59, _⟩ => ⟨S1x4096x6144, .f32⟩
  | .hbm, ⟨60, _⟩ => ⟨S1x4096x6144, .f32⟩
  | .hbm, ⟨61, _⟩ => ⟨S1x4096x6144, .f32⟩
  | .hbm, ⟨62, _⟩ => ⟨S1x4096x6144, .f32⟩
  | .hbm, ⟨63, _⟩ => ⟨S_, .f32⟩
  | .hbm, ⟨64, _⟩ => ⟨S1x6144, .f32⟩
  | .hbm, ⟨65, _⟩ => ⟨S1x1x6144, .f32⟩
  | .hbm, ⟨66, _⟩ => ⟨S1x4096x6144, .f32⟩
  | .hbm, ⟨67, _⟩ => ⟨S1x4096x6144, .f32⟩
  | .hbm, ⟨68, _⟩ => ⟨S_, .f32⟩
  | .hbm, ⟨69, _⟩ => ⟨S6144, .f32⟩
  | .hbm, ⟨70, _⟩ => ⟨S1x6144, .f32⟩
  | .hbm, ⟨71, _⟩ => ⟨S_, .f32⟩
  | .hbm, ⟨72, _⟩ => ⟨S4x6144, .f32⟩
  | .hbm, ⟨73, _⟩ => ⟨S_, .f32⟩
  | .hbm, ⟨74, _⟩ => ⟨S1x4099x6144, .f32⟩
  | .hbm, ⟨75, _⟩ => ⟨S1x4096x6144, .f32⟩
  | .hbm, ⟨76, _⟩ => ⟨S_, .f32⟩
  | .hbm, ⟨77, _⟩ => ⟨S1x6144, .f32⟩
  | .hbm, ⟨78, _⟩ => ⟨S1x1x6144, .f32⟩
  | .hbm, ⟨79, _⟩ => ⟨S1x4096x6144, .f32⟩
  | .hbm, ⟨80, _⟩ => ⟨S1x4096x6144, .f32⟩
  | .hbm, ⟨81, _⟩ => ⟨S_, .f32⟩
  | .hbm, ⟨82, _⟩ => ⟨S6144, .f32⟩
  | .hbm, ⟨83, _⟩ => ⟨S1x6144, .f32⟩
  | .hbm, ⟨84, _⟩ => ⟨S_, .f32⟩
  | .hbm, ⟨85, _⟩ => ⟨S4x6144, .f32⟩
  | .hbm, ⟨86, _⟩ => ⟨S4x6144, .f32⟩
  | .hbm, ⟨87, _⟩ => ⟨S_, .f32⟩
  | .hbm, ⟨88, _⟩ => ⟨S1x4099x6144, .f32⟩
  | .hbm, ⟨89, _⟩ => ⟨S1x4099x6144, .f32⟩
  | .hbm, ⟨90, _⟩ => ⟨S1x4096x6144, .f32⟩
  | .hbm, ⟨91, _⟩ => ⟨S_, .f32⟩
  | .hbm, ⟨92, _⟩ => ⟨S1x6144, .f32⟩
  | .hbm, ⟨93, _⟩ => ⟨S1x1x6144, .f32⟩
  | .hbm, ⟨94, _⟩ => ⟨S1x4096x6144, .f32⟩
  | .hbm, ⟨95, _⟩ => ⟨S1x4096x6144, .f32⟩
  | .hbm, ⟨96, _⟩ => ⟨S_, .f32⟩
  | .hbm, ⟨97, _⟩ => ⟨S6144, .f32⟩
  | .hbm, ⟨98, _⟩ => ⟨S1x6144, .f32⟩
  | .hbm, ⟨99, _⟩ => ⟨S_, .f32⟩
  | .hbm, ⟨100, _⟩ => ⟨S4x6144, .f32⟩
  | .hbm, ⟨101, _⟩ => ⟨S4x6144, .f32⟩
  | .hbm, ⟨102, _⟩ => ⟨S_, .f32⟩
  | .hbm, ⟨103, _⟩ => ⟨S1x4099x6144, .f32⟩
  | .hbm, ⟨104, _⟩ => ⟨S1x4099x6144, .f32⟩
  | .hbm, ⟨105, _⟩ => ⟨S1x4096x6144, .f32⟩
  | .hbm, ⟨106, _⟩ => ⟨S_, .f32⟩
  | .hbm, ⟨107, _⟩ => ⟨S1x6144, .f32⟩
  | .hbm, ⟨108, _⟩ => ⟨S1x1x6144, .f32⟩
  | .hbm, ⟨109, _⟩ => ⟨S1x4096x6144, .f32⟩
  | .hbm, ⟨110, _⟩ => ⟨S1x4096x6144, .f32⟩
  | .hbm, ⟨111, _⟩ => ⟨S_, .f32⟩
  | .hbm, ⟨112, _⟩ => ⟨S6144, .f32⟩
  | .hbm, ⟨113, _⟩ => ⟨S1x6144, .f32⟩
  | .hbm, ⟨114, _⟩ => ⟨S_, .f32⟩
  | .hbm, ⟨115, _⟩ => ⟨S4x6144, .f32⟩
  | .hbm, ⟨116, _⟩ => ⟨S4x6144, .f32⟩
  | .hbm, ⟨117, _⟩ => ⟨S_, .f32⟩
  | .hbm, ⟨118, _⟩ => ⟨S1x4099x6144, .f32⟩
  | .hbm, ⟨119, _⟩ => ⟨S1x4099x6144, .f32⟩
  | .hbm, ⟨120, _⟩ => ⟨S1x3x6144, .f32⟩
  | .hbm, ⟨121, _⟩ => ⟨S1x4096x6144, .f32⟩
  | .hbm, ⟨122, _⟩ => ⟨S4096x6144, .f32⟩
  | .hbm, ⟨123, _⟩ => ⟨S4096x6144, .bf16⟩
  | _, _ => ⟨S4096x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v39_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v39_1 : Ref sig .tc := ⟨.hbm, 55, rfl⟩
abbrev main_v39_0 : Ref sig .tc := ⟨.hbm, 56, rfl⟩
abbrev main_v40 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v41 : Ref sig .tc := ⟨.hbm, 61, rfl⟩
abbrev main_v42 : Ref sig .tc := ⟨.hbm, 62, rfl⟩
abbrev main_cst_1 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_2 : Ref sig .tc := ⟨.hbm, 68, rfl⟩
abbrev main_v47 : Ref sig .tc := ⟨.hbm, 69, rfl⟩
abbrev main_v48 : Ref sig .tc := ⟨.hbm, 70, rfl⟩
abbrev main_cst_3 : Ref sig .tc := ⟨.hbm, 71, rfl⟩
abbrev main_v49 : Ref sig .tc := ⟨.hbm, 72, rfl⟩
abbrev main_cst_4 : Ref sig .tc := ⟨.hbm, 73, rfl⟩
abbrev main_v50 : Ref sig .tc := ⟨.hbm, 74, rfl⟩
abbrev main_v51 : Ref sig .tc := ⟨.hbm, 75, rfl⟩
abbrev main_cst_5 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_6 : Ref sig .tc := ⟨.hbm, 81, rfl⟩
abbrev main_v56 : Ref sig .tc := ⟨.hbm, 82, rfl⟩
abbrev main_v57 : Ref sig .tc := ⟨.hbm, 83, rfl⟩
abbrev main_cst_7 : Ref sig .tc := ⟨.hbm, 84, rfl⟩
abbrev main_v58 : Ref sig .tc := ⟨.hbm, 85, rfl⟩
abbrev main_v59 : Ref sig .tc := ⟨.hbm, 86, rfl⟩
abbrev main_cst_8 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_9 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_10 : Ref sig .tc := ⟨.hbm, 96, rfl⟩
abbrev main_v67 : Ref sig .tc := ⟨.hbm, 97, rfl⟩
abbrev main_v68 : Ref sig .tc := ⟨.hbm, 98, rfl⟩
abbrev main_cst_11 : Ref sig .tc := ⟨.hbm, 99, rfl⟩
abbrev main_v69 : Ref sig .tc := ⟨.hbm, 100, rfl⟩
abbrev main_v70 : Ref sig .tc := ⟨.hbm, 101, rfl⟩
abbrev main_cst_12 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_13 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_14 : Ref sig .tc := ⟨.hbm, 111, rfl⟩
abbrev main_v78 : Ref sig .tc := ⟨.hbm, 112, rfl⟩
abbrev main_v79 : Ref sig .tc := ⟨.hbm, 113, rfl⟩
abbrev main_cst_15 : Ref sig .tc := ⟨.hbm, 114, rfl⟩
abbrev main_v80 : Ref sig .tc := ⟨.hbm, 115, rfl⟩
abbrev main_v81 : Ref sig .tc := ⟨.hbm, 116, rfl⟩
abbrev main_cst_16 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩

abbrev nD : Nat := 1
abbrev τ : Topo := Topo.v7x

variable {F : FTy → Type} [FloatOps F]
-- ==== LossHead.lean ====
abbrev S4096x2048 : Shape := ⟨2, ![4096, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x1, .f32⟩
  | .hbm, ⟨4, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossHeadRefIdeal.lean ====
abbrev S4096x2048 : Shape := ⟨2, ![4096, 2048]⟩
abbrev S_ : Shape := ⟨0, ![]⟩
abbrev S4096 : Shape := ⟨1, ![4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== AttnFwd.lean ====
abbrev S4096x15360 : Shape := ⟨2, ![4096, 15360]⟩
abbrev S1x4096 : Shape := ⟨2, ![1, 4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S4x4x1 : Shape := ⟨3, ![4, 4, 1]⟩
abbrev S4x4x128 : Shape := ⟨3, ![4, 4, 128]⟩
abbrev S4x8x128 : Shape := ⟨3, ![4, 8, 128]⟩
abbrev S4096x2048 : Shape := ⟨2, ![4096, 2048]⟩
abbrev S128x512 : Shape := ⟨2, ![128, 512]⟩
abbrev S128x128 : Shape := ⟨2, ![128, 128]⟩
abbrev S1x8x128 : Shape := ⟨3, ![1, 8, 128]⟩
abbrev S256x128 : Shape := ⟨2, ![256, 128]⟩
abbrev S512x128 : Shape := ⟨2, ![512, 128]⟩
abbrev S1x1x1 : Shape := ⟨3, ![1, 1, 1]⟩
abbrev S1x1 : Shape := ⟨2, ![1, 1]⟩
abbrev S128x1 : Shape := ⟨2, ![128, 1]⟩
abbrev S512x1 : Shape := ⟨2, ![512, 1]⟩
abbrev S512x256 : Shape := ⟨2, ![512, 256]⟩
abbrev S512 : Shape := ⟨1, ![512]⟩

abbrev nBuf : Space → Nat
  | .hbm => 40
  | .vmem => 22
  | .smem => 0
  | _ => 0

abbrev bufTy : (tb : Table) → Fin (tcTables nBuf tb) → BufTy
  | .hbm, ⟨0, _⟩ => ⟨S4096x15360, .f32⟩
  | .hbm, ⟨1, _⟩ => ⟨S1x4096, .i32⟩
  | .hbm, ⟨2, _⟩ => ⟨S16, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S4096x1, .i32⟩
  | .hbm, ⟨18, _⟩ => ⟨S4096x1, .f32⟩
  | .hbm, ⟨19, _⟩ => ⟨S1x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S4096x16, .f32⟩
  | .hbm, ⟨25, _⟩ => ⟨S_, .f32⟩
  | .hbm, ⟨26, _⟩ => ⟨S4096x96, .f32⟩
  | .hbm, ⟨27, _⟩ => ⟨S4096x128, .f32⟩
  | .hbm, ⟨28, _⟩ => ⟨S4096x16, .f32⟩
  | .hbm, ⟨29, _⟩ => ⟨S4096x16, .f32⟩
  | .hbm, ⟨30, _⟩ => ⟨S4096x16, .f32⟩
  | .hbm, ⟨31, _⟩ => ⟨S_, .f32⟩
  | .hbm, ⟨32, _⟩ => ⟨S4096x96, .f32⟩
  | .hbm, ⟨33, _⟩ => ⟨S4096x128, .f32⟩
  | .hbm, ⟨34, _⟩ => ⟨S4x4x1, .f32⟩
  | .hbm, ⟨35, _⟩ => ⟨S4x4x128, .f32⟩
  | .hbm, ⟨36, _⟩ => ⟨S_, .i32⟩
  | .hbm, ⟨37, _⟩ => ⟨S_, .f32⟩
  | .hbm, ⟨38, _⟩ => ⟨S4x8x128, .f32⟩
  | .hbm, ⟨39, _⟩ => ⟨S4096x2048, .bf16⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S1x8x128, .f32⟩
  | .local _ .vmem, ⟨19, _⟩ => ⟨S1x8x128, .f32⟩
  | .local _ .vmem, ⟨20, _⟩ => ⟨S128x512, .bf16⟩
  | .local _ .vmem, ⟨21, _⟩ => ⟨S128x512, .bf16⟩
  | _, _ => ⟨S4096x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_call0_v0 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c16_i32 : BitVec 32 := 16#32
  let v2 : BitVec 32 := Scalar.addi c16_i32 arg0
  let c0_i32_0 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c20_i32 : BitVec 32 := 20#32
  let v2 : BitVec 32 := Scalar.addi c20_i32 arg0
  let c0_i32_0 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnFwdIdeal.lean ====
variable {F : FTy → Type} [FloatOps F] [Named F]
def κ : String → Option EReal := fun
  | "mask" => some ⊥
  | _ => none
-- ==== AttnFwdRefIdeal.lean ====
abbrev S4096x15360 : Shape := ⟨2, ![4096, 15360]⟩
abbrev S1x4096 : Shape := ⟨2, ![1, 4096]⟩
abbrev S16 : Shape := ⟨1, ![16]⟩
abbrev S4096x2048 : Shape := ⟨2, ![4096, 2048]⟩
abbrev S1x4096x2048 : Shape := ⟨3, ![1, 4096, 2048]⟩
abbrev S4096x512 : Shape := ⟨2, ![4096, 512]⟩
abbrev S1x4096x512 : Shape := ⟨3, ![1, 4096, 512]⟩
abbrev S_ : Shape := ⟨0, ![]⟩
abbrev S1x4096x1 : Shape := ⟨3, ![1, 4096, 1]⟩
abbrev S1x1x16 : Shape := ⟨3, ![1, 1, 16]⟩
abbrev S1x4096x16 : Shape := ⟨3, ![1, 4096, 16]⟩
abbrev S1x4096x1x16 : Shape := ⟨4, ![1, 4096, 1, 16]⟩
abbrev S1x4096x16x128 : Shape := ⟨4, ![1, 4096, 16, 128]⟩
abbrev S1x4096x16x16 : Shape := ⟨4, ![1, 4096, 16, 16]⟩
abbrev S1x4096x16x96 : Shape := ⟨4, ![1, 4096, 16, 96]⟩
abbrev S1x4096x4x128 : Shape := ⟨4, ![1, 4096, 4, 128]⟩
abbrev S1x4096x4x16 : Shape := ⟨4, ![1, 4096, 4, 16]⟩
abbrev S1x4096x4x96 : Shape := ⟨4, ![1, 4096, 4, 96]⟩
abbrev S1x32x128x4x4x128 : Shape := ⟨6, ![1, 32, 128, 4, 4, 128]⟩
abbrev S32x1x128x4x4x128 : Shape := ⟨6, ![32, 1, 128, 4, 4, 128]⟩
abbrev S1x32x128x4x128 : Shape := ⟨5, ![1, 32, 128, 4, 128]⟩
abbrev S1x1x128x4x128 : Shape := ⟨5, ![1, 1, 128, 4, 128]⟩
abbrev S1x31x128x4x128 : Shape := ⟨5, ![1, 31, 128, 4, 128]⟩
abbrev S1x32x256x4x128 : Shape := ⟨5, ![1, 32, 256, 4, 128]⟩
abbrev S32x1x256x4x128 : Shape := ⟨5, ![32, 1, 256, 4, 128]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4x4 : Shape := ⟨2, ![4, 4]⟩
abbrev S1x4x4x1x1 : Shape := ⟨5, ![1, 4, 4, 1, 1]⟩
abbrev S32 : Shape := ⟨1, ![32]⟩
abbrev S32x1x4x256x128x4 : Shape := ⟨6, ![32, 1, 4, 256, 128, 4]⟩
abbrev S32x1x4x4x128x256 : Shape := ⟨6, ![32, 1, 4, 4, 128, 256]⟩
abbrev S1x1x256 : Shape := ⟨3, ![1, 1, 256]⟩
abbrev S32x1x1 : Shape := ⟨3, ![32, 1, 1]⟩
abbrev S32x1x256 : Shape := ⟨3, ![32, 1, 256]⟩
abbrev S1x128x256 : Shape := ⟨3, ![1, 128, 256]⟩
abbrev S32x128x256 : Shape := ⟨3, ![32, 128, 256]⟩
abbrev S1x4x4x128x256 : Shape := ⟨5, ![1, 4, 4, 128, 256]⟩
abbrev S32x1x4x4x128 : Shape := ⟨5, ![32, 1, 4, 4, 128]⟩
abbrev S32x1x4x4x128x1 : Shape := ⟨6, ![32, 1, 4, 4, 128, 1]⟩
abbrev S1x1x4x4x1x1 : Shape := ⟨6, ![1, 1, 4, 4, 1, 1]⟩
abbrev S32x1x4x128x4x128 : Shape := ⟨6, ![32, 1, 4, 128, 4, 128]⟩

abbrev nBuf : Space → Nat
  | .hbm => 155
  | .vmem => 0
  | .smem => 0
  | _ => 0

abbrev hbmTy0_0 (i : Nat) : BufTy := match i % 128 with
  | 0 => ⟨S4096x15360, .f32⟩
  | 1 => ⟨S1x4096, .i32⟩
  | 2 => ⟨S16, .f32⟩
  | 3 => ⟨S4096x2048, .f32⟩
  | 4 => ⟨S1x4096x2048, .f32⟩
  | 5 => ⟨S4096x512, .f32⟩
  | 6 => ⟨S1x4096x512, .f32⟩
  | 7 => ⟨S4096x512, .f32⟩
  | 8 => ⟨S1x4096x512, .f32⟩
  | 9 => ⟨S16, .f32⟩
  | 10 => ⟨S_, .f32⟩
  | 11 => ⟨S16, .f32⟩
  | 12 => ⟨S16, .f32⟩
  | 13 => ⟨S_, .f32⟩
  | 14 => ⟨S16, .f32⟩
  | 15 => ⟨S16, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S1x4096, .f32⟩
  | 24 => ⟨S1x4096x1, .f32⟩
  | 25 => ⟨S1x1x16, .f32⟩
  | 26 => ⟨S1x4096x16, .f32⟩
  | 27 => ⟨S1x4096x16, .f32⟩
  | 28 => ⟨S1x4096x16, .f32⟩
  | 29 => ⟨S1x4096x16, .f32⟩
  | 30 => ⟨S1x4096x1x16, .f32⟩
  | 31 => ⟨S1x4096x16, .f32⟩
  | 32 => ⟨S1x4096x1x16, .f32⟩
  | 33 => ⟨S1x4096x16x128, .f32⟩
  | 34 => ⟨S1x4096x16x16, .f32⟩
  | 35 => ⟨S1x4096x16x16, .f32⟩
  | 36 => ⟨S1x4096x16x16, .f32⟩
  | 37 => ⟨S1x4096x16x16, .f32⟩
  | 38 => ⟨S1x4096x16x16, .f32⟩
  | 39 => ⟨S1x4096x16x16, .f32⟩
  | 40 => ⟨S1x4096x16x16, .f32⟩
  | 41 => ⟨S1x4096x16x16, .f32⟩
  | 42 => ⟨S1x4096x16x16, .f32⟩
  | 43 => ⟨S1x4096x16x16, .f32⟩
  | 44 => ⟨S1x4096x16x16, .f32⟩
  | 45 => ⟨S1x4096x16x16, .f32⟩
  | 46 => ⟨S1x4096x16x96, .f32⟩
  | 47 => ⟨S1x4096x16x128, .f32⟩
  | 48 => ⟨S1x4096x4x128, .f32⟩
  | 49 => ⟨S1x4096x4x16, .f32⟩
  | 50 => ⟨S1x4096x4x16, .f32⟩
  | 51 => ⟨S1x4096x4x16, .f32⟩
  | 52 => ⟨S1x4096x4x16, .f32⟩
  | 53 => ⟨S1x4096x4x16, .f32⟩
  | 54 => ⟨S1x4096x4x16, .f32⟩
  | 55 => ⟨S1x4096x4x16, .f32⟩
  | 56 => ⟨S1x4096x4x16, .f32⟩
  | 57 => ⟨S1x4096x4x16, .f32⟩
  | 58 => ⟨S1x4096x4x16, .f32⟩
  | 59 => ⟨S1x4096x4x16, .f32⟩
  | 60 => ⟨S1x4096x4x16, .f32⟩
  | 61 => ⟨S1x4096x4x96, .f32⟩
  | 62 => ⟨S1x4096x4x128, .f32⟩
  | 63 => ⟨S1x4096x4x128, .f32⟩
  | 64 => ⟨S1x32x128x4x4x128, .f32⟩
  | 65 => ⟨S32x1x128x4x4x128, .f32⟩
  | 66 => ⟨S1x32x128x4x128, .f32⟩
  | 67 => ⟨S1x1x128x4x128, .f32⟩
  | 68 => ⟨S_, .f32⟩
  | 69 => ⟨S1x1x128x4x128, .f32⟩
  | 70 => ⟨S1x31x128x4x128, .f32⟩
  | 71 => ⟨S1x32x128x4x128, .f32⟩
  | 72 => ⟨S1x32x256x4x128, .f32⟩
  | 73 => ⟨S32x1x256x4x128, .f32⟩
  | 74 => ⟨S1x32x128x4x128, .f32⟩
  | 75 => ⟨S1x1x128x4x128, .f32⟩
  | 76 => ⟨S_, .f32⟩
  | 77 => ⟨S1x1x128x4x128, .f32⟩
  | 78 => ⟨S1x31x128x4x128, .f32⟩
  | 79 => ⟨S1x32x128x4x128, .f32⟩
  | 80 => ⟨S1x32x256x4x128, .f32⟩
  | 81 => ⟨S32x1x256x4x128, .f32⟩
  | 82 => ⟨S128, .i32⟩
  | 83 => ⟨S128x1, .i32⟩
  | 84 => ⟨S256, .i32⟩
  | 85 => ⟨S1x256, .i32⟩
  | 86 => ⟨S_, .i32⟩
  | 87 => ⟨S128x1, .i32⟩
  | 88 => ⟨S128x1, .i32⟩
  | 89 => ⟨S128x256, .i32⟩
  | 90 => ⟨S128x256, .i32⟩
  | 91 => ⟨S128x256, .i32⟩
  | 92 => ⟨S_, .i32⟩
  | 93 => ⟨S128x256, .i32⟩
  | 94 => ⟨S128x256, .i1⟩
  | 95 => ⟨S_, .i32⟩
  | 96 => ⟨S128x256, .i32⟩
  | 97 => ⟨S128x256, .i1⟩
  | 98 => ⟨S128x256, .i1⟩
  | 99 => ⟨S4x4, .f32⟩
  | 100 => ⟨S1x4x4x1x1, .f32⟩
  | 101 => ⟨S32, .i32⟩
  | 102 => ⟨S32x1x4x256x128x4, .f32⟩
  | 103 => ⟨S32x1x4x4x128x256, .f32⟩
  | 104 => ⟨S_, .f32⟩
  | 105 => ⟨S32x1x4x4x128x256, .f32⟩
  | 106 => ⟨S32x1x4x4x128x256, .f32⟩
  | 107 => ⟨S_, .i32⟩
  | 108 => ⟨S32, .i32⟩
  | 109 => ⟨S32, .i32⟩
  | 110 => ⟨S_, .i32⟩
  | 111 => ⟨S32, .i32⟩
  | 112 => ⟨S32, .i32⟩
  | 113 => ⟨S1x1x256, .i32⟩
  | 114 => ⟨S32x1x1, .i32⟩
  | 115 => ⟨S32x1x256, .i32⟩
  | 116 => ⟨S32x1x256, .i32⟩
  | 117 => ⟨S32x1x256, .i32⟩
  | 118 => ⟨S_, .i32⟩
  | 119 => ⟨S32x1x256, .i32⟩
  | 120 => ⟨S32x1x256, .i1⟩
  | 121 => ⟨S1x128x256, .i1⟩
  | 122 => ⟨S32x128x256, .i1⟩
  | 123 => ⟨S32x128x256, .i1⟩
  | 124 => ⟨S32x128x256, .i1⟩
  | 125 => ⟨S32x1x4x4x128x256, .i1⟩
  | 126 => ⟨S_, .f32⟩
  | 127 => ⟨S1x4x4x128x256, .f32⟩
  | _ => ⟨S4096x15360, .f32⟩

abbrev hbmTy0_1 (i : Nat) : BufTy := match i % 128 with
  | 0 => ⟨S32x1x4x4x128x256, .f32⟩
  | 1 => ⟨S32x1x4x4x128x256, .f32⟩
  | 2 => ⟨S_, .f32⟩
  | 3 => ⟨S32x1x4x4x128, .f32⟩
  | 4 => ⟨S32x1x4x4x128x1, .f32⟩
  | 5 => ⟨S1x1x4x4x1x1, .f32⟩
  | 6 => ⟨S32x1x4x4x128x1, .f32⟩
  | 7 => ⟨S32x1x4x4x128x1, .f32⟩
  | 8 => ⟨S32x1x4x4x128x256, .f32⟩
  | 9 => ⟨S32x1x4x4x128x256, .f32⟩
  | 10 => ⟨S32x1x4x4x128x256, .f32⟩
  | 11 => ⟨S_, .f32⟩
  | 12 => ⟨S32x1x4x4x128, .f32⟩
  | 13 => ⟨S32x1x4x4x128x1, .f32⟩
  | 14 => ⟨S1x1x4x4x1x1, .f32⟩
  | 15 => ⟨S32x1x4x4x128x1, .f32⟩
  | 16 => ⟨S32x1x4x4x128x1, .f32⟩
  | 17 => ⟨S32x1x4x4x128x1, .f32⟩
  | 18 => ⟨S32x1x4x4x128x1, .f32⟩
  | 19 => ⟨S32x1x4x4x128x256, .f32⟩
  | 20 => ⟨S32x1x4x4x128x256, .f32⟩
  | 21 => ⟨S32x1x4x128x4x128, .f32⟩
  | 22 => ⟨S32x1x128x4x4x128, .f32⟩
  | 23 => ⟨S1x32x128x4x4x128, .f32⟩
  | 24 => ⟨S1x4096x2048, .f32⟩
  | 25 => ⟨S4096x2048, .f32⟩
  | 26 => ⟨S4096x2048, .bf16⟩
  | _ => ⟨S4096x15360, .f32⟩

abbrev hbmTy (i : Nat) : BufTy := match i / 128 with
  | 0 => hbmTy0_0 i
  | 1 => hbmTy0_1 i
  | _ => ⟨S4096x15360, .f32⟩

abbrev bufTy : (tb : Table) → Fin (tcTables nBuf tb) → BufTy
  | .hbm, ⟨i, _⟩ => hbmTy i
  | _, _ => ⟨S4096x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_cst_3 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_cst_4 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_c : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_c_5 : Ref sig .tc := ⟨.hbm, 92, rfl⟩
abbrev main_v82 : Ref sig .tc := ⟨.hbm, 93, rfl⟩
abbrev main_v83 : Ref sig .tc := ⟨.hbm, 94, rfl⟩
abbrev main_c_6 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_cst_7 : Ref sig .tc := ⟨.hbm, 104, rfl⟩
abbrev main_v92 : Ref sig .tc := ⟨.hbm, 105, rfl⟩
abbrev main_v93 : Ref sig .tc := ⟨.hbm, 106, rfl⟩
abbrev main_c_8 : Ref sig .tc := ⟨.hbm, 107, rfl⟩
abbrev main_v94 : Ref sig .tc := ⟨.hbm, 108, rfl⟩
abbrev main_v95 : Ref sig .tc := ⟨.hbm, 109, rfl⟩
abbrev main_c_9 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_c_10 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_cst_11 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_cst_12 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_cst_13 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩

abbrev nD : Nat := 1
abbrev τ : Topo := Topo.v7x

variable {F : FTy → Type} [FloatOps F]
-- ==== ProjDx.lean ====
abbrev S4096x16384 : Shape := ⟨2, ![4096, 16384]⟩
abbrev S2048x16384 : Shape := ⟨2, ![2048, 16384]⟩
abbrev S4096x2048 : Shape := ⟨2, ![4096, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x16384, .bf16⟩
  | .hbm, ⟨1, _⟩ => ⟨S2048x16384, .bf16⟩
  | .hbm, ⟨2, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDxRefIdeal.lean ====
abbrev S4096x16384 : Shape := ⟨2, ![4096, 16384]⟩
abbrev S2048x16384 : Shape := ⟨2, ![2048, 16384]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S2048x16384, .bf16⟩
  | .hbm, ⟨2, _⟩ => ⟨S_, .f32⟩
  | .hbm, ⟨3, _⟩ => ⟨S4096x2048, .f32⟩
  | .hbm, ⟨4, _⟩ => ⟨S2048x16384, .f32⟩
  | .hbm, ⟨5, _⟩ => ⟨S4096x16384, .f32⟩
  | .hbm, ⟨6, _⟩ => ⟨S4096x16384, .f32⟩
  | .hbm, ⟨7, _⟩ => ⟨S4096x2048, .f32⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjDw.lean ====
abbrev S4096x2048 : Shape := ⟨2, ![4096, 2048]⟩
abbrev S4096x16384 : Shape := ⟨2, ![4096, 16384]⟩
abbrev S2048x16384 : Shape := ⟨2, ![2048, 16384]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x16384, .bf16⟩
  | .hbm, ⟨2, _⟩ => ⟨S2048x16384, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDwRefIdeal.lean ====
abbrev S4096x2048 : Shape := ⟨2, ![4096, 2048]⟩
abbrev S4096x16384 : Shape := ⟨2, ![4096, 16384]⟩
abbrev S_ : Shape := ⟨0, ![]⟩
abbrev S2048x16384 : Shape := ⟨2, ![2048, 16384]⟩
abbrev S16384x2048 : Shape := ⟨2, ![16384, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x16384, .bf16⟩
  | .hbm, ⟨2, _⟩ => ⟨S_, .f32⟩
  | .hbm, ⟨3, _⟩ => ⟨S2048x16384, .f32⟩
  | .hbm, ⟨4, _⟩ => ⟨S4096x2048, .f32⟩
  | .hbm, ⟨5, _⟩ => ⟨S4096x16384, .f32⟩
  | .hbm, ⟨6, _⟩ => ⟨S4096x16384, .f32⟩
  | .hbm, ⟨7, _⟩ => ⟨S16384x2048, .f32⟩
  | .hbm, ⟨8, _⟩ => ⟨S2048x16384, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Branch.lean ====
abbrev S4096x2048 : Shape := ⟨2, ![4096, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRefIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BranchDx.lean ====
abbrev S4096x2048 : Shape := ⟨2, ![4096, 2048]⟩
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixDx.lean ====
abbrev S4096x2048 : Shape := ⟨2, ![4096, 2048]⟩
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SquareDw.lean ====
abbrev S4096x2048 : Shape := ⟨2, ![4096, 2048]⟩
abbrev S2048x2048 : Shape := ⟨2, ![2048, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Down.lean ====
abbrev S4096x5632 : Shape := ⟨2, ![4096, 5632]⟩
abbrev S5632x2048 : Shape := ⟨2, ![5632, 2048]⟩
abbrev S4096x2048 : Shape := ⟨2, ![4096, 2048]⟩
abbrev S512x2816 : Shape := ⟨2, ![512, 2816]⟩
abbrev S2816x1024 : Shape := ⟨2, ![2816, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x5632, .f32⟩
  | .hbm, ⟨3, _⟩ => ⟨S5632x2048, .f32⟩
  | .hbm, ⟨4, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownDx.lean ====
abbrev S4096x2048 : Shape := ⟨2, ![4096, 2048]⟩
abbrev S5632x2048 : Shape := ⟨2, ![5632, 2048]⟩
abbrev S4096x5632 : Shape := ⟨2, ![4096, 5632]⟩
abbrev S512x2048 : Shape := ⟨2, ![512, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S_, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S4096x5632 : Shape := ⟨2, ![4096, 5632]⟩
abbrev S4096x2048 : Shape := ⟨2, ![4096, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Up.lean ====
abbrev S4096x2048 : Shape := ⟨2, ![4096, 2048]⟩
abbrev S2048x11264 : Shape := ⟨2, ![2048, 11264]⟩
abbrev S4096x11264 : Shape := ⟨2, ![4096, 11264]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x11264, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x2048 : Shape := ⟨2, ![4096, 2048]⟩
abbrev S2048x11264 : Shape := ⟨2, ![2048, 11264]⟩
abbrev S4096x11264 : Shape := ⟨2, ![4096, 11264]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x2048, .f32⟩
  | .hbm, ⟨3, _⟩ => ⟨S2048x11264, .f32⟩
  | .hbm, ⟨4, _⟩ => ⟨S4096x11264, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpDx.lean ====
abbrev S4096x11264 : Shape := ⟨2, ![4096, 11264]⟩
abbrev S2048x11264 : Shape := ⟨2, ![2048, 11264]⟩
abbrev S4096x2048 : Shape := ⟨2, ![4096, 2048]⟩
abbrev S512x2816 : Shape := ⟨2, ![512, 2816]⟩
abbrev S1024x2816 : Shape := ⟨2, ![1024, 2816]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .bf16⟩
  | .hbm, ⟨2, _⟩ => ⟨S4096x2048, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S1024x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S4096x11264 : Shape := ⟨2, ![4096, 11264]⟩
abbrev S2048x11264 : Shape := ⟨2, ![2048, 11264]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .bf16⟩
  | .hbm, ⟨2, _⟩ => ⟨S_, .f32⟩
  | .hbm, ⟨3, _⟩ => ⟨S4096x2048, .f32⟩
  | .hbm, ⟨4, _⟩ => ⟨S2048x11264, .f32⟩
  | .hbm, ⟨5, _⟩ => ⟨S4096x11264, .f32⟩
  | .hbm, ⟨6, _⟩ => ⟨S4096x11264, .f32⟩
  | .hbm, ⟨7, _⟩ => ⟨S4096x2048, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDw.lean ====
abbrev S4096x2048 : Shape := ⟨2, ![4096, 2048]⟩
abbrev S4096x11264 : Shape := ⟨2, ![4096, 11264]⟩
abbrev S2048x11264 : Shape := ⟨2, ![2048, 11264]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S2048x11264, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x2048 : Shape := ⟨2, ![4096, 2048]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S_, .f32⟩
  | .hbm, ⟨3, _⟩ => ⟨S2048x11264, .f32⟩
  | .hbm, ⟨4, _⟩ => ⟨S4096x2048, .f32⟩
  | .hbm, ⟨5, _⟩ => ⟨S4096x11264, .f32⟩
  | .hbm, ⟨6, _⟩ => ⟨S4096x11264, .f32⟩
  | .hbm, ⟨7, _⟩ => ⟨S11264x2048, .f32⟩
  | .hbm, ⟨8, _⟩ => ⟨S2048x11264, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proj.lean ====
abbrev S4096x2048 : Shape := ⟨2, ![4096, 2048]⟩
abbrev S2048x15360 : Shape := ⟨2, ![2048, 15360]⟩
abbrev S4096x15360 : Shape := ⟨2, ![4096, 15360]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x15360, .bf16⟩
  | .hbm, ⟨2, _⟩ => ⟨S4096x15360, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 15, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x2048 : Shape := ⟨2, ![4096, 2048]⟩
abbrev S2048x15360 : Shape := ⟨2, ![2048, 15360]⟩
abbrev S4096x15360 : Shape := ⟨2, ![4096, 15360]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x15360, .bf16⟩
  | .hbm, ⟨2, _⟩ => ⟨S4096x2048, .f32⟩
  | .hbm, ⟨3, _⟩ => ⟨S2048x15360, .f32⟩
  | .hbm, ⟨4, _⟩ => ⟨S4096x15360, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AdamIn.lean ====
abbrev S4x2048x3848 : Shape := ⟨3, ![4, 2048, 3848]⟩
abbrev S4x2048x4096 : Shape := ⟨3, ![4, 2048, 4096]⟩
abbrev S1x64x3848 : Shape := ⟨3, ![1, 64, 3848]⟩
abbrev S1x64x4096 : Shape := ⟨3, ![1, 64, 4096]⟩
abbrev S64x3848 : Shape := ⟨2, ![64, 3848]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x3848, .f32⟩
  | .hbm, ⟨1, _⟩ => ⟨S4x2048x4096, .f32⟩
  | .hbm, ⟨2, _⟩ => ⟨S4x2048x3848, .f32⟩
  | .hbm, ⟨3, _⟩ => ⟨S4x2048x3848, .f32⟩
  | .hbm, ⟨4, _⟩ => ⟨S4x2048x3848, .f32⟩
  | .hbm, ⟨5, _⟩ => ⟨S4x2048x3848, .f32⟩
  | .hbm, ⟨6, _⟩ => ⟨S4x2048x3848, .f32⟩
  | .hbm, ⟨7, _⟩ => ⟨S4x2048x3848, .f32⟩
  | .local _ .vmem, ⟨0, _⟩ => ⟨S1x64x3848, .f32⟩
  | .local _ .vmem, ⟨1, _⟩ => ⟨S1x64x3848, .f32⟩
  | .local _ .vmem, ⟨2, _⟩ => ⟨S1x64x4096, .f32⟩
  | .local _ .vmem, ⟨3, _⟩ => ⟨S1x64x4096, .f32⟩
  | .local _ .vmem, ⟨4, _⟩ => ⟨S1x64x3848, .f32⟩
  | .local _ .vmem, ⟨5, _⟩ => ⟨S1x64x3848, .f32⟩
  | .local _ .vmem, ⟨6, _⟩ => ⟨S1x64x3848, .f32⟩
  | .local _ .vmem, ⟨7, _⟩ => ⟨S1x64x3848, .f32⟩
  | .local _ .vmem, ⟨8, _⟩ => ⟨S1x64x3848, .f32⟩
  | .local _ .vmem, ⟨9, _⟩ => ⟨S1x64x3848, .f32⟩
  | .local _ .vmem, ⟨10, _⟩ => ⟨S1x64x3848, .f32⟩
  | .local _ .vmem, ⟨11, _⟩ => ⟨S1x64x3848, .f32⟩
  | .local _ .vmem, ⟨12, _⟩ => ⟨S1x64x3848, .f32⟩
  | .local _ .vmem, ⟨13, _⟩ => ⟨S1x64x3848, .f32⟩
  | .local _ .vmem, ⟨14, _⟩ => ⟨S1x64x3848, .f32⟩
  | .local _ .vmem, ⟨15, _⟩ => ⟨S1x64x3848, .f32⟩
  | _, _ => ⟨S4x2048x3848, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x3848 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x3848 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x3848 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x3848 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x3848 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x3848 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x3848 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInIdeal.lean ====
abbrev S4x2048x3848 : Shape := ⟨3, ![4, 2048, 3848]⟩
abbrev S4x2048x4096 : Shape := ⟨3, ![4, 2048, 4096]⟩
abbrev S1x64x3848 : Shape := ⟨3, ![1, 64, 3848]⟩
abbrev S1x64x4096 : Shape := ⟨3, ![1, 64, 4096]⟩
abbrev S64x3848 : Shape := ⟨2, ![64, 3848]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x3848, .f32⟩
  | .hbm, ⟨1, _⟩ => ⟨S4x2048x4096, .f32⟩
  | .hbm, ⟨2, _⟩ => ⟨S4x2048x3848, .f32⟩
  | .hbm, ⟨3, _⟩ => ⟨S4x2048x3848, .f32⟩
  | .hbm, ⟨4, _⟩ => ⟨S4x2048x3848, .f32⟩
  | .hbm, ⟨5, _⟩ => ⟨S4x2048x3848, .f32⟩
  | .hbm, ⟨6, _⟩ => ⟨S4x2048x3848, .f32⟩
  | .hbm, ⟨7, _⟩ => ⟨S4x2048x3848, .f32⟩
  | .local _ .vmem, ⟨0, _⟩ => ⟨S1x64x3848, .f32⟩
  | .local _ .vmem, ⟨1, _⟩ => ⟨S1x64x3848, .f32⟩
  | .local _ .vmem, ⟨2, _⟩ => ⟨S1x64x4096, .f32⟩
  | .local _ .vmem, ⟨3, _⟩ => ⟨S1x64x4096, .f32⟩
  | .local _ .vmem, ⟨4, _⟩ => ⟨S1x64x3848, .f32⟩
  | .local _ .vmem, ⟨5, _⟩ => ⟨S1x64x3848, .f32⟩
  | .local _ .vmem, ⟨6, _⟩ => ⟨S1x64x3848, .f32⟩
  | .local _ .vmem, ⟨7, _⟩ => ⟨S1x64x3848, .f32⟩
  | .local _ .vmem, ⟨8, _⟩ => ⟨S1x64x3848, .f32⟩
  | .local _ .vmem, ⟨9, _⟩ => ⟨S1x64x3848, .f32⟩
  | .local _ .vmem, ⟨10, _⟩ => ⟨S1x64x3848, .f32⟩
  | .local _ .vmem, ⟨11, _⟩ => ⟨S1x64x3848, .f32⟩
  | .local _ .vmem, ⟨12, _⟩ => ⟨S1x64x3848, .f32⟩
  | .local _ .vmem, ⟨13, _⟩ => ⟨S1x64x3848, .f32⟩
  | .local _ .vmem, ⟨14, _⟩ => ⟨S1x64x3848, .f32⟩
  | .local _ .vmem, ⟨15, _⟩ => ⟨S1x64x3848, .f32⟩
  | _, _ => ⟨S4x2048x3848, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x3848 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x3848 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x3848 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x3848 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x3848 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x3848 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x3848 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInRefIdeal.lean ====
abbrev S4x2048x3848 : Shape := ⟨3, ![4, 2048, 3848]⟩
abbrev S4x2048x4096 : Shape := ⟨3, ![4, 2048, 4096]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x3848, .f32⟩
  | .hbm, ⟨1, _⟩ => ⟨S4x2048x4096, .f32⟩
  | .hbm, ⟨2, _⟩ => ⟨S4x2048x3848, .f32⟩
  | .hbm, ⟨3, _⟩ => ⟨S4x2048x3848, .f32⟩
  | .hbm, ⟨4, _⟩ => ⟨S4x2048x3848, .f32⟩
  | .hbm, ⟨5, _⟩ => ⟨S_, .f32⟩
  | .hbm, ⟨6, _⟩ => ⟨S4x2048x3848, .f32⟩
  | .hbm, ⟨7, _⟩ => ⟨S4x2048x3848, .f32⟩
  | .hbm, ⟨8, _⟩ => ⟨S_, .f32⟩
  | .hbm, ⟨9, _⟩ => ⟨S4x2048x3848, .f32⟩
  | .hbm, ⟨10, _⟩ => ⟨S4x2048x3848, .f32⟩
  | .hbm, ⟨11, _⟩ => ⟨S4x2048x3848, .f32⟩
  | .hbm, ⟨12, _⟩ => ⟨S_, .f32⟩
  | .hbm, ⟨13, _⟩ => ⟨S4x2048x3848, .f32⟩
  | .hbm, ⟨14, _⟩ => ⟨S4x2048x3848, .f32⟩
  | .hbm, ⟨15, _⟩ => ⟨S4x2048x3848, .f32⟩
  | .hbm, ⟨16, _⟩ => ⟨S_, .f32⟩
  | .hbm, ⟨17, _⟩ => ⟨S4x2048x3848, .f32⟩
  | .hbm, ⟨18, _⟩ => ⟨S4x2048x3848, .f32⟩
  | .hbm, ⟨19, _⟩ => ⟨S4x2048x3848, .f32⟩
  | .hbm, ⟨20, _⟩ => ⟨S_, .f32⟩
  | .hbm, ⟨21, _⟩ => ⟨S4x2048x3848, .f32⟩
  | .hbm, ⟨22, _⟩ => ⟨S4x2048x3848, .f32⟩
  | .hbm, ⟨23, _⟩ => ⟨S_, .f32⟩
  | .hbm, ⟨24, _⟩ => ⟨S4x2048x3848, .f32⟩
  | .hbm, ⟨25, _⟩ => ⟨S4x2048x3848, .f32⟩
  | .hbm, ⟨26, _⟩ => ⟨S4x2048x3848, .f32⟩
  | .hbm, ⟨27, _⟩ => ⟨S_, .f32⟩
  | .hbm, ⟨28, _⟩ => ⟨S4x2048x3848, .f32⟩
  | .hbm, ⟨29, _⟩ => ⟨S4x2048x3848, .f32⟩
  | .hbm, ⟨30, _⟩ => ⟨S4x2048x3848, .f32⟩
  | .hbm, ⟨31, _⟩ => ⟨S_, .f32⟩
  | .hbm, ⟨32, _⟩ => ⟨S4x2048x3848, .f32⟩
  | .hbm, ⟨33, _⟩ => ⟨S4x2048x3848, .f32⟩
  | .hbm, ⟨34, _⟩ => ⟨S4x2048x3848, .f32⟩
  | .hbm, ⟨35, _⟩ => ⟨S_, .f32⟩
  | .hbm, ⟨36, _⟩ => ⟨S4x2048x3848, .f32⟩
  | .hbm, ⟨37, _⟩ => ⟨S4x2048x3848, .f32⟩
  | _, _ => ⟨S4x2048x3848, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamSquare.lean ====
abbrev S4x512x2048 : Shape := ⟨3, ![4, 512, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S4x512x2048, .f32⟩
  | .hbm, ⟨5, _⟩ => ⟨S4x512x2048, .f32⟩
  | .hbm, ⟨6, _⟩ => ⟨S4x512x2048, .f32⟩
  | .hbm, ⟨7, _⟩ => ⟨S4x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamSquareIdeal.lean ====
abbrev S4x512x2048 : Shape := ⟨3, ![4, 512, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S4x512x2048, .f32⟩
  | .hbm, ⟨5, _⟩ => ⟨S4x512x2048, .f32⟩
  | .hbm, ⟨6, _⟩ => ⟨S4x512x2048, .f32⟩
  | .hbm, ⟨7, _⟩ => ⟨S4x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamSquareRefIdeal.lean ====
abbrev S4x512x2048 : Shape := ⟨3, ![4, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S_, .f32⟩
  | .hbm, ⟨5, _⟩ => ⟨S4x512x2048, .f32⟩
  | .hbm, ⟨6, _⟩ => ⟨S4x512x2048, .f32⟩
  | .hbm, ⟨7, _⟩ => ⟨S_, .f32⟩
  | .hbm, ⟨8, _⟩ => ⟨S4x512x2048, .f32⟩
  | .hbm, ⟨9, _⟩ => ⟨S4x512x2048, .f32⟩
  | .hbm, ⟨10, _⟩ => ⟨S4x512x2048, .f32⟩
  | .hbm, ⟨11, _⟩ => ⟨S_, .f32⟩
  | .hbm, ⟨12, _⟩ => ⟨S4x512x2048, .f32⟩
  | .hbm, ⟨13, _⟩ => ⟨S4x512x2048, .f32⟩
  | .hbm, ⟨14, _⟩ => ⟨S4x512x2048, .f32⟩
  | .hbm, ⟨15, _⟩ => ⟨S_, .f32⟩
  | .hbm, ⟨16, _⟩ => ⟨S4x512x2048, .f32⟩
  | .hbm, ⟨17, _⟩ => ⟨S4x512x2048, .f32⟩
  | .hbm, ⟨18, _⟩ => ⟨S4x512x2048, .f32⟩
  | .hbm, ⟨19, _⟩ => ⟨S_, .f32⟩
  | .hbm, ⟨20, _⟩ => ⟨S4x512x2048, .f32⟩
  | .hbm, ⟨21, _⟩ => ⟨S4x512x2048, .f32⟩
  | .hbm, ⟨22, _⟩ => ⟨S_, .f32⟩
  | .hbm, ⟨23, _⟩ => ⟨S4x512x2048, .f32⟩
  | .hbm, ⟨24, _⟩ => ⟨S4x512x2048, .f32⟩
  | .hbm, ⟨25, _⟩ => ⟨S4x512x2048, .f32⟩
  | .hbm, ⟨26, _⟩ => ⟨S_, .f32⟩
  | .hbm, ⟨27, _⟩ => ⟨S4x512x2048, .f32⟩
  | .hbm, ⟨28, _⟩ => ⟨S4x512x2048, .f32⟩
  | .hbm, ⟨29, _⟩ => ⟨S4x512x2048, .f32⟩
  | .hbm, ⟨30, _⟩ => ⟨S_, .f32⟩
  | .hbm, ⟨31, _⟩ => ⟨S4x512x2048, .f32⟩
  | .hbm, ⟨32, _⟩ => ⟨S4x512x2048, .f32⟩
  | .hbm, ⟨33, _⟩ => ⟨S4x512x2048, .f32⟩
  | .hbm, ⟨34, _⟩ => ⟨S_, .f32⟩
  | .hbm, ⟨35, _⟩ => ⟨S4x512x2048, .f32⟩
  | .hbm, ⟨36, _⟩ => ⟨S4x512x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S4x2048x2816 : Shape := ⟨3, ![4, 2048, 2816]⟩
abbrev S1x64x2816 : Shape := ⟨3, ![1, 64, 2816]⟩
abbrev S64x2816 : Shape := ⟨2, ![64, 2816]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x2816, .f32⟩
  | .hbm, ⟨1, _⟩ => ⟨S4x2048x2816, .f32⟩
  | .hbm, ⟨2, _⟩ => ⟨S4x2048x2816, .f32⟩
  | .hbm, ⟨3, _⟩ => ⟨S4x2048x2816, .f32⟩
  | .hbm, ⟨4, _⟩ => ⟨S4x2048x2816, .f32⟩
  | .hbm, ⟨5, _⟩ => ⟨S4x2048x2816, .f32⟩
  | .hbm, ⟨6, _⟩ => ⟨S4x2048x2816, .f32⟩
  | .hbm, ⟨7, _⟩ => ⟨S4x2048x2816, .f32⟩
  | .local _ .vmem, ⟨0, _⟩ => ⟨S1x64x2816, .f32⟩
  | .local _ .vmem, ⟨1, _⟩ => ⟨S1x64x2816, .f32⟩
  | .local _ .vmem, ⟨2, _⟩ => ⟨S1x64x2816, .f32⟩
  | .local _ .vmem, ⟨3, _⟩ => ⟨S1x64x2816, .f32⟩
  | .local _ .vmem, ⟨4, _⟩ => ⟨S1x64x2816, .f32⟩
  | .local _ .vmem, ⟨5, _⟩ => ⟨S1x64x2816, .f32⟩
  | .local _ .vmem, ⟨6, _⟩ => ⟨S1x64x2816, .f32⟩
  | .local _ .vmem, ⟨7, _⟩ => ⟨S1x64x2816, .f32⟩
  | .local _ .vmem, ⟨8, _⟩ => ⟨S1x64x2816, .f32⟩
  | .local _ .vmem, ⟨9, _⟩ => ⟨S1x64x2816, .f32⟩
  | .local _ .vmem, ⟨10, _⟩ => ⟨S1x64x2816, .f32⟩
  | .local _ .vmem, ⟨11, _⟩ => ⟨S1x64x2816, .f32⟩
  | .local _ .vmem, ⟨12, _⟩ => ⟨S1x64x2816, .f32⟩
  | .local _ .vmem, ⟨13, _⟩ => ⟨S1x64x2816, .f32⟩
  | .local _ .vmem, ⟨14, _⟩ => ⟨S1x64x2816, .f32⟩
  | .local _ .vmem, ⟨15, _⟩ => ⟨S1x64x2816, .f32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamUpIdeal.lean ====
abbrev S4x2048x2816 : Shape := ⟨3, ![4, 2048, 2816]⟩
abbrev S1x64x2816 : Shape := ⟨3, ![1, 64, 2816]⟩
abbrev S64x2816 : Shape := ⟨2, ![64, 2816]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x2816, .f32⟩
  | .hbm, ⟨1, _⟩ => ⟨S4x2048x2816, .f32⟩
  | .hbm, ⟨2, _⟩ => ⟨S4x2048x2816, .f32⟩
  | .hbm, ⟨3, _⟩ => ⟨S4x2048x2816, .f32⟩
  | .hbm, ⟨4, _⟩ => ⟨S4x2048x2816, .f32⟩
  | .hbm, ⟨5, _⟩ => ⟨S4x2048x2816, .f32⟩
  | .hbm, ⟨6, _⟩ => ⟨S4x2048x2816, .f32⟩
  | .hbm, ⟨7, _⟩ => ⟨S4x2048x2816, .f32⟩
  | .local _ .vmem, ⟨0, _⟩ => ⟨S1x64x2816, .f32⟩
  | .local _ .vmem, ⟨1, _⟩ => ⟨S1x64x2816, .f32⟩
  | .local _ .vmem, ⟨2, _⟩ => ⟨S1x64x2816, .f32⟩
  | .local _ .vmem, ⟨3, _⟩ => ⟨S1x64x2816, .f32⟩
  | .local _ .vmem, ⟨4, _⟩ => ⟨S1x64x2816, .f32⟩
  | .local _ .vmem, ⟨5, _⟩ => ⟨S1x64x2816, .f32⟩
  | .local _ .vmem, ⟨6, _⟩ => ⟨S1x64x2816, .f32⟩
  | .local _ .vmem, ⟨7, _⟩ => ⟨S1x64x2816, .f32⟩
  | .local _ .vmem, ⟨8, _⟩ => ⟨S1x64x2816, .f32⟩
  | .local _ .vmem, ⟨9, _⟩ => ⟨S1x64x2816, .f32⟩
  | .local _ .vmem, ⟨10, _⟩ => ⟨S1x64x2816, .f32⟩
  | .local _ .vmem, ⟨11, _⟩ => ⟨S1x64x2816, .f32⟩
  | .local _ .vmem, ⟨12, _⟩ => ⟨S1x64x2816, .f32⟩
  | .local _ .vmem, ⟨13, _⟩ => ⟨S1x64x2816, .f32⟩
  | .local _ .vmem, ⟨14, _⟩ => ⟨S1x64x2816, .f32⟩
  | .local _ .vmem, ⟨15, _⟩ => ⟨S1x64x2816, .f32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamUpRefIdeal.lean ====
abbrev S4x2048x2816 : Shape := ⟨3, ![4, 2048, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S4x2048x2816, .f32⟩
  | .hbm, ⟨2, _⟩ => ⟨S4x2048x2816, .f32⟩
  | .hbm, ⟨3, _⟩ => ⟨S4x2048x2816, .f32⟩
  | .hbm, ⟨4, _⟩ => ⟨S_, .f32⟩
  | .hbm, ⟨5, _⟩ => ⟨S4x2048x2816, .f32⟩
  | .hbm, ⟨6, _⟩ => ⟨S4x2048x2816, .f32⟩
  | .hbm, ⟨7, _⟩ => ⟨S_, .f32⟩
  | .hbm, ⟨8, _⟩ => ⟨S4x2048x2816, .f32⟩
  | .hbm, ⟨9, _⟩ => ⟨S4x2048x2816, .f32⟩
  | .hbm, ⟨10, _⟩ => ⟨S4x2048x2816, .f32⟩
  | .hbm, ⟨11, _⟩ => ⟨S_, .f32⟩
  | .hbm, ⟨12, _⟩ => ⟨S4x2048x2816, .f32⟩
  | .hbm, ⟨13, _⟩ => ⟨S4x2048x2816, .f32⟩
  | .hbm, ⟨14, _⟩ => ⟨S4x2048x2816, .f32⟩
  | .hbm, ⟨15, _⟩ => ⟨S_, .f32⟩
  | .hbm, ⟨16, _⟩ => ⟨S4x2048x2816, .f32⟩
  | .hbm, ⟨17, _⟩ => ⟨S4x2048x2816, .f32⟩
  | .hbm, ⟨18, _⟩ => ⟨S4x2048x2816, .f32⟩
  | .hbm, ⟨19, _⟩ => ⟨S_, .f32⟩
  | .hbm, ⟨20, _⟩ => ⟨S4x2048x2816, .f32⟩
  | .hbm, ⟨21, _⟩ => ⟨S4x2048x2816, .f32⟩
  | .hbm, ⟨22, _⟩ => ⟨S_, .f32⟩
  | .hbm, ⟨23, _⟩ => ⟨S4x2048x2816, .f32⟩
  | .hbm, ⟨24, _⟩ => ⟨S4x2048x2816, .f32⟩
  | .hbm, ⟨25, _⟩ => ⟨S4x2048x2816, .f32⟩
  | .hbm, ⟨26, _⟩ => ⟨S_, .f32⟩
  | .hbm, ⟨27, _⟩ => ⟨S4x2048x2816, .f32⟩
  | .hbm, ⟨28, _⟩ => ⟨S4x2048x2816, .f32⟩
  | .hbm, ⟨29, _⟩ => ⟨S4x2048x2816, .f32⟩
  | .hbm, ⟨30, _⟩ => ⟨S_, .f32⟩
  | .hbm, ⟨31, _⟩ => ⟨S4x2048x2816, .f32⟩
  | .hbm, ⟨32, _⟩ => ⟨S4x2048x2816, .f32⟩
  | .hbm, ⟨33, _⟩ => ⟨S4x2048x2816, .f32⟩
  | .hbm, ⟨34, _⟩ => ⟨S_, .f32⟩
  | .hbm, ⟨35, _⟩ => ⟨S4x2048x2816, .f32⟩
  | .hbm, ⟨36, _⟩ => ⟨S4x2048x2816, .f32⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S4x1408x2048 : Shape := ⟨3, ![4, 1408, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x1408x2048, .f32⟩
  | .hbm, ⟨1, _⟩ => ⟨S4x1408x2048, .f32⟩
  | .hbm, ⟨2, _⟩ => ⟨S4x1408x2048, .f32⟩
  | .hbm, ⟨3, _⟩ => ⟨S4x1408x2048, .f32⟩
  | .hbm, ⟨4, _⟩ => ⟨S4x1408x2048, .f32⟩
  | .hbm, ⟨5, _⟩ => ⟨S4x1408x2048, .f32⟩
  | .hbm, ⟨6, _⟩ => ⟨S4x1408x2048, .f32⟩
  | .hbm, ⟨7, _⟩ => ⟨S4x1408x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S4x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamDownIdeal.lean ====
abbrev S4x1408x2048 : Shape := ⟨3, ![4, 1408, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x1408x2048, .f32⟩
  | .hbm, ⟨1, _⟩ => ⟨S4x1408x2048, .f32⟩
  | .hbm, ⟨2, _⟩ => ⟨S4x1408x2048, .f32⟩
  | .hbm, ⟨3, _⟩ => ⟨S4x1408x2048, .f32⟩
  | .hbm, ⟨4, _⟩ => ⟨S4x1408x2048, .f32⟩
  | .hbm, ⟨5, _⟩ => ⟨S4x1408x2048, .f32⟩
  | .hbm, ⟨6, _⟩ => ⟨S4x1408x2048, .f32⟩
  | .hbm, ⟨7, _⟩ => ⟨S4x1408x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S4x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamDownRefIdeal.lean ====
abbrev S4x1408x2048 : Shape := ⟨3, ![4, 1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1408x2048, .f32⟩
  | .hbm, ⟨1, _⟩ => ⟨S4x1408x2048, .f32⟩
  | .hbm, ⟨2, _⟩ => ⟨S4x1408x2048, .f32⟩
  | .hbm, ⟨3, _⟩ => ⟨S4x1408x2048, .f32⟩
  | .hbm, ⟨4, _⟩ => ⟨S_, .f32⟩
  | .hbm, ⟨5, _⟩ => ⟨S4x1408x2048, .f32⟩
  | .hbm, ⟨6, _⟩ => ⟨S4x1408x2048, .f32⟩
  | .hbm, ⟨7, _⟩ => ⟨S_, .f32⟩
  | .hbm, ⟨8, _⟩ => ⟨S4x1408x2048, .f32⟩
  | .hbm, ⟨9, _⟩ => ⟨S4x1408x2048, .f32⟩
  | .hbm, ⟨10, _⟩ => ⟨S4x1408x2048, .f32⟩
  | .hbm, ⟨11, _⟩ => ⟨S_, .f32⟩
  | .hbm, ⟨12, _⟩ => ⟨S4x1408x2048, .f32⟩
  | .hbm, ⟨13, _⟩ => ⟨S4x1408x2048, .f32⟩
  | .hbm, ⟨14, _⟩ => ⟨S4x1408x2048, .f32⟩
  | .hbm, ⟨15, _⟩ => ⟨S_, .f32⟩
  | .hbm, ⟨16, _⟩ => ⟨S4x1408x2048, .f32⟩
  | .hbm, ⟨17, _⟩ => ⟨S4x1408x2048, .f32⟩
  | .hbm, ⟨18, _⟩ => ⟨S4x1408x2048, .f32⟩
  | .hbm, ⟨19, _⟩ => ⟨S_, .f32⟩
  | .hbm, ⟨20, _⟩ => ⟨S4x1408x2048, .f32⟩
  | .hbm, ⟨21, _⟩ => ⟨S4x1408x2048, .f32⟩
  | .hbm, ⟨22, _⟩ => ⟨S_, .f32⟩
  | .hbm, ⟨23, _⟩ => ⟨S4x1408x2048, .f32⟩
  | .hbm, ⟨24, _⟩ => ⟨S4x1408x2048, .f32⟩
  | .hbm, ⟨25, _⟩ => ⟨S4x1408x2048, .f32⟩
  | .hbm, ⟨26, _⟩ => ⟨S_, .f32⟩
  | .hbm, ⟨27, _⟩ => ⟨S4x1408x2048, .f32⟩
  | .hbm, ⟨28, _⟩ => ⟨S4x1408x2048, .f32⟩
  | .hbm, ⟨29, _⟩ => ⟨S4x1408x2048, .f32⟩
  | .hbm, ⟨30, _⟩ => ⟨S_, .f32⟩
  | .hbm, ⟨31, _⟩ => ⟨S4x1408x2048, .f32⟩
  | .hbm, ⟨32, _⟩ => ⟨S4x1408x2048, .f32⟩
  | .hbm, ⟨33, _⟩ => ⟨S4x1408x2048, .f32⟩
  | .hbm, ⟨34, _⟩ => ⟨S_, .f32⟩
  | .hbm, ⟨35, _⟩ => ⟨S4x1408x2048, .f32⟩
  | .hbm, ⟨36, _⟩ => ⟨S4x1408x2048, .f32⟩
  | _, _ => ⟨S4x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDnConv.lean ====
abbrev S4x4x1536 : Shape := ⟨3, ![4, 4, 1536]⟩
abbrev S1x4x1536 : Shape := ⟨3, ![1, 4, 1536]⟩
abbrev S4x1536 : Shape := ⟨2, ![4, 1536]⟩

abbrev nBuf : Space → Nat
  | .hbm => 8
  | .vmem => 16
  | .smem => 0
  | _ => 0

abbrev bufTy : (tb : Table) → Fin (tcTables nBuf tb) → BufTy
  | .hbm, ⟨0, _⟩ => ⟨S4x4x1536, .f32⟩
  | .hbm, ⟨1, _⟩ => ⟨S4x4x1536, .f32⟩
  | .hbm, ⟨2, _⟩ => ⟨S4x4x1536, .f32⟩
  | .hbm, ⟨3, _⟩ => ⟨S4x4x1536, .f32⟩
  | .hbm, ⟨4, _⟩ => ⟨S4x4x1536, .f32⟩
  | .hbm, ⟨5, _⟩ => ⟨S4x4x1536, .f32⟩
  | .hbm, ⟨6, _⟩ => ⟨S4x4x1536, .f32⟩
  | .hbm, ⟨7, _⟩ => ⟨S4x4x1536, .f32⟩
  | .local _ .vmem, ⟨0, _⟩ => ⟨S1x4x1536, .f32⟩
  | .local _ .vmem, ⟨1, _⟩ => ⟨S1x4x1536, .f32⟩
  | .local _ .vmem, ⟨2, _⟩ => ⟨S1x4x1536, .f32⟩
  | .local _ .vmem, ⟨3, _⟩ => ⟨S1x4x1536, .f32⟩
  | .local _ .vmem, ⟨4, _⟩ => ⟨S1x4x1536, .f32⟩
  | .local _ .vmem, ⟨5, _⟩ => ⟨S1x4x1536, .f32⟩
  | .local _ .vmem, ⟨6, _⟩ => ⟨S1x4x1536, .f32⟩
  | .local _ .vmem, ⟨7, _⟩ => ⟨S1x4x1536, .f32⟩
  | .local _ .vmem, ⟨8, _⟩ => ⟨S1x4x1536, .f32⟩
  | .local _ .vmem, ⟨9, _⟩ => ⟨S1x4x1536, .f32⟩
  | .local _ .vmem, ⟨10, _⟩ => ⟨S1x4x1536, .f32⟩
  | .local _ .vmem, ⟨11, _⟩ => ⟨S1x4x1536, .f32⟩
  | .local _ .vmem, ⟨12, _⟩ => ⟨S1x4x1536, .f32⟩
  | .local _ .vmem, ⟨13, _⟩ => ⟨S1x4x1536, .f32⟩
  | .local _ .vmem, ⟨14, _⟩ => ⟨S1x4x1536, .f32⟩
  | .local _ .vmem, ⟨15, _⟩ => ⟨S1x4x1536, .f32⟩
  | _, _ => ⟨S4x4x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamDnConvIdeal.lean ====
abbrev S4x4x1536 : Shape := ⟨3, ![4, 4, 1536]⟩
abbrev S1x4x1536 : Shape := ⟨3, ![1, 4, 1536]⟩
abbrev S4x1536 : Shape := ⟨2, ![4, 1536]⟩

abbrev nBuf : Space → Nat
  | .hbm => 8
  | .vmem => 16
  | .smem => 0
  | _ => 0

abbrev bufTy : (tb : Table) → Fin (tcTables nBuf tb) → BufTy
  | .hbm, ⟨0, _⟩ => ⟨S4x4x1536, .f32⟩
  | .hbm, ⟨1, _⟩ => ⟨S4x4x1536, .f32⟩
  | .hbm, ⟨2, _⟩ => ⟨S4x4x1536, .f32⟩
  | .hbm, ⟨3, _⟩ => ⟨S4x4x1536, .f32⟩
  | .hbm, ⟨4, _⟩ => ⟨S4x4x1536, .f32⟩
  | .hbm, ⟨5, _⟩ => ⟨S4x4x1536, .f32⟩
  | .hbm, ⟨6, _⟩ => ⟨S4x4x1536, .f32⟩
  | .hbm, ⟨7, _⟩ => ⟨S4x4x1536, .f32⟩
  | .local _ .vmem, ⟨0, _⟩ => ⟨S1x4x1536, .f32⟩
  | .local _ .vmem, ⟨1, _⟩ => ⟨S1x4x1536, .f32⟩
  | .local _ .vmem, ⟨2, _⟩ => ⟨S1x4x1536, .f32⟩
  | .local _ .vmem, ⟨3, _⟩ => ⟨S1x4x1536, .f32⟩
  | .local _ .vmem, ⟨4, _⟩ => ⟨S1x4x1536, .f32⟩
  | .local _ .vmem, ⟨5, _⟩ => ⟨S1x4x1536, .f32⟩
  | .local _ .vmem, ⟨6, _⟩ => ⟨S1x4x1536, .f32⟩
  | .local _ .vmem, ⟨7, _⟩ => ⟨S1x4x1536, .f32⟩
  | .local _ .vmem, ⟨8, _⟩ => ⟨S1x4x1536, .f32⟩
  | .local _ .vmem, ⟨9, _⟩ => ⟨S1x4x1536, .f32⟩
  | .local _ .vmem, ⟨10, _⟩ => ⟨S1x4x1536, .f32⟩
  | .local _ .vmem, ⟨11, _⟩ => ⟨S1x4x1536, .f32⟩
  | .local _ .vmem, ⟨12, _⟩ => ⟨S1x4x1536, .f32⟩
  | .local _ .vmem, ⟨13, _⟩ => ⟨S1x4x1536, .f32⟩
  | .local _ .vmem, ⟨14, _⟩ => ⟨S1x4x1536, .f32⟩
  | .local _ .vmem, ⟨15, _⟩ => ⟨S1x4x1536, .f32⟩
  | _, _ => ⟨S4x4x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamDnConvRefIdeal.lean ====
abbrev S4x4x1536 : Shape := ⟨3, ![4, 4, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x4x1536, .f32⟩
  | .hbm, ⟨1, _⟩ => ⟨S4x4x1536, .f32⟩
  | .hbm, ⟨2, _⟩ => ⟨S4x4x1536, .f32⟩
  | .hbm, ⟨3, _⟩ => ⟨S4x4x1536, .f32⟩
  | .hbm, ⟨4, _⟩ => ⟨S_, .f32⟩
  | .hbm, ⟨5, _⟩ => ⟨S4x4x1536, .f32⟩
  | .hbm, ⟨6, _⟩ => ⟨S4x4x1536, .f32⟩
  | .hbm, ⟨7, _⟩ => ⟨S_, .f32⟩
  | .hbm, ⟨8, _⟩ => ⟨S4x4x1536, .f32⟩
  | .hbm, ⟨9, _⟩ => ⟨S4x4x1536, .f32⟩
  | .hbm, ⟨10, _⟩ => ⟨S4x4x1536, .f32⟩
  | .hbm, ⟨11, _⟩ => ⟨S_, .f32⟩
  | .hbm, ⟨12, _⟩ => ⟨S4x4x1536, .f32⟩
  | .hbm, ⟨13, _⟩ => ⟨S4x4x1536, .f32⟩
  | .hbm, ⟨14, _⟩ => ⟨S4x4x1536, .f32⟩
  | .hbm, ⟨15, _⟩ => ⟨S_, .f32⟩
  | .hbm, ⟨16, _⟩ => ⟨S4x4x1536, .f32⟩
  | .hbm, ⟨17, _⟩ => ⟨S4x4x1536, .f32⟩
  | .hbm, ⟨18, _⟩ => ⟨S4x4x1536, .f32⟩
  | .hbm, ⟨19, _⟩ => ⟨S_, .f32⟩
  | .hbm, ⟨20, _⟩ => ⟨S4x4x1536, .f32⟩
  | .hbm, ⟨21, _⟩ => ⟨S4x4x1536, .f32⟩
  | .hbm, ⟨22, _⟩ => ⟨S_, .f32⟩
  | .hbm, ⟨23, _⟩ => ⟨S4x4x1536, .f32⟩
  | .hbm, ⟨24, _⟩ => ⟨S4x4x1536, .f32⟩
  | .hbm, ⟨25, _⟩ => ⟨S4x4x1536, .f32⟩
  | .hbm, ⟨26, _⟩ => ⟨S_, .f32⟩
  | .hbm, ⟨27, _⟩ => ⟨S4x4x1536, .f32⟩
  | .hbm, ⟨28, _⟩ => ⟨S4x4x1536, .f32⟩
  | .hbm, ⟨29, _⟩ => ⟨S4x4x1536, .f32⟩
  | .hbm, ⟨30, _⟩ => ⟨S_, .f32⟩
  | .hbm, ⟨31, _⟩ => ⟨S4x4x1536, .f32⟩
  | .hbm, ⟨32, _⟩ => ⟨S4x4x1536, .f32⟩
  | .hbm, ⟨33, _⟩ => ⟨S4x4x1536, .f32⟩
  | .hbm, ⟨34, _⟩ => ⟨S_, .f32⟩
  | .hbm, ⟨35, _⟩ => ⟨S4x4x1536, .f32⟩
  | .hbm, ⟨36, _⟩ => ⟨S4x4x1536, .f32⟩
  | _, _ => ⟨S4x4x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnConv.lean ====
abbrev S4x3x2816 : Shape := ⟨3, ![4, 3, 2816]⟩
abbrev S1x3x2816 : Shape := ⟨3, ![1, 3, 2816]⟩
abbrev S3x2816 : Shape := ⟨2, ![3, 2816]⟩

abbrev nBuf : Space → Nat
  | .hbm => 8
  | .vmem => 16
  | .smem => 0
  | _ => 0

abbrev bufTy : (tb : Table) → Fin (tcTables nBuf tb) → BufTy
  | .hbm, ⟨0, _⟩ => ⟨S4x3x2816, .f32⟩
  | .hbm, ⟨1, _⟩ => ⟨S4x3x2816, .f32⟩
  | .hbm, ⟨2, _⟩ => ⟨S4x3x2816, .f32⟩
  | .hbm, ⟨3, _⟩ => ⟨S4x3x2816, .f32⟩
  | .hbm, ⟨4, _⟩ => ⟨S4x3x2816, .f32⟩
  | .hbm, ⟨5, _⟩ => ⟨S4x3x2816, .f32⟩
  | .hbm, ⟨6, _⟩ => ⟨S4x3x2816, .f32⟩
  | .hbm, ⟨7, _⟩ => ⟨S4x3x2816, .f32⟩
  | .local _ .vmem, ⟨0, _⟩ => ⟨S1x3x2816, .f32⟩
  | .local _ .vmem, ⟨1, _⟩ => ⟨S1x3x2816, .f32⟩
  | .local _ .vmem, ⟨2, _⟩ => ⟨S1x3x2816, .f32⟩
  | .local _ .vmem, ⟨3, _⟩ => ⟨S1x3x2816, .f32⟩
  | .local _ .vmem, ⟨4, _⟩ => ⟨S1x3x2816, .f32⟩
  | .local _ .vmem, ⟨5, _⟩ => ⟨S1x3x2816, .f32⟩
  | .local _ .vmem, ⟨6, _⟩ => ⟨S1x3x2816, .f32⟩
  | .local _ .vmem, ⟨7, _⟩ => ⟨S1x3x2816, .f32⟩
  | .local _ .vmem, ⟨8, _⟩ => ⟨S1x3x2816, .f32⟩
  | .local _ .vmem, ⟨9, _⟩ => ⟨S1x3x2816, .f32⟩
  | .local _ .vmem, ⟨10, _⟩ => ⟨S1x3x2816, .f32⟩
  | .local _ .vmem, ⟨11, _⟩ => ⟨S1x3x2816, .f32⟩
  | .local _ .vmem, ⟨12, _⟩ => ⟨S1x3x2816, .f32⟩
  | .local _ .vmem, ⟨13, _⟩ => ⟨S1x3x2816, .f32⟩
  | .local _ .vmem, ⟨14, _⟩ => ⟨S1x3x2816, .f32⟩
  | .local _ .vmem, ⟨15, _⟩ => ⟨S1x3x2816, .f32⟩
  | _, _ => ⟨S4x3x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamFfnConvIdeal.lean ====
abbrev S4x3x2816 : Shape := ⟨3, ![4, 3, 2816]⟩
abbrev S1x3x2816 : Shape := ⟨3, ![1, 3, 2816]⟩
abbrev S3x2816 : Shape := ⟨2, ![3, 2816]⟩

abbrev nBuf : Space → Nat
  | .hbm => 8
  | .vmem => 16
  | .smem => 0
  | _ => 0

abbrev bufTy : (tb : Table) → Fin (tcTables nBuf tb) → BufTy
  | .hbm, ⟨0, _⟩ => ⟨S4x3x2816, .f32⟩
  | .hbm, ⟨1, _⟩ => ⟨S4x3x2816, .f32⟩
  | .hbm, ⟨2, _⟩ => ⟨S4x3x2816, .f32⟩
  | .hbm, ⟨3, _⟩ => ⟨S4x3x2816, .f32⟩
  | .hbm, ⟨4, _⟩ => ⟨S4x3x2816, .f32⟩
  | .hbm, ⟨5, _⟩ => ⟨S4x3x2816, .f32⟩
  | .hbm, ⟨6, _⟩ => ⟨S4x3x2816, .f32⟩
  | .hbm, ⟨7, _⟩ => ⟨S4x3x2816, .f32⟩
  | .local _ .vmem, ⟨0, _⟩ => ⟨S1x3x2816, .f32⟩
  | .local _ .vmem, ⟨1, _⟩ => ⟨S1x3x2816, .f32⟩
  | .local _ .vmem, ⟨2, _⟩ => ⟨S1x3x2816, .f32⟩
  | .local _ .vmem, ⟨3, _⟩ => ⟨S1x3x2816, .f32⟩
  | .local _ .vmem, ⟨4, _⟩ => ⟨S1x3x2816, .f32⟩
  | .local _ .vmem, ⟨5, _⟩ => ⟨S1x3x2816, .f32⟩
  | .local _ .vmem, ⟨6, _⟩ => ⟨S1x3x2816, .f32⟩
  | .local _ .vmem, ⟨7, _⟩ => ⟨S1x3x2816, .f32⟩
  | .local _ .vmem, ⟨8, _⟩ => ⟨S1x3x2816, .f32⟩
  | .local _ .vmem, ⟨9, _⟩ => ⟨S1x3x2816, .f32⟩
  | .local _ .vmem, ⟨10, _⟩ => ⟨S1x3x2816, .f32⟩
  | .local _ .vmem, ⟨11, _⟩ => ⟨S1x3x2816, .f32⟩
  | .local _ .vmem, ⟨12, _⟩ => ⟨S1x3x2816, .f32⟩
  | .local _ .vmem, ⟨13, _⟩ => ⟨S1x3x2816, .f32⟩
  | .local _ .vmem, ⟨14, _⟩ => ⟨S1x3x2816, .f32⟩
  | .local _ .vmem, ⟨15, _⟩ => ⟨S1x3x2816, .f32⟩
  | _, _ => ⟨S4x3x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamFfnConvRefIdeal.lean ====
abbrev S4x3x2816 : Shape := ⟨3, ![4, 3, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x3x2816, .f32⟩
  | .hbm, ⟨1, _⟩ => ⟨S4x3x2816, .f32⟩
  | .hbm, ⟨2, _⟩ => ⟨S4x3x2816, .f32⟩
  | .hbm, ⟨3, _⟩ => ⟨S4x3x2816, .f32⟩
  | .hbm, ⟨4, _⟩ => ⟨S_, .f32⟩
  | .hbm, ⟨5, _⟩ => ⟨S4x3x2816, .f32⟩
  | .hbm, ⟨6, _⟩ => ⟨S4x3x2816, .f32⟩
  | .hbm, ⟨7, _⟩ => ⟨S_, .f32⟩
  | .hbm, ⟨8, _⟩ => ⟨S4x3x2816, .f32⟩
  | .hbm, ⟨9, _⟩ => ⟨S4x3x2816, .f32⟩
  | .hbm, ⟨10, _⟩ => ⟨S4x3x2816, .f32⟩
  | .hbm, ⟨11, _⟩ => ⟨S_, .f32⟩
  | .hbm, ⟨12, _⟩ => ⟨S4x3x2816, .f32⟩
  | .hbm, ⟨13, _⟩ => ⟨S4x3x2816, .f32⟩
  | .hbm, ⟨14, _⟩ => ⟨S4x3x2816, .f32⟩
  | .hbm, ⟨15, _⟩ => ⟨S_, .f32⟩
  | .hbm, ⟨16, _⟩ => ⟨S4x3x2816, .f32⟩
  | .hbm, ⟨17, _⟩ => ⟨S4x3x2816, .f32⟩
  | .hbm, ⟨18, _⟩ => ⟨S4x3x2816, .f32⟩
  | .hbm, ⟨19, _⟩ => ⟨S_, .f32⟩
  | .hbm, ⟨20, _⟩ => ⟨S4x3x2816, .f32⟩
  | .hbm, ⟨21, _⟩ => ⟨S4x3x2816, .f32⟩
  | .hbm, ⟨22, _⟩ => ⟨S_, .f32⟩
  | .hbm, ⟨23, _⟩ => ⟨S4x3x2816, .f32⟩
  | .hbm, ⟨24, _⟩ => ⟨S4x3x2816, .f32⟩
  | .hbm, ⟨25, _⟩ => ⟨S4x3x2816, .f32⟩
  | .hbm, ⟨26, _⟩ => ⟨S_, .f32⟩
  | .hbm, ⟨27, _⟩ => ⟨S4x3x2816, .f32⟩
  | .hbm, ⟨28, _⟩ => ⟨S4x3x2816, .f32⟩
  | .hbm, ⟨29, _⟩ => ⟨S4x3x2816, .f32⟩
  | .hbm, ⟨30, _⟩ => ⟨S_, .f32⟩
  | .hbm, ⟨31, _⟩ => ⟨S4x3x2816, .f32⟩
  | .hbm, ⟨32, _⟩ => ⟨S4x3x2816, .f32⟩
  | .hbm, ⟨33, _⟩ => ⟨S4x3x2816, .f32⟩
  | .hbm, ⟨34, _⟩ => ⟨S_, .f32⟩
  | .hbm, ⟨35, _⟩ => ⟨S4x3x2816, .f32⟩
  | .hbm, ⟨36, _⟩ => ⟨S4x3x2816, .f32⟩
  | _, _ => ⟨S4x3x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S1x80x1024 : Shape := ⟨3, ![1, 80, 1024]⟩
abbrev S80x1024 : Shape := ⟨2, ![80, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x80x1024, .f32⟩
  | .hbm, ⟨1, _⟩ => ⟨S1x80x1024, .f32⟩
  | .hbm, ⟨2, _⟩ => ⟨S1x80x1024, .f32⟩
  | .hbm, ⟨3, _⟩ => ⟨S1x80x1024, .f32⟩
  | .hbm, ⟨4, _⟩ => ⟨S1x80x1024, .f32⟩
  | .hbm, ⟨5, _⟩ => ⟨S1x80x1024, .f32⟩
  | .hbm, ⟨6, _⟩ => ⟨S1x80x1024, .f32⟩
  | .hbm, ⟨7, _⟩ => ⟨S1x80x1024, .f32⟩
  | .local _ .vmem, ⟨0, _⟩ => ⟨S1x80x1024, .f32⟩
  | .local _ .vmem, ⟨1, _⟩ => ⟨S1x80x1024, .f32⟩
  | .local _ .vmem, ⟨2, _⟩ => ⟨S1x80x1024, .f32⟩
  | .local _ .vmem, ⟨3, _⟩ => ⟨S1x80x1024, .f32⟩
  | .local _ .vmem, ⟨4, _⟩ => ⟨S1x80x1024, .f32⟩
  | .local _ .vmem, ⟨5, _⟩ => ⟨S1x80x1024, .f32⟩
  | .local _ .vmem, ⟨6, _⟩ => ⟨S1x80x1024, .f32⟩
  | .local _ .vmem, ⟨7, _⟩ => ⟨S1x80x1024, .f32⟩
  | _, _ => ⟨S1x80x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x80x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x80x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x80x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x80x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x80x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x80x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x80x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x80x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamSmallRefIdeal.lean ====
abbrev S1x80x1024 : Shape := ⟨3, ![1, 80, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x80x1024, .f32⟩
  | .hbm, ⟨1, _⟩ => ⟨S1x80x1024, .f32⟩
  | .hbm, ⟨2, _⟩ => ⟨S1x80x1024, .f32⟩
  | .hbm, ⟨3, _⟩ => ⟨S1x80x1024, .f32⟩
  | .hbm, ⟨4, _⟩ => ⟨S_, .f32⟩
  | .hbm, ⟨5, _⟩ => ⟨S1x80x1024, .f32⟩
  | .hbm, ⟨6, _⟩ => ⟨S1x80x1024, .f32⟩
  | .hbm, ⟨7, _⟩ => ⟨S_, .f32⟩
  | .hbm, ⟨8, _⟩ => ⟨S1x80x1024, .f32⟩
  | .hbm, ⟨9, _⟩ => ⟨S1x80x1024, .f32⟩
  | .hbm, ⟨10, _⟩ => ⟨S1x80x1024, .f32⟩
  | .hbm, ⟨11, _⟩ => ⟨S_, .f32⟩
  | .hbm, ⟨12, _⟩ => ⟨S1x80x1024, .f32⟩
  | .hbm, ⟨13, _⟩ => ⟨S1x80x1024, .f32⟩
  | .hbm, ⟨14, _⟩ => ⟨S1x80x1024, .f32⟩
  | .hbm, ⟨15, _⟩ => ⟨S_, .f32⟩
  | .hbm, ⟨16, _⟩ => ⟨S1x80x1024, .f32⟩
  | .hbm, ⟨17, _⟩ => ⟨S1x80x1024, .f32⟩
  | .hbm, ⟨18, _⟩ => ⟨S1x80x1024, .f32⟩
  | .hbm, ⟨19, _⟩ => ⟨S_, .f32⟩
  | .hbm, ⟨20, _⟩ => ⟨S1x80x1024, .f32⟩
  | .hbm, ⟨21, _⟩ => ⟨S1x80x1024, .f32⟩
  | .hbm, ⟨22, _⟩ => ⟨S_, .f32⟩
  | .hbm, ⟨23, _⟩ => ⟨S1x80x1024, .f32⟩
  | .hbm, ⟨24, _⟩ => ⟨S1x80x1024, .f32⟩
  | .hbm, ⟨25, _⟩ => ⟨S1x80x1024, .f32⟩
  | .hbm, ⟨26, _⟩ => ⟨S_, .f32⟩
  | .hbm, ⟨27, _⟩ => ⟨S1x80x1024, .f32⟩
  | .hbm, ⟨28, _⟩ => ⟨S1x80x1024, .f32⟩
  | .hbm, ⟨29, _⟩ => ⟨S1x80x1024, .f32⟩
  | .hbm, ⟨30, _⟩ => ⟨S_, .f32⟩
  | .hbm, ⟨31, _⟩ => ⟨S1x80x1024, .f32⟩
  | .hbm, ⟨32, _⟩ => ⟨S1x80x1024, .f32⟩
  | .hbm, ⟨33, _⟩ => ⟨S1x80x1024, .f32⟩
  | .hbm, ⟨34, _⟩ => ⟨S_, .f32⟩
  | .hbm, ⟨35, _⟩ => ⟨S1x80x1024, .f32⟩
  | .hbm, ⟨36, _⟩ => ⟨S1x80x1024, .f32⟩
  | _, _ => ⟨S1x80x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Attend.lean ====
module
public import Idealize.ShloMosaic.Lib.Pointwise
public import Idealize.ShloMosaic.Lib.Pipeline.ValueKit
public import Idealize.ShloMosaic.Lib.WordCmp

/-! Attention over a sliding window with a sink, element by element: the rotation of the queries and keys, the logits
of a query against the keys of its own and the preceding block, and the weighted sum of the values. -/

@[expose] public section

set_option maxRecDepth 16384

noncomputable section

namespace Cert.Attend

open Idealize.ShloMosaic

/-- The projected row of every position: 16 query heads, 4 key heads, 4 value heads of 128 lanes, then columns unused here. -/
abbrev Rows := FVec Ideal ⟨2, ![4096, 15360]⟩ .f32
abbrev Positions := IVec ⟨2, ![1, 4096]⟩ 32
abbrev Sinks := FVec Ideal ⟨1, ![16]⟩ .f32

/-! ## Softmax with a sink -/

/-- The largest of the logits and the sink. -/
def top (l : Fin 256 → EReal) (σ : EReal) : EReal := max (Finset.univ.fold max (Ideal.ofBits .f32 0xFF800000#32) l) σ

/-- The softmax's denominator, the sink counted. -/
def total (l : Fin 256 → EReal) (σ : EReal) : EReal := (∑ c, Ideal.exp (l c - top l σ)) + Ideal.exp (σ - top l σ)

/-- The softmax's weight of a key. -/
def weight (l : Fin 256 → EReal) (σ : EReal) (c : Fin 256) : EReal := Ideal.div (Ideal.exp (l c - top l σ)) (total l σ)

theorem lowest : Ideal.ofBits .f32 0xFF800000#32 = ⊥ := by
  simp [Ideal.ofBits, Ideal.ieee]

theorem fold_lt_top (l : Fin 256 → EReal) (h : ∀ c, l c ≠ ⊤) : Finset.univ.fold max (Ideal.ofBits .f32 0xFF800000#32) l < ⊤ := by
  rw [Finset.fold_max_lt, lowest]
  exact ⟨bot_lt_top, fun c _ => (h c).lt_top⟩

/-- Under logits short of +∞ and a real sink the largest is a real number. -/
theorem top_real (l : Fin 256 → EReal) (σ : ℝ) (h : ∀ c, l c ≠ ⊤) : ∃ r : ℝ, top l σ = r := by
  have h1 : top l σ ≠ ⊤ := (max_lt (fold_lt_top l h) (EReal.coe_lt_top σ)).ne
  have h2 : top l σ ≠ ⊥ := fun e => absurd ((le_max_right _ _).trans_eq e) (not_le.2 (EReal.bot_lt_coe σ))
  exact ⟨(top l σ).toReal, (EReal.coe_toReal h1 h2).symm⟩

theorem exp_nonneg (x : EReal) : 0 ≤ Ideal.exp x := by
  induction x using EReal.rec with
  | bot => exact le_rfl
  | top => exact le_top
  | coe r => exact EReal.coe_nonneg.2 (Real.exp_pos r).le

/-- The denominator is not zero: the sink's own term is positive. -/
theorem total_pos (l : Fin 256 → EReal) (σ : ℝ) (h : ∀ c, l c ≠ ⊤) : 0 < total l σ := by
  obtain ⟨r, hr⟩ := top_real l σ h
  have h1 : (0 : EReal) < Ideal.exp (σ - top l σ) := by
    rw [hr, ← EReal.coe_sub]
    exact EReal.coe_pos.2 (Real.exp_pos _)
  exact h1.trans_le (le_add_of_nonneg_left (Finset.sum_nonneg fun c _ => exp_nonneg _))

theorem weight_eq (l : Fin 256 → EReal) (σ : ℝ) (h : ∀ c, l c ≠ ⊤) (c : Fin 256) :
    Ideal.exp (l c - top l σ) * Ideal.div 1 (total l σ) = weight l σ c := by
  unfold weight Ideal.div
  rw [if_neg (total_pos l σ h).ne', if_neg (total_pos l σ h).ne', one_mul]

/-- A key masked out has weight zero. -/
theorem weight_masked (l : Fin 256 → EReal) (σ : ℝ) (h : ∀ c, l c ≠ ⊤) (c : Fin 256) (hc : l c = ⊥) : weight l σ c = 0 := by
  obtain ⟨r, hr⟩ := top_real l σ h
  unfold weight Ideal.div
  rw [if_neg (total_pos l σ h).ne', hc, EReal.bot_sub]
  show (0 : EReal) * _ = 0
  rw [zero_mul]

/-! ## The rotation -/

/-- The angle lane pair `l` turns by at position `t`. -/
def angle (p : Positions) (t : Fin 4096) (l : Fin 16) : EReal :=
  FloatOps.sitofp (F := Ideal) .f32 (p (ix2 0 t)) * Ideal.pow (Ideal.ofBits .f32 0x48F42400#32)
    (Ideal.div (-(Ideal.ofBits .f32 0x40000000#32 * FloatOps.sitofp (F := Ideal) .f32 (BitVec.ofNat 32 ↑l))) (Ideal.ofBits .f32 0x42000000#32))

/-- Lane `d` of head `h` in row `t`: heads 0 to 15 are the queries, 16 to 19 the keys, 20 to 23 the values. -/
def lane (X : Rows) (t : Fin 4096) (h : Fin 24) (d : Fin 128) : EReal := X (ix2 t ⟨128 * h + d, by omega⟩)

/-- A head's lanes with the first 32 rotated in pairs 16 apart. -/
def rotated (X : Rows) (p : Positions) (t : Fin 4096) (h : Fin 24) (d : Fin 128) : EReal :=
  if h1 : d.val < 16 then lane X t h d * Ideal.cos (angle p t ⟨d, h1⟩) - lane X t h ⟨d + 16, by omega⟩ * Ideal.sin (angle p t ⟨d, h1⟩)
  else if h2 : d.val - 16 < 16 then lane X t h d * Ideal.cos (angle p t ⟨d - 16, h2⟩) + lane X t h ⟨d - 16, by omega⟩ * Ideal.sin (angle p t ⟨d - 16, h2⟩)
  else lane X t h d

/-- The same through tables of a factor for the lane and a factor for its partner, the partner found by rolling the lanes. -/
def spun (x C S : Fin 128 → EReal) (d : Fin 128) : EReal :=
  x d * C d + Scalar.select (IntOp.cmpi .slt (BitVec.ofNat 32 ↑d) 16#32) (x ⟨(d + 128 - 112) % 128, by omega⟩) (x ⟨(d + 128 - 16) % 128, by omega⟩) * S d

/-- The table of the lane's factors. -/
def cosine (p : Positions) (t : Fin 4096) (d : Fin 128) : EReal :=
  if h1 : d.val < 16 then Ideal.cos (angle p t ⟨d, h1⟩) else if h2 : d.val - 16 < 16 then Ideal.cos (angle p t ⟨d - 16, h2⟩) else 1

/-- The table of the partner's factors. -/
def sine (p : Positions) (t : Fin 4096) (d : Fin 128) : EReal :=
  if h1 : d.val < 16 then -Ideal.sin (angle p t ⟨d, h1⟩) else if h2 : d.val - 16 < 16 then Ideal.sin (angle p t ⟨d - 16, h2⟩) else 0

theorem spun_eq (X : Rows) (p : Positions) (t : Fin 4096) (h : Fin 24) (d : Fin 128) :
    spun (lane X t h) (cosine p t) (sine p t) d = rotated X p t h d := by
  unfold spun rotated cosine sine
  have hd := d.isLt
  simp (disch := word_cmp_side) only [hlo_ix]
  by_cases h1 : d.val < 16
  · have e : (d.val + 128 - 112) % 128 = d.val + 16 := by omega
    simp only [h1, ↓reduceDIte, ↓reduceIte, e]
    rw [mul_neg, sub_eq_add_neg]
  · by_cases h2 : d.val - 16 < 16
    · have e : (d.val + 128 - 16) % 128 = d.val - 16 := by omega
      simp only [h1, h2, ↓reduceDIte, ↓reduceIte, e]
    · simp only [h1, h2, ↓reduceDIte, ↓reduceIte, mul_one, mul_zero, add_zero]

/-! ## A query's keys -/

/-- Key `c` of the 256 that block `n`'s queries look at: the preceding block's 128 rows, then its own. -/
def keyRow (n : Fin 32) (c : Fin 256) : Fin 4096 := ⟨128 * n + c - 128, by omega⟩

/-- Row `q` of block `n`. -/
def queryRow (n : Fin 32) (q : Fin 128) : Fin 4096 := ⟨128 * n + q, by omega⟩

/-- Query `q` of block `n` sees key `c`: not after it, fewer than 128 rows before it, and a row that exists. -/
def sees (n : Fin 32) (q : Fin 128) (c : Fin 256) : Prop := q.val < c.val ∧ c.val ≤ q.val + 128 ∧ (128 ≤ c.val ∨ 0 < n.val)

instance (n : Fin 32) (q : Fin 128) (c : Fin 256) : Decidable (sees n q c) := inferInstanceAs (Decidable (_ ∧ _ ∧ _))

/-- The two comparisons that find a key near enough. -/
theorem near_word (q : Fin 128) (c : Fin 256) :
    IntOp.andi (IntOp.cmpi .sge (IntOp.subi (IntOp.addi (BitVec.ofNat 32 q.val) 128#32) (BitVec.ofNat 32 c.val)) 0#32)
        (IntOp.cmpi .slt (IntOp.subi (IntOp.addi (BitVec.ofNat 32 q.val) 128#32) (BitVec.ofNat 32 c.val)) 128#32)
      = if q.val < c.val ∧ c.val ≤ q.val + 128 then 1#1 else 0#1 := by
  revert q c
  decide +kernel

/-- The key head and the value head that query head `h` reads. -/
def keyHead (h : Fin 16) : Fin 24 := ⟨16 + h / 4, by omega⟩
def valueHead (h : Fin 16) : Fin 24 := ⟨20 + h / 4, by omega⟩

/-- The scaled product of a query and a key, −∞ where the query does not see the key. -/
def logit (X : Rows) (p : Positions) (n : Fin 32) (h : Fin 16) (q : Fin 128) (c : Fin 256) : EReal :=
  if sees n q c then (∑ d, rotated X p (queryRow n q) (h.castLE (by decide)) d * rotated X p (keyRow n c) (keyHead h) d) * Ideal.ofBits .f32 0x3DB504F3#32 else ⊥

/-- The value of a key, zero where the row does not exist. -/
def value (X : Rows) (n : Fin 32) (h : Fin 16) (d : Fin 128) (c : Fin 256) : EReal :=
  if c.val < 128 ∧ n.val = 0 then 0 else lane X (keyRow n c) (valueHead h) d

/-- Attention's result in row `q` of block `n`, lane `d` of head `h`. -/
def result (X : Rows) (p : Positions) (s : Sinks) (n : Fin 32) (q : Fin 128) (h : Fin 16) (d : Fin 128) : EReal :=
  ∑ c, weight (logit X p n h q) (s (ix1 h)) c * value X n h d c

/-- Attention's result array. -/
def results (X : Rows) (p : Positions) (s : Sinks) : FVec Ideal ⟨2, ![4096, 2048]⟩ .bf16 := fun j =>
  result X p s ⟨(j 0).val / 128, Nat.div_lt_of_lt_mul (j 0).isLt⟩ ⟨(j 0).val % 128, Nat.mod_lt _ (by decide)⟩
    ⟨(j 1).val / 128, Nat.div_lt_of_lt_mul (j 1).isLt⟩ ⟨(j 1).val % 128, Nat.mod_lt _ (by decide)⟩

/-! ## Real rows -/

/-- The queries, the keys and the sinks are real numbers. -/
def Real (X : Rows) (s : Sinks) : Prop :=
  (∀ (t : Fin 4096) (h : Fin 24) (d : Fin 128), h.val < 20 → ∃ r : ℝ, lane X t h d = r) ∧ ∀ h : Fin 16, ∃ r : ℝ, s (ix1 h) = r

theorem angle_real (p : Positions) (t : Fin 4096) (l : Fin 16) : ∃ r : ℝ, angle p t l = r := by
  have h1 : Ideal.ofBits .f32 0x42000000#32 = ((32 : ℝ) : EReal) := by
    simp [Ideal.ofBits, Ideal.ieee, -EReal.coe_mul]
    norm_num
  have h2 : Ideal.ofBits .f32 0x40000000#32 = ((2 : ℝ) : EReal) := by
    simp [Ideal.ofBits, Ideal.ieee, -EReal.coe_mul]
    norm_num
  have h3 : Ideal.ofBits .f32 0x48F42400#32 = ((500000 : ℝ) : EReal) := by
    simp [Ideal.ofBits, Ideal.ieee, -EReal.coe_mul]
    norm_num
  unfold angle Ideal.div
  rw [h1, h2, h3, if_neg (by norm_num)]
  show ∃ r : ℝ, ((_ : ℝ) : EReal) * Ideal.pow _ (-((2 : ℝ) * ((_ : ℝ) : EReal)) * ((32 : ℝ) : EReal)⁻¹) = r
  rw [← EReal.coe_inv, ← EReal.coe_mul, ← EReal.coe_neg, ← EReal.coe_mul]
  show ∃ r : ℝ, ((_ : ℝ) : EReal) * ((_ : ℝ) : EReal) = r
  exact ⟨_, (EReal.coe_mul _ _).symm⟩

theorem rotated_real (X : Rows) (p : Positions) (s : Sinks) (hX : Real X s) (t : Fin 4096) (h : Fin 24) (d : Fin 128) (hh : h.val < 20) :
    ∃ r : ℝ, rotated X p t h d = r := by
  unfold rotated
  split
  · obtain ⟨a, ha⟩ := hX.1 t h d hh
    obtain ⟨b, hb⟩ := hX.1 t h ⟨d + 16, by omega⟩ hh
    obtain ⟨θ, hθ⟩ := angle_real p t ⟨d, by assumption⟩
    rw [ha, hb, hθ]
    exact ⟨a * Real.cos θ - b * Real.sin θ, by rw [EReal.coe_sub, EReal.coe_mul, EReal.coe_mul]; rfl⟩
  split
  · obtain ⟨a, ha⟩ := hX.1 t h d hh
    obtain ⟨b, hb⟩ := hX.1 t h ⟨d - 16, by omega⟩ hh
    obtain ⟨θ, hθ⟩ := angle_real p t ⟨d - 16, by assumption⟩
    rw [ha, hb, hθ]
    exact ⟨a * Real.cos θ + b * Real.sin θ, by rw [EReal.coe_add, EReal.coe_mul, EReal.coe_mul]; rfl⟩
  · exact hX.1 t h d hh

theorem sum_real {n : ℕ} (f : Fin n → EReal) (h : ∀ k, ∃ r : ℝ, f k = r) : ∃ r : ℝ, ∑ k, f k = r := by
  refine Finset.sum_induction f (fun x => ∃ r : ℝ, x = r) ?_ ⟨0, rfl⟩ fun k _ => h k
  rintro _ _ ⟨a, rfl⟩ ⟨b, rfl⟩
  exact ⟨a + b, (EReal.coe_add a b).symm⟩

theorem scale_real : ∃ r : ℝ, Ideal.ofBits .f32 0x3DB504F3#32 = r := by
  simp only [Ideal.ofBits, Ideal.ieee]
  exact ⟨_, rfl⟩

theorem logit_ne_top (X : Rows) (p : Positions) (s : Sinks) (hX : Real X s) (n : Fin 32) (h : Fin 16) (q : Fin 128) (c : Fin 256) :
    logit X p n h q c ≠ ⊤ := by
  unfold logit
  split
  · obtain ⟨σ, hσ⟩ := scale_real
    obtain ⟨a, ha⟩ := sum_real (fun d => rotated X p (queryRow n q) (h.castLE (by decide)) d * rotated X p (keyRow n c) (keyHead h) d) fun d => by
      obtain ⟨x, hx⟩ := rotated_real X p s hX (queryRow n q) (h.castLE (by decide)) d (show h.val < 20 by omega)
      obtain ⟨y, hy⟩ := rotated_real X p s hX (keyRow n c) (keyHead h) d (show 16 + h.val / 4 < 20 by omega)
      exact ⟨x * y, by rw [hx, hy, EReal.coe_mul]⟩
    rw [ha, hσ, ← EReal.coe_mul]
    exact EReal.coe_ne_top _
  · exact bot_ne_top

/-- The sum as it is when the division is a multiplication by the denominator's inverse and the missing rows hold anything. -/
theorem result_eq (X : Rows) (p : Positions) (s : Sinks) (hX : Real X s) (n : Fin 32) (q : Fin 128) (h : Fin 16) (d : Fin 128)
    (v : Fin 256 → EReal) (hv : ∀ c : Fin 256, ¬(c.val < 128 ∧ n.val = 0) → v c = lane X (keyRow n c) (valueHead h) d) :
    ∑ c, Ideal.exp (logit X p n h q c - top (logit X p n h q) (s (ix1 h))) * Ideal.div 1 (total (logit X p n h q) (s (ix1 h))) * v c
      = result X p s n q h d := by
  obtain ⟨σ, hσ⟩ := hX.2 h
  have hl := logit_ne_top X p s hX n h q
  unfold result value
  rw [hσ]
  refine Finset.sum_congr rfl fun c _ => ?_
  rw [weight_eq _ σ hl]
  split
  · next hc =>
    have : logit X p n h q c = ⊥ := if_neg (by unfold sees; omega)
    rw [weight_masked _ σ hl c this, zero_mul, zero_mul]
  · next hc => rw [hv c hc]

end Cert.Attend
-- ==== Proof.AttendKernel.lean ====
module
public import proofs.«01_k».proof.Proof.Gen.AttnFwdIdeal.Frame
public import proofs.«01_k».proof.Proof.Attend

/-! `AttnFwdIdeal`: the array the attention's forward call leaves. -/

@[expose] public section

set_option maxRecDepth 16384

noncomputable section

namespace Cert.AttendKernel

open Idealize.ShloMosaic Idealize.ShloMosaic.TcCoe Idealize.SL.Sem Cert.Attend
open Cert.AttnFwdIdeal Cert.AttnFwdIdeal.Gen

/-! ## The tables the call is given -/

def angles (p : IVec S1x4096 32) : FVec Ideal S4096x16 .f32 :=
  mulf (broadcastInDim S4096x16 ![0, 1] bcast_S4096x1_S4096x16_0_1 (sitofp .f32 (shapeCast S4096x1 p shapeCasts_S1x4096_S4096x1)))
    (broadcastInDim S4096x16 ![0, 1] bcast_S1x16_S4096x16_0_1 (broadcastInDim S1x16 ![1] bcast_S16_S1x16_1
      (Host.powf (broadcastInDim S16 ![] bcast_S_S16 (constant S_ .f32 0x48F42400#32))
        (Host.divf (Host.negf (addf (broadcastInDim S16 ![] bcast_S_S16 (constant S_ .f32 0x00000000#32))
            (mulf (broadcastInDim S16 ![] bcast_S_S16 (constant S_ .f32 0x40000000#32)) (sitofp .f32 (iotaInDim S16 32 0)))))
          (broadcastInDim S16 ![] bcast_S_S16 (constant S_ .f32 0x42000000#32))))))

def cosines (p : IVec S1x4096 32) : FVec Ideal S4096x128 .f32 :=
  concatenate S4096x128 1 [⟨S4096x16, Host.cos (angles p)⟩, ⟨S4096x16, Host.cos (angles p)⟩, ⟨S4096x96, broadcastInDim S4096x96 ![] bcast_S_S4096x96 (constant S_ .f32 0x3F800000#32)⟩] concatenates_S4096x16_S4096x16_S4096x96_S4096x128_d1

def sines (p : IVec S1x4096 32) : FVec Ideal S4096x128 .f32 :=
  concatenate S4096x128 1 [⟨S4096x16, Host.negf (Host.sin (angles p))⟩, ⟨S4096x16, Host.sin (angles p)⟩, ⟨S4096x96, broadcastInDim S4096x96 ![] bcast_S_S4096x96 (constant S_ .f32 0x00000000#32)⟩] concatenates_S4096x16_S4096x16_S4096x96_S4096x128_d1

def sinkTable (s : FVec Ideal S16 .f32) : FVec Ideal S4x8x128 .f32 :=
  pad S4x8x128 ![0, 0, 0] ![0, 4, 0] ![0, 0, 0] (broadcastInDim S4x4x128 ![0, 1, 2] bcast_S4x4x1_S4x4x128_0_1_2 (shapeCast S4x4x1 s shapeCasts_S16_S4x4x1)) (sitofp .f32 (constantI S_ 32 0#32)) pads_S4x4x128_S4x8x128_000_040_000 h_S_

section Tables

variable (m : (ℓ : Loc nD τ sig) → Buf (Elt Ideal) ℓ) (c : Dev nD)

theorem entry_cosines : V m c main_v19 = cosines (m ((c : Thread nD τ).loc main_arg1)) := by
  show StableHlo.after (List.flatten [hostOps0, hostOps0_1]) _ _ = _
  simp only [hostOps0, hostOps0_1, List.flatten_cons, List.flatten_nil, List.append_nil, List.cons_append, List.nil_append]
  after_results_simp <;> (try dsimp only [Matrix.cons_val]) <;> (try after_results_simp) <;> rfl

theorem entry_sines : V m c main_v24 = sines (m ((c : Thread nD τ).loc main_arg1)) := by
  show StableHlo.after (List.flatten [hostOps0, hostOps0_1]) _ _ = _
  simp only [hostOps0, hostOps0_1, List.flatten_cons, List.flatten_nil, List.append_nil, List.cons_append, List.nil_append]
  after_results_simp <;> (try dsimp only [Matrix.cons_val]) <;> (try after_results_simp) <;> rfl

theorem entry_sinks : V m c main_v27 = sinkTable (m ((c : Thread nD τ).loc main_arg2)) := by
  show StableHlo.after (List.flatten [hostOps0, hostOps0_1]) _ _ = _
  simp only [hostOps0, hostOps0_1, List.flatten_cons, List.flatten_nil, List.append_nil, List.cons_append, List.nil_append]
  after_results_simp <;> (try dsimp only [Matrix.cons_val]) <;> (try after_results_simp) <;> rfl

end Tables

theorem angles_at (p : Positions) (t : Fin 4096) (l : Fin 16) : angles p (ix2 t l) = angle p t l := by
  unfold angle
  pointwise [angles]

theorem cosines_at (p : Positions) (t : Fin 4096) (d : Fin 128) : cosines p (ix2 t d) = cosine p t d := by
  unfold cosine
  pointwise [cosines, angles_at]

theorem sines_at (p : Positions) (t : Fin 4096) (d : Fin 128) : sines p (ix2 t d) = sine p t d := by
  unfold sine
  pointwise [sines, angles_at]

theorem sinkTable_at (s : Sinks) (k : Fin 4) (g : Fin 8) (hg : g.val < 4) (d : Fin 128) : sinkTable s (ix3 k g d) = s (ix1 ⟨4 * k + g, by omega⟩) := by
  pointwise [sinkTable]
  rw [dif_pos hg]
  exact congrArg s (congrArg ix1 (Fin.ext (by show _ * 4 + _ = 4 * _ + _; omega)))

/-! ## One point -/

/-- Row `r` of a stack of the four heads' queries: head `r / 128`, query `r % 128`. -/
def stackRow (r : Fin 512) : Fin 128 := ⟨r % 128, by omega⟩

theorem keys_at (x5 x7 x2 x6 x8 x1 : FVec Ideal S128x128 .f32) (c : Fin 256) (d : Fin 128) :
    k0_pay8 (F := Ideal) x5 x7 x2 x6 x8 x1 (ix2 c d)
      = if h : c.val < 128 then spun (fun e => x2 (ix2 ⟨c, h⟩ e)) (fun e => x6 (ix2 ⟨c, h⟩ e)) (fun e => x8 (ix2 ⟨c, h⟩ e)) d
        else spun (fun e => x1 (ix2 ⟨c - 128, by omega⟩ e)) (fun e => x5 (ix2 ⟨c - 128, by omega⟩ e)) (fun e => x7 (ix2 ⟨c - 128, by omega⟩ e)) d := by
  unfold spun
  pointwise [k0_pay8, k0_pay6, k0_pay7]

theorem values_at (x4 x3 : FVec Ideal S128x128 .f32) (c : Fin 256) (d : Fin 128) :
    k0_pay9 (F := Ideal) x4 x3 (ix2 c d) = if h : c.val < 128 then x4 (ix2 ⟨c, h⟩ d) else x3 (ix2 ⟨c - 128, by omega⟩ d) := by
  pointwise [k0_pay9]

theorem queries_at (x5 x7 : FVec Ideal S128x128 .f32) (x0 : FVec Ideal S128x512 .f32) (r : Fin 512) (d : Fin 128) :
    k0_pay12 (F := Ideal) (k0_pay10 x5) (k0_pay11 x7) x0 (ix2 r d)
      = spun (fun e => x0 (ix2 (stackRow r) ⟨r / 128 * 128 + e, by omega⟩)) (fun e => x5 (ix2 (stackRow r) e)) (fun e => x7 (ix2 (stackRow r) e)) d := by
  unfold spun stackRow
  pointwise [k0_pay12, k0_pay10, k0_pay11, k0_pay6, k0_pay7]
  blk_point []

theorem sinks_at (x9 : FVec Ideal S1x8x128 .f32) (r : Fin 512) :
    k0_pay13 (F := Ideal) (View.ld x9 r0_2) (View.ld x9 r0_3) (View.ld x9 r0_4) (View.ld x9 r0_5) (ix2 r 0) = x9 (ix3 0 ⟨r / 128, by omega⟩ 0) := by
  pointwise [k0_pay13]
  blk_point []

theorem divisor : Scalar.select (Scalar.cmpi .eq 128#32 0#32) 1#32 128#32 = 128#32 := by decide

/-- The row the body finds for a query of the stack, a remainder brought to the divisor's sign. -/
theorem row_word (r : Fin 512) :
    Scalar.select (IntOp.andi (IntOp.xori (IntOp.cmpi .slt (IntOp.remsi .vector (BitVec.ofNat 32 r.val) 128#32) 0#32) (Scalar.cmpi .slt 128#32 0#32))
        (IntOp.cmpi .ne (IntOp.remsi .vector (BitVec.ofNat 32 r.val) 128#32) 0#32))
      (IntOp.addi (IntOp.remsi .vector (BitVec.ofNat 32 r.val) 128#32) 128#32) (IntOp.remsi .vector (BitVec.ofNat 32 r.val) 128#32)
      = BitVec.ofNat 32 (stackRow r).val := by
  revert r
  decide +kernel

theorem exists_word (n : Fin 32) (c : Fin 256) :
    IntOp.ori (IntOp.cmpi .sge (BitVec.ofNat 32 c.val) 128#32) (Scalar.cmpi .sgt (BitVec.ofNat 32 n.val) 0#32) = if 128 ≤ c.val ∨ 0 < n.val then 1#1 else 0#1 := by
  revert n c
  decide +kernel

/-- The mask the body computes is `sees`. -/
theorem mask_word (n : Fin 32) (q : Fin 128) (c : Fin 256) (a b : EReal) :
    Scalar.select (IntOp.andi
        (IntOp.andi (IntOp.cmpi .sge (IntOp.subi (IntOp.addi (BitVec.ofNat 32 q.val) 128#32) (BitVec.ofNat 32 c.val)) 0#32)
          (IntOp.cmpi .slt (IntOp.subi (IntOp.addi (BitVec.ofNat 32 q.val) 128#32) (BitVec.ofNat 32 c.val)) 128#32))
        (IntOp.ori (IntOp.cmpi .sge (BitVec.ofNat 32 c.val) 128#32) (Scalar.cmpi .sgt (BitVec.ofNat 32 n.val) 0#32))) a b
      = if sees n q c then a else b := by
  rw [near_word, exists_word]
  by_cases h1 : q.val < c.val ∧ c.val ≤ q.val + 128
  · by_cases h2 : 128 ≤ c.val ∨ 0 < n.val
    · rw [if_pos h1, if_pos h2, if_pos (show sees n q c from ⟨h1.1, h1.2, h2⟩)]; rfl
    · rw [if_pos h1, if_neg h2, if_neg (show ¬sees n q c from fun h => h2 h.2.2)]; rfl
  · by_cases h2 : 128 ≤ c.val ∨ 0 < n.val
    · rw [if_neg h1, if_pos h2, if_neg (show ¬sees n q c from fun h => h1 ⟨h.1, h.2.1⟩)]; rfl
    · rw [if_neg h1, if_neg h2, if_neg (show ¬sees n q c from fun h => h2 h.2.2)]; rfl

theorem masked : Named.named (F := Ideal) (φ := .f32) κ "mask" 0xF149F2CA#32 = (⊥ : EReal) := rfl

/-- The logits of a row of the stack. -/
def logits (n : Fin 32) (k : FVec Ideal S256x128 .bf16) (q : FVec Ideal S512x128 .f32) (r : Fin 512) (c : Fin 256) : EReal :=
  if sees n (stackRow r) c then (∑ d, q (ix2 r d) * k (ix2 c d)) * Ideal.ofBits .f32 0x3DB504F3#32 else ⊥

theorem probs_at (n : Fin 32) (k : FVec Ideal S256x128 .bf16) (q : FVec Ideal S512x128 .f32) (s : FVec Ideal S512x1 .f32) (r : Fin 512) (c : Fin 256) :
    k0_pay16 (F := Ideal) (BitVec.ofNat 32 n.val) k q s (Scalar.select (Scalar.cmpi .eq 128#32 0#32) 1#32 128#32) k0_pay14 k0_pay15 (ix2 r c)
      = Ideal.exp (logits n k q r c - top (logits n k q r) (s (ix2 r 0))) * Ideal.div 1 (total (logits n k q r) (s (ix2 r 0))) := by
  unfold total top logits
  pointwise [k0_pay16, k0_pay14, k0_pay15]
  simp only [divisor, row_word, mask_word, masked]

/-- A head's tile of the product of the weights and the values. -/
theorem tile_at (v : FVec Ideal S256x128 .bf16) (w : FVec Ideal S512x256 .bf16) (a : Fin 128) (d : Fin 128) :
    k0_pay2 (F := Ideal) v w (ix2 a d) = ∑ c, w (ix2 ⟨a, by omega⟩ c) * v (ix2 c d)
    ∧ k0_pay3 (F := Ideal) v w (ix2 a d) = ∑ c, w (ix2 ⟨128 + a, by omega⟩ c) * v (ix2 c d)
    ∧ k0_pay4 (F := Ideal) v w (ix2 a d) = ∑ c, w (ix2 ⟨256 + a, by omega⟩ c) * v (ix2 c d)
    ∧ k0_pay5 (F := Ideal) v w (ix2 a d) = ∑ c, w (ix2 ⟨384 + a, by omega⟩ c) * v (ix2 c d) := by
  refine ⟨?_, ?_, ?_, ?_⟩
  · pointwise [k0_pay2, k0_pay1]
  · pointwise [k0_pay3, k0_pay1]
  · pointwise [k0_pay4, k0_pay1]
  · pointwise [k0_pay5, k0_pay1]

end Cert.AttendKernel

end
-- ==== Proof.AttendPoint.lean ====
module
public import proofs.«01_k».proof.Proof.AttendKernel

/-! `AttnFwdIdeal`: a point of the grid, and the array the whole grid leaves. -/

@[expose] public section

set_option maxRecDepth 16384

noncomputable section

namespace Cert.AttendKernel

open Idealize.ShloMosaic Idealize.ShloMosaic.TcCoe Idealize.SL.Sem Cert.Attend
open Cert.AttnFwdIdeal Cert.AttnFwdIdeal.Gen

section Point

variable (m : (ℓ : Loc nD τ sig) → Buf (Elt Ideal) ℓ) (c : Dev nD)

abbrev rows : Rows := m ((c : Thread nD τ).loc main_arg0)
abbrev positions : Positions := m ((c : Thread nD τ).loc main_arg1)
abbrev sinks : Sinks := m ((c : Thread nD τ).loc main_arg2)

theorem places : ∀ t : Fin cfg0.N, win0_0.index t = ![t.val % 32, t.val / 32] ∧ win0_1.index t = ![t.val % 32, 16 + t.val / 32]
    ∧ win0_2.index t = ![t.val % 32 - 1, 16 + t.val / 32] ∧ win0_3.index t = ![t.val % 32, 20 + t.val / 32] ∧ win0_4.index t = ![t.val % 32 - 1, 20 + t.val / 32]
    ∧ win0_5.index t = ![t.val % 32, 0] ∧ win0_6.index t = ![t.val % 32 - 1, 0] ∧ win0_7.index t = ![t.val % 32, 0] ∧ win0_8.index t = ![t.val % 32 - 1, 0]
    ∧ win0_9.index t = ![t.val / 32, 0, 0] ∧ win0_10.index t = ![t.val % 32, t.val / 32] ∧ (grid0.coords t 1).val = t.val % 32 := (by decide +kernel : ∀ t : Fin grid0.N, _)

theorem whole (x : Vec Ideal S128x128 .f32) : View.ld x r0_0 = x := by
  funext i
  pointwise []

theorem whole_queries (x : Vec Ideal S128x512 .f32) : View.ld x r0_1 = x := by
  funext i
  pointwise []

/-- The point's block of rows. -/
def blockOf (t : Fin cfg0.N) : Fin 32 := ⟨t.val % 32, Nat.mod_lt _ (by decide)⟩

/-- The point's key and value head. -/
def groupOf (t : Fin cfg0.N) : Fin 4 := ⟨t.val / 32, Nat.div_lt_of_lt_mul t.isLt⟩

/-- Row `a` of the block before, of block 0 itself at block 0. -/
def earlierRow (n : Fin 32) (a : Fin 128) : Fin 4096 := ⟨128 * (n.val - 1) + a, by omega⟩

theorem block_queries (t : Fin cfg0.N) (a : Fin 128) (b : Fin 512) :
    iblk m c 0 t (ix2 a b) = rows m c (ix2 (queryRow (blockOf t) a) ⟨512 * (groupOf t).val + b, by omega⟩) := by
  unfold queryRow blockOf groupOf
  blk_point [iblk, V, places t]

theorem block_keys (t : Fin cfg0.N) (a d : Fin 128) :
    iblk m c 1 t (ix2 a d) = lane (rows m c) (queryRow (blockOf t) a) ⟨16 + (groupOf t).val, by omega⟩ d
    ∧ iblk m c 2 t (ix2 a d) = lane (rows m c) (earlierRow (blockOf t) a) ⟨16 + (groupOf t).val, by omega⟩ d := by
  unfold lane queryRow earlierRow blockOf groupOf
  constructor <;> blk_point [iblk, V, places t]

theorem block_values (t : Fin cfg0.N) (a d : Fin 128) :
    iblk m c 3 t (ix2 a d) = lane (rows m c) (queryRow (blockOf t) a) ⟨20 + (groupOf t).val, by omega⟩ d
    ∧ iblk m c 4 t (ix2 a d) = lane (rows m c) (earlierRow (blockOf t) a) ⟨20 + (groupOf t).val, by omega⟩ d := by
  unfold lane queryRow earlierRow blockOf groupOf
  constructor <;> blk_point [iblk, V, places t]

theorem block_cosines (t : Fin cfg0.N) (a d : Fin 128) :
    iblk m c 5 t (ix2 a d) = cosine (positions m c) (queryRow (blockOf t) a) d ∧ iblk m c 6 t (ix2 a d) = cosine (positions m c) (earlierRow (blockOf t) a) d := by
  rw [← cosines_at, ← cosines_at, ← entry_cosines m c]
  unfold queryRow earlierRow blockOf
  constructor <;> blk_point [iblk, places t]

theorem block_sines (t : Fin cfg0.N) (a d : Fin 128) :
    iblk m c 7 t (ix2 a d) = sine (positions m c) (queryRow (blockOf t) a) d ∧ iblk m c 8 t (ix2 a d) = sine (positions m c) (earlierRow (blockOf t) a) d := by
  rw [← sines_at, ← sines_at, ← entry_sines m c]
  unfold queryRow earlierRow blockOf
  constructor <;> blk_point [iblk, places t]

theorem block_sinks (t : Fin cfg0.N) (g : Fin 8) (hg : g.val < 4) :
    iblk m c 9 t (ix3 0 g 0) = sinks m c (ix1 ⟨4 * (groupOf t).val + g, by omega⟩) := by
  rw [← sinkTable_at (sinks m c) _ g hg 0, ← entry_sinks m c]
  unfold groupOf
  blk_point [iblk, places t]

/-- The head the stack's row `r` is of. -/
def headOf (t : Fin cfg0.N) (r : Fin 512) : Fin 16 := ⟨4 * (groupOf t).val + r / 128, by have := (groupOf t).isLt; omega⟩

/-- The keys of a point, where they exist. -/
theorem point_keys (t : Fin cfg0.N) (e : Fin 256) (d : Fin 128) (he : 128 ≤ e.val ∨ 0 < (blockOf t).val) :
    k0_pay8 (F := Ideal) (iblk m c 5 t) (iblk m c 7 t) (iblk m c 2 t) (iblk m c 6 t) (iblk m c 8 t) (iblk m c 1 t) (ix2 e d)
      = rotated (rows m c) (positions m c) (keyRow (blockOf t) e) ⟨16 + (groupOf t).val, by omega⟩ d := by
  rw [keys_at, ← spun_eq]
  split
  · next h =>
    have hr : keyRow (blockOf t) e = earlierRow (blockOf t) ⟨e, h⟩ := Fin.ext (by show _ - 128 = _ * (_ - 1) + _; dsimp only; omega)
    rw [hr]
    congr 1 <;> funext b
    · exact (block_keys m c t _ _).2
    · exact (block_cosines m c t _ _).2
    · exact (block_sines m c t _ _).2
  · next h =>
    have hr : keyRow (blockOf t) e = queryRow (blockOf t) ⟨e - 128, by omega⟩ := Fin.ext (by show _ - 128 = _ + (_ - 128); omega)
    rw [hr]
    congr 1 <;> funext b
    · exact (block_keys m c t _ _).1
    · exact (block_cosines m c t _ _).1
    · exact (block_sines m c t _ _).1

theorem point_queries (t : Fin cfg0.N) (r : Fin 512) (d : Fin 128) :
    k0_pay12 (F := Ideal) (k0_pay10 (iblk m c 5 t)) (k0_pay11 (iblk m c 7 t)) (iblk m c 0 t) (ix2 r d)
      = rotated (rows m c) (positions m c) (queryRow (blockOf t) (stackRow r)) ((headOf t r).castLE (by decide)) d := by
  rw [queries_at, ← spun_eq]
  congr 1 <;> funext b
  · rw [block_queries]
    unfold lane
    exact congrArg (rows m c) (congrArg (ix2 _) (Fin.ext (by show 512 * _ + (_ / 128 * 128 + _) = 128 * (4 * _ + _ / 128) + _; omega)))
  · exact (block_cosines m c t _ _).1
  · exact (block_sines m c t _ _).1

theorem point_values (t : Fin cfg0.N) (e : Fin 256) (d : Fin 128) (r : Fin 512) (he : ¬(e.val < 128 ∧ (blockOf t).val = 0)) :
    k0_pay9 (F := Ideal) (iblk m c 4 t) (iblk m c 3 t) (ix2 e d) = lane (rows m c) (keyRow (blockOf t) e) (valueHead (headOf t r)) d := by
  have hh : valueHead (headOf t r) = ⟨20 + (groupOf t).val, by omega⟩ := Fin.ext (by show 20 + (4 * _ + _ / 128) / 4 = 20 + (groupOf t).val; omega)
  rw [values_at, hh]
  split
  · next h =>
    have hr : keyRow (blockOf t) e = earlierRow (blockOf t) ⟨e, h⟩ := Fin.ext (by show _ - 128 = _ * (_ - 1) + _; dsimp only; omega)
    rw [hr]
    exact (block_values m c t _ _).2
  · next h =>
    have hr : keyRow (blockOf t) e = queryRow (blockOf t) ⟨e - 128, by omega⟩ := Fin.ext (by show _ - 128 = _ + (_ - 128); omega)
    rw [hr]
    exact (block_values m c t _ _).1

theorem point_logits (t : Fin cfg0.N) (r : Fin 512) :
    logits (blockOf t) (k0_pay8 (F := Ideal) (iblk m c 5 t) (iblk m c 7 t) (iblk m c 2 t) (iblk m c 6 t) (iblk m c 8 t) (iblk m c 1 t))
        (k0_pay12 (F := Ideal) (k0_pay10 (iblk m c 5 t)) (k0_pay11 (iblk m c 7 t)) (iblk m c 0 t)) r
      = logit (rows m c) (positions m c) (blockOf t) (headOf t r) (stackRow r) := by
  funext e
  unfold logits logit
  split
  · next h =>
    have hh : keyHead (headOf t r) = ⟨16 + (groupOf t).val, by omega⟩ := Fin.ext (by show 16 + (4 * _ + _ / 128) / 4 = 16 + (groupOf t).val; omega)
    refine congrArg (· * _) (Finset.sum_congr rfl fun d _ => ?_)
    rw [point_queries, point_keys m c t e d h.2.2, hh]
  · rfl

/-- The product of the weights and the values at a point is attention's result. -/
theorem core (hX : Attend.Real (rows m c) (sinks m c)) (t : Fin cfg0.N) (r : Fin 512) (d : Fin 128) :
    ∑ e, k0_pay18 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (ix2 r e)
        * k0_pay17 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (ix2 e d)
      = result (rows m c) (positions m c) (sinks m c) (blockOf t) (stackRow r) (headOf t r) d := by
  rw [← result_eq _ _ _ hX _ _ _ _ (fun e => k0_pay9 (F := Ideal) (iblk m c 4 t) (iblk m c 3 t) (ix2 e d)) fun e he => point_values m c t e d r he]
  refine Finset.sum_congr rfl fun e _ => ?_
  have hn : BitVec.ofNat 32 (grid0.coords t 1).val = BitVec.ofNat 32 (blockOf t).val := congrArg _ (places t).2.2.2.2.2.2.2.2.2.2.2
  unfold k0_pay18 k0_pay17
  simp only [whole, whole_queries]
  rw [hn, probs_at, point_logits, sinks_at, block_sinks m c t _ (by show _ / 128 < 4; omega)]
  rfl

/-- A store of a head's product, read in the stack. -/
theorem piece (w : FVec Ideal S512x256 .bf16) (v : FVec Ideal S256x128 .bf16) (a : Fin 128) (b : Fin 512) (x : S128x128.Idx) (g : ℕ) (f : FVec Ideal S128x128 .bf16)
    (hf : ∀ (a d : Fin 128) (r : Fin 512), r.val = 128 * g + a → f (ix2 a d) = ∑ e, w (ix2 r e) * v (ix2 e d)) (h0 : a.val = (x 0).val) (h1 : b.val = 128 * g + (x 1).val) :
    f x = ∑ e, w (ix2 ⟨128 * (b / 128) + a, by omega⟩ e) * v (ix2 e ⟨b % 128, by omega⟩) := by
  have hx : x = ix2 a ⟨b % 128, by omega⟩ := by
    have h2 := (x 1).isLt
    funext k
    match k with
    | 0 => exact Fin.ext h0.symm
    | 1 => exact Fin.ext (by show (x 1).val = _ % 128; have : (x 1).val < 128 := h2; omega)
  have h2 : (x 1).val < 128 := (x 1).isLt
  exact (congrArg f hx).trans (hf _ _ _ (by show 128 * (_ / 128) + _ = _; omega))

/-- The point's tile of the output: the head of the column, the query of the row. -/
theorem tile (hX : Attend.Real (rows m c) (sinks m c)) (t : Fin cfg0.N) (a : Fin 128) (b : Fin 512) :
    out0_10 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (ix2 a b)
      = result (rows m c) (positions m c) (sinks m c) (blockOf t) a (headOf t ⟨128 * (b / 128) + a, by omega⟩) ⟨b % 128, by omega⟩ := by
  have hq : stackRow ⟨128 * (b / 128) + a, by omega⟩ = a := Fin.ext (by show (128 * (_ / 128) + _) % 128 = _; omega)
  have hc := core m c hX t ⟨128 * (b / 128) + a, by omega⟩ ⟨b % 128, by omega⟩
  rw [hq] at hc
  rw [← hc]
  generalize hw : k0_pay18 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) = w
  generalize hv : k0_pay17 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) = v
  unfold out0_10
  rw [hw, hv]
  canon_tiles x h
  · refine piece w v a b x 3 _ (fun a d r hr => ?_) h0 h1
    rw [(tile_at v w a d).2.2.2, show r = ⟨384 + a, _⟩ from Fin.ext hr]
  · refine piece w v a b x 2 _ (fun a d r hr => ?_) h0 h1
    rw [(tile_at v w a d).2.2.1, show r = ⟨256 + a, _⟩ from Fin.ext hr]
  · refine piece w v a b x 1 _ (fun a d r hr => ?_) h0 h1
    rw [(tile_at v w a d).2.1, show r = ⟨128 + a, _⟩ from Fin.ext hr]
  · refine piece w v a b x 0 _ (fun a d r hr => ?_) h0 (h1.trans (Nat.zero_add _).symm)
    rw [(tile_at v w a d).1, show r = ⟨a, _⟩ from Fin.ext (hr.trans (Nat.zero_add _))]

theorem results_at (A : Rows) (B : Positions) (D : Sinks) (j : (⟨2, ![4096, 2048]⟩ : Shape).Idx) (n : Fin 32) (q : Fin 128) (h : Fin 16) (d : Fin 128)
    (h0 : (j 0).val = 128 * n.val + q) (h1 : (j 1).val = 128 * h.val + d) : results A B D j = result A B D n q h d := by
  unfold results
  congr 1 <;> refine Fin.ext ?_ <;> dsimp only <;> omega

theorem point (hX : Attend.Real (rows m c) (sinks m c)) (t : Fin cfg0.N) (y : S128x512.Idx) :
    out0_10 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) y
      = results (rows m c) (positions m c) (sinks m c) ((win0_10.blk t).view.emb y) := by
  obtain ⟨a, b, rfl⟩ : ∃ (a : Fin 128) (b : Fin 512), y = ix2 a b := ⟨y 0, y 1, by funext k; match k with | 0 => rfl | 1 => rfl⟩
  rw [tile m c hX t a b]
  symm
  apply results_at
  · unfold blockOf
    blk_simp [places t]
    dsimp only
    omega
  · unfold headOf groupOf
    blk_simp [places t]
    dsimp only
    omega

theorem final (hX : Attend.Real (rows m c) (sinks m c)) :
    (dats m 0 c).arrAt 10 cfg0.N = results (rows m c) (positions m c) (sinks m c) := by
  refine (dats m 0 c).arrAt_eq_of_covers 10 _ (by decide +kernel) fun t hf y => ?_
  blk_simp
  rw [after0_10]
  exact point m c hX t y

end Point

end Cert.AttendKernel

end
-- ==== Proof.AttendReference.lean ====
module
public import proofs.«01_k».proof.Proof.Gen.AttnFwdRefIdeal.Run
public import proofs.«01_k».proof.Proof.Gen.AttnFwdRefIdeal.Read
public import proofs.«01_k».proof.Proof.Attend

/-! `AttnFwdRefIdeal`: the reference's attention, stage by stage, is attention's result array. -/

@[expose] public section

set_option maxRecDepth 16384

noncomputable section

namespace Cert.AttendReference

open Idealize.ShloMosaic Idealize.ShloMosaic.TcCoe Idealize.SL.Sem Cert.Attend
open Cert.AttnFwdRefIdeal Cert.AttnFwdRefIdeal.Value Cert.AttnFwdRefIdeal.Gen Cert.AttnFwdRefIdeal.Read

variable (X : Rows) (p : Positions) (s : Sinks)

theorem cosines_at (t : Fin 4096) (l : Fin 16) : val_main_v22 (F := Ideal) p (ix3 0 t l) = Ideal.cos (angle p t l) := by
  unfold angle
  pointwise [val_main_v22, val_main_v21, val_main_v20, val_main_v19, val_main_v18, val_main_v17, val_main_v16, val_main_v15, val_main_v14, val_main_cst_2, val_main_v13, val_main_v12, val_main_cst_1, val_main_v11, val_main_v10, val_main_v9, val_main_cst_0, val_main_v8, val_main_v7, val_main_cst, val_main_v6]

theorem sines_at (t : Fin 4096) (l : Fin 16) : val_main_v24 (F := Ideal) p (ix3 0 t l) = Ideal.sin (angle p t l) := by
  unfold angle
  pointwise [val_main_v24, val_main_v21, val_main_v20, val_main_v19, val_main_v18, val_main_v17, val_main_v16, val_main_v15, val_main_v14, val_main_cst_2, val_main_v13, val_main_v12, val_main_cst_1, val_main_v11, val_main_v10, val_main_v9, val_main_cst_0, val_main_v8, val_main_v7, val_main_cst, val_main_v6]

/-- The three runs of lanes the reference joins, at a lane. -/
theorem ladder (x : Fin 128 → EReal) (C S : Fin 16 → EReal) (d : Fin 128) :
    (if h1 : d.val < 16 then x d * C ⟨d, h1⟩ - x ⟨16 + d, by omega⟩ * S ⟨d, h1⟩
      else if h2 : d.val - 16 < 16 then x ⟨16 + (d - 16), by omega⟩ * C ⟨d - 16, h2⟩ + x ⟨d - 16, by omega⟩ * S ⟨d - 16, h2⟩
      else x ⟨32 + (d - 16 - 16), by omega⟩)
    = if h1 : d.val < 16 then x d * C ⟨d, h1⟩ - x ⟨d + 16, by omega⟩ * S ⟨d, h1⟩
      else if h2 : d.val - 16 < 16 then x d * C ⟨d - 16, h2⟩ + x ⟨d - 16, by omega⟩ * S ⟨d - 16, h2⟩
      else x d := by
  split
  · simp only [Nat.add_comm 16]
  split
  · rw [show (⟨16 + (d.val - 16), by omega⟩ : Fin 128) = d from Fin.ext (by show 16 + (d.val - 16) = d.val; omega)]
  · rw [show (⟨32 + (d.val - 16 - 16), by omega⟩ : Fin 128) = d from Fin.ext (by show 32 + (d.val - 16 - 16) = d.val; omega)]

theorem query_lane (t : Fin 4096) (h : Fin 16) (d : Fin 128) : val_main_v26 (F := Ideal) X (ix4 0 t h d) = lane X t (h.castLE (by decide)) d := by
  unfold lane
  pointwise [val_main_v26, val_main_v1, val_main_v0]
  exact congrArg X (congrArg (ix2 t) (Fin.ext (by show h.val * 128 + _ = 128 * h.val + _; omega)))

theorem query_rotated (t : Fin 4096) (h : Fin 16) (d : Fin 128) : val_main_v40 (F := Ideal) X p (ix4 0 t h d) = rotated X p t (h.castLE (by decide)) d := by
  unfold rotated
  pointwise [val_main_v40, val_main_v39, val_main_v38, val_main_v37, val_main_v36, val_main_v35, val_main_v34, val_main_v33, val_main_v32, val_main_v31, val_main_v30, val_main_v29, val_main_v28, val_main_v27, val_main_v25, val_main_v23, cosines_at, sines_at, query_lane]
  exact ladder (lane X t (h.castLE (by decide))) (fun l => Ideal.cos (angle p t l)) (fun l => Ideal.sin (angle p t l)) d

theorem key_lane (t : Fin 4096) (h : Fin 4) (d : Fin 128) : val_main_v41 (F := Ideal) X (ix4 0 t h d) = lane X t ⟨16 + h, by omega⟩ d := by
  unfold lane
  pointwise [val_main_v41, val_main_v3, val_main_v2]
  exact congrArg X (congrArg (ix2 t) (Fin.ext (by show 2048 + (h.val * 128 + _) = 128 * (16 + h.val) + _; omega)))

theorem key_rotated (t : Fin 4096) (h : Fin 4) (d : Fin 128) : val_main_v55 (F := Ideal) X p (ix4 0 t h d) = rotated X p t ⟨16 + h, by omega⟩ d := by
  unfold rotated
  pointwise [val_main_v55, val_main_v54, val_main_v53, val_main_v52, val_main_v51, val_main_v50, val_main_v49, val_main_v48, val_main_v47, val_main_v46, val_main_v45, val_main_v44, val_main_v43, val_main_v42, val_main_v25, val_main_v23, cosines_at, sines_at, key_lane]
  exact ladder (lane X t ⟨16 + h, by omega⟩) (fun l => Ideal.cos (angle p t l)) (fun l => Ideal.sin (angle p t l)) d

theorem value_lane (t : Fin 4096) (h : Fin 4) (d : Fin 128) : val_main_v56 (F := Ideal) X (ix4 0 t h d) = lane X t ⟨20 + h, by omega⟩ d := by
  unfold lane
  pointwise [val_main_v56, val_main_v5, val_main_v4]
  exact congrArg X (congrArg (ix2 t) (Fin.ext (by show 2560 + (h.val * 128 + _) = 128 * (20 + h.val) + _; omega)))

/-- The query head of a group's query. -/
def headAt (k g : Fin 4) : Fin 16 := ⟨4 * k + g, by omega⟩

theorem query_block (n : Fin 32) (q : Fin 128) (k g : Fin 4) (d : Fin 128) :
    val_main_v58 (F := Ideal) X p (ix6 n 0 q k g d) = rotated X p (queryRow n q) ((headAt k g).castLE (by decide)) d := by
  pointwise [val_main_v58, val_main_v57, query_rotated]
  have e1 : (⟨n.val * 128 + q.val, by omega⟩ : Fin 4096) = queryRow n q := Fin.ext (by show n.val * 128 + _ = 128 * n.val + _; omega)
  have e2 : (⟨k.val * 4 + g.val, by omega⟩ : Fin 16) = headAt k g := Fin.ext (by show k.val * 4 + _ = 4 * k.val + _; omega)
  rw [e1, e2]

/-- A block's own rows after those of the block before, zeros before the first. -/
theorem band (f : Fin 4096 → EReal) (n : Fin 32) (e : Fin 256) :
    (if h : e.val < 128 then if h : n.val < 1 then 0 else f ⟨(n - 1) * 128 + e, by omega⟩ else f ⟨n * 128 + (e - 128), by omega⟩)
      = if e.val < 128 ∧ n.val = 0 then 0 else f (keyRow n e) := by
  unfold keyRow
  split
  · split
    · rw [if_pos (by omega)]
    · rw [if_neg (by omega)]
      exact congrArg f (Fin.ext (by show (n.val - 1) * 128 + e.val = 128 * n.val + e.val - 128; omega))
  · rw [if_neg (by omega)]
    exact congrArg f (Fin.ext (by show n.val * 128 + (e.val - 128) = 128 * n.val + e.val - 128; omega))

theorem key_band (n : Fin 32) (e : Fin 256) (k : Fin 4) (d : Fin 128) :
    val_main_v65 (F := Ideal) X p (ix5 n 0 e k d) = if e.val < 128 ∧ n.val = 0 then 0 else rotated X p (keyRow n e) ⟨16 + k, by omega⟩ d := by
  pointwise [val_main_v65, val_main_v64, val_main_v63, val_main_v62, val_main_v61, val_main_v60, val_main_v59, val_main_cst_3, key_rotated]
  exact band (fun t => rotated X p t ⟨16 + k, by omega⟩ d) n e

theorem value_band (n : Fin 32) (e : Fin 256) (k : Fin 4) (d : Fin 128) :
    val_main_v72 (F := Ideal) X (ix5 n 0 e k d) = if e.val < 128 ∧ n.val = 0 then 0 else lane X (keyRow n e) ⟨20 + k, by omega⟩ d := by
  pointwise [val_main_v72, val_main_v71, val_main_v70, val_main_v69, val_main_v68, val_main_v67, val_main_v66, val_main_cst_4, value_lane]
  exact band (fun t => lane X t ⟨20 + k, by omega⟩ d) n e

theorem exists_word (n : Fin 32) (e : Fin 256) :
    IntOp.cmpi .sge (IntOp.addi (IntOp.subi (IntOp.muli (BitVec.ofNat 32 n.val) 128#32) 128#32) (BitVec.ofNat 32 e.val)) 0#32 = if 128 ≤ e.val ∨ 0 < n.val then 1#1 else 0#1 := by
  revert n e
  decide +kernel

theorem mask_at (n : Fin 32) (k g : Fin 4) (q : Fin 128) (e : Fin 256) : val_main_v109 (F := Ideal) (ix6 n 0 k g q e) = if sees n q e then 1#1 else 0#1 := by
  pointwise [val_main_v109, val_main_v108, val_main_v107, val_main_v106, val_main_v105, val_main_v104, val_main_v103, val_main_c_10, val_main_v102, val_main_v101, val_main_v100, val_main_v99, val_main_v98, val_main_v97, val_main_v96, val_main_c_9, val_main_v95, val_main_v94, val_main_c_8, val_main_v89, val_main_v86, val_main_v85, val_main_v84, val_main_c_6, val_main_v83, val_main_v82, val_main_c_5, val_main_v81, val_main_v80, val_main_v79, val_main_v78, val_main_v77, val_main_c, val_main_v76, val_main_v75, val_main_v74, val_main_v73]
  rw [near_word, exists_word]
  by_cases h1 : q.val < e.val ∧ e.val ≤ q.val + 128
  · by_cases h2 : 128 ≤ e.val ∨ 0 < n.val
    · rw [if_pos h1, if_pos h2, if_pos (show sees n q e from ⟨h1.1, h1.2, h2⟩)]; rfl
    · rw [if_pos h1, if_neg h2, if_neg (show ¬sees n q e from fun h => h2 h.2.2)]; rfl
  · by_cases h2 : 128 ≤ e.val ∨ 0 < n.val
    · rw [if_neg h1, if_pos h2, if_neg (show ¬sees n q e from fun h => h1 ⟨h.1, h.2.1⟩)]; rfl
    · rw [if_neg h1, if_neg h2, if_neg (show ¬sees n q e from fun h => h2 h.2.2)]; rfl

theorem product_at (n : Fin 32) (k g : Fin 4) (q : Fin 128) (e : Fin 256) :
    val_main_v90 (F := Ideal) X p (ix6 n 0 k e q g) = ∑ d, (if e.val < 128 ∧ n.val = 0 then 0 else rotated X p (keyRow n e) ⟨16 + k, by omega⟩ d) * rotated X p (queryRow n q) ((headAt k g).castLE (by decide)) d := by
  rw [val_main_v90_apply]
  refine Finset.sum_congr rfl fun d _ => ?_
  have e1 : lidx_main_v90 (ix6 n 0 k e q g) d = ix5 n 0 e k d := by
    funext a
    match a with | 0 => rfl | 1 => rfl | 2 => rfl | 3 => rfl | 4 => rfl
  have e2 : ridx_main_v90 (ix6 n 0 k e q g) d = ix6 n 0 q k g d := by
    funext a
    match a with | 0 => rfl | 1 => rfl | 2 => rfl | 3 => rfl | 4 => rfl | 5 => rfl
  rw [e1, e2, key_band, query_block]

theorem logit_at (n : Fin 32) (k g : Fin 4) (q : Fin 128) (e : Fin 256) :
    val_main_v112 (F := Ideal) X p (ix6 n 0 k g q e) = logit X p n (headAt k g) q e := by
  unfold logit
  pointwise [val_main_v112, val_main_v111, val_main_v110, val_main_cst_11, val_main_v93, val_main_v92, val_main_cst_7, val_main_v91, mask_at, product_at]
  have hk : keyHead (headAt k g) = ⟨16 + k, by omega⟩ := Fin.ext (by show 16 + (4 * k.val + g.val) / 4 = 16 + k.val; omega)
  rw [hk]
  split
  · next h =>
    have h2 := h.2.2
    show _ * _ = _
    refine congrArg (· * _) (Finset.sum_congr rfl fun d _ => ?_)
    rw [if_neg (by omega), mul_comm]
  · exact lowest

theorem fold_at (f : FVec Ideal S32x1x4x4x128x256 .f32) (b : FVec Ideal S_ .f32) (n : Fin 32) (k g : Fin 4) (q : Fin 128) :
    Host.reduce (FloatOps.maximumf (F := Ideal)) f b reducesTo_S32x1x4x4x128x256_S32x1x4x4x128_d5 h_S_ (ix5 n 0 k g q)
      = Finset.univ.fold max (b (Shape.Idx.first h_S_)) fun e => f (ix6 n 0 k g q e) := by
  rw [Host.reduce_eq_fold]
  refine Finset.fold_filter_eq_fold_of_fiber max _ (fun e : Fin 256 => (ix6 n 0 k g q e : S32x1x4x4x128x256.Idx)) (fun _ _ e => congrFun e 5) (fun i => ⟨fun e => ⟨i 5, ?_⟩, ?_⟩) _ f
  · funext a
    apply Fin.ext
    match a with
    | 0 => exact (congrArg Fin.val (congrFun e 0)).symm
    | 1 => exact (congrArg Fin.val (congrFun e 1)).symm
    | 2 => exact (congrArg Fin.val (congrFun e 2)).symm
    | 3 => exact (congrArg Fin.val (congrFun e 3)).symm
    | 4 => exact (congrArg Fin.val (congrFun e 4)).symm
    | 5 => rfl
  · rintro ⟨e, rfl⟩
    funext a
    apply Fin.ext
    match a with
    | 0 => rfl
    | 1 => rfl
    | 2 => rfl
    | 3 => rfl
    | 4 => rfl

theorem largest_at (n : Fin 32) (k g : Fin 4) (q : Fin 128) :
    val_main_v113 (F := Ideal) X p (ix5 n 0 k g q) = Finset.univ.fold max (Ideal.ofBits .f32 0xFF800000#32) (logit X p n (headAt k g) q) := by
  unfold val_main_v113
  rw [fold_at]
  exact congrArg (Finset.univ.fold max _) (funext fun e => logit_at X p n k g q e)

theorem sink_at (n : Fin 32) (k g : Fin 4) (q : Fin 128) : val_main_v116 (F := Ideal) s (ix6 n 0 k g q 0) = s (ix1 (headAt k g)) := by
  have h2 : s (ix1 ⟨k.val * 4 + g.val, by omega⟩) = s (ix1 (headAt k g)) := congrArg s (congrArg ix1 (Fin.ext (by show k.val * 4 + _ = 4 * k.val + _; omega)))
  pointwise [val_main_v116, val_main_v115, val_main_v88, val_main_v87, h2]

theorem column_at (n : Fin 32) (k g : Fin 4) (q : Fin 128) : val_main_v114 (F := Ideal) X p (ix6 n 0 k g q 0) = val_main_v113 (F := Ideal) X p (ix5 n 0 k g q) := by
  unfold val_main_v114
  generalize val_main_v113 (F := Ideal) X p = A
  pointwise []

theorem larger_at (n : Fin 32) (k g : Fin 4) (q : Fin 128) :
    val_main_v117 (F := Ideal) X p s (ix6 n 0 k g q 0) = max (val_main_v113 (F := Ideal) X p (ix5 n 0 k g q)) (s (ix1 (headAt k g))) := by
  rw [val_main_v117_apply, sink_at, column_at, Ideal.maximumf_eq_max]

theorem top_at (n : Fin 32) (k g : Fin 4) (q : Fin 128) :
    val_main_v117 (F := Ideal) X p s (ix6 n 0 k g q 0) = top (logit X p n (headAt k g) q) (s (ix1 (headAt k g))) := by
  rw [larger_at, largest_at, top]

theorem power_at (n : Fin 32) (k g : Fin 4) (q : Fin 128) (e : Fin 256) :
    val_main_v120 (F := Ideal) X p s (ix6 n 0 k g q e) = Ideal.exp (logit X p n (headAt k g) q e - top (logit X p n (headAt k g) q) (s (ix1 (headAt k g)))) := by
  pointwise [val_main_v120, val_main_v119, val_main_v118, top_at, logit_at]

theorem total_at (n : Fin 32) (k g : Fin 4) (q : Fin 128) :
    val_main_v127 (F := Ideal) X p s (ix6 n 0 k g q 0) = total (logit X p n (headAt k g) q) (s (ix1 (headAt k g))) := by
  unfold total
  have h1 : val_main_v121 (F := Ideal) X p s (ix5 n 0 k g q) = ∑ e, Ideal.exp (logit X p n (headAt k g) q e - top (logit X p n (headAt k g) q) (s (ix1 (headAt k g)))) := by
    rw [val_main_v121_apply]
    refine Eq.trans (congrArg₂ (· + ·) (show _ = (0 : EReal) from ?_) (Finset.sum_congr rfl fun e _ => ?_)) (zero_add _)
    · pointwise [val_main_cst_13]
    · rw [← power_at]
      exact congrArg _ (funext fun a => match a with | 0 => rfl | 1 => rfl | 2 => rfl | 3 => rfl | 4 => rfl | 5 => rfl)
  have h2 : s (ix1 ⟨k.val * 4 + g.val, by omega⟩) = s (ix1 (headAt k g)) := congrArg s (congrArg ix1 (Fin.ext (by show k.val * 4 + _ = 4 * k.val + _; omega)))
  pointwise [val_main_v127, val_main_v126, val_main_v125, val_main_v124, val_main_v123, val_main_v122, val_main_v88, val_main_v87, h1, h2, top_at]

theorem weight_at (n : Fin 32) (k g : Fin 4) (q : Fin 128) (e : Fin 256) :
    val_main_v129 (F := Ideal) X p s (ix6 n 0 k g q e) = weight (logit X p n (headAt k g) q) (s (ix1 (headAt k g))) e := by
  unfold weight
  pointwise [val_main_v129, val_main_v128, power_at, total_at]

theorem result_at (n : Fin 32) (k g : Fin 4) (q d : Fin 128) :
    val_main_v130 (F := Ideal) X p s (ix6 n 0 k d g q) = result X p s n q (headAt k g) d := by
  rw [val_main_v130_apply]
  unfold result value
  refine Finset.sum_congr rfl fun e _ => ?_
  have e1 : lidx_main_v130 (ix6 n 0 k d g q) e = ix5 n 0 e k d := by
    funext a
    match a with | 0 => rfl | 1 => rfl | 2 => rfl | 3 => rfl | 4 => rfl
  have e2 : ridx_main_v130 (ix6 n 0 k d g q) e = ix6 n 0 k g q e := by
    funext a
    match a with | 0 => rfl | 1 => rfl | 2 => rfl | 3 => rfl | 4 => rfl | 5 => rfl
  have hk : valueHead (headAt k g) = ⟨20 + k, by omega⟩ := Fin.ext (by show 20 + (4 * k.val + g.val) / 4 = 20 + k.val; omega)
  rw [e1, e2, value_band, weight_at, mul_comm, hk]

theorem reference : val_main_v135 (F := Ideal) X p s = results X p s := by
  funext j
  unfold results
  pointwise [val_main_v135, val_main_v134, val_main_v133, val_main_v132, val_main_v131, result_at]
  have hj := (j 1).isLt
  have e1 : headAt ⟨(j 1).val / 512, Nat.div_lt_of_lt_mul hj⟩ ⟨(j 1).val / 128 % 4, Nat.mod_lt _ (by decide)⟩ = ⟨(j 1).val / 128, Nat.div_lt_of_lt_mul hj⟩ :=
    Fin.ext (by show 4 * (_ / 512) + _ / 128 % 4 = _ / 128; omega)
  rw [e1]

end Cert.AttendReference

end
-- ==== Proof.AttendClaims.lean ====
module
public import proofs.«01_k».proof.Defs
public import proofs.«01_k».proof.Proof.AttendPoint
public import proofs.«01_k».proof.Proof.AttendReference
public import proofs.«01_k».proof.Proof.Gen.AttnFwd.Frame
public import Idealize.ShloMosaic.Lib.ReduceAll
public import Idealize.ShloMosaic.Lib.Quiescent

/-! The claims of `AttnFwd`: the kernel's attention is the reference's, from rows whose queries and keys are
    real numbers and sinks that are; and the frames. -/

@[expose] public section

set_option maxRecDepth 16384

noncomputable section

namespace Cert.AttendClaims

open Idealize.ShloMosaic Idealize.ShloMosaic.TcCoe Idealize.SL.Sem Cert.Attend

/-- What the precondition's program states of shapes. -/
theorem facts : Cert.Pre_finite_queries.Facts where
  slices_S4096x15360_S4096x2560_0_0 := by decide
  bcast_S_S4096x2560 := by decide
  reducesTo_S4096x2560_S_d0_1 := by decide
  h_S_ := by decide
  bcast_S_S16 := by decide
  reducesTo_S16_S_d0 := by decide

/-- The word of +∞ reads as +∞. -/
theorem infinite : Ideal.ofBits .f32 0x7F800000#32 = ⊤ := by
  simp [Ideal.ofBits, Ideal.ieee]

/-- A number whose absolute value is below +∞ is real. -/
theorem real_of_abs (x : EReal) (h : max x (-x) < ⊤) : ∃ r : ℝ, x = r := by
  have h1 : x ≠ ⊤ := ((le_max_left _ _).trans_lt h).ne
  have h2 : x ≠ ⊥ := fun e => absurd ((le_max_right _ _).trans_lt h) (by rw [e]; simp)
  exact ⟨x.toReal, (EReal.coe_toReal h1 h2).symm⟩

/-- The comparison with +∞, where it comes out true. -/
theorem below (x : EReal) (h : Ideal.cmp .olt (max x (-x)) (Ideal.ofBits .f32 0x7F800000#32) = 1#1) : max x (-x) < ⊤ := by
  rw [infinite] at h
  by_contra hx
  have : Ideal.cmp .olt (max x (-x)) ⊤ = BitVec.ofBool (decide (max x (-x) < ⊤)) := rfl
  rw [this, decide_eq_false hx] at h
  exact absurd h (by decide)

open Cert.Pre_finite_queries in
/-- The precondition says the queries, the keys and the sinks are real numbers. -/
theorem real [Cert.Pre_finite_queries.Facts] (X : Rows) (p : Positions) (s : Sinks)
    (h : Cert.Pre_finite_queries.fn (F := Ideal) X p s = fun _ => 1#1) : Attend.Real X s := by
  have hs : Subsingleton S_.Idx := ⟨fun a b => funext fun k => k.elim0⟩
  have h0 := congrFun h (fun k => k.elim0)
  obtain ⟨h1, h2⟩ := IntOp.andi_eq_one.1 h0
  constructor
  · intro t n d hn
    refine real_of_abs _ (below _ ?_)
    have e : extractStridedSlice S4096x2560 ![0, 0] X Facts.slices_S4096x15360_S4096x2560_0_0 (ix2 t ⟨128 * n + d, by omega⟩) = lane X t n d := by
      unfold lane
      pointwise []
    rw [← e]
    exact Host.reduce_andi_all _ _ _ _ _ h1 (ix2 t ⟨128 * n + d, by omega⟩)
  · intro n
    exact real_of_abs _ (below _ (Host.reduce_andi_all _ _ _ _ _ h2 (ix1 n)))

open Cert.AttnFwdIdeal Cert.AttnFwdIdeal.Gen in
theorem algebraic [Cert.Pre_finite_queries.Facts] : Cert.algebraic_AttnFwdIdeal_AttnFwdRefIdeal_pre_finite_queries := by
  intro m g m' g' hpre hargs
  refine ⟨fun c => results (m ((c : Thread nD τ).loc main_arg0)) (m ((c : Thread nD τ).loc main_arg1)) (m ((c : Thread nD τ).loc main_arg2)), ?_, ?_⟩
  · refine (θ_run defs _ _).mono (fun r h c => ⟨((h c).1 10).trans (AttendKernel.final m c (real _ _ _ (hpre c))), ?_, ?_, ?_⟩) (run_main m g)
    · exact ((h c).1 4).trans (((dats m 0 c).arrAt_in 4 rfl _).trans ((A_eq m c 4).trans (V_main_arg0 m c)))
    · exact ((h c).2 main_arg1 (Pipeline.mem_restRefs_of main_arg1 (by decide) (by decide))).trans (V_main_arg1 m c)
    · exact ((h c).2 main_arg2 (Pipeline.mem_restRefs_of main_arg2 (by decide) (by decide))).trans (V_main_arg2 m c)
  · refine (θ_run Cert.AttnFwdRefIdeal.defs _ _).mono (fun r h c => ⟨((h c).1.trans
      (Cert.AttnFwdRefIdeal.Read.val_main_v135_eq (fun b => m' (c, b)))).trans ?_, (h c).2⟩)
      (Cert.AttnFwdRefIdeal.Value.run (F := Ideal) m' g')
    refine (AttendReference.reference _ _ _).trans ?_
    exact congr (congr (congrArg results (hargs c).1) (hargs c).2.1) (hargs c).2.2

theorem frame : Cert.quiescent_AttnFwd := fun m ρ _ => Cert.AttnFwd.Gen.frame m ρ

theorem frame_ideal : Cert.quiescent_AttnFwdIdeal := fun m ρ _ => Cert.AttnFwdIdeal.Gen.frame m ρ

theorem frame_ideal_finite [Cert.Pre_finite_queries.Facts] : Cert.quiescent_AttnFwdIdeal_pre_finite_queries :=
  fun m ρ _ => Cert.AttnFwdIdeal.Gen.frame m ρ

theorem frame_reference : Cert.quiescent_AttnFwdRefIdeal := fun m ρ _ =>
  (θ_run Cert.AttnFwdRefIdeal.defs _ _).mono (fun r h => ⟨fun c => (h c).2,
      Idealize.ShloMosaic.sem_eq_zero_of_no_sems (by decide) r.2⟩)
    (Cert.AttnFwdRefIdeal.Value.run (F := Ideal) m ρ)

theorem frame_reference_finite [Cert.Pre_finite_queries.Facts] : Cert.quiescent_AttnFwdRefIdeal_pre_finite_queries :=
  fun m ρ _ => frame_reference m ρ trivial

theorem preserves : Cert.preserves_AttnFwd_AttnFwdIdeal :=
  IdealRules.named_const.statement Cert.AttnFwdIdeal.κ "mask" .f32 0xF149F2CA#32 ⊥ rfl

end Cert.AttendClaims

end
-- ==== Proof.Norm.lean ====
module
public import Idealize.ShloMosaic.Lib.Pointwise
public import Idealize.ShloMosaic.Lib.Pipeline.ValueKit

/-! The norm by the root of the mean square, of one row of 2048 numbers, and its gradient. The infinities are numbers
here: a row that holds one is scaled by zero, and both ways to the gradient give zero. -/

@[expose] public section

noncomputable section

namespace Cert.Norm

open Idealize.ShloMosaic

/-- The row's length and the number added to its mean square, as the words that both programs print. -/
abbrev length : EReal := Ideal.ofBits .f32 0x45000000#32
abbrev small : EReal := Ideal.ofBits .f32 0x358637BD#32

theorem length_eq : length = ((2048 : ℝ) : EReal) := by
  simp [Ideal.ofBits, Ideal.ieee]
  rw [← EReal.coe_mul]
  norm_num

theorem small_eq : ∃ e : ℝ, 0 < e ∧ small = e := by
  refine ⟨_, ?_, by simp [Ideal.ofBits, Ideal.ieee]; rfl⟩
  positivity

/-- The mean square, moved off zero. -/
def square (x : Fin 2048 → EReal) : EReal := Ideal.div (∑ j, x j * x j) length + small

/-- The number a row is scaled by. -/
def scale (x : Fin 2048 → EReal) : EReal := Ideal.rsqrt (square x)

def normed (x : Fin 2048 → EReal) (i : Fin 2048) : EReal := x i * scale x

/-- The gradient in the row, `g` being the gradient of the scaled row. -/
def grad (x g : Fin 2048 → EReal) (i : Fin 2048) : EReal :=
  scale x * (g i - normed x i * Ideal.div (∑ j, g j * normed x j) length)

/-- The part of the gradient that comes through the mean square, twice over each element. -/
def through (x g : Fin 2048 → EReal) : EReal :=
  Ideal.div ((∑ j, x j * g j) * (Ideal.ofBits .f32 0xBF000000#32 * Ideal.div (scale x) (square x))) length

theorem half_eq : Ideal.ofBits .f32 0xBF000000#32 = ((-(1 / 2) : ℝ) : EReal) := by
  simp [Ideal.ofBits, Ideal.ieee]
  rw [← EReal.coe_mul]
  norm_num

theorem mul_add_real (r : ℝ) (hr : 0 < r) (a b : EReal) : (r : EReal) * (a + b) = r * a + r * b := by
  induction a using EReal.rec with
  | bot => simp [EReal.coe_mul_bot_of_pos hr]
  | top =>
    induction b using EReal.rec with
    | bot => simp [EReal.coe_mul_bot_of_pos hr]
    | top => simp [EReal.coe_mul_top_of_pos hr]
    | coe b => rw [EReal.top_add_coe, EReal.coe_mul_top_of_pos hr, ← EReal.coe_mul, EReal.top_add_coe]
  | coe a =>
    induction b using EReal.rec with
    | bot => simp [EReal.coe_mul_bot_of_pos hr]
    | top => rw [EReal.coe_add_top, EReal.coe_mul_top_of_pos hr, ← EReal.coe_mul, EReal.coe_add_top]
    | coe b => norm_cast; ring

theorem mul_sum_real (r : ℝ) (hr : 0 < r) (f : Fin 2048 → EReal) : (r : EReal) * ∑ j, f j = ∑ j, r * f j := by
  refine Finset.induction_on (Finset.univ : Finset (Fin 2048)) (by simp) fun a s ha ih => ?_
  rw [Finset.sum_insert ha, Finset.sum_insert ha, mul_add_real r hr, ih]

theorem sum_coe (f : Fin 2048 → ℝ) : ∑ j, (f j : EReal) = ((∑ j, f j : ℝ) : EReal) := by
  refine Finset.induction_on (Finset.univ : Finset (Fin 2048)) (by simp) fun a s ha ih => ?_
  rw [Finset.sum_insert ha, Finset.sum_insert ha, EReal.coe_add, ih]

/-- A real multiple taken twice is the double multiple. -/
theorem twice (a : ℝ) (G : EReal) : (a : EReal) * G + a * G = ((a + a : ℝ) : EReal) * G := by
  induction G using EReal.rec with
  | bot =>
    rcases lt_trichotomy a 0 with h | h | h
    · rw [EReal.coe_mul_bot_of_neg h, EReal.coe_mul_bot_of_neg (by linarith)]; rfl
    · simp [h]
    · rw [EReal.coe_mul_bot_of_pos h, EReal.coe_mul_bot_of_pos (by linarith)]; rfl
  | top =>
    rcases lt_trichotomy a 0 with h | h | h
    · rw [EReal.coe_mul_top_of_neg h, EReal.coe_mul_top_of_neg (by linarith)]; rfl
    · simp [h]
    · rw [EReal.coe_mul_top_of_pos h, EReal.coe_mul_top_of_pos (by linarith)]; rfl
  | coe g => norm_cast; ring

theorem sq_nonneg (x : EReal) : 0 ≤ x * x := by
  induction x using EReal.rec with
  | bot => simp
  | top => simp
  | coe r => exact_mod_cast mul_self_nonneg r

/-- A row of real numbers has a positive real mean square. -/
theorem square_real (x : Fin 2048 → EReal) (h : ∀ j, ∃ r : ℝ, x j = r) : ∃ v : ℝ, 0 < v ∧ square x = v := by
  choose y hy using h
  obtain ⟨e, he, hs⟩ := small_eq
  refine ⟨(∑ j, y j * y j) * (1 / 2048) + e,
    add_pos_of_nonneg_of_pos (mul_nonneg (Finset.sum_nonneg fun j _ => mul_self_nonneg _) (by norm_num)) he, ?_⟩
  unfold square
  rw [length_eq, Ideal.div_coe (by norm_num), hs]
  simp only [hy, ← EReal.coe_mul]
  rw [sum_coe, ← EReal.coe_mul, ← EReal.coe_add]

/-- A row with an infinity has mean square +∞. -/
theorem square_top (x : Fin 2048 → EReal) (h : ¬∀ j, ∃ r : ℝ, x j = r) : square x = ⊤ := by
  push Not at h
  obtain ⟨j, hj⟩ := h
  have hx : x j * x j = ⊤ := by
    generalize x j = y at hj ⊢
    induction y using EReal.rec with
    | bot => rfl
    | top => rfl
    | coe r => exact absurd rfl (hj r)
  have hs : ∑ j, x j * x j = ⊤ := top_le_iff.1 (hx ▸ Finset.single_le_sum (f := fun j => x j * x j) (fun i _ => sq_nonneg (x i)) (Finset.mem_univ j))
  obtain ⟨e, he, hs'⟩ := small_eq
  unfold square
  rw [hs, length_eq, Ideal.div_coe (by norm_num), EReal.top_mul_coe_of_pos (by norm_num), hs', EReal.top_add_coe]

/-- The gradient found by going through the mean square is the one found in closed form. -/
theorem grad_eq (x g : Fin 2048 → EReal) (i : Fin 2048) :
    g i * scale x + (x i * through x g + through x g * x i) = grad x g i := by
  unfold grad through normed
  by_cases h : ∀ j, ∃ r : ℝ, x j = r
  · obtain ⟨v, hv, e⟩ := square_real x h
    have hr : 0 < (Real.sqrt v)⁻¹ := inv_pos.2 (Real.sqrt_pos.2 hv)
    have es : scale x = ((Real.sqrt v)⁻¹ : ℝ) := by
      unfold scale
      rw [e, Ideal.rsqrt_coe, if_neg (not_lt.2 hv.le), if_neg hv.ne']
    obtain ⟨y, hy⟩ := h i
    rw [e, es, half_eq, length_eq]
    generalize hq : (Real.sqrt v)⁻¹ = r at hr
    have hvr : 1 / v = r * r := by
      rw [← hq, ← mul_inv, Real.mul_self_sqrt hv.le, one_div]
    have hsum : ∑ j, g j * (x j * (r : EReal)) = r * ∑ j, x j * g j := by
      rw [mul_sum_real r hr]
      exact Finset.sum_congr rfl fun j _ => by rw [← mul_assoc, mul_comm, mul_comm (g j)]
    rw [hsum, hy, Ideal.div_coe (by norm_num), Ideal.div_coe hv.ne', Ideal.div_coe (by norm_num), hvr, sub_eq_add_neg,
      mul_add_real r hr]
    generalize ∑ j, x j * g j = G
    have h1 : (y : EReal) * (G * (((-(1 / 2) : ℝ) : EReal) * (r * ((r * r : ℝ) : EReal))) * ((1 / 2048 : ℝ) : EReal))
        = ((y * (-(1 / 2)) * (r * (r * r)) * (1 / 2048) : ℝ) : EReal) * G := by
      simp only [EReal.coe_mul]
      ac_rfl
    have h2 : (r : EReal) * -(y * r * (r * G * ((1 / 2048 : ℝ) : EReal)))
        = ((y * (-(1 / 2)) * (r * (r * r)) * (1 / 2048) + y * (-(1 / 2)) * (r * (r * r)) * (1 / 2048) : ℝ) : EReal) * G := by
      rw [show y * (-(1 / 2)) * (r * (r * r)) * (1 / 2048) + y * (-(1 / 2)) * (r * (r * r)) * (1 / 2048)
        = -(r * (y * r) * r * (1 / 2048)) by ring, mul_neg, EReal.coe_neg, neg_mul]
      simp only [EReal.coe_mul]
      ac_rfl
    rw [mul_comm _ (y : EReal), h1, h2, twice, mul_comm (g i)]
  · have e := square_top x h
    have es : scale x = 0 := by
      unfold scale
      rw [e, Ideal.rsqrt_top]
    rw [e, es]
    have h0 : Ideal.div (0 : EReal) ⊤ = 0 := by simp [Ideal.div]
    rw [h0, length_eq, Ideal.div_coe (by norm_num)]
    simp

/-! Whole arrays of `N` rows. -/

variable {N : ℕ}

def row (X : FVec Ideal ⟨2, ![N, 2048]⟩ .f32) (r : Fin N) : Fin 2048 → EReal := fun l => X (ix2 r l)

/-- The gradient of the norm's result, each element times its weight. -/
def weighted (W : FVec Ideal ⟨1, ![2048]⟩ .f32) (Y : FVec Ideal ⟨2, ![N, 2048]⟩ .f32) (r : Fin N) : Fin 2048 → EReal :=
  fun l => Y (ix2 r l) * W (ix1 l)

/-- The gradient in the rows. -/
def gradRows (d : FTy) (X : FVec Ideal ⟨2, ![N, 2048]⟩ .f32) (W : FVec Ideal ⟨1, ![2048]⟩ .f32)
    (Y : FVec Ideal ⟨2, ![N, 2048]⟩ .f32) : FVec Ideal ⟨2, ![N, 2048]⟩ d :=
  fun i => grad (row X (i 0)) (weighted W Y (i 0)) (i 1)

/-- The gradient in the weights: a sum over the rows. -/
def gradWeights (X Y : FVec Ideal ⟨2, ![N, 2048]⟩ .f32) : FVec Ideal ⟨1, ![2048]⟩ .f32 :=
  fun i => ∑ r : Fin N, Y (ix2 r (i 0)) * normed (row X r) (i 0)

end Cert.Norm
end
-- ==== Proof.NormBackwardAdd.lean ====
module
public import proofs.«01_k».proof.Defs
public import proofs.«01_k».proof.Proof.Gen.RmsBwdAdd.Frame
public import proofs.«01_k».proof.Proof.Gen.RmsBwdAddIdeal.Frame
public import proofs.«01_k».proof.Proof.Gen.RmsBwdAddRefIdeal.Run
public import proofs.«01_k».proof.Proof.Norm
public import Idealize.ShloMosaic.Lib.Quiescent

/-! `RmsBwdAdd`: the norm's gradient in the rows, added to the gradient that goes past the norm, and its gradient in
the weights. -/

@[expose] public section

set_option maxRecDepth 16384

noncomputable section

namespace Cert.NormBackwardAdd

open Idealize.ShloMosaic Idealize.ShloMosaic.TcCoe Idealize.SL.Sem

section Kernel

open Cert.RmsBwdAddIdeal Cert.RmsBwdAddIdeal.Gen

variable (m : (ℓ : Loc nD τ sig) → Buf (Elt Ideal) ℓ)

/-! One point's 256 rows. -/

theorem scale_at (x : Vec Ideal S256x2048 .f32) (j : S256x1.Idx) : k0_pay2 x j = Norm.scale (Norm.row x (j 0)) := by
  unfold Norm.scale Norm.square Norm.row
  pointwise [k0_pay2]

theorem normed_at (x : Vec Ideal S256x2048 .f32) (j : S256x2048.Idx) : k0_pay3 x j = Norm.normed (Norm.row x (j 0)) (j 1) := by
  unfold Norm.normed
  pointwise [k0_pay3, scale_at, Norm.row]

theorem rows_at (x y a : Vec Ideal S256x2048 .f32) (w : Vec Ideal S1x2048 .f32) (j : S256x2048.Idx) :
    k0_pay4 x y w a j = Norm.grad (Norm.row x (j 0)) (fun l => y (ix2 (j 0) l) * w (ix2 0 l)) (j 1) + a j := by
  unfold Norm.grad
  pointwise [k0_pay4, normed_at, scale_at]

theorem zero_at (j : S1x2048.Idx) : k0_pay5 (F := Ideal) j = 0 := by pointwise [k0_pay5]

theorem part_at (acc : Vec Ideal S1x2048 .f32) (x y : Vec Ideal S256x2048 .f32) (j : S1x2048.Idx) :
    k0_pay1 (k0_pay6 acc) (k0_pay7 x y) j = acc j + ∑ r : Fin 256, y (ix2 r (j 1)) * Norm.normed (Norm.row x r) (j 1) := by
  pointwise [k0_pay1, k0_pay6, k0_pay7, normed_at]

/-! The arrays after the whole grid. -/

theorem places : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

/-- The weights as the grid finds them: one row. -/
theorem weights (c : Dev nD) (j : S1x2048.Idx) :
    V m c main_v0 j = (show Vec Ideal S2048 .f32 from m ((c : Thread nD τ).loc main_arg1)) (ix1 (j 1)) := by
  rw [show V m c main_v0 = shapeCast S1x2048 (show Vec Ideal S2048 .f32 from m ((c : Thread nD τ).loc main_arg1)) shapeCasts_S2048_S1x2048 by
    unfold V
    after_results_simp <;> rfl]
  pointwise []

theorem rows (c : Dev nD) : (dats m 0 c).arrAt 4 cfg0.N
    = fun i => Norm.gradRows .f32 (m ((c : Thread nD τ).loc main_arg0)) (m ((c : Thread nD τ).loc main_arg1)) (m ((c : Thread nD τ).loc main_arg2)) i
      + m ((c : Thread nD τ).loc main_arg3) i := by
  refine (dats m 0 c).arrAt_eq_of_covers 4 _ (by decide +kernel) fun t hf y => ?_
  blk_simp
  rw [after0_4]
  have e : (outsAt0 m c t.val t.isLt).1 = k0_pay4 (iblk m c 0 t) (iblk m c 2 t) (iblk m c 1 t) (iblk m c 3 t) := by
    by_cases h : t.val % 16 = 0
    · rw [outsAt0_A m c t h]
      frame_out
    · rw [outsAt0_B m c t h]
      frame_out
  rw [e, rows_at]
  unfold Norm.gradRows Norm.row Norm.weighted
  blk_point [iblk, V, places t]
  rw [weights]
  blk_point [iblk, V, places t]

theorem step (c : Dev nD) (t : Fin cfg0.N) (h : ¬t.val % 16 = 0) (j : S1x2048.Idx) :
    (outsAt0 m c t.val t.isLt).2 j
      = (outsAt0 m c (t.val - 1) (Nat.lt_of_le_of_lt (Nat.sub_le _ _) t.isLt)).2 j
        + ∑ r : Fin 256, (show Vec Ideal S256x2048 .f32 from iblk m c 2 t) (ix2 r (j 1))
          * Norm.normed (Norm.row (show Vec Ideal S256x2048 .f32 from iblk m c 0 t) r) (j 1) := by
  rw [outsAt0_B m c t h]
  frame_out
  rw [part_at]

theorem sums (c : Dev nD) : (dats m 0 c).arrAt 5 cfg0.N
    = fun i : S1x2048.Idx => Norm.gradWeights (m ((c : Thread nD τ).loc main_arg0)) (m ((c : Thread nD τ).loc main_arg2)) (ix1 (i 1)) := by
  refine (dats m 0 c).arrAt_eq_of_covers 5 _ (by decide +kernel) fun t hf y => ?_
  have ht := (flush0_5 t).mp hf
  blk_simp
  rw [after0_5, Pipeline.eq_sum_fin_of_reset_step_apply_of_flush (fun n h => (outsAt0 m c n h).2) 16 (fun _ => 0) _
    (fun t h j => by
      rw [outsAt0_A m c t h]
      frame_out
      rw [part_at, zero_at])
    (fun t h j => step m c t h j) t ht _, zero_add]
  unfold Norm.gradWeights
  refine Fin.sum_mul_add_congr fun s k hl => ?_
  unfold Norm.row
  blk_point [iblk, V, places t, places ⟨_, Pipeline.run_point_lt_of_flush t ht s⟩]

/-- The sums, handed out as an array of one axis. -/
theorem handed (c : Dev nD) : Pipeline.afterTail₀ cfgs (dats m) 0 (V0 m) [hostOps1] c main_v2
    = Norm.gradWeights (m ((c : Thread nD τ).loc main_arg0)) (m ((c : Thread nD τ).loc main_arg2)) := by
  unfold Pipeline.afterTail₀
  rw [show [hostOps1 (F := Ideal)].flatten = hostOps1 from rfl]
  have e : Pipeline.withArrays (cfgs 0).spec c (V0 m c) (fun w => (dats m 0 c).arrAt w (cfgs 0).N) (Proc.devRef .tc main_v1_1)
      = (dats m 0 c).arrAt 5 cfg0.N :=
    Pipeline.withArrays_arr (cfgs 0).spec (by decide) c (V0 m c) (fun w => (dats m 0 c).arrAt w (cfgs 0).N) 5
  after_results_simp
  rw [e, sums]
  funext i
  pointwise []

end Kernel

section Reference

open Cert.RmsBwdAddRefIdeal Cert.RmsBwdAddRefIdeal.Gen

variable (X Y A : FVec Ideal S4096x2048 .f32) (W : FVec Ideal S2048 .f32)

abbrev squares : FVec Ideal S4096x1 .f32 := addf (Host.divf (broadcastInDim S4096x1 ![0] bcast_S4096_S4096x1_0 (Host.reduceAdd (mulf X X) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))

theorem squares_at (j : S4096x1.Idx) : squares X j = Norm.square (Norm.row X (j 0)) := by
  unfold Norm.square Norm.row
  pointwise [squares]

theorem sums_reference : Host.reduceAdd (shapeCast S1x2048 (Host.reduceAdd (mulf (mulf X (broadcastInDim S4096x2048 ![0, 1] bcast_S4096x1_S4096x2048_0_1 (Host.rsqrt (squares X)))) Y) (constant S_ .f32 0x00000000#32) reducesTo_S4096x2048_S2048_d0 h_S_) shapeCasts_S2048_S1x2048) (constant S_ .f32 0x00000000#32) reducesTo_S1x2048_S2048_d0 h_S_ = Norm.gradWeights X Y := by
  funext i
  unfold Norm.gradWeights Norm.normed Norm.scale
  pointwise [squares_at, Norm.row]
  rw [Fin.sum_univ_one]
  exact Finset.sum_congr rfl fun r _ => mul_comm _ _

abbrev products : FVec Ideal S4096x1 .f32 := shapeCast S4096x1 (Host.reduceAdd (mulf X (mulf Y (broadcastInDim S4096x2048 ![0, 1] bcast_S1x2048_S4096x2048_0_1 (broadcastInDim S1x2048 ![1] bcast_S2048_S1x2048_1 W)))) (constant S_ .f32 0x00000000#32) reducesTo_S4096x2048_S4096_d1 h_S_) shapeCasts_S4096_S4096x1

theorem products_at (j : S4096x1.Idx) : products X Y W j = ∑ l, Norm.row X (j 0) l * Norm.weighted W Y (j 0) l := by
  unfold Norm.row Norm.weighted
  pointwise [products]

abbrev through : FVec Ideal S4096 .f32 := Host.reduceAdd (Host.divf (mulf (products X Y W) (mulf (broadcastInDim S4096x1 ![] bcast_S_S4096x1 (constant S_ .f32 0xBF000000#32)) (Host.divf (Host.rsqrt (squares X)) (squares X)))) (broadcastInDim S4096x1 ![] bcast_S_S4096x1 (constant S_ .f32 0x45000000#32))) (constant S_ .f32 0x00000000#32) reducesTo_S4096x1_S4096_d1 h_S_

theorem through_at (j : S4096.Idx) : through X Y W j = Norm.through (Norm.row X (j 0)) (Norm.weighted W Y (j 0)) := by
  unfold Norm.through Norm.scale
  pointwise [through, products_at, squares_at]
  rw [Fin.sum_univ_one]

theorem rows_reference : addf (addf (addf A (mulf (mulf Y (broadcastInDim S4096x2048 ![0, 1] bcast_S1x2048_S4096x2048_0_1 (broadcastInDim S1x2048 ![1] bcast_S2048_S1x2048_1 W))) (broadcastInDim S4096x2048 ![0, 1] bcast_S4096x1_S4096x2048_0_1 (Host.rsqrt (squares X))))) (mulf X (broadcastInDim S4096x2048 ![0] bcast_S4096_S4096x2048_0 (through X Y W)))) (mulf (broadcastInDim S4096x2048 ![0] bcast_S4096_S4096x2048_0 (through X Y W)) X)
    = fun i => Norm.gradRows .f32 X W Y i + A i := by
  funext i
  unfold Norm.gradRows
  refine Eq.trans ?_ (congrArg (· + _) (Norm.grad_eq (Norm.row X (i 0)) (Norm.weighted W Y (i 0)) (i 1)))
  unfold Norm.scale Norm.row Norm.weighted
  pointwise [through_at, squares_at]
  rw [add_assoc, add_assoc, add_comm]
  rfl

end Reference

open Cert.RmsBwdAddIdeal Cert.RmsBwdAddIdeal.Gen in
theorem algebraic : Cert.algebraic_RmsBwdAddIdeal_RmsBwdAddRefIdeal := by
  intro m g m' g' _ hargs
  refine ⟨fun c i => Norm.gradRows .f32 (m ((c : Thread nD τ).loc main_arg0)) (m ((c : Thread nD τ).loc main_arg1)) (m ((c : Thread nD τ).loc main_arg2)) i
      + m ((c : Thread nD τ).loc main_arg3) i,
    fun c => Norm.gradWeights (m ((c : Thread nD τ).loc main_arg0)) (m ((c : Thread nD τ).loc main_arg2)), ?_, ?_⟩
  · refine (θ_run defs _ _).mono (fun r h c => ⟨((h c).1 4).trans (rows m c), ?_, ?_, ?_, ?_, ?_⟩) (run_main m g)
    · exact ((h c).2 main_v2 (Pipeline.mem_restRefs_of main_v2 (by decide) (by decide))).trans (handed m c)
    · exact ((h c).1 0).trans (((dats m 0 c).arrAt_in 0 rfl _).trans ((A_eq m c 0).trans (V_main_arg0 m c)))
    · exact ((h c).2 main_arg1 (Pipeline.mem_restRefs_of main_arg1 (by decide) (by decide))).trans (W_main_arg1 m (dats m) c)
    · exact ((h c).1 2).trans (((dats m 0 c).arrAt_in 2 rfl _).trans ((A_eq m c 2).trans (V_main_arg2 m c)))
    · exact ((h c).1 3).trans (((dats m 0 c).arrAt_in 3 rfl _).trans ((A_eq m c 3).trans (V_main_arg3 m c)))
  · refine (θ_run Cert.RmsBwdAddRefIdeal.defs _ _).mono (fun r h c => ⟨(h c).1.trans ?_, (h c).2.1.trans ?_, (h c).2.2⟩)
      (Cert.RmsBwdAddRefIdeal.Value.run (F := Ideal) m' g')
    · rw [(hargs c).1, (hargs c).2.1, (hargs c).2.2.1, (hargs c).2.2.2]
      exact rows_reference _ _ _ _
    · rw [(hargs c).1, (hargs c).2.2.1]
      exact sums_reference _ _

theorem frame : Cert.quiescent_RmsBwdAdd := fun m ρ _ => Cert.RmsBwdAdd.Gen.frame m ρ

theorem frame_ideal : Cert.quiescent_RmsBwdAddIdeal := fun m ρ _ => Cert.RmsBwdAddIdeal.Gen.frame m ρ

theorem frame_reference : Cert.quiescent_RmsBwdAddRefIdeal := fun m ρ _ =>
  (θ_run Cert.RmsBwdAddRefIdeal.defs _ _).mono (fun r h => ⟨fun c => (h c).2.2,
      Idealize.ShloMosaic.sem_eq_zero_of_no_sems (by decide) r.2⟩)
    (Cert.RmsBwdAddRefIdeal.Value.run (F := Ideal) m ρ)

end Cert.NormBackwardAdd
end
-- ==== Proof.NormBackward.lean ====
module
public import proofs.«01_k».proof.Defs
public import proofs.«01_k».proof.Proof.Gen.RmsBwd.Frame
public import proofs.«01_k».proof.Proof.Gen.RmsBwdIdeal.Frame
public import proofs.«01_k».proof.Proof.Gen.RmsBwdRefIdeal.Run
public import proofs.«01_k».proof.Proof.NormBackwardAdd

/-! `RmsBwd`: the norm's gradient in the rows, rounded to bf16, and its gradient in the weights. -/

@[expose] public section

set_option maxRecDepth 16384

noncomputable section

namespace Cert.NormBackward

open Idealize.ShloMosaic Idealize.ShloMosaic.TcCoe Idealize.SL.Sem

section Kernel

open Cert.RmsBwdIdeal Cert.RmsBwdIdeal.Gen

variable (m : (ℓ : Loc nD τ sig) → Buf (Elt Ideal) ℓ)

/-! One point's 256 rows. -/

theorem scale_at (x : Vec Ideal S256x2048 .f32) (j : S256x1.Idx) : k0_pay1 x j = Norm.scale (Norm.row x (j 0)) := by
  unfold Norm.scale Norm.square Norm.row
  pointwise [k0_pay1]

theorem normed_at (x : Vec Ideal S256x2048 .f32) (j : S256x2048.Idx) : k0_pay2 x j = Norm.normed (Norm.row x (j 0)) (j 1) := by
  unfold Norm.normed
  pointwise [k0_pay2, scale_at, Norm.row]

theorem rows_at (x y : Vec Ideal S256x2048 .f32) (w : Vec Ideal S1x2048 .f32) (j : S256x2048.Idx) :
    k0_pay3 x y w j = Norm.grad (Norm.row x (j 0)) (fun l => y (ix2 (j 0) l) * w (ix2 0 l)) (j 1) := by
  unfold Norm.grad
  pointwise [k0_pay3, normed_at, scale_at]

theorem zero_at (j : S1x2048.Idx) : k0_pay4 (F := Ideal) j = 0 := by pointwise [k0_pay4]

theorem part_at (acc : Vec Ideal S1x2048 .f32) (x y : Vec Ideal S256x2048 .f32) (j : S1x2048.Idx) :
    k0_pay5 x y acc j = acc j + ∑ r : Fin 256, y (ix2 r (j 1)) * Norm.normed (Norm.row x r) (j 1) := by
  pointwise [k0_pay5, normed_at]

/-! The arrays after the whole grid. -/

theorem places : ∀ t : Fin cfg0.N, win0_0.index t = ![t.val, 0] ∧ win0_1.index t = ![0, 0] ∧ win0_2.index t = ![t.val, 0]
    ∧ win0_3.index t = ![t.val, 0] ∧ win0_4.index t = ![0, 0] := (by decide +kernel : ∀ t : Fin grid0.N, _)

/-- The weights as the grid finds them: one row. -/
theorem weights (c : Dev nD) (j : S1x2048.Idx) :
    V m c main_v0 j = (show Vec Ideal S2048 .f32 from m ((c : Thread nD τ).loc main_arg1)) (ix1 (j 1)) := by
  rw [show V m c main_v0 = shapeCast S1x2048 (show Vec Ideal S2048 .f32 from m ((c : Thread nD τ).loc main_arg1)) shapeCasts_S2048_S1x2048 by
    unfold V
    after_results_simp <;> rfl]
  pointwise []

theorem rows (c : Dev nD) : (dats m 0 c).arrAt 3 cfg0.N
    = Norm.gradRows .bf16 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have e : (outsAt0 m c t.val t.isLt).1 = k0_pay3 (iblk m c 0 t) (iblk m c 2 t) (iblk m c 1 t) := by
    by_cases h : t.val % 16 = 0
    · rw [outsAt0_A m c t h]
      frame_out
    · rw [outsAt0_B m c t h]
      frame_out
  rw [e, rows_at]
  unfold Norm.gradRows Norm.row Norm.weighted
  blk_point [iblk, V, places t]
  rw [weights]
  blk_point [iblk, V, places t]

theorem step (c : Dev nD) (t : Fin cfg0.N) (h : ¬t.val % 16 = 0) (j : S1x2048.Idx) :
    (outsAt0 m c t.val t.isLt).2 j
      = (outsAt0 m c (t.val - 1) (Nat.lt_of_le_of_lt (Nat.sub_le _ _) t.isLt)).2 j
        + ∑ r : Fin 256, (show Vec Ideal S256x2048 .f32 from iblk m c 2 t) (ix2 r (j 1))
          * Norm.normed (Norm.row (show Vec Ideal S256x2048 .f32 from iblk m c 0 t) r) (j 1) := by
  rw [outsAt0_B m c t h]
  frame_out
  rw [part_at]

theorem sums (c : Dev nD) : (dats m 0 c).arrAt 4 cfg0.N
    = fun i : S1x2048.Idx => Norm.gradWeights (m ((c : Thread nD τ).loc main_arg0)) (m ((c : Thread nD τ).loc main_arg2)) (ix1 (i 1)) := by
  refine (dats m 0 c).arrAt_eq_of_covers 4 _ (by decide +kernel) fun t hf y => ?_
  have ht := (flush0_4 t).mp hf
  blk_simp
  rw [after0_4, Pipeline.eq_sum_fin_of_reset_step_apply_of_flush (fun n h => (outsAt0 m c n h).2) 16 (fun _ => 0) _
    (fun t h j => by
      rw [outsAt0_A m c t h]
      frame_out
      rw [part_at, zero_at])
    (fun t h j => step m c t h j) t ht _, zero_add]
  unfold Norm.gradWeights
  refine Fin.sum_mul_add_congr fun s k hl => ?_
  unfold Norm.row
  blk_point [iblk, V, places t, places ⟨_, Pipeline.run_point_lt_of_flush t ht s⟩]

/-- The sums, handed out as an array of one axis. -/
theorem handed (c : Dev nD) : Pipeline.afterTail₀ cfgs (dats m) 0 (V0 m) [hostOps1] c main_v2
    = Norm.gradWeights (m ((c : Thread nD τ).loc main_arg0)) (m ((c : Thread nD τ).loc main_arg2)) := by
  unfold Pipeline.afterTail₀
  rw [show [hostOps1 (F := Ideal)].flatten = hostOps1 from rfl]
  have e : Pipeline.withArrays (cfgs 0).spec c (V0 m c) (fun w => (dats m 0 c).arrAt w (cfgs 0).N) (Proc.devRef .tc main_v1_1)
      = (dats m 0 c).arrAt 4 cfg0.N :=
    Pipeline.withArrays_arr (cfgs 0).spec (by decide) c (V0 m c) (fun w => (dats m 0 c).arrAt w (cfgs 0).N) 4
  after_results_simp
  rw [e, sums]
  funext i
  pointwise []

end Kernel

section Reference

open Cert.RmsBwdRefIdeal Cert.RmsBwdRefIdeal.Gen

theorem rows_reference (X Y : FVec Ideal S4096x2048 .f32) (W : FVec Ideal S2048 .f32) :
    truncf .bf16 (addf (addf (mulf (mulf Y (broadcastInDim S4096x2048 ![0, 1] bcast_S1x2048_S4096x2048_0_1 (broadcastInDim S1x2048 ![1] bcast_S2048_S1x2048_1 W))) (broadcastInDim S4096x2048 ![0, 1] bcast_S4096x1_S4096x2048_0_1 (Host.rsqrt (NormBackwardAdd.squares X)))) (mulf X (broadcastInDim S4096x2048 ![0] bcast_S4096_S4096x2048_0 (NormBackwardAdd.through X Y W)))) (mulf (broadcastInDim S4096x2048 ![0] bcast_S4096_S4096x2048_0 (NormBackwardAdd.through X Y W)) X)) bitsLt_bf16_f32
    = Norm.gradRows .bf16 X W Y := by
  funext i
  unfold Norm.gradRows
  refine Eq.trans ?_ (Norm.grad_eq (Norm.row X (i 0)) (Norm.weighted W Y (i 0)) (i 1))
  unfold Norm.scale Norm.row Norm.weighted
  pointwise [NormBackwardAdd.through_at, NormBackwardAdd.squares_at]
  rw [add_assoc]
  rfl

end Reference

open Cert.RmsBwdIdeal Cert.RmsBwdIdeal.Gen in
theorem algebraic : Cert.algebraic_RmsBwdIdeal_RmsBwdRefIdeal := by
  intro m g m' g' _ hargs
  refine ⟨fun c => Norm.gradRows .bf16 (m ((c : Thread nD τ).loc main_arg0)) (m ((c : Thread nD τ).loc main_arg1)) (m ((c : Thread nD τ).loc main_arg2)),
    fun c => Norm.gradWeights (m ((c : Thread nD τ).loc main_arg0)) (m ((c : Thread nD τ).loc main_arg2)), ?_, ?_⟩
  · refine (θ_run defs _ _).mono (fun r h c => ⟨((h c).1 3).trans (rows m c), ?_, ?_, ?_, ?_⟩) (run_main m g)
    · exact ((h c).2 main_v2 (Pipeline.mem_restRefs_of main_v2 (by decide) (by decide))).trans (handed m c)
    · exact ((h c).1 0).trans (((dats m 0 c).arrAt_in 0 rfl _).trans ((A_eq m c 0).trans (V_main_arg0 m c)))
    · exact ((h c).2 main_arg1 (Pipeline.mem_restRefs_of main_arg1 (by decide) (by decide))).trans (W_main_arg1 m (dats m) c)
    · exact ((h c).1 2).trans (((dats m 0 c).arrAt_in 2 rfl _).trans ((A_eq m c 2).trans (V_main_arg2 m c)))
  · refine (θ_run Cert.RmsBwdRefIdeal.defs _ _).mono (fun r h c => ⟨(h c).1.trans ?_, (h c).2.1.trans ?_, (h c).2.2⟩)
      (Cert.RmsBwdRefIdeal.Value.run (F := Ideal) m' g')
    · rw [(hargs c).1, (hargs c).2.1, (hargs c).2.2]
      exact rows_reference _ _ _
    · rw [(hargs c).1, (hargs c).2.2]
      exact NormBackwardAdd.sums_reference _ _

theorem frame : Cert.quiescent_RmsBwd := fun m ρ _ => Cert.RmsBwd.Gen.frame m ρ

theorem frame_ideal : Cert.quiescent_RmsBwdIdeal := fun m ρ _ => Cert.RmsBwdIdeal.Gen.frame m ρ

theorem frame_reference : Cert.quiescent_RmsBwdRefIdeal := fun m ρ _ =>
  (θ_run Cert.RmsBwdRefIdeal.defs _ _).mono (fun r h => ⟨fun c => (h c).2.2,
      Idealize.ShloMosaic.sem_eq_zero_of_no_sems (by decide) r.2⟩)
    (Cert.RmsBwdRefIdeal.Value.run (F := Ideal) m ρ)

end Cert.NormBackward
end
-- ==== Proof.NormForward.lean ====
module
public import proofs.«01_k».proof.Defs
public import proofs.«01_k».proof.Proof.Gen.RmsFwd.Frame
public import proofs.«01_k».proof.Proof.Gen.RmsFwdIdeal.Frame
public import proofs.«01_k».proof.Proof.Gen.RmsFwdRefIdeal.Run
public import proofs.«01_k».proof.Proof.NormBackwardAdd
public import Idealize.ShloMosaic.Lib.Quiescent

/-! `RmsFwd`: the norm of every row, rounded to bf16. -/

@[expose] public section

set_option maxRecDepth 16384

noncomputable section

namespace Cert.NormForward

open Idealize.ShloMosaic Idealize.ShloMosaic.TcCoe Idealize.SL.Sem

/-- The norm of every row, each element times its weight. -/
def norms (X : FVec Ideal ⟨2, ![4096, 2048]⟩ .f32) (W : FVec Ideal ⟨1, ![2048]⟩ .f32) : FVec Ideal ⟨2, ![4096, 2048]⟩ .bf16 :=
  fun i => Norm.normed (Norm.row X (i 0)) (i 1) * W (ix1 (i 1))

section Kernel

open Cert.RmsFwdIdeal Cert.RmsFwdIdeal.Gen

variable (m : (ℓ : Loc nD τ sig) → Buf (Elt Ideal) ℓ)

theorem norm_at (x : Vec Ideal S256x2048 .f32) (w : Vec Ideal S1x2048 .f32) (j : S256x2048.Idx) :
    k0_pay1 x w j = Norm.normed (Norm.row x (j 0)) (j 1) * w (ix2 0 (j 1)) := by
  unfold Norm.normed Norm.scale Norm.square Norm.row
  pointwise [k0_pay1]

theorem places : ∀ t : Fin cfg0.N, win0_0.index t = ![t.val, 0] ∧ win0_1.index t = ![0, 0] ∧ win0_2.index t = ![t.val, 0] :=
  (by decide +kernel : ∀ t : Fin grid0.N, _)

theorem result (c : Dev nD) : (dats m 0 c).arrAt 2 cfg0.N
    = norms (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  rw [norm_at]
  unfold norms Norm.row
  blk_point [iblk, V, places t]

end Kernel

section Reference

open Cert.RmsFwdRefIdeal Cert.RmsFwdRefIdeal.Gen

theorem reference (X : FVec Ideal S4096x2048 .f32) (W : FVec Ideal S2048 .f32) :
    truncf .bf16 (mulf (mulf X (broadcastInDim S4096x2048 ![0, 1] bcast_S4096x1_S4096x2048_0_1 (Host.rsqrt (NormBackwardAdd.squares X)))) (broadcastInDim S4096x2048 ![0, 1] bcast_S1x2048_S4096x2048_0_1 (broadcastInDim S1x2048 ![1] bcast_S2048_S1x2048_1 W))) bitsLt_bf16_f32
      = norms X W := by
  funext i
  unfold norms Norm.normed Norm.scale
  pointwise [NormBackwardAdd.squares_at, Norm.row]

end Reference

open Cert.RmsFwdIdeal Cert.RmsFwdIdeal.Gen in
theorem algebraic : Cert.algebraic_RmsFwdIdeal_RmsFwdRefIdeal := by
  intro m g m' g' _ hargs
  refine ⟨fun c => norms (m ((c : Thread nD τ).loc main_arg0)) (m ((c : Thread nD τ).loc main_arg1)), ?_, ?_⟩
  · refine (θ_run defs _ _).mono (fun r h c => ⟨((h c).1 2).trans (result m c), ?_, ?_⟩) (run_main m g)
    · exact ((h c).1 0).trans (((dats m 0 c).arrAt_in 0 rfl _).trans ((A_eq m c 0).trans (V_main_arg0 m c)))
    · exact ((h c).2 main_arg1 (Pipeline.mem_restRefs_of main_arg1 (by decide) (by decide))).trans (V_main_arg1 m c)
  · refine (θ_run Cert.RmsFwdRefIdeal.defs _ _).mono (fun r h c => ⟨(h c).1.trans ?_, (h c).2⟩)
      (Cert.RmsFwdRefIdeal.Value.run (F := Ideal) m' g')
    rw [(hargs c).1, (hargs c).2]
    exact reference _ _

theorem frame : Cert.quiescent_RmsFwd := fun m ρ _ => Cert.RmsFwd.Gen.frame m ρ

theorem frame_ideal : Cert.quiescent_RmsFwdIdeal := fun m ρ _ => Cert.RmsFwdIdeal.Gen.frame m ρ

theorem frame_reference : Cert.quiescent_RmsFwdRefIdeal := fun m ρ _ =>
  (θ_run Cert.RmsFwdRefIdeal.defs _ _).mono (fun r h => ⟨fun c => (h c).2,
      Idealize.ShloMosaic.sem_eq_zero_of_no_sems (by decide) r.2⟩)
    (Cert.RmsFwdRefIdeal.Value.run (F := Ideal) m ρ)

end Cert.NormForward
end
-- ==== Proof.NormForwardAdd.lean ====
module
public import proofs.«01_k».proof.Defs
public import proofs.«01_k».proof.Proof.Gen.RmsFwdRes.Frame
public import proofs.«01_k».proof.Proof.Gen.RmsFwdResIdeal.Frame
public import proofs.«01_k».proof.Proof.Gen.RmsFwdResRefIdeal.Run
public import proofs.«01_k».proof.Proof.NormForward
public import Idealize.ShloMosaic.Lib.Quiescent

/-! `RmsFwdRes`: the norm of every row, added to what goes past the norm. -/

@[expose] public section

set_option maxRecDepth 16384

noncomputable section

namespace Cert.NormForwardAdd

open Idealize.ShloMosaic Idealize.ShloMosaic.TcCoe Idealize.SL.Sem

section Kernel

open Cert.RmsFwdResIdeal Cert.RmsFwdResIdeal.Gen

variable (m : (ℓ : Loc nD τ sig) → Buf (Elt Ideal) ℓ)

theorem norm_at (x h : Vec Ideal S256x2048 .f32) (w : Vec Ideal S1x2048 .f32) (j : S256x2048.Idx) :
    k0_pay1 x w h j = Norm.normed (Norm.row x (j 0)) (j 1) * w (ix2 0 (j 1)) + h j := by
  unfold Norm.normed Norm.scale Norm.square Norm.row
  pointwise [k0_pay1]

theorem places : ∀ t : Fin cfg0.N, win0_0.index t = ![t.val, 0] ∧ win0_1.index t = ![0, 0] ∧ win0_2.index t = ![t.val, 0]
    ∧ win0_3.index t = ![t.val, 0] := (by decide +kernel : ∀ t : Fin grid0.N, _)

theorem result (c : Dev nD) : (dats m 0 c).arrAt 3 cfg0.N
    = fun i => NormForward.norms (m ((c : Thread nD τ).loc main_arg0)) (m ((c : Thread nD τ).loc main_arg1)) i + m ((c : Thread nD τ).loc main_arg2) i := by
  refine (dats m 0 c).arrAt_eq_of_covers 3 _ (by decide +kernel) fun t hf y => ?_
  blk_simp
  rw [after0_3]
  unfold out0_3
  frame_out
  rw [norm_at]
  unfold NormForward.norms Norm.row
  blk_point [iblk, V, places t]

end Kernel

section Reference

open Cert.RmsFwdResRefIdeal Cert.RmsFwdResRefIdeal.Gen

theorem reference (X H : FVec Ideal S4096x2048 .f32) (W : FVec Ideal S2048 .f32) :
    addf H (mulf (mulf X (broadcastInDim S4096x2048 ![0, 1] bcast_S4096x1_S4096x2048_0_1 (Host.rsqrt (NormBackwardAdd.squares X)))) (broadcastInDim S4096x2048 ![0, 1] bcast_S1x2048_S4096x2048_0_1 (broadcastInDim S1x2048 ![1] bcast_S2048_S1x2048_1 W)))
      = fun i => NormForward.norms X W i + H i := by
  funext i
  unfold NormForward.norms Norm.normed Norm.scale
  pointwise [NormBackwardAdd.squares_at, Norm.row]
  exact add_comm _ _

end Reference

open Cert.RmsFwdResIdeal Cert.RmsFwdResIdeal.Gen in
theorem algebraic : Cert.algebraic_RmsFwdResIdeal_RmsFwdResRefIdeal := by
  intro m g m' g' _ hargs
  refine ⟨fun c i => NormForward.norms (m ((c : Thread nD τ).loc main_arg0)) (m ((c : Thread nD τ).loc main_arg1)) i + m ((c : Thread nD τ).loc main_arg2) i, ?_, ?_⟩
  · refine (θ_run defs _ _).mono (fun r h c => ⟨((h c).1 3).trans (result m c), ?_, ?_, ?_⟩) (run_main m g)
    · exact ((h c).1 0).trans (((dats m 0 c).arrAt_in 0 rfl _).trans ((A_eq m c 0).trans (V_main_arg0 m c)))
    · exact ((h c).2 main_arg1 (Pipeline.mem_restRefs_of main_arg1 (by decide) (by decide))).trans (V_main_arg1 m c)
    · exact ((h c).1 2).trans (((dats m 0 c).arrAt_in 2 rfl _).trans ((A_eq m c 2).trans (V_main_arg2 m c)))
  · refine (θ_run Cert.RmsFwdResRefIdeal.defs _ _).mono (fun r h c => ⟨(h c).1.trans ?_, (h c).2⟩)
      (Cert.RmsFwdResRefIdeal.Value.run (F := Ideal) m' g')
    rw [(hargs c).1, (hargs c).2.1, (hargs c).2.2]
    exact reference _ _ _

theorem frame : Cert.quiescent_RmsFwdRes := fun m ρ _ => Cert.RmsFwdRes.Gen.frame m ρ

theorem frame_ideal : Cert.quiescent_RmsFwdResIdeal := fun m ρ _ => Cert.RmsFwdResIdeal.Gen.frame m ρ

theorem frame_reference : Cert.quiescent_RmsFwdResRefIdeal := fun m ρ _ =>
  (θ_run Cert.RmsFwdResRefIdeal.defs _ _).mono (fun r h => ⟨fun c => (h c).2,
      Idealize.ShloMosaic.sem_eq_zero_of_no_sems (by decide) r.2⟩)
    (Cert.RmsFwdResRefIdeal.Value.run (F := Ideal) m ρ)

end Cert.NormForwardAdd
end
-- ==== Proof.Merge.lean ====
module
public import Idealize.ShloMosaic.Lib.Pointwise
public import Idealize.ShloMosaic.Lib.Pipeline.ValueKit

/-! The gated merge of the two branches, and its gradients, element by element. -/

@[expose] public section

noncomputable section

namespace Cert.Merge

open Idealize.ShloMosaic

/-- The number one, as the word that both programs print. -/
abbrev one : EReal := Ideal.ofBits .f32 0x3F800000#32

def gate (x : EReal) : EReal := Ideal.div one (one + Ideal.exp (-x))

/-- The gates of the two branches stand side by side in the projection, from column 11264 and from column 13312 on. -/
def column (first : ℕ) (h : first + 2048 ≤ 15360) (P : FVec Ideal ⟨2, ![4096, 15360]⟩ .f32) (i : (⟨2, ![4096, 2048]⟩ : Shape).Idx) : EReal :=
  P (ix2 (i 0) (⟨first + (i 1).val, by have : (i 1).val < 2048 := (i 1).isLt; omega⟩ : Fin 15360))

abbrev gateA (P : FVec Ideal ⟨2, ![4096, 15360]⟩ .f32) (i : (⟨2, ![4096, 2048]⟩ : Shape).Idx) : EReal :=
  gate (column 11264 (by decide) P i)

abbrev gateD (P : FVec Ideal ⟨2, ![4096, 15360]⟩ .f32) (i : (⟨2, ![4096, 2048]⟩ : Shape).Idx) : EReal :=
  gate (column 13312 (by decide) P i)

/-- The gradient in a gate's argument: `s` the gate, `a` the branch, `y` the gradient of the merge. -/
def inGate (s a y : EReal) : EReal := y * a * (s * (one - s))

end Cert.Merge
end
-- ==== Proof.MergeBackward.lean ====
module
public import proofs.«01_k».proof.Defs
public import proofs.«01_k».proof.Proof.Gen.MergeBwd.Frame
public import proofs.«01_k».proof.Proof.Gen.MergeBwdIdeal.Frame
public import proofs.«01_k».proof.Proof.Gen.MergeBwdRefIdeal.Run
public import proofs.«01_k».proof.Proof.Merge
public import Idealize.ShloMosaic.Lib.Quiescent

/-! `MergeBwd`: the gradients of the gated merge in the two branches and in the two gates. -/

@[expose] public section

set_option maxRecDepth 16384

noncomputable section

namespace Cert.MergeBackward

open Idealize.ShloMosaic Idealize.ShloMosaic.TcCoe Idealize.SL.Sem

section Kernel

open Cert.MergeBwdIdeal Cert.MergeBwdIdeal.Gen

variable (m : (ℓ : Loc nD τ sig) → Buf (Elt Ideal) ℓ)

/-! One point's tile. -/

theorem gateA_at (g : Vec Ideal S512x512 .f32) (j : S512x512.Idx) : k0_pay2 g j = Merge.gate (g j) := by
  unfold Merge.gate
  pointwise [k0_pay2]
  rw [zero_sub]

theorem gateD_at (g : Vec Ideal S512x512 .f32) (j : S512x512.Idx) : k0_pay3 g j = Merge.gate (g j) := by
  unfold Merge.gate
  pointwise [k0_pay3]
  rw [zero_sub]

theorem branchA_at (y g : Vec Ideal S512x512 .f32) (j : S512x512.Idx) : k0_pay4 y g j = Merge.gate (g j) * y j := by
  pointwise [k0_pay4, gateA_at]
  exact mul_comm _ _

theorem branchD_at (y g : Vec Ideal S512x512 .f32) (j : S512x512.Idx) : k0_pay5 y g j = Merge.gate (g j) * y j := by
  pointwise [k0_pay5, gateD_at]
  exact mul_comm _ _

theorem inGateA_at (y g a : Vec Ideal S512x512 .f32) (j : S512x512.Idx) : k0_pay6 y g a j = Merge.inGate (Merge.gate (g j)) (a j) (y j) := by
  unfold Merge.inGate
  pointwise [k0_pay6, gateA_at]
  exact mul_assoc _ _ _

theorem inGateD_at (y g a : Vec Ideal S512x512 .f32) (j : S512x512.Idx) : k0_pay1 y (k0_pay3 g) a j = Merge.inGate (Merge.gate (g j)) (a j) (y j) := by
  unfold Merge.inGate
  pointwise [k0_pay1, gateD_at]
  exact mul_assoc _ _ _

/-! The arrays after the whole grid. -/

theorem places : ∀ t : Fin cfg0.N, win0_0.index t = ![t.val / 4, 22 + t.val % 4] ∧ win0_1.index t = ![t.val / 4, 26 + t.val % 4] ∧ win0_2.index t = ![t.val / 4, t.val % 4]
    ∧ win0_3.index t = ![t.val / 4, t.val % 4] ∧ win0_4.index t = ![t.val / 4, t.val % 4] ∧ win0_5.index t = ![t.val / 4, t.val % 4] ∧ win0_6.index t = ![t.val / 4, t.val % 4]
    ∧ win0_7.index t = ![t.val / 4, t.val % 4] ∧ win0_8.index t = ![t.val / 4, t.val % 4] := (by decide +kernel : ∀ t : Fin grid0.N, _)

theorem branchA (c : Dev nD) : (dats m 0 c).arrAt 5 cfg0.N
    = fun i => Merge.gateA (m ((c : Thread nD τ).loc main_arg0)) i * m ((c : Thread nD τ).loc main_arg3) i := by
  refine (dats m 0 c).arrAt_eq_of_covers 5 _ (by decide +kernel) fun t hf y => ?_
  blk_simp
  rw [after0_5]
  unfold out0_5
  frame_out
  rw [branchA_at]
  unfold Merge.gateA Merge.column
  blk_point [iblk, V, places t]

theorem branchD (c : Dev nD) : (dats m 0 c).arrAt 6 cfg0.N
    = fun i => Merge.gateD (m ((c : Thread nD τ).loc main_arg0)) i * m ((c : Thread nD τ).loc main_arg3) i := by
  refine (dats m 0 c).arrAt_eq_of_covers 6 _ (by decide +kernel) fun t hf y => ?_
  blk_simp
  rw [after0_6]
  unfold out0_6
  frame_out
  rw [branchD_at]
  unfold Merge.gateD Merge.column
  blk_point [iblk, V, places t]

theorem inGateA (c : Dev nD) : (dats m 0 c).arrAt 7 cfg0.N
    = fun i => Merge.inGate (Merge.gateA (m ((c : Thread nD τ).loc main_arg0)) i) (m ((c : Thread nD τ).loc main_arg1) i) (m ((c : Thread nD τ).loc main_arg3) i) := by
  refine (dats m 0 c).arrAt_eq_of_covers 7 _ (by decide +kernel) fun t hf y => ?_
  blk_simp
  rw [after0_7]
  unfold out0_7
  frame_out
  rw [inGateA_at]
  unfold Merge.gateA Merge.column
  blk_point [iblk, V, places t]

theorem inGateD (c : Dev nD) : (dats m 0 c).arrAt 8 cfg0.N
    = fun i => Merge.inGate (Merge.gateD (m ((c : Thread nD τ).loc main_arg0)) i) (m ((c : Thread nD τ).loc main_arg2) i) (m ((c : Thread nD τ).loc main_arg3) i) := by
  refine (dats m 0 c).arrAt_eq_of_covers 8 _ (by decide +kernel) fun t hf y => ?_
  blk_simp
  rw [after0_8]
  unfold out0_8
  frame_out
  rw [inGateD_at]
  unfold Merge.gateD Merge.column
  blk_point [iblk, V, places t]

end Kernel

section Reference

open Cert.MergeBwdRefIdeal Cert.MergeBwdRefIdeal.Gen

variable (P : FVec Ideal S4096x15360 .f32) (A Y : FVec Ideal S4096x2048 .f32)

abbrev sigmoid (G : FVec Ideal S4096x2048 .f32) : FVec Ideal S4096x2048 .f32 := Host.divf (broadcastInDim S4096x2048 ![] bcast_S_S4096x2048 (constant S_ .f32 0x3F800000#32)) (addf (broadcastInDim S4096x2048 ![] bcast_S_S4096x2048 (constant S_ .f32 0x3F800000#32)) (Host.exp (Host.negf G)))

theorem sigmoid_at (G : FVec Ideal S4096x2048 .f32) (i : S4096x2048.Idx) : sigmoid G i = Merge.gate (G i) := by
  unfold Merge.gate
  pointwise [sigmoid]

theorem columnA (i : S4096x2048.Idx) : extractStridedSlice S4096x2048 ![0, 11264] P slices_S4096x15360_S4096x2048_0_11264 i = Merge.column 11264 (by decide) P i := by
  unfold Merge.column
  pointwise []

theorem columnD (i : S4096x2048.Idx) : extractStridedSlice S4096x2048 ![0, 13312] P slices_S4096x15360_S4096x2048_0_13312 i = Merge.column 13312 (by decide) P i := by
  unfold Merge.column
  pointwise []

theorem branch_reference (G : FVec Ideal S4096x2048 .f32) (i : S4096x2048.Idx) :
    truncf .bf16 (mulf (sigmoid G) (shapeCast S4096x2048 Y shapeCasts_S4096x2048_S4096x2048)) bitsLt_bf16_f32 i = Merge.gate (G i) * Y i := by
  pointwise [sigmoid_at]

theorem inGate_reference (G : FVec Ideal S4096x2048 .f32) (i : S4096x2048.Idx) :
    truncf .bf16 (mulf (mulf (shapeCast S4096x2048 Y shapeCasts_S4096x2048_S4096x2048) A) (mulf (sigmoid G) (subf (broadcastInDim S4096x2048 ![] bcast_S_S4096x2048 (constant S_ .f32 0x3F800000#32)) (sigmoid G)))) bitsLt_bf16_f32 i
      = Merge.inGate (Merge.gate (G i)) (A i) (Y i) := by
  unfold Merge.inGate
  pointwise [sigmoid_at]

end Reference

open Cert.MergeBwdIdeal Cert.MergeBwdIdeal.Gen in
theorem algebraic : Cert.algebraic_MergeBwdIdeal_MergeBwdRefIdeal := by
  intro m g m' g' _ hargs
  refine ⟨fun c i => Merge.gateA (m ((c : Thread nD τ).loc main_arg0)) i * m ((c : Thread nD τ).loc main_arg3) i,
    fun c i => Merge.gateD (m ((c : Thread nD τ).loc main_arg0)) i * m ((c : Thread nD τ).loc main_arg3) i,
    fun c i => Merge.inGate (Merge.gateA (m ((c : Thread nD τ).loc main_arg0)) i) (m ((c : Thread nD τ).loc main_arg1) i) (m ((c : Thread nD τ).loc main_arg3) i),
    fun c i => Merge.inGate (Merge.gateD (m ((c : Thread nD τ).loc main_arg0)) i) (m ((c : Thread nD τ).loc main_arg2) i) (m ((c : Thread nD τ).loc main_arg3) i), ?_, ?_⟩
  · refine (θ_run defs _ _).mono (fun r h c => ⟨((h c).1 5).trans (branchA m c), ((h c).1 6).trans (branchD m c),
      ((h c).1 7).trans (inGateA m c), ((h c).1 8).trans (inGateD m c), ?_, ?_, ?_, ?_⟩) (run_main m g)
    · exact ((h c).1 0).trans (((dats m 0 c).arrAt_in 0 rfl _).trans ((A_eq m c 0).trans (V_main_arg0 m c)))
    · exact ((h c).1 2).trans (((dats m 0 c).arrAt_in 2 rfl _).trans ((A_eq m c 2).trans (V_main_arg1 m c)))
    · exact ((h c).1 3).trans (((dats m 0 c).arrAt_in 3 rfl _).trans ((A_eq m c 3).trans (V_main_arg2 m c)))
    · exact ((h c).1 4).trans (((dats m 0 c).arrAt_in 4 rfl _).trans ((A_eq m c 4).trans (V_main_arg3 m c)))
  · refine (θ_run Cert.MergeBwdRefIdeal.defs _ _).mono (fun r h c => ⟨(h c).1.trans ?_, (h c).2.1.trans ?_,
      (h c).2.2.1.trans ?_, (h c).2.2.2.1.trans ?_, (h c).2.2.2.2⟩) (Cert.MergeBwdRefIdeal.Value.run (F := Ideal) m' g')
    · rw [(hargs c).1, (hargs c).2.2.2]
      exact funext fun i => (branch_reference _ _ i).trans (congrArg (fun g => Merge.gate g * _) (columnA _ i))
    · rw [(hargs c).1, (hargs c).2.2.2]
      exact funext fun i => (branch_reference _ _ i).trans (congrArg (fun g => Merge.gate g * _) (columnD _ i))
    · rw [(hargs c).1, (hargs c).2.1, (hargs c).2.2.2]
      exact funext fun i => (inGate_reference _ _ _ i).trans (congrArg (fun g => Merge.inGate (Merge.gate g) _ _) (columnA _ i))
    · rw [(hargs c).1, (hargs c).2.2.1, (hargs c).2.2.2]
      exact funext fun i => (inGate_reference _ _ _ i).trans (congrArg (fun g => Merge.inGate (Merge.gate g) _ _) (columnD _ i))

theorem frame : Cert.quiescent_MergeBwd := fun m ρ _ => Cert.MergeBwd.Gen.frame m ρ

theorem frame_ideal : Cert.quiescent_MergeBwdIdeal := fun m ρ _ => Cert.MergeBwdIdeal.Gen.frame m ρ

theorem frame_reference : Cert.quiescent_MergeBwdRefIdeal := fun m ρ _ =>
  (θ_run Cert.MergeBwdRefIdeal.defs _ _).mono (fun r h => ⟨fun c => (h c).2.2.2.2,
      Idealize.ShloMosaic.sem_eq_zero_of_no_sems (by decide) r.2⟩)
    (Cert.MergeBwdRefIdeal.Value.run (F := Ideal) m ρ)

end Cert.MergeBackward
end
-- ==== Proof.MergeForward.lean ====
module
public import proofs.«01_k».proof.Defs
public import proofs.«01_k».proof.Proof.Gen.MergeFwd.Frame
public import proofs.«01_k».proof.Proof.Gen.MergeFwdIdeal.Frame
public import proofs.«01_k».proof.Proof.Gen.MergeFwdRefIdeal.Run
public import proofs.«01_k».proof.Proof.MergeBackward
public import Idealize.ShloMosaic.Lib.Quiescent

/-! `MergeFwd`: the gated merge of the two branches. -/

@[expose] public section

set_option maxRecDepth 16384

noncomputable section

namespace Cert.MergeForward

open Idealize.ShloMosaic Idealize.ShloMosaic.TcCoe Idealize.SL.Sem

/-- The merge of the branches `A` and `D`, the gates taken from the projection `P`. -/
def merged (P : FVec Ideal ⟨2, ![4096, 15360]⟩ .f32) (A D : FVec Ideal ⟨2, ![4096, 2048]⟩ .f32) : FVec Ideal ⟨2, ![4096, 2048]⟩ .bf16 :=
  fun i => Merge.gateA P i * A i + Merge.gateD P i * D i

section Kernel

open Cert.MergeFwdIdeal Cert.MergeFwdIdeal.Gen

variable (m : (ℓ : Loc nD τ sig) → Buf (Elt Ideal) ℓ)

theorem merge_at (g a h d : Vec Ideal S512x512 .f32) (j : S512x512.Idx) :
    k0_pay1 g a h d j = Merge.gate (g j) * a j + Merge.gate (h j) * d j := by
  unfold Merge.gate
  pointwise [k0_pay1]
  rw [zero_sub, zero_sub]

theorem places : ∀ t : Fin cfg0.N, win0_0.index t = ![t.val / 4, 22 + t.val % 4] ∧ win0_1.index t = ![t.val / 4, 26 + t.val % 4] ∧ win0_2.index t = ![t.val / 4, t.val % 4]
    ∧ win0_3.index t = ![t.val / 4, t.val % 4] ∧ win0_4.index t = ![t.val / 4, t.val % 4] := (by decide +kernel : ∀ t : Fin grid0.N, _)

theorem result (c : Dev nD) : (dats m 0 c).arrAt 4 cfg0.N
    = merged (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  unfold out0_4
  frame_out
  rw [merge_at]
  unfold merged Merge.gateA Merge.gateD Merge.column
  blk_point [iblk, V, places t]

end Kernel

section Reference

open Cert.MergeFwdRefIdeal Cert.MergeFwdRefIdeal.Gen

theorem reference (P : FVec Ideal S4096x15360 .f32) (A D : FVec Ideal S4096x2048 .f32) :
    truncf .bf16 (addf (mulf (MergeBackward.sigmoid (extractStridedSlice S4096x2048 ![0, 11264] P slices_S4096x15360_S4096x2048_0_11264)) A) (mulf (MergeBackward.sigmoid (extractStridedSlice S4096x2048 ![0, 13312] P slices_S4096x15360_S4096x2048_0_13312)) D)) bitsLt_bf16_f32
      = merged P A D := by
  funext i
  unfold merged
  pointwise [MergeBackward.sigmoid_at, MergeBackward.columnA, MergeBackward.columnD]

end Reference

open Cert.MergeFwdIdeal Cert.MergeFwdIdeal.Gen in
theorem algebraic : Cert.algebraic_MergeFwdIdeal_MergeFwdRefIdeal := by
  intro m g m' g' _ hargs
  refine ⟨fun c => merged (m ((c : Thread nD τ).loc main_arg0)) (m ((c : Thread nD τ).loc main_arg1)) (m ((c : Thread nD τ).loc main_arg2)), ?_, ?_⟩
  · refine (θ_run defs _ _).mono (fun r h c => ⟨((h c).1 4).trans (result m c), ?_, ?_, ?_⟩) (run_main m g)
    · exact ((h c).1 0).trans (((dats m 0 c).arrAt_in 0 rfl _).trans ((A_eq m c 0).trans (V_main_arg0 m c)))
    · exact ((h c).1 2).trans (((dats m 0 c).arrAt_in 2 rfl _).trans ((A_eq m c 2).trans (V_main_arg1 m c)))
    · exact ((h c).1 3).trans (((dats m 0 c).arrAt_in 3 rfl _).trans ((A_eq m c 3).trans (V_main_arg2 m c)))
  · refine (θ_run Cert.MergeFwdRefIdeal.defs _ _).mono (fun r h c => ⟨(h c).1.trans ?_, (h c).2⟩)
      (Cert.MergeFwdRefIdeal.Value.run (F := Ideal) m' g')
    rw [(hargs c).1, (hargs c).2.1, (hargs c).2.2]
    exact reference _ _ _

theorem frame : Cert.quiescent_MergeFwd := fun m ρ _ => Cert.MergeFwd.Gen.frame m ρ

theorem frame_ideal : Cert.quiescent_MergeFwdIdeal := fun m ρ _ => Cert.MergeFwdIdeal.Gen.frame m ρ

theorem frame_reference : Cert.quiescent_MergeFwdRefIdeal := fun m ρ _ =>
  (θ_run Cert.MergeFwdRefIdeal.defs _ _).mono (fun r h => ⟨fun c => (h c).2,
      Idealize.ShloMosaic.sem_eq_zero_of_no_sems (by decide) r.2⟩)
    (Cert.MergeFwdRefIdeal.Value.run (F := Ideal) m ρ)

end Cert.MergeForward
end
-- ==== Proof.Conv.lean ====
module
public import Idealize.ShloMosaic.Lib.Pointwise
public import Idealize.ShloMosaic.Lib.Pipeline.ValueKit
public import proofs.«01_k».proof.Proof.Merge

/-! The causal convolution along the rows of an array, each column for itself, with zeros before the first row. -/

@[expose] public section

noncomputable section

namespace Cert.Conv

open Idealize.ShloMosaic

variable {N W : ℕ}

/-- The element `s` rows back. -/
def back (s : ℕ) (X : FVec Ideal ⟨2, ![N, W]⟩ .f32) (r : Fin N) (l : Fin W) : EReal :=
  if h : s ≤ r.val then X (ix2 ⟨r.val - s, by omega⟩ l) else 0

/-- The convolution with the `K` weights of each column; the last weight meets the element itself. -/
def conv {K : ℕ} (X : FVec Ideal ⟨2, ![N, W]⟩ .f32) (V : FVec Ideal ⟨2, ![K, W]⟩ .f32) (r : Fin N) (l : Fin W) : EReal :=
  ∑ j : Fin K, back (K - 1 - j.val) X r l * V (ix2 j l)

/-- A number times its gate. -/
def silu (x : EReal) : EReal := x * Merge.gate x

/-! A tile of 512 rows under the eight rows before it. -/

/-- The element `s` rows back in the tile, or in the rows before it. -/
def backTile (s : ℕ) (p : FVec Ideal ⟨2, ![8, 512]⟩ .f32) (x : FVec Ideal ⟨2, ![512, 512]⟩ .f32) (hs : s ≤ 8) (r l : Fin 512) : EReal :=
  if h : s ≤ r.val then x (ix2 ⟨r.val - s, by omega⟩ l) else p (ix2 ⟨8 + r.val - s, by omega⟩ l)

theorem rolled (n : BitVec 32) (hs : n.toNat ≤ 8) (p : FVec Ideal ⟨2, ![8, 512]⟩ .f32) (x : FVec Ideal ⟨2, ![512, 512]⟩ .f32)
    (hc : Shape.Concatenates [⟨2, ![8, 512]⟩, ⟨2, ![512, 512]⟩] ⟨2, ![520, 512]⟩ 0)
    (hr : Shape.Rotates ⟨2, ![520, 512]⟩ 0 none) (he : Shape.Slices ⟨2, ![520, 512]⟩ ![8, 0] ⟨2, ![512, 512]⟩) :
    extractStridedSlice ⟨2, ![512, 512]⟩ ![8, 0] (dynamicRotate 0 n none
      (concatenate ⟨2, ![520, 512]⟩ 0 [⟨⟨2, ![8, 512]⟩, p⟩, ⟨⟨2, ![512, 512]⟩, x⟩] hc) hr) he = fun j => backTile n.toNat p x hs (j 0) (j 1) := by
  funext j
  unfold backTile
  have h0 : (j 0).val < 512 := (j 0).isLt
  have e : (8 + (j 0).val + 520 - n.toNat % 520) % 520 = 8 + (j 0).val - n.toNat := by omega
  pointwise []
  simp only [e]
  by_cases h : n.toNat ≤ (j 0).val
  · rw [dif_pos h, dif_neg (by omega)]
    exact congrArg (fun k => x (ix2 k (j 1))) (Fin.ext (by simp only []; omega))
  · rw [dif_neg h, dif_pos (by omega)]

theorem unrolled (p : FVec Ideal ⟨2, ![8, 512]⟩ .f32) (x : FVec Ideal ⟨2, ![512, 512]⟩ .f32)
    (hc : Shape.Concatenates [⟨2, ![8, 512]⟩, ⟨2, ![512, 512]⟩] ⟨2, ![520, 512]⟩ 0)
    (he : Shape.Slices ⟨2, ![520, 512]⟩ ![8, 0] ⟨2, ![512, 512]⟩) :
    extractStridedSlice ⟨2, ![512, 512]⟩ ![8, 0]
      (concatenate ⟨2, ![520, 512]⟩ 0 [⟨⟨2, ![8, 512]⟩, p⟩, ⟨⟨2, ![512, 512]⟩, x⟩] hc) he = fun j => backTile 0 p x (by decide) (j 0) (j 1) := by
  funext j
  unfold backTile
  rw [dif_pos (Nat.zero_le _)]
  pointwise []

/-- The convolution of a tile. -/
def convTile {K : ℕ} (hK : K ≤ 8) (p : FVec Ideal ⟨2, ![8, 512]⟩ .f32) (x : FVec Ideal ⟨2, ![512, 512]⟩ .f32) (V : FVec Ideal ⟨2, ![K, 512]⟩ .f32)
    (r l : Fin 512) : EReal :=
  ∑ j : Fin K, backTile (K - 1 - j.val) p x (by omega) r l * V (ix2 j l)

/-- The rows before the first tile count as zero. -/
def seen (n : ℕ) (p : FVec Ideal ⟨2, ![8, 512]⟩ .f32) : FVec Ideal ⟨2, ![8, 512]⟩ .f32 := fun i => if 0 < n then p i else 0

theorem not_first : ∀ n : Fin 8, Scalar.cmpi .sgt (BitVec.ofNat 32 n.val) 0#32 = if 0 < n.val then 1#1 else 0#1 := by decide

theorem seen_eq (n : Fin 8) (p : FVec Ideal ⟨2, ![8, 512]⟩ .f32) :
    Scalar.select (Scalar.cmpi .sgt (BitVec.ofNat 32 n.val) 0#32) p (broadcast ⟨2, ![8, 512]⟩ (Scalar.ofBits .f32 0x00000000#32 : Ideal .f32)) = seen n.val p := by
  funext i
  unfold seen
  rw [not_first]
  split_ifs <;> pointwise []

/-- Tile `q` of the columns `c` of an array, under the eight rows before it, convolves as the array does there. -/
theorem convTile_eq {K : ℕ} (hK : K ≤ 8) (X : FVec Ideal ⟨2, ![4096, W]⟩ .f32) (V : FVec Ideal ⟨2, ![K, W]⟩ .f32) (q : Fin 8) (c : Fin 512 → Fin W)
    (p : FVec Ideal ⟨2, ![8, 512]⟩ .f32) (x : FVec Ideal ⟨2, ![512, 512]⟩ .f32) (v : FVec Ideal ⟨2, ![K, 512]⟩ .f32)
    (hx : ∀ r l : Fin 512, x (ix2 r l) = X (ix2 ⟨512 * q.val + r.val, by omega⟩ (c l)))
    (hp : 0 < q.val → ∀ (r : Fin 8) (l : Fin 512), p (ix2 r l) = X (ix2 ⟨512 * q.val + r.val - 8, by omega⟩ (c l)))
    (hv : ∀ (k : Fin K) (l : Fin 512), v (ix2 k l) = V (ix2 k (c l))) (r l : Fin 512) :
    convTile hK (seen q.val p) x v r l = conv X V ⟨512 * q.val + r.val, by omega⟩ (c l) := by
  unfold convTile conv
  refine Finset.sum_congr rfl fun k _ => ?_
  rw [hv]
  congr 1
  unfold backTile back seen
  by_cases h : K - 1 - k.val ≤ r.val
  · rw [dif_pos h, dif_pos (by simp only []; omega), hx]
    exact congrArg (fun k => X (ix2 k (c l))) (Fin.ext (by simp only []; omega))
  · rw [dif_neg h]
    by_cases hq : 0 < q.val
    · rw [if_pos hq, dif_pos (by simp only []; omega), hp hq]
      exact congrArg (fun k => X (ix2 k (c l))) (Fin.ext (by simp only []; omega))
    · rw [if_neg hq, dif_neg (by simp only []; omega)]

/-! The whole array under `P` rows of zeros. -/

theorem padded {P s : ℕ} (o : ℕ) (h : o + s = P) (z : FVec Ideal ⟨3, ![1, P, W]⟩ .f32) (hz : ∀ i, z i = 0) (x : FVec Ideal ⟨3, ![1, 4096, W]⟩ .f32)
    (hc : Shape.Concatenates [⟨3, ![1, P, W]⟩, ⟨3, ![1, 4096, W]⟩] ⟨3, ![1, 4096 + P, W]⟩ 1)
    (he : Shape.Slices ⟨3, ![1, 4096 + P, W]⟩ ![0, o, 0] ⟨3, ![1, 4096, W]⟩) (r : Fin 4096) (l : Fin W) :
    extractStridedSlice ⟨3, ![1, 4096, W]⟩ ![0, o, 0]
      (concatenate ⟨3, ![1, 4096 + P, W]⟩ 1 [⟨⟨3, ![1, P, W]⟩, z⟩, ⟨⟨3, ![1, 4096, W]⟩, x⟩] hc) he (ix3 0 r l)
      = back s (fun i : Shape.Idx ⟨2, ![4096, W]⟩ => x (ix3 0 (i 0) (i 1))) r l := by
  unfold back
  pointwise [hz]
  split_ifs with hlt hr hr
  · change o + r.val < P at hlt
    omega
  · rfl
  · refine congrArg x (funext fun a => ?_)
    fin_cases a
    · rfl
    · exact Fin.ext (show o + r.val - P = r.val - s by omega)
    · exact Fin.ext (Nat.zero_add _)
  · change ¬o + r.val < P at hlt
    omega

end Cert.Conv
end
-- ==== Proof.UnitForward.lean ====
module
public import proofs.«01_k».proof.Defs
public import proofs.«01_k».proof.Proof.Gen.GluFwd.Frame
public import proofs.«01_k».proof.Proof.Gen.GluFwdIdeal.Frame
public import proofs.«01_k».proof.Proof.Gen.GluFwdRefIdeal.Run
public import proofs.«01_k».proof.Proof.Conv
public import Idealize.ShloMosaic.Lib.Quiescent

/-! `GluFwd`: the gated unit. The convolution of the first 5632 columns, times its gate, times the convolution of the
other 5632. -/

@[expose] public section

set_option maxRecDepth 16384

noncomputable section

namespace Cert.UnitForward

open Idealize.ShloMosaic Idealize.ShloMosaic.TcCoe Idealize.SL.Sem

/-- The convolution with its bias. -/
def biased (X : FVec Ideal ⟨2, ![4096, 11264]⟩ .f32) (V : FVec Ideal ⟨2, ![3, 11264]⟩ .f32) (B : FVec Ideal ⟨1, ![11264]⟩ .f32)
    (r : Fin 4096) (l : Fin 11264) : EReal :=
  Conv.conv X V r l + B (ix1 l)

/-- Column `l` of the first half and of the second half. -/
abbrev first (l : Fin 5632) : Fin 11264 := ⟨l.val, by omega⟩
abbrev second (l : Fin 5632) : Fin 11264 := ⟨5632 + l.val, by omega⟩

def gated (X : FVec Ideal ⟨2, ![4096, 11264]⟩ .f32) (V : FVec Ideal ⟨2, ![3, 11264]⟩ .f32) (B : FVec Ideal ⟨1, ![11264]⟩ .f32) :
    FVec Ideal ⟨2, ![4096, 5632]⟩ .bf16 :=
  fun i => Conv.silu (biased X V B (i 0) (first (i 1))) * biased X V B (i 0) (second (i 1))

section Kernel

open Cert.GluFwdIdeal Cert.GluFwdIdeal.Gen

variable (m : (ℓ : Loc nD τ sig) → Buf (Elt Ideal) ℓ)

theorem gate_at (i : grid0.Coords) (p : Vec Ideal S8x512 .f32) (x : Vec Ideal S512x512 .f32) (w : Vec Ideal S3x512 .f32) (b : Vec Ideal S1x512 .f32)
    (j : S512x512.Idx) :
    k0_pay2 i p x w b j = Conv.convTile (by decide) (Conv.seen (i 1).val p) x w (j 0) (j 1) + b (ix2 0 (j 1)) := by
  unfold Conv.convTile k0_pay2
  rw [Conv.seen_eq (show Fin 8 from i 1), Fin.sum_univ_three, Conv.rolled 2#32 (by decide), Conv.rolled 1#32 (by decide), Conv.unrolled]
  pointwise []

theorem unit_at (i : grid0.Coords) (g : FVec Ideal S512x512 .f32) (p : Vec Ideal S8x512 .f32) (x : Vec Ideal S512x512 .f32) (w : Vec Ideal S3x512 .f32)
    (b : Vec Ideal S1x512 .f32) (j : S512x512.Idx) :
    k0_pay1 g (k0_pay3 i p x) w (k0_pay4 i p x w) b j
      = Conv.silu (g j) * (Conv.convTile (by decide) (Conv.seen (i 1).val p) x w (j 0) (j 1) + b (ix2 0 (j 1))) := by
  unfold Conv.silu Merge.gate Conv.convTile k0_pay1 k0_pay4 k0_pay3
  dsimp only
  rw [Conv.seen_eq (show Fin 8 from i 1), Fin.sum_univ_three, Conv.rolled 2#32 (by decide), Conv.rolled 1#32 (by decide), Conv.unrolled]
  pointwise []
  rw [zero_sub]

theorem places : ∀ t : Fin cfg0.N, win0_0.index t = ![t.val % 8, t.val / 8] ∧ win0_1.index t = ![t.val % 8 * 64 - 1, t.val / 8]
    ∧ win0_2.index t = ![t.val % 8, 11 + t.val / 8] ∧ win0_3.index t = ![t.val % 8 * 64 - 1, 11 + t.val / 8]
    ∧ win0_4.index t = ![0, t.val / 8] ∧ win0_5.index t = ![0, 11 + t.val / 8] ∧ win0_6.index t = ![0, t.val / 8] ∧ win0_7.index t = ![0, 11 + t.val / 8]
    ∧ win0_8.index t = ![t.val % 8, t.val / 8] ∧ (grid0.coords t 1).val = t.val % 8 := (by decide +kernel : ∀ t : Fin grid0.N, _)

/-- The bias as the grid finds it: one row. -/
theorem bias (c : Dev nD) (j : S1x11264.Idx) :
    V m c main_v0 j = (show Vec Ideal S11264 .f32 from m ((c : Thread nD τ).loc main_arg2)) (ix1 (j 1)) := by
  rw [show V m c main_v0 = shapeCast S1x11264 (show Vec Ideal S11264 .f32 from m ((c : Thread nD τ).loc main_arg2)) shapeCasts_S11264_S1x11264 by
    unfold V
    after_results_simp <;> rfl]
  pointwise []

theorem result (c : Dev nD) : (dats m 0 c).arrAt 8 cfg0.N
    = gated (m ((c : Thread nD τ).loc main_arg0)) (m ((c : Thread nD τ).loc main_arg1)) (m ((c : Thread nD τ).loc main_arg2)) := by
  refine (dats m 0 c).arrAt_eq_of_covers 8 _ (by decide +kernel) fun t hf y => ?_
  have ht : t.val < 88 := t.isLt
  blk_simp
  rw [after0_8]
  unfold out0_8
  frame_out
  rw [unit_at, gate_at, (places t).2.2.2.2.2.2.2.2.2]
  refine (congrArg₂ (fun a b => Conv.silu a * b)
    (congrArg₂ (· + ·) (Conv.convTile_eq (by decide) (m ((c : Thread nD τ).loc main_arg0)) (m ((c : Thread nD τ).loc main_arg1))
      ⟨t.val % 8, by omega⟩ (fun l => ⟨512 * (t.val / 8) + l.val, by omega⟩) (iblk m c 1 t) (iblk m c 0 t) (iblk m c 4 t)
      (fun r l => ?_) (fun hq r l => ?_) (fun k l => ?_) _ _)
      (?_ : _ = (show Vec Ideal S11264 .f32 from m ((c : Thread nD τ).loc main_arg2)) (ix1 ⟨512 * (t.val / 8) + (y 1).val, by have : (y 1).val < 512 := (y 1).isLt; omega⟩)))
    (congrArg₂ (· + ·) (Conv.convTile_eq (by decide) (m ((c : Thread nD τ).loc main_arg0)) (m ((c : Thread nD τ).loc main_arg1))
      ⟨t.val % 8, by omega⟩ (fun l => ⟨5632 + (512 * (t.val / 8) + l.val), by omega⟩) (iblk m c 3 t) (iblk m c 2 t) (iblk m c 5 t)
      (fun r l => ?_) (fun hq r l => ?_) (fun k l => ?_) _ _)
      (?_ : _ = (show Vec Ideal S11264 .f32 from m ((c : Thread nD τ).loc main_arg2)) (ix1 ⟨5632 + (512 * (t.val / 8) + (y 1).val), by have : (y 1).val < 512 := (y 1).isLt; omega⟩)))).trans ?_
  · blk_point [iblk, V, places t]
  · simp only [] at hq
    blk_point [iblk, V, places t]
  · blk_point [iblk, V, places t]
  · blk_point [iblk, bias, places t]
  · blk_point [iblk, V, places t]
  · simp only [] at hq
    blk_point [iblk, V, places t]
  · blk_point [iblk, V, places t]
  · blk_point [iblk, bias, places t]
  · change gated (m ((c : Thread nD τ).loc main_arg0)) (m ((c : Thread nD τ).loc main_arg1)) (m ((c : Thread nD τ).loc main_arg2))
      (ix2 (⟨512 * (t.val % 8) + (y 0).val, by have : (y 0).val < 512 := (y 0).isLt; omega⟩ : Fin 4096)
        (⟨512 * (t.val / 8) + (y 1).val, by have : (y 1).val < 512 := (y 1).isLt; omega⟩ : Fin 5632)) = _
    generalize gated (m ((c : Thread nD τ).loc main_arg0)) (m ((c : Thread nD τ).loc main_arg1)) (m ((c : Thread nD τ).loc main_arg2)) = Z
    blk_point [places t]

end Kernel

section Reference

open Cert.GluFwdRefIdeal Cert.GluFwdRefIdeal.Gen

variable (X : FVec Ideal S4096x11264 .f32) (V : FVec Ideal S3x11264 .f32) (B : FVec Ideal S11264 .f32)

abbrev padding : FVec Ideal S1x2x11264 .f32 := broadcastInDim S1x2x11264 ![] bcast_S_S1x2x11264 (constant S_ .f32 0x00000000#32)

theorem padding_at (i : S1x2x11264.Idx) : padding i = 0 := by pointwise [padding]

abbrev own : FVec Ideal S1x4096x11264 .f32 := broadcastInDim S1x4096x11264 ![1, 2] bcast_S4096x11264_S1x4096x11264_1_2 X

theorem own_at : (fun i : Shape.Idx S4096x11264 => own X (ix3 0 (i 0) (i 1))) = X := by
  funext i
  pointwise [own]

abbrev under : FVec Ideal S1x4098x11264 .f32 := concatenate S1x4098x11264 1 [⟨S1x2x11264, padding⟩, ⟨S1x4096x11264, own X⟩] concatenates_S1x2x11264_S1x4096x11264_S1x4098x11264_d1

/-- One weight of each column, along the rows. -/
abbrev weight (o : ℕ) (h : S3x11264.Slices ![o, 0] S1x11264) : FVec Ideal S1x4096x11264 .f32 := broadcastInDim S1x4096x11264 ![0, 1, 2] bcast_S1x1x11264_S1x4096x11264_0_1_2 (broadcastInDim S1x1x11264 ![2] bcast_S11264_S1x1x11264_2 (shapeCast _ (extractStridedSlice S1x11264 ![o, 0] V h) shapeCasts_S1x11264_S11264))

abbrev along : FVec Ideal S1x4096x11264 .f32 := broadcastInDim S1x4096x11264 ![0, 1, 2] bcast_S1x1x11264_S1x4096x11264_0_1_2 (broadcastInDim S1x1x11264 ![2] bcast_S11264_S1x1x11264_2 B)

abbrev sum : FVec Ideal S1x4096x11264 .f32 :=
  addf (addf (addf (mulf (extractStridedSlice S1x4096x11264 ![0, 0, 0] (under X) slices_S1x4098x11264_S1x4096x11264_0_0_0) (weight V 0 slices_S3x11264_S1x11264_0_0))
    (mulf (extractStridedSlice S1x4096x11264 ![0, 1, 0] (under X) slices_S1x4098x11264_S1x4096x11264_0_1_0) (weight V 1 slices_S3x11264_S1x11264_1_0)))
    (mulf (extractStridedSlice S1x4096x11264 ![0, 2, 0] (under X) slices_S1x4098x11264_S1x4096x11264_0_2_0) (weight V 2 slices_S3x11264_S1x11264_2_0))) (along B)

theorem weight_at (o : ℕ) (ho : o < 3) (h : S3x11264.Slices ![o, 0] S1x11264) (r : Fin 4096) (l : Fin 11264) :
    weight V o h (ix3 0 r l) = V (ix2 ⟨o, ho⟩ l) := by
  pointwise [weight]

theorem along_at (r : Fin 4096) (l : Fin 11264) : along B (ix3 0 r l) = B (ix1 l) := by
  pointwise [along]

theorem under_at (o s : ℕ) (h : o + s = 2) (he : S1x4098x11264.Slices ![0, o, 0] S1x4096x11264) (r : Fin 4096) (l : Fin 11264) :
    extractStridedSlice S1x4096x11264 ![0, o, 0] (under X) he (ix3 0 r l) = Conv.back s X r l :=
  (Conv.padded o h padding padding_at (own X) _ he r l).trans (congrArg (fun Y => Conv.back s Y r l) (own_at X))

theorem sum_at (r : Fin 4096) (l : Fin 11264) : sum X V B (ix3 0 r l) = biased X V B r l := by
  unfold biased Conv.conv
  rw [Fin.sum_univ_three]
  change _ * _ + _ * _ + _ * _ + _ = _
  rw [under_at X 0 2 rfl, under_at X 1 1 rfl, under_at X 2 0 rfl]
  rw [weight_at V 0 (by decide), weight_at V 1 (by decide), weight_at V 2 (by decide), along_at]
  rfl

theorem first_at (r : Fin 4096) (l : Fin 5632) :
    extractStridedSlice S1x4096x5632 ![0, 0, 0] (sum X V B) slices_S1x4096x11264_S1x4096x5632_0_0_0 (ix3 0 r l) = biased X V B r (first l) := by
  rw [← sum_at]
  generalize sum X V B = Z
  pointwise []

theorem second_at (r : Fin 4096) (l : Fin 5632) :
    extractStridedSlice S1x4096x5632 ![0, 0, 5632] (sum X V B) slices_S1x4096x11264_S1x4096x5632_0_0_5632 (ix3 0 r l) = biased X V B r (second l) := by
  rw [← sum_at]
  generalize sum X V B = Z
  pointwise []

/-- The unit of two arrays. -/
abbrev unit (G U : FVec Ideal S1x4096x5632 .f32) : FVec Ideal S4096x5632 .bf16 :=
  truncf .bf16 (shapeCast S4096x5632 (mulf (mulf G (Host.divf (broadcastInDim S1x4096x5632 ![] bcast_S_S1x4096x5632 (constant S_ .f32 0x3F800000#32))
    (addf (broadcastInDim S1x4096x5632 ![] bcast_S_S1x4096x5632 (constant S_ .f32 0x3F800000#32)) (Host.exp (Host.negf G))))) U) shapeCasts_S1x4096x5632_S4096x5632) bitsLt_bf16_f32

theorem unit_reference (G U : FVec Ideal S1x4096x5632 .f32) (i : S4096x5632.Idx) :
    unit G U i = Conv.silu (G (ix3 0 (i 0) (i 1))) * U (ix3 0 (i 0) (i 1)) := by
  unfold Conv.silu Merge.gate
  pointwise [unit]

theorem reference : unit (extractStridedSlice S1x4096x5632 ![0, 0, 0] (sum X V B) slices_S1x4096x11264_S1x4096x5632_0_0_0)
      (extractStridedSlice S1x4096x5632 ![0, 0, 5632] (sum X V B) slices_S1x4096x11264_S1x4096x5632_0_0_5632)
    = gated X V B := by
  funext i
  rw [unit_reference, first_at X V B (i 0) (i 1), second_at X V B (i 0) (i 1)]
  rfl

end Reference

open Cert.GluFwdIdeal Cert.GluFwdIdeal.Gen in
theorem algebraic : Cert.algebraic_GluFwdIdeal_GluFwdRefIdeal := by
  intro m g m' g' _ hargs
  refine ⟨fun c => gated (m ((c : Thread nD τ).loc main_arg0)) (m ((c : Thread nD τ).loc main_arg1)) (m ((c : Thread nD τ).loc main_arg2)), ?_, ?_⟩
  · refine (θ_run defs _ _).mono (fun r h c => ⟨((h c).1 8).trans (result m c), ?_, ?_, ?_⟩) (run_main m g)
    · exact ((h c).1 0).trans (((dats m 0 c).arrAt_in 0 rfl _).trans ((A_eq m c 0).trans (V_main_arg0 m c)))
    · exact ((h c).1 4).trans (((dats m 0 c).arrAt_in 4 rfl _).trans ((A_eq m c 4).trans (V_main_arg1 m c)))
    · exact ((h c).2 main_arg2 (Pipeline.mem_restRefs_of main_arg2 (by decide) (by decide))).trans (V_main_arg2 m c)
  · refine (θ_run Cert.GluFwdRefIdeal.defs _ _).mono (fun r h c => ⟨(h c).1.trans ?_, (h c).2⟩)
      (Cert.GluFwdRefIdeal.Value.run (F := Ideal) m' g')
    unfold Cert.GluFwdRefIdeal.Value.res_main_v31
    rw [(hargs c).1, (hargs c).2.1, (hargs c).2.2]
    exact reference _ _ _

theorem frame : Cert.quiescent_GluFwd := fun m ρ _ => Cert.GluFwd.Gen.frame m ρ

theorem frame_ideal : Cert.quiescent_GluFwdIdeal := fun m ρ _ => Cert.GluFwdIdeal.Gen.frame m ρ

theorem frame_reference : Cert.quiescent_GluFwdRefIdeal := fun m ρ _ =>
  (θ_run Cert.GluFwdRefIdeal.defs _ _).mono (fun r h => ⟨fun c => (h c).2,
      Idealize.ShloMosaic.sem_eq_zero_of_no_sems (by decide) r.2⟩)
    (Cert.GluFwdRefIdeal.Value.run (F := Ideal) m ρ)

end Cert.UnitForward
end
-- ==== Proof.ConvForward.lean ====
module
public import proofs.«01_k».proof.Defs
public import proofs.«01_k».proof.Proof.Gen.DnconvFwd.Frame
public import proofs.«01_k».proof.Proof.Gen.DnconvFwdIdeal.Frame
public import proofs.«01_k».proof.Proof.Gen.DnconvFwdRefIdeal.Run
public import proofs.«01_k».proof.Proof.Conv
public import Idealize.ShloMosaic.Lib.Quiescent

/-! `DnconvFwd`: the causal convolution of the delta rule's queries, keys and values, each number then times its gate. -/

@[expose] public section

set_option maxRecDepth 16384

noncomputable section

namespace Cert.ConvForward

open Idealize.ShloMosaic Idealize.ShloMosaic.TcCoe Idealize.SL.Sem

/-- The 6144 columns of the projection that hold the queries, the keys and the values. -/
def columns (P : FVec Ideal ⟨2, ![4096, 15360]⟩ .f32) : FVec Ideal ⟨2, ![4096, 6144]⟩ .f32 :=
  fun i => P (ix2 (i 0) (⟨3072 + (i 1).val, by have : (i 1).val < 6144 := (i 1).isLt; omega⟩ : Fin 15360))

def convolved (P : FVec Ideal ⟨2, ![4096, 15360]⟩ .f32) (V : FVec Ideal ⟨2, ![4, 6144]⟩ .f32) : FVec Ideal ⟨2, ![4096, 6144]⟩ .f32 :=
  fun i => Conv.silu (Conv.conv (columns P) V (i 0) (i 1))

section Kernel

open Cert.DnconvFwdIdeal Cert.DnconvFwdIdeal.Gen

variable (m : (ℓ : Loc nD τ sig) → Buf (Elt Ideal) ℓ)

theorem tile_at (i : grid0.Coords) (p : Vec Ideal S8x512 .f32) (x : Vec Ideal S512x512 .f32) (w : Vec Ideal S4x512 .f32) (j : S512x512.Idx) :
    k0_pay1 i p x w j = Conv.silu (Conv.convTile (by decide) (Conv.seen (i 1).val p) x w (j 0) (j 1)) := by
  unfold Conv.silu Merge.gate Conv.convTile k0_pay1
  rw [Conv.seen_eq (show Fin 8 from i 1), Fin.sum_univ_four]
  rw [Conv.rolled 3#32 (by decide), Conv.rolled 2#32 (by decide), Conv.rolled 1#32 (by decide), Conv.unrolled]
  pointwise []
  rw [zero_sub]

theorem places : ∀ t : Fin cfg0.N, win0_0.index t = ![t.val % 8, 6 + t.val / 8] ∧ win0_1.index t = ![t.val % 8 * 64 - 1, 6 + t.val / 8] ∧ win0_2.index t = ![0, t.val / 8]
    ∧ win0_3.index t = ![t.val % 8, t.val / 8] ∧ (grid0.coords t 1).val = t.val % 8 := (by decide +kernel : ∀ t : Fin grid0.N, _)

theorem result (c : Dev nD) : (dats m 0 c).arrAt 3 cfg0.N
    = convolved (m ((c : Thread nD τ).loc main_arg0)) (m ((c : Thread nD τ).loc main_arg1)) := by
  refine (dats m 0 c).arrAt_eq_of_covers 3 _ (by decide +kernel) fun t hf y => ?_
  have ht : t.val < 96 := t.isLt
  blk_simp
  rw [after0_3]
  unfold out0_3
  frame_out
  rw [tile_at, (places t).2.2.2.2]
  refine (congrArg Conv.silu (Conv.convTile_eq (by decide) (columns (m ((c : Thread nD τ).loc main_arg0))) (m ((c : Thread nD τ).loc main_arg1))
    ⟨t.val % 8, by omega⟩ (fun l => ⟨512 * (t.val / 8) + l.val, by omega⟩) (iblk m c 1 t) (iblk m c 0 t) (iblk m c 2 t)
    (fun r l => ?_) (fun hq r l => ?_) (fun k l => ?_) _ _)).trans ?_
  · unfold columns
    blk_point [iblk, V, places t]
  · simp only [] at hq
    unfold columns
    blk_point [iblk, V, places t]
  · blk_point [iblk, V, places t]
  · change convolved (m ((c : Thread nD τ).loc main_arg0)) (m ((c : Thread nD τ).loc main_arg1)) (ix2 _ _) = _
    generalize convolved (m ((c : Thread nD τ).loc main_arg0)) (m ((c : Thread nD τ).loc main_arg1)) = Z
    blk_point [places t]

end Kernel

section Reference

open Cert.DnconvFwdRefIdeal Cert.DnconvFwdRefIdeal.Gen

variable (P : FVec Ideal S4096x15360 .f32) (V : FVec Ideal S4x6144 .f32)

abbrev padding : FVec Ideal S1x3x6144 .f32 := broadcastInDim S1x3x6144 ![] bcast_S_S1x3x6144 (constant S_ .f32 0x00000000#32)

theorem padding_at (i : S1x3x6144.Idx) : padding i = 0 := by pointwise [padding]

abbrev own : FVec Ideal S1x4096x6144 .f32 := broadcastInDim S1x4096x6144 ![1, 2] bcast_S4096x6144_S1x4096x6144_1_2 (extractStridedSlice S4096x6144 ![0, 3072] P slices_S4096x15360_S4096x6144_0_3072)

theorem own_at : (fun i : Shape.Idx S4096x6144 => own P (ix3 0 (i 0) (i 1))) = columns P := by
  funext i
  unfold columns
  pointwise [own]

abbrev under : FVec Ideal S1x4099x6144 .f32 := concatenate S1x4099x6144 1 [⟨S1x3x6144, padding⟩, ⟨S1x4096x6144, own P⟩] concatenates_S1x3x6144_S1x4096x6144_S1x4099x6144_d1

/-- One weight of each column, along the rows. -/
abbrev weight (o : ℕ) (h : S4x6144.Slices ![o, 0] S1x6144) : FVec Ideal S1x4096x6144 .f32 := broadcastInDim S1x4096x6144 ![0, 1, 2] bcast_S1x1x6144_S1x4096x6144_0_1_2 (broadcastInDim S1x1x6144 ![2] bcast_S6144_S1x1x6144_2 (shapeCast _ (extractStridedSlice S1x6144 ![o, 0] V h) shapeCasts_S1x6144_S6144))

abbrev sum : FVec Ideal S1x4096x6144 .f32 :=
  addf (addf (addf (mulf (extractStridedSlice S1x4096x6144 ![0, 0, 0] (under P) slices_S1x4099x6144_S1x4096x6144_0_0_0) (weight V 0 slices_S4x6144_S1x6144_0_0))
    (mulf (extractStridedSlice S1x4096x6144 ![0, 1, 0] (under P) slices_S1x4099x6144_S1x4096x6144_0_1_0) (weight V 1 slices_S4x6144_S1x6144_1_0)))
    (mulf (extractStridedSlice S1x4096x6144 ![0, 2, 0] (under P) slices_S1x4099x6144_S1x4096x6144_0_2_0) (weight V 2 slices_S4x6144_S1x6144_2_0)))
    (mulf (extractStridedSlice S1x4096x6144 ![0, 3, 0] (under P) slices_S1x4099x6144_S1x4096x6144_0_3_0) (weight V 3 slices_S4x6144_S1x6144_3_0))

theorem weight_at (o : ℕ) (ho : o < 4) (h : S4x6144.Slices ![o, 0] S1x6144) (r : Fin 4096) (l : Fin 6144) :
    weight V o h (ix3 0 r l) = V (ix2 ⟨o, ho⟩ l) := by
  pointwise [weight]

theorem under_at (o s : ℕ) (h : o + s = 3) (he : S1x4099x6144.Slices ![0, o, 0] S1x4096x6144) (r : Fin 4096) (l : Fin 6144) :
    extractStridedSlice S1x4096x6144 ![0, o, 0] (under P) he (ix3 0 r l) = Conv.back s (columns P) r l := by
  rw [← own_at]
  exact Conv.padded o h padding padding_at (own P) _ he r l

theorem sum_at (r : Fin 4096) (l : Fin 6144) : sum P V (ix3 0 r l) = Conv.conv (columns P) V r l := by
  unfold Conv.conv
  rw [Fin.sum_univ_four]
  change _ * _ + _ * _ + _ * _ + _ * _ = _
  rw [under_at P 0 3 rfl, under_at P 1 2 rfl, under_at P 2 1 rfl, under_at P 3 0 rfl]
  rw [weight_at V 0 (by decide), weight_at V 1 (by decide), weight_at V 2 (by decide), weight_at V 3 (by decide)]
  rfl

theorem reference : shapeCast S4096x6144 (mulf (sum P V) (Host.divf (broadcastInDim S1x4096x6144 ![] bcast_S_S1x4096x6144 (constant S_ .f32 0x3F800000#32))
      (addf (broadcastInDim S1x4096x6144 ![] bcast_S_S1x4096x6144 (constant S_ .f32 0x3F800000#32)) (Host.exp (Host.negf (sum P V)))))) shapeCasts_S1x4096x6144_S4096x6144
    = convolved P V := by
  funext i
  unfold convolved Conv.silu Merge.gate
  pointwise [sum_at]

end Reference

open Cert.DnconvFwdIdeal Cert.DnconvFwdIdeal.Gen in
theorem algebraic : Cert.algebraic_DnconvFwdIdeal_DnconvFwdRefIdeal := by
  intro m g m' g' _ hargs
  refine ⟨fun c => convolved (m ((c : Thread nD τ).loc main_arg0)) (m ((c : Thread nD τ).loc main_arg1)), ?_, ?_⟩
  · refine (θ_run defs _ _).mono (fun r h c => ⟨((h c).1 3).trans (result m c), ?_, ?_⟩) (run_main m g)
    · exact ((h c).1 0).trans (((dats m 0 c).arrAt_in 0 rfl _).trans ((A_eq m c 0).trans (V_main_arg0 m c)))
    · exact ((h c).1 2).trans (((dats m 0 c).arrAt_in 2 rfl _).trans ((A_eq m c 2).trans (V_main_arg1 m c)))
  · refine (θ_run Cert.DnconvFwdRefIdeal.defs _ _).mono (fun r h c => ⟨(h c).1.trans ?_, (h c).2⟩)
      (Cert.DnconvFwdRefIdeal.Value.run (F := Ideal) m' g')
    unfold Cert.DnconvFwdRefIdeal.Value.res_main_v32
    rw [(hargs c).1, (hargs c).2]
    exact reference _ _

theorem frame : Cert.quiescent_DnconvFwd := fun m ρ _ => Cert.DnconvFwd.Gen.frame m ρ

theorem frame_ideal : Cert.quiescent_DnconvFwdIdeal := fun m ρ _ => Cert.DnconvFwdIdeal.Gen.frame m ρ

theorem frame_reference : Cert.quiescent_DnconvFwdRefIdeal := fun m ρ _ =>
  (θ_run Cert.DnconvFwdRefIdeal.defs _ _).mono (fun r h => ⟨fun c => (h c).2,
      Idealize.ShloMosaic.sem_eq_zero_of_no_sems (by decide) r.2⟩)
    (Cert.DnconvFwdRefIdeal.Value.run (F := Ideal) m ρ)

end Cert.ConvForward
end
-- ==== Proof.ConvGradient.lean ====
module
public import proofs.«01_k».proof.Proof.Conv

/-! The gradients of the causal convolution: each element meets the elements after it, and each weight its own column. -/

@[expose] public section

noncomputable section

namespace Cert.Conv

open Idealize.ShloMosaic

variable {N W : ℕ}

/-- The slope of a number times its gate. -/
def slope (x : EReal) : EReal := Merge.gate x * (Merge.one + x * (Merge.one - Merge.gate x))

theorem one_eq : Merge.one = 1 := by simp [Ideal.ofBits, Ideal.ieee]

/-- The gate of a real number is real. -/
theorem gate_real (y : ℝ) : ∃ s : ℝ, Merge.gate y = s := by
  refine ⟨(1 + Real.exp (-y))⁻¹, ?_⟩
  have h : (0 : ℝ) < 1 + Real.exp (-y) := by positivity
  unfold Merge.gate
  rw [one_eq, ← EReal.coe_neg, show Ideal.exp ((-y : ℝ) : EReal) = ((Real.exp (-y) : ℝ) : EReal) from rfl, ← EReal.coe_one, ← EReal.coe_add,
    Ideal.div_coe h.ne', ← EReal.coe_mul, one_mul, one_div]

/-- The slope times a real number, found by the rule for products. -/
theorem slope_mul (c : ℝ) (y : EReal) :
    (c : EReal) * Merge.gate y + y * c * (Merge.gate y * (Merge.one - Merge.gate y)) = c * slope y := by
  unfold slope
  induction y using EReal.rec with
  | bot =>
    have h : Merge.gate ⊥ = 0 := by
      unfold Merge.gate
      rw [one_eq, EReal.neg_bot, show Ideal.exp ⊤ = ⊤ from rfl, show (1 : EReal) + ⊤ = ⊤ from EReal.coe_add_top 1]
      simp [Ideal.div]
    simp [h]
  | top =>
    have h : Merge.gate ⊤ = 1 := by
      unfold Merge.gate
      rw [one_eq, EReal.neg_top, show Ideal.exp ⊥ = 0 from rfl]
      simp [Ideal.div]
    have h0 : (1 : EReal) - 1 = 0 := EReal.sub_self (by decide) (by decide)
    simp [h, one_eq, h0]
  | coe y =>
    obtain ⟨s, hs⟩ := gate_real y
    rw [hs, one_eq, ← EReal.coe_one]
    simp only [← EReal.coe_sub, ← EReal.coe_mul, ← EReal.coe_add]
    congr 1
    ring

/-- The element `s` rows on. -/
def ahead (s : ℕ) (D : FVec Ideal ⟨2, ![N, W]⟩ .f32) (r : Fin N) (l : Fin W) : EReal :=
  if h : r.val + s < N then D (ix2 ⟨r.val + s, h⟩ l) else 0

/-- The gradient in the elements, of a convolution whose own gradient is `D`. -/
def inRows {K : ℕ} (D : FVec Ideal ⟨2, ![N, W]⟩ .f32) (V : FVec Ideal ⟨2, ![K, W]⟩ .f32) (r : Fin N) (l : Fin W) : EReal :=
  ∑ j : Fin K, ahead (K - 1 - j.val) D r l * V (ix2 j l)

/-- The gradient in the weights. -/
def inWeights (K : ℕ) (X D : FVec Ideal ⟨2, ![N, W]⟩ .f32) (k : Fin K) (l : Fin W) : EReal :=
  ∑ r : Fin N, D (ix2 r l) * back (K - 1 - k.val) X r l

/-! A tile of 512 rows, the eight rows before it and the eight rows after it. -/

theorem shifted {T U : ℕ} (hU : U = T + 8) (n : BitVec 32) (hs : n.toNat ≤ 8) (Z : FVec Ideal ⟨2, ![U, 512]⟩ .f32)
    (hr : Shape.Rotates ⟨2, ![U, 512]⟩ 0 none) (he : Shape.Slices ⟨2, ![U, 512]⟩ ![8, 0] ⟨2, ![T, 512]⟩) :
    extractStridedSlice ⟨2, ![T, 512]⟩ ![8, 0] (dynamicRotate 0 n none Z hr) he
      = fun j => Z (ix2 ⟨8 + (j 0).val - n.toNat, by have h0 : (j 0).val < T := (j 0).isLt; omega⟩ (j 1)) := by
  funext j
  have h0 : (j 0).val < T := (j 0).isLt
  have e : (8 + (j 0).val + U - n.toNat % U) % U = 8 + (j 0).val - n.toNat := by
    rw [Nat.mod_eq_of_lt (by omega : n.toNat < U), show 8 + (j 0).val + U - n.toNat = 8 + (j 0).val - n.toNat + U by omega, Nat.add_mod_right,
      Nat.mod_eq_of_lt (by omega)]
  pointwise []
  refine congrArg Z (funext fun a => ?_)
  fin_cases a
  · exact Fin.ext e
  · exact Fin.ext (Nat.zero_add _)

theorem unshifted {T U : ℕ} (hU : U = T + 8) (Z : FVec Ideal ⟨2, ![U, 512]⟩ .f32) (he : Shape.Slices ⟨2, ![U, 512]⟩ ![8, 0] ⟨2, ![T, 512]⟩) :
    extractStridedSlice ⟨2, ![T, 512]⟩ ![8, 0] Z he = fun j => Z (ix2 ⟨8 + (j 0).val - 0, by have h0 : (j 0).val < T := (j 0).isLt; omega⟩ (j 1)) := by
  funext j
  pointwise []
  refine congrArg Z (funext fun a => ?_)
  fin_cases a
  · rfl
  · exact Fin.ext (Nat.zero_add _)

theorem lifted (s : ℕ) (n : BitVec 32) (hn : n.toNat + s = 520) (h0 : 0 < s) (hs : s ≤ 8) (Z : FVec Ideal ⟨2, ![520, 512]⟩ .f32)
    (hr : Shape.Rotates ⟨2, ![520, 512]⟩ 0 none) (he : Shape.Slices ⟨2, ![520, 512]⟩ ![0, 0] ⟨2, ![512, 512]⟩) :
    extractStridedSlice ⟨2, ![512, 512]⟩ ![0, 0] (dynamicRotate 0 n none Z hr) he
      = fun j => Z (ix2 ⟨(j 0).val + s, by have h0 : (j 0).val < 512 := (j 0).isLt; omega⟩ (j 1)) := by
  funext j
  have h0 : (j 0).val < 512 := (j 0).isLt
  have e : (0 + (j 0).val + 520 - n.toNat % 520) % 520 = (j 0).val + s := by omega
  pointwise []
  simp only [Nat.zero_add] at e ⊢
  simp only [e]
  try rfl

theorem unlifted (Z : FVec Ideal ⟨2, ![520, 512]⟩ .f32) (he : Shape.Slices ⟨2, ![520, 512]⟩ ![0, 0] ⟨2, ![512, 512]⟩) :
    extractStridedSlice ⟨2, ![512, 512]⟩ ![0, 0] Z he = fun j => Z (ix2 ⟨(j 0).val + 0, by have h0 : (j 0).val < 512 := (j 0).isLt; omega⟩ (j 1)) := by
  funext j
  pointwise []

/-- Row `a` of tile `q` and its surroundings, counted from eight rows before the tile; zero outside the array. -/
def around (X : FVec Ideal ⟨2, ![4096, W]⟩ .f32) (q a : ℕ) (l : Fin W) : EReal :=
  if h : 8 ≤ 512 * q + a ∧ 512 * q + a < 4104 then X (ix2 ⟨512 * q + a - 8, by omega⟩ l) else 0

theorem around_back (X : FVec Ideal ⟨2, ![4096, W]⟩ .f32) (q r s : ℕ) (hs : s ≤ 8) (h : 512 * q + r < 4096) (l : Fin W) :
    around X q (8 + r - s) l = back s X ⟨512 * q + r, h⟩ l := by
  unfold around back
  by_cases hb : s ≤ 512 * q + r
  · rw [dif_pos (by omega), dif_pos hb]
    exact congrArg (fun k => X (ix2 k l)) (Fin.ext (by simp only []; omega))
  · rw [dif_neg (by omega), dif_neg hb]

variable (X : FVec Ideal ⟨2, ![4096, W]⟩ .f32) (q : Fin 8) (c : Fin 512 → Fin W)
  (p : FVec Ideal ⟨2, ![8, 512]⟩ .f32) (x : FVec Ideal ⟨2, ![512, 512]⟩ .f32) (n : FVec Ideal ⟨2, ![8, 512]⟩ .f32)

theorem under_around
    (hx : ∀ r l : Fin 512, x (ix2 r l) = X (ix2 ⟨512 * q.val + r.val, by omega⟩ (c l)))
    (hp : 0 < q.val → ∀ (r : Fin 8) (l : Fin 512), p (ix2 r l) = X (ix2 ⟨512 * q.val + r.val - 8, by omega⟩ (c l)))
    (hc : Shape.Concatenates [⟨2, ![8, 512]⟩, ⟨2, ![512, 512]⟩] ⟨2, ![520, 512]⟩ 0) (a : Fin 520) (l : Fin 512) :
    concatenate ⟨2, ![520, 512]⟩ 0 [⟨⟨2, ![8, 512]⟩, seen q.val p⟩, ⟨⟨2, ![512, 512]⟩, x⟩] hc (ix2 a l) = around X q.val a.val (c l) := by
  by_cases ha : a.val < 8
  · refine Eq.trans (b := seen q.val p (ix2 ⟨a.val, ha⟩ l)) ?_ ?_
    · generalize seen q.val p = Z
      pointwise []
      exact dif_pos ha
    · unfold seen around
      by_cases hq : 0 < q.val
      · rw [if_pos hq, dif_pos (by omega), hp hq]
      · rw [if_neg hq, dif_neg (by omega)]
  · unfold around
    rw [dif_pos (by omega)]
    generalize seen q.val p = Z
    pointwise []
    refine (dif_neg ha).trans ((hx ⟨a.val - 8, by omega⟩ l).trans ?_)
    refine congrArg (fun k : Fin 4096 => X (ix2 k (c l))) (Fin.ext ?_)
    change 512 * q.val + (a.val - 8) = 512 * q.val + a.val - 8
    omega

theorem between_around
    (hx : ∀ r l : Fin 512, x (ix2 r l) = X (ix2 ⟨512 * q.val + r.val, by omega⟩ (c l)))
    (hp : 0 < q.val → ∀ (r : Fin 8) (l : Fin 512), p (ix2 r l) = X (ix2 ⟨512 * q.val + r.val - 8, by omega⟩ (c l)))
    (hn : ∀ h : q.val < 7, ∀ (r : Fin 8) (l : Fin 512), n (ix2 r l) = X (ix2 ⟨512 * q.val + 512 + r.val, by omega⟩ (c l)))
    (hc : Shape.Concatenates [⟨2, ![8, 512]⟩, ⟨2, ![512, 512]⟩] ⟨2, ![520, 512]⟩ 0)
    (hd : Shape.Concatenates [⟨2, ![520, 512]⟩, ⟨2, ![8, 512]⟩] ⟨2, ![528, 512]⟩ 0) (a : Fin 528) (ha : 512 * q.val + a.val < 4104) (l : Fin 512) :
    concatenate ⟨2, ![528, 512]⟩ 0 [⟨⟨2, ![520, 512]⟩, concatenate ⟨2, ![520, 512]⟩ 0 [⟨⟨2, ![8, 512]⟩, seen q.val p⟩, ⟨⟨2, ![512, 512]⟩, x⟩] hc⟩,
      ⟨⟨2, ![8, 512]⟩, n⟩] hd (ix2 a l) = around X q.val a.val (c l) := by
  by_cases h : a.val < 520
  · rw [← under_around X q c p x hx hp hc ⟨a.val, h⟩ l]
    generalize concatenate ⟨2, ![520, 512]⟩ 0 [⟨⟨2, ![8, 512]⟩, seen q.val p⟩, ⟨⟨2, ![512, 512]⟩, x⟩] hc = Z
    pointwise []
    exact dif_pos h
  · unfold around
    rw [dif_pos (by omega)]
    generalize concatenate ⟨2, ![520, 512]⟩ 0 [⟨⟨2, ![8, 512]⟩, seen q.val p⟩, ⟨⟨2, ![512, 512]⟩, x⟩] hc = Z
    pointwise []
    refine (dif_neg h).trans ?_
    refine (hn (by omega) ⟨a.val - 520, by omega⟩ l).trans ?_
    exact congrArg (fun k => X (ix2 k (c l))) (Fin.ext (by simp only []; omega))

/-- The rows after the last tile count as zero. -/
def coming (q : ℕ) (p : FVec Ideal ⟨2, ![8, 512]⟩ .f32) : FVec Ideal ⟨2, ![8, 512]⟩ .f32 := fun i => if q < 7 then p i else 0

theorem not_last : ∀ n : Fin 8, Scalar.cmpi .slt (BitVec.ofNat 32 n.val) 7#32 = if n.val < 7 then 1#1 else 0#1 := by decide

theorem coming_eq (n : Fin 8) (p : FVec Ideal ⟨2, ![8, 512]⟩ .f32) :
    Scalar.select (Scalar.cmpi .slt (BitVec.ofNat 32 n.val) 7#32) p (broadcast ⟨2, ![8, 512]⟩ (Scalar.ofBits .f32 0x00000000#32 : Ideal .f32)) = coming n.val p := by
  funext i
  unfold coming
  rw [not_last]
  split_ifs <;> pointwise []

/-- Row `a` of tile `q` and of the eight rows after it; zero outside the array. -/
def onward (D : FVec Ideal ⟨2, ![4096, W]⟩ .f32) (q a : ℕ) (l : Fin W) : EReal :=
  if h : 512 * q + a < 4096 then D (ix2 ⟨512 * q + a, h⟩ l) else 0

theorem onward_ahead (D : FVec Ideal ⟨2, ![4096, W]⟩ .f32) (q r s : ℕ) (h : 512 * q + r < 4096) (l : Fin W) :
    onward D q (r + s) l = ahead s D ⟨512 * q + r, h⟩ l := by
  unfold onward ahead
  simp only [Nat.add_assoc]

theorem over_onward
    (hx : ∀ r l : Fin 512, x (ix2 r l) = X (ix2 ⟨512 * q.val + r.val, by omega⟩ (c l)))
    (hn : ∀ h : q.val < 7, ∀ (r : Fin 8) (l : Fin 512), n (ix2 r l) = X (ix2 ⟨512 * q.val + 512 + r.val, by omega⟩ (c l)))
    (hc : Shape.Concatenates [⟨2, ![512, 512]⟩, ⟨2, ![8, 512]⟩] ⟨2, ![520, 512]⟩ 0) (a : Fin 520) (l : Fin 512) :
    concatenate ⟨2, ![520, 512]⟩ 0 [⟨⟨2, ![512, 512]⟩, x⟩, ⟨⟨2, ![8, 512]⟩, coming q.val n⟩] hc (ix2 a l) = onward X q.val a.val (c l) := by
  by_cases ha : a.val < 512
  · unfold onward
    rw [dif_pos (by omega)]
    generalize coming q.val n = Z
    pointwise []
    exact (dif_pos ha).trans (hx ⟨a.val, ha⟩ l)
  · refine Eq.trans (b := coming q.val n (ix2 ⟨a.val - 512, by omega⟩ l)) ?_ ?_
    · generalize coming q.val n = Z
      pointwise []
      exact dif_neg ha
    · unfold coming onward
      by_cases hq : q.val < 7
      · rw [if_pos hq, dif_pos (by omega), hn hq]
        exact congrArg (fun k => X (ix2 k (c l))) (Fin.ext (show 512 * q.val + 512 + (a.val - 512) = 512 * q.val + a.val by omega))
      · rw [if_neg hq, dif_neg (by omega)]

/-! The whole array, and the padding in the gradient's way back. -/

theorem pushed {P s : ℕ} (o e : ℕ) (h : o + s = P) (heq : o + e = P) (D : FVec Ideal ⟨3, ![1, 4096, W]⟩ .f32) {u : Shape} (z : FVec Ideal u .f32)
    (hu : 0 < u.numel) (hz : ∀ i, z i = 0) (hp : Shape.Pads ⟨3, ![1, 4096, W]⟩ ![0, o, 0] ![0, e, 0] ![0, 0, 0] ⟨3, ![1, 4096 + P, W]⟩)
    (hs : Shape.Slices ⟨3, ![1, 4096 + P, W]⟩ ![0, P, 0] ⟨3, ![1, 4096, W]⟩) (r : Fin 4096) (l : Fin W) :
    extractStridedSlice ⟨3, ![1, 4096, W]⟩ ![0, P, 0] (pad ⟨3, ![1, 4096 + P, W]⟩ ![0, o, 0] ![0, e, 0] ![0, 0, 0] D z hp hu) hs (ix3 0 r l)
      = ahead s (fun i : Shape.Idx ⟨2, ![4096, W]⟩ => D (ix3 0 (i 0) (i 1))) r l := by
  unfold ahead
  pointwise [hz]
  split_ifs with h1 h2 h2
  · change o ≤ P + r.val ∧ P + r.val - o < 4096 at h1
    refine congrArg D (funext fun a => ?_)
    fin_cases a
    · exact Fin.ext (show (0 + 0 - 0) / (0 + 1) = 0 from rfl)
    · exact Fin.ext (show (P + r.val - o) / (0 + 1) = r.val + s by rw [Nat.div_one]; omega)
    · exact Fin.ext (show (0 + l.val - 0) / (0 + 1) = l.val by rw [Nat.div_one]; omega)
  · change o ≤ P + r.val ∧ P + r.val - o < 4096 at h1
    omega
  · change ¬(o ≤ P + r.val ∧ P + r.val - o < 4096) at h1
    omega
  · rfl

end Cert.Conv
end
-- ==== Proof.ConvBackward.lean ====
module
public import proofs.«01_k».proof.Defs
public import proofs.«01_k».proof.Proof.Gen.DnconvBwd.Frame
public import proofs.«01_k».proof.Proof.Gen.DnconvBwdIdeal.Frame
public import proofs.«01_k».proof.Proof.Gen.DnconvBwdRefIdeal.Run
public import proofs.«01_k».proof.Proof.ConvForward
public import proofs.«01_k».proof.Proof.ConvGradient
public import proofs.«01_k».proof.Proof.AttendClaims
public import Idealize.ShloMosaic.Lib.ReduceAll
public import Idealize.ShloMosaic.Lib.Quiescent

/-! `DnconvBwd`: the gradients of the convolution of the delta rule's queries, keys and values, in the columns of the
projection, rounded to bf16, and in the weights. -/

@[expose] public section

set_option maxRecDepth 16384

noncomputable section

namespace Cert.ConvBackward

open Idealize.ShloMosaic Idealize.ShloMosaic.TcCoe Idealize.SL.Sem Cert.ConvForward

/-- The three gradients that arrive, side by side. -/
def arriving (C : FVec Ideal ⟨3, ![3, 4096, 2048]⟩ .f32) : FVec Ideal ⟨2, ![4096, 6144]⟩ .f32 :=
  fun i => C (ix3 (⟨(i 1).val / 2048, by have : (i 1).val < 6144 := (i 1).isLt; omega⟩ : Fin 3) (i 0)
    (⟨(i 1).val % 2048, by omega⟩ : Fin 2048))

/-- The gradient of the convolution itself. -/
def through (P : FVec Ideal ⟨2, ![4096, 15360]⟩ .f32) (C : FVec Ideal ⟨3, ![3, 4096, 2048]⟩ .f32) (V : FVec Ideal ⟨2, ![4, 6144]⟩ .f32) :
    FVec Ideal ⟨2, ![4096, 6144]⟩ .f32 :=
  fun i => arriving C i * Conv.slope (Conv.conv (columns P) V (i 0) (i 1))

def gradRows (P : FVec Ideal ⟨2, ![4096, 15360]⟩ .f32) (C : FVec Ideal ⟨3, ![3, 4096, 2048]⟩ .f32) (V : FVec Ideal ⟨2, ![4, 6144]⟩ .f32) :
    FVec Ideal ⟨2, ![4096, 6144]⟩ .bf16 :=
  fun i => Conv.inRows (through P C V) V (i 0) (i 1)

def gradWeights (P : FVec Ideal ⟨2, ![4096, 15360]⟩ .f32) (C : FVec Ideal ⟨3, ![3, 4096, 2048]⟩ .f32) (V : FVec Ideal ⟨2, ![4, 6144]⟩ .f32) :
    FVec Ideal ⟨2, ![4, 6144]⟩ .f32 :=
  fun i => Conv.inWeights 4 (columns P) (through P C V) (i 0) (i 1)

section Kernel

open Cert.DnconvBwdIdeal Cert.DnconvBwdIdeal.Gen

variable (m : (ℓ : Loc nD τ sig) → Buf (Elt Ideal) ℓ)

/-! One point's tile. -/

/-- The convolution over the tile's rows and the eight rows after it, of the rows `Z` around the tile. -/
theorem sum_at (i : grid0.Coords) (w : Vec Ideal S4x512 .f32) (p : Vec Ideal S8x512 .f32) (x : Vec Ideal S512x512 .f32) (n : Vec Ideal S8x512 .f32)
    (r : Fin 520) (l : Fin 512) :
    k0_pay3 i w p x n (ix2 r l) = ∑ k : Fin 4, concatenate S528x512 0 [⟨S520x512, k0_pay2 i p x⟩, ⟨S8x512, n⟩] concatenates_S520x512_S8x512_S528x512_d0
      (ix2 ⟨8 + r.val - (4 - 1 - k.val), by omega⟩ l) * w (ix2 k l) := by
  unfold k0_pay3
  dsimp only
  generalize concatenate S528x512 0 [⟨S520x512, k0_pay2 i p x⟩, ⟨S8x512, n⟩] concatenates_S520x512_S8x512_S528x512_d0 = Z
  rw [Fin.sum_univ_four, Conv.shifted (T := 520) (U := 528) rfl 3#32 (by decide), Conv.shifted (T := 520) (U := 528) rfl 2#32 (by decide),
    Conv.shifted (T := 520) (U := 528) rfl 1#32 (by decide), Conv.unshifted (T := 520) (U := 528) rfl]
  pointwise []

theorem before_eq (i : grid0.Coords) (q : ℕ) (hq : (i 1).val = q) (p : Vec Ideal S8x512 .f32) (x : Vec Ideal S512x512 .f32) :
    k0_pay2 i p x = concatenate S520x512 0 [⟨S8x512, Conv.seen q p⟩, ⟨S512x512, x⟩] concatenates_S8x512_S512x512_S520x512_d0 := by
  subst hq
  unfold k0_pay2
  dsimp only
  rw [Conv.seen_eq (show Fin 8 from i 1)]

theorem through_at (v : FVec Ideal S520x512 .f32) (d : FVec Ideal S512x512 .f32) (e : FVec Ideal S8x512 .f32) (q : Fin 8) (j : S520x512.Idx) :
    k0_pay7 v d (Scalar.cmpi .slt (BitVec.ofNat 32 q.val) 7#32) e k0_pay6 j
      = concatenate S520x512 0 [⟨S512x512, d⟩, ⟨S8x512, Conv.coming q.val e⟩] concatenates_S512x512_S8x512_S520x512_d0 j * Conv.slope (v j) := by
  unfold k0_pay7 k0_pay6 Conv.slope Merge.gate
  dsimp only
  rw [Conv.coming_eq]
  generalize concatenate S520x512 0 [⟨S512x512, d⟩, ⟨S8x512, Conv.coming q.val e⟩] concatenates_S512x512_S8x512_S520x512_d0 = Z
  pointwise []
  rw [zero_sub]

theorem rows_at (w : Vec Ideal S4x512 .f32) (v : FVec Ideal S520x512 .f32) (d : FVec Ideal S512x512 .f32) (b : BitVec 1) (e z : FVec Ideal S8x512 .f32)
    (j : S512x512.Idx) :
    k0_pay8 w v d b e z j = ∑ k : Fin 4, k0_pay7 v d b e z (ix2 ⟨(j 0).val + (4 - 1 - k.val), by have h0 : (j 0).val < 512 := (j 0).isLt; omega⟩ (j 1)) * w (ix2 k (j 1)) := by
  unfold k0_pay8
  dsimp only
  generalize k0_pay7 v d b e z = Z
  rw [Fin.sum_univ_four, Conv.lifted 3 517#32 rfl (by decide) (by decide), Conv.lifted 2 518#32 rfl (by decide) (by decide),
    Conv.lifted 1 519#32 rfl (by decide) (by decide), Conv.unlifted]
  pointwise []

theorem zero_at (j : S4x512.Idx) : k0_pay9 (F := Ideal) j = 0 := by pointwise [k0_pay9]

theorem part_at (y g : FVec Ideal S520x512 .f32) (acc : Vec Ideal S4x512 .f32) (k : Fin 4) (l : Fin 512) :
    k0_pay1 y g acc (ix2 k l) = acc (ix2 k l) + ∑ r : Fin 512, g (ix2 ⟨r.val + 0, by omega⟩ l) * y (ix2 ⟨8 + r.val - (4 - 1 - k.val), by omega⟩ l) := by
  unfold k0_pay1
  dsimp only
  rw [Conv.shifted (T := 512) (U := 520) rfl 3#32 (by decide), Conv.shifted (T := 512) (U := 520) rfl 2#32 (by decide),
    Conv.shifted (T := 512) (U := 520) rfl 1#32 (by decide), Conv.unshifted (T := 512) (U := 520) rfl, Conv.unlifted]
  fin_cases k <;> pointwise []

/-! The arrays after the whole grid. -/

theorem places : ∀ t : Fin cfg0.N, win0_0.index t = ![t.val % 8, 6 + t.val / 8] ∧ win0_1.index t = ![t.val % 8 * 64 - 1, 6 + t.val / 8]
    ∧ win0_2.index t = ![min (t.val % 8 * 64 + 64) 511, 6 + t.val / 8] ∧ win0_3.index t = ![t.val / 8 / 4, t.val % 8, t.val / 8 % 4]
    ∧ win0_4.index t = ![t.val / 8 / 4, min (t.val % 8 * 64 + 64) 511, t.val / 8 % 4] ∧ win0_5.index t = ![0, t.val / 8]
    ∧ win0_6.index t = ![t.val % 8, t.val / 8] ∧ win0_7.index t = ![0, t.val / 8] ∧ (grid0.coords t 1).val = t.val % 8 := (by decide +kernel : ∀ t : Fin grid0.N, _)

/-- The columns of a point's tile. -/
abbrev col (t : Fin cfg0.N) (l : Fin 512) : Fin 6144 := ⟨512 * (t.val / 8) + l.val, by have ht : t.val < 96 := t.isLt; omega⟩

abbrev band (t : Fin cfg0.N) : Fin 8 := ⟨t.val % 8, by omega⟩

theorem own_rows (c : Dev nD) (t : Fin cfg0.N) (r l : Fin 512) : (show Vec Ideal S512x512 .f32 from iblk m c 0 t) (ix2 r l)
    = columns (m ((c : Thread nD τ).loc main_arg0)) (ix2 ⟨512 * (band t).val + r.val, by omega⟩ (col t l)) := by
  have ht : t.val < 96 := t.isLt
  unfold columns
  blk_point [iblk, V, places t]

theorem rows_before (c : Dev nD) (t : Fin cfg0.N) (hq : 0 < (band t).val) (r : Fin 8) (l : Fin 512) : (show Vec Ideal S8x512 .f32 from iblk m c 1 t) (ix2 r l)
    = columns (m ((c : Thread nD τ).loc main_arg0)) (ix2 ⟨512 * (band t).val + r.val - 8, by omega⟩ (col t l)) := by
  have ht : t.val < 96 := t.isLt
  simp only [] at hq
  unfold columns
  blk_point [iblk, V, places t]

theorem rows_after (c : Dev nD) (t : Fin cfg0.N) (hq : (band t).val < 7) (r : Fin 8) (l : Fin 512) : (show Vec Ideal S8x512 .f32 from iblk m c 2 t) (ix2 r l)
    = columns (m ((c : Thread nD τ).loc main_arg0)) (ix2 ⟨512 * (band t).val + 512 + r.val, by omega⟩ (col t l)) := by
  have ht : t.val < 96 := t.isLt
  simp only [] at hq
  unfold columns
  blk_point [iblk, V, places t]

theorem own_arriving (c : Dev nD) (t : Fin cfg0.N) (r l : Fin 512) : k0_pay4 (iblk m c 3 t) (ix2 r l)
    = arriving (m ((c : Thread nD τ).loc main_arg1)) (ix2 ⟨512 * (band t).val + r.val, by omega⟩ (col t l)) := by
  have ht : t.val < 96 := t.isLt
  unfold arriving k0_pay4
  blk_point [iblk, V, places t]

theorem arriving_after (c : Dev nD) (t : Fin cfg0.N) (hq : (band t).val < 7) (r : Fin 8) (l : Fin 512) : k0_pay5 (iblk m c 4 t) (ix2 r l)
    = arriving (m ((c : Thread nD τ).loc main_arg1)) (ix2 ⟨512 * (band t).val + 512 + r.val, by omega⟩ (col t l)) := by
  have ht : t.val < 96 := t.isLt
  simp only [] at hq
  unfold arriving k0_pay5
  blk_point [iblk, V, places t]

theorem own_weights (c : Dev nD) (t : Fin cfg0.N) (k : Fin 4) (l : Fin 512) : (show Vec Ideal S4x512 .f32 from iblk m c 5 t) (ix2 k l)
    = (m ((c : Thread nD τ).loc main_arg2) : FVec Ideal S4x6144 .f32) (ix2 k (col t l)) := by
  have ht : t.val < 96 := t.isLt
  blk_point [iblk, V, places t]

/-- The gradient of the convolution, as a point finds it in its own rows and the eight after them. -/
abbrev found (c : Dev nD) (t : Fin cfg0.N) : FVec Ideal S520x512 .f32 :=
  k0_pay7 (k0_pay3 (grid0.coords t) (iblk m c 5 t) (iblk m c 1 t) (iblk m c 0 t) (iblk m c 2 t)) (k0_pay4 (iblk m c 3 t))
    (Scalar.cmpi .slt (BitVec.ofNat 32 (grid0.coords t 1).val) 7#32) (k0_pay5 (iblk m c 4 t)) k0_pay6

abbrev gradient (c : Dev nD) : FVec Ideal ⟨2, ![4096, 6144]⟩ .f32 :=
  through (m ((c : Thread nD τ).loc main_arg0)) (m ((c : Thread nD τ).loc main_arg1)) (m ((c : Thread nD τ).loc main_arg2))

theorem found_at (c : Dev nD) (t : Fin cfg0.N) (a : Fin 520) (l : Fin 512) :
    found m c t (ix2 a l) = Conv.onward (gradient m c) (t.val % 8) a.val (col t l) := by
  have ht : t.val < 96 := t.isLt
  have hq : (grid0.coords t 1).val = (band t).val := (places t).2.2.2.2.2.2.2.2
  unfold found
  refine (through_at _ _ _ (show Fin 8 from grid0.coords t 1) _).trans ?_
  rw [sum_at, before_eq _ _ hq]
  change concatenate S520x512 0 [⟨S512x512, _⟩, ⟨S8x512, Conv.coming (grid0.coords t 1).val _⟩] _ _ * _ = _
  rw [hq]
  rw [Conv.over_onward (arriving (m ((c : Thread nD τ).loc main_arg1))) (band t) (col t) _ _ (own_arriving m c t) (arriving_after m c t)]
  by_cases h : 512 * (t.val % 8) + a.val < 4096
  · unfold Conv.onward
    rw [dif_pos h, dif_pos h]
    unfold gradient through Conv.conv
    refine congrArg (fun e => _ * Conv.slope e) (Finset.sum_congr rfl fun k _ => ?_)
    refine congr (congrArg _ ((Conv.between_around (columns (m ((c : Thread nD τ).loc main_arg0))) (band t) (col t) _ _ _ (own_rows m c t) (rows_before m c t)
      (rows_after m c t) _ _ ⟨8 + a.val - (4 - 1 - k.val), by omega⟩ (by simp only []; omega) l).trans ?_)) (own_weights m c t k l)
    exact Conv.around_back _ _ _ _ (by omega) h _
  · unfold Conv.onward
    rw [dif_neg h, dif_neg h, zero_mul]

theorem rows (c : Dev nD) : (dats m 0 c).arrAt 6 cfg0.N
    = gradRows (m ((c : Thread nD τ).loc main_arg0)) (m ((c : Thread nD τ).loc main_arg1)) (m ((c : Thread nD τ).loc main_arg2)) := by
  refine (dats m 0 c).arrAt_eq_of_covers 6 _ (by decide +kernel) fun t hf y => ?_
  have ht : t.val < 96 := t.isLt
  blk_simp
  rw [after0_6]
  have e : (outsAt0 m c t.val t.isLt).1 = k0_pay8 (iblk m c 5 t) (k0_pay3 (grid0.coords t) (iblk m c 5 t) (iblk m c 1 t) (iblk m c 0 t) (iblk m c 2 t))
      (k0_pay4 (iblk m c 3 t)) (Scalar.cmpi .slt (BitVec.ofNat 32 (grid0.coords t 1).val) 7#32) (k0_pay5 (iblk m c 4 t)) k0_pay6 := by
    by_cases h : t.val % 8 = 0
    · rw [outsAt0_A m c t h]
      frame_out
    · rw [outsAt0_B m c t h]
      frame_out
  rw [e, rows_at]
  have h0 : (y 0).val < 512 := (y 0).isLt
  refine Eq.trans (b := Conv.inRows (gradient m c) (m ((c : Thread nD τ).loc main_arg2)) ⟨512 * (t.val % 8) + (y 0).val, by omega⟩ (col t (y 1))) ?_ ?_
  · unfold Conv.inRows
    refine Finset.sum_congr rfl fun k _ => ?_
    refine congr (congrArg _ ((found_at m c t _ _).trans ?_)) (own_weights m c t k _)
    exact Conv.onward_ahead _ _ _ _ (by omega) _
  · change gradRows (m ((c : Thread nD τ).loc main_arg0)) (m ((c : Thread nD τ).loc main_arg1)) (m ((c : Thread nD τ).loc main_arg2)) (ix2 _ _) = _
    generalize gradRows (m ((c : Thread nD τ).loc main_arg0)) (m ((c : Thread nD τ).loc main_arg1)) (m ((c : Thread nD τ).loc main_arg2)) = Z
    blk_point [places t]

/-- What a point adds to the gradient in one weight. -/
abbrev share (c : Dev nD) (t : Fin cfg0.N) (k : Fin 4) (l : Fin 512) : EReal :=
  ∑ r : Fin 512, gradient m c (ix2 ⟨512 * (t.val % 8) + r.val, by omega⟩ (col t l))
    * Conv.back (4 - 1 - k.val) (columns (m ((c : Thread nD τ).loc main_arg0))) ⟨512 * (t.val % 8) + r.val, by omega⟩ (col t l)

theorem added (c : Dev nD) (t : Fin cfg0.N) (acc : Vec Ideal S4x512 .f32) (k : Fin 4) (l : Fin 512) :
    k0_pay1 (k0_pay2 (grid0.coords t) (iblk m c 1 t) (iblk m c 0 t)) (found m c t) acc (ix2 k l) = acc (ix2 k l) + share m c t k l := by
  have hq : (grid0.coords t 1).val = (band t).val := (places t).2.2.2.2.2.2.2.2
  rw [part_at, before_eq _ _ hq]
  refine congrArg (acc (ix2 k l) + ·) (Finset.sum_congr rfl fun r _ => ?_)
  rw [Conv.under_around (columns (m ((c : Thread nD τ).loc main_arg0))) (band t) (col t) _ _ (own_rows m c t) (rows_before m c t)]
  refine congr (congrArg _ ((found_at m c t _ _).trans ?_)) (Conv.around_back _ _ _ _ (by omega) (by omega) _)
  unfold Conv.onward
  exact dif_pos (show 512 * (t.val % 8) + (r.val + 0) < 4096 by omega)

theorem step (c : Dev nD) (t : Fin cfg0.N) (h : ¬t.val % 8 = 0) (j : S4x512.Idx) :
    (outsAt0 m c t.val t.isLt).2 j
      = (outsAt0 m c (t.val - 1) (Nat.lt_of_le_of_lt (Nat.sub_le _ _) t.isLt)).2 j + share m c t (j 0) (j 1) := by
  rw [outsAt0_B m c t h]
  frame_out
  have e : j = ix2 (j 0) (j 1) := by funext a; fin_cases a <;> rfl
  rw [e]
  exact added m c t _ _ _

theorem sums (c : Dev nD) : (dats m 0 c).arrAt 7 cfg0.N
    = gradWeights (m ((c : Thread nD τ).loc main_arg0)) (m ((c : Thread nD τ).loc main_arg1)) (m ((c : Thread nD τ).loc main_arg2)) := by
  refine (dats m 0 c).arrAt_eq_of_covers 7 _ (by decide +kernel) fun t hf y => ?_
  have ht := (flush0_7 t).mp hf
  have hN : t.val < 96 := t.isLt
  blk_simp
  rw [after0_7, Pipeline.eq_sum_fin_of_reset_step_apply_of_flush (fun n h => (outsAt0 m c n h).2) 8 (fun _ => 0)
    (fun t j => share m c t (j 0) (j 1))
    (fun t h j => by
      rw [outsAt0_A m c t h]
      frame_out
      have e : j = ix2 (j 0) (j 1) := by funext a; fin_cases a <;> rfl
      rw [e]
      exact (added m c t _ _ _).trans (congrArg (· + _) (zero_at _)))
    (fun t h j => step m c t h j) t ht _, zero_add]
  refine Eq.trans (b := Conv.inWeights 4 (columns (m ((c : Thread nD τ).loc main_arg0))) (gradient m c) (y 0) (col t (y 1))) ?_ ?_
  · unfold Conv.inWeights share
    refine Fin.sum_mul_add_congr fun s k hl => ?_
    have e : (8 * (t.val / 8) + s.val) / 8 = t.val / 8 := by omega
    have e2 : 512 * ((8 * (t.val / 8) + s.val) % 8) + k.val = s.val * 512 + k.val := by omega
    simp only [col, e, e2]
  · change gradWeights (m ((c : Thread nD τ).loc main_arg0)) (m ((c : Thread nD τ).loc main_arg1)) (m ((c : Thread nD τ).loc main_arg2)) (ix2 _ _) = _
    generalize gradWeights (m ((c : Thread nD τ).loc main_arg0)) (m ((c : Thread nD τ).loc main_arg1)) (m ((c : Thread nD τ).loc main_arg2)) = Z
    blk_point [places t]

end Kernel

section Reference

open Cert.DnconvBwdRefIdeal Cert.DnconvBwdRefIdeal.Gen

variable (P : FVec Ideal S4096x15360 .f32) (C : FVec Ideal S3x4096x2048 .f32) (V : FVec Ideal S4x6144 .f32)

abbrev third (o : ℕ) (h : S3x4096x2048.Slices ![o, 0, 0] S1x4096x2048) : FVec Ideal S4096x2048 .f32 :=
  shapeCast _ (extractStridedSlice S1x4096x2048 ![o, 0, 0] C h) shapeCasts_S1x4096x2048_S4096x2048

abbrev joined : FVec Ideal S1x4096x6144 .f32 := broadcastInDim S1x4096x6144 ![1, 2] bcast_S4096x6144_S1x4096x6144_1_2
  (concatenate S4096x6144 1 [⟨S4096x2048, third C 0 slices_S3x4096x2048_S1x4096x2048_0_0_0⟩, ⟨S4096x2048, third C 1 slices_S3x4096x2048_S1x4096x2048_1_0_0⟩,
    ⟨S4096x2048, third C 2 slices_S3x4096x2048_S1x4096x2048_2_0_0⟩] concatenates_S4096x2048_S4096x2048_S4096x2048_S4096x6144_d1)

abbrev ones : FVec Ideal S1x4096x6144 .f32 := broadcastInDim S1x4096x6144 ![] bcast_S_S1x4096x6144 (constant S_ .f32 0x3F800000#32)

abbrev gates : FVec Ideal S1x4096x6144 .f32 := Host.divf ones (addf ones (Host.exp (Host.negf (sum P V))))

abbrev backward : FVec Ideal S1x4096x6144 .f32 :=
  addf (mulf (joined C) (gates P V)) (mulf (mulf (sum P V) (joined C)) (mulf (gates P V) (subf ones (gates P V))))

theorem third_at (o : ℕ) (ho : o < 3) (h : S3x4096x2048.Slices ![o, 0, 0] S1x4096x2048) (r : Fin 4096) (l : Fin 2048) :
    third C o h (ix2 r l) = C (ix3 ⟨o, ho⟩ r l) := by
  pointwise [third]

theorem joined_at (r : Fin 4096) (l : Fin 6144) : joined C (ix3 0 r l) = arriving C (ix2 r l) := by
  unfold arriving joined
  generalize hx : third C 0 slices_S3x4096x2048_S1x4096x2048_0_0_0 = x
  generalize hy : third C 1 slices_S3x4096x2048_S1x4096x2048_1_0_0 = y
  generalize hz : third C 2 slices_S3x4096x2048_S1x4096x2048_2_0_0 = z
  pointwise []
  by_cases h1 : l.val < 2048
  · rw [dif_pos h1, ← hx, third_at C 0 (by decide)]
    exact congrArg C (congr (congr (congrArg ix3 (Fin.ext (show 0 = l.val / 2048 by omega))) rfl) (Fin.ext (show l.val = l.val % 2048 by omega)))
  · rw [dif_neg h1]
    by_cases h2 : l.val - 2048 < 2048
    · rw [dif_pos h2, ← hy, third_at C 1 (by decide)]
      exact congrArg C (congr (congr (congrArg ix3 (Fin.ext (show 1 = l.val / 2048 by omega))) rfl) (Fin.ext (show l.val - 2048 = l.val % 2048 by omega)))
    · rw [dif_neg h2, ← hz, third_at C 2 (by decide)]
      exact congrArg C (congr (congr (congrArg ix3 (Fin.ext (show 2 = l.val / 2048 by omega))) rfl)
        (Fin.ext (show l.val - 2048 - 2048 = l.val % 2048 by omega)))

theorem gates_at (r : Fin 4096) (l : Fin 6144) : gates P V (ix3 0 r l) = Merge.gate (Conv.conv (columns P) V r l) := by
  unfold Merge.gate gates
  rw [← ConvForward.sum_at]
  generalize sum P V = S
  pointwise []

theorem backward_at (hC : ∀ i, ∃ x : ℝ, C i = x) (r : Fin 4096) (l : Fin 6144) :
    backward P C V (ix3 0 r l) = through P C V (ix2 r l) := by
  unfold through
  obtain ⟨x, hx⟩ : ∃ x : ℝ, arriving C (ix2 r l) = x := hC _
  change joined C (ix3 0 r l) * gates P V (ix3 0 r l) + sum P V (ix3 0 r l) * joined C (ix3 0 r l) * (gates P V (ix3 0 r l) * (Merge.one - gates P V (ix3 0 r l))) = _
  rw [gates_at, joined_at, ConvForward.sum_at, hx, Conv.slope_mul]
  rfl

/-- The gradient times one weight of each column, moved to the rows the weight meets. -/
abbrev moved (D : FVec Ideal S1x4096x6144 .f32) (o e : ℕ) (hw : S4x6144.Slices ![o, 0] S1x6144)
    (hp : S1x4096x6144.Pads ![0, o, 0] ![0, e, 0] ![0, 0, 0] S1x4099x6144) : FVec Ideal S1x4099x6144 .f32 :=
  pad S1x4099x6144 ![0, o, 0] ![0, e, 0] ![0, 0, 0] (mulf D (weight V o hw)) (constant S_ .f32 0x00000000#32) hp h_S_

theorem moved_at (D : FVec Ideal S1x4096x6144 .f32) (o e s : ℕ) (ho : o < 4) (h : o + s = 3) (he : o + e = 3) (hw : S4x6144.Slices ![o, 0] S1x6144)
    (hp : S1x4096x6144.Pads ![0, o, 0] ![0, e, 0] ![0, 0, 0] S1x4099x6144) (hs : S1x4099x6144.Slices ![0, 3, 0] S1x4096x6144) (r : Fin 4096) (l : Fin 6144) :
    extractStridedSlice S1x4096x6144 ![0, 3, 0] (moved V D o e hw hp) hs (ix3 0 r l)
      = Conv.ahead s (fun i : Shape.Idx S4096x6144 => D (ix3 0 (i 0) (i 1))) r l * V (ix2 ⟨o, ho⟩ l) := by
  refine (Conv.pushed o e h he (mulf D (weight V o hw)) (constant S_ .f32 0x00000000#32) h_S_ (fun i => by pointwise []) hp hs r l).trans ?_
  unfold Conv.ahead
  split_ifs
  · exact congrArg (D _ * ·) (weight_at V o ho hw _ _)
  · rw [zero_mul]

theorem rows_reference (hC : ∀ i, ∃ x : ℝ, C i = x) :
    truncf .bf16 (shapeCast S4096x6144 (extractStridedSlice S1x4096x6144 ![0, 3, 0] (addf (addf (addf
        (moved V (backward P C V) 3 0 slices_S4x6144_S1x6144_3_0 pads_S1x4096x6144_S1x4099x6144_000_300_000)
        (moved V (backward P C V) 2 1 slices_S4x6144_S1x6144_2_0 pads_S1x4096x6144_S1x4099x6144_000_210_000))
        (moved V (backward P C V) 1 2 slices_S4x6144_S1x6144_1_0 pads_S1x4096x6144_S1x4099x6144_000_120_000))
        (moved V (backward P C V) 0 3 slices_S4x6144_S1x6144_0_0 pads_S1x4096x6144_S1x4099x6144_000_030_000))
        slices_S1x4099x6144_S1x4096x6144_0_3_0) shapeCasts_S1x4096x6144_S4096x6144) bitsLt_bf16_f32
      = gradRows P C V := by
  have hD : (fun i : Shape.Idx S4096x6144 => backward P C V (ix3 0 (i 0) (i 1))) = through P C V := by
    funext i
    exact (backward_at P C V hC (i 0) (i 1)).trans (congrArg _ (by funext a; fin_cases a <;> rfl))
  funext i
  unfold gradRows Conv.inRows
  rw [Fin.sum_univ_four]
  have e := fun o e s ho h he hw hp => moved_at V (backward P C V) o e s ho h he hw hp slices_S1x4099x6144_S1x4096x6144_0_3_0 (i 0) (i 1)
  rw [hD] at e
  have e3 := e 3 0 0 (by decide) rfl rfl slices_S4x6144_S1x6144_3_0 pads_S1x4096x6144_S1x4099x6144_000_300_000
  have e2 := e 2 1 1 (by decide) rfl rfl slices_S4x6144_S1x6144_2_0 pads_S1x4096x6144_S1x4099x6144_000_210_000
  have e1 := e 1 2 2 (by decide) rfl rfl slices_S4x6144_S1x6144_1_0 pads_S1x4096x6144_S1x4099x6144_000_120_000
  have e0 := e 0 3 3 (by decide) rfl rfl slices_S4x6144_S1x6144_0_0 pads_S1x4096x6144_S1x4099x6144_000_030_000
  refine Eq.trans (b := _ + _ + _ + _) ?_ (((congr (congrArg _ (congr (congrArg _ (congr (congrArg _ e3) e2)) e1)) e0)).trans ?_)
  · generalize moved V (backward P C V) 3 0 _ _ = Z3
    generalize moved V (backward P C V) 2 1 _ _ = Z2
    generalize moved V (backward P C V) 1 2 _ _ = Z1
    generalize moved V (backward P C V) 0 3 _ _ = Z0
    pointwise []
  · exact (by intros; abel : ∀ a b c d : EReal, d + c + b + a = a + b + c + d) _ _ _ _

/-- A sum over two axes of one element. -/
theorem single (v : FVec Ideal S1x1x6144 .f32) (l : Fin 6144) :
    Ideal.hostReduceAdd reducesTo_S1x1x6144_S6144_d0_1 v 0 (ix1 l) = v (ix3 0 0 l) := by
  have e : Finset.univ.filter (fun i => reducesTo_S1x1x6144_S6144_d0_1.drop i = ix1 l) = {ix3 0 0 l} := by
    ext i
    rw [Finset.mem_filter, Finset.mem_singleton]
    have h2 : (reducesTo_S1x1x6144_S6144_d0_1.drop i 0 : ℕ) = i 2 := Shape.ReducesTo.drop_apply_val _ i 0
    constructor
    · rintro ⟨-, h⟩
      rw [h] at h2
      funext a
      fin_cases a
      · exact Subsingleton.elim (α := Fin 1) _ _
      · exact Subsingleton.elim (α := Fin 1) _ _
      · exact Fin.ext h2.symm
    · rintro rfl
      refine ⟨Finset.mem_univ _, funext fun a => ?_⟩
      fin_cases a
      exact Fin.ext h2
  unfold Ideal.hostReduceAdd
  rw [e, Finset.sum_singleton, zero_add]

/-- The gradient in one weight of each column, in that weight's row. -/
abbrev placed (D : FVec Ideal S1x4096x6144 .f32) (o e : ℕ) (hw : S1x4099x6144.Slices ![0, o, 0] S1x4096x6144)
    (hp : S1x6144.Pads ![o, 0] ![e, 0] ![0, 0] S4x6144) : FVec Ideal S4x6144 .f32 :=
  pad S4x6144 ![o, 0] ![e, 0] ![0, 0] (broadcastInDim S1x6144 ![1] bcast_S6144_S1x6144_1
    (Host.reduceAdd (shapeCast _ (Host.reduceAdd (mulf (extractStridedSlice S1x4096x6144 ![0, o, 0] (under P) hw) D) (constant S_ .f32 0x00000000#32)
      reducesTo_S1x4096x6144_S1x6144_d1 h_S_) shapeCasts_S1x6144_S1x1x6144) (constant S_ .f32 0x00000000#32) reducesTo_S1x1x6144_S6144_d0_1 h_S_))
    (constant S_ .f32 0x00000000#32) hp h_S_

theorem placed_at (D : FVec Ideal S1x4096x6144 .f32) (o e s : ℕ) (h : o + s = 3) (he : o + e = 3) (hw : S1x4099x6144.Slices ![0, o, 0] S1x4096x6144)
    (hp : S1x6144.Pads ![o, 0] ![e, 0] ![0, 0] S4x6144) (k : Fin 4) (l : Fin 6144) :
    placed P D o e hw hp (ix2 k l) = if k.val = o then ∑ r : Fin 4096, D (ix3 0 r l) * Conv.back s (columns P) r l else 0 := by
  have hu := fun r => under_at P o s h hw r l
  unfold placed
  generalize extractStridedSlice S1x4096x6144 ![0, o, 0] (under P) hw = Z at hu ⊢
  by_cases hk : k.val = o
  · rw [if_pos hk]
    refine Eq.trans ?_ (Finset.sum_congr rfl fun r _ => (congrArg (· * D (ix3 0 r l)) (hu r)).trans (mul_comm _ _))
    pointwise []
    rw [dif_pos ⟨by omega, by omega⟩, single]
    pointwise []
  · rw [if_neg hk]
    pointwise []
    exact dif_neg (by omega)

theorem sums_reference (hC : ∀ i, ∃ x : ℝ, C i = x) :
    addf (addf (addf
        (placed P (backward P C V) 3 0 slices_S1x4099x6144_S1x4096x6144_0_3_0 pads_S1x6144_S4x6144_300_000)
        (placed P (backward P C V) 2 1 slices_S1x4099x6144_S1x4096x6144_0_2_0 pads_S1x6144_S4x6144_210_000))
        (placed P (backward P C V) 1 2 slices_S1x4099x6144_S1x4096x6144_0_1_0 pads_S1x6144_S4x6144_120_000))
        (placed P (backward P C V) 0 3 slices_S1x4099x6144_S1x4096x6144_0_0_0 pads_S1x6144_S4x6144_030_000)
      = gradWeights P C V := by
  funext i
  obtain ⟨k, l, rfl⟩ : ∃ k l, i = ix2 k l := ⟨i 0, i 1, by funext a; fin_cases a <;> rfl⟩
  change placed P (backward P C V) 3 0 _ _ (ix2 k l) + placed P (backward P C V) 2 1 _ _ (ix2 k l) + placed P (backward P C V) 1 2 _ _ (ix2 k l)
    + placed P (backward P C V) 0 3 _ _ (ix2 k l) = _
  rw [placed_at P _ 3 0 0 rfl rfl, placed_at P _ 2 1 1 rfl rfl, placed_at P _ 1 2 2 rfl rfl, placed_at P _ 0 3 3 rfl rfl]
  simp only [backward_at P C V hC]
  unfold gradWeights Conv.inWeights
  fin_cases k <;> simp

end Reference

open Cert.Pre_finite_gradient in
/-- The precondition says the gradients that arrive are real numbers. -/
theorem real [Cert.Pre_finite_gradient.Facts] (X : FVec Ideal ⟨2, ![4096, 15360]⟩ .f32) (C : FVec Ideal ⟨3, ![3, 4096, 2048]⟩ .f32)
    (V : FVec Ideal ⟨2, ![4, 6144]⟩ .f32) (h : Cert.Pre_finite_gradient.fn (F := Ideal) X C V = fun _ => 1#1) : ∀ i, ∃ x : ℝ, C i = x := by
  have hs : Subsingleton S_.Idx := ⟨fun a b => funext fun k => k.elim0⟩
  have h0 := congrFun h (fun k => k.elim0)
  exact fun i => AttendClaims.real_of_abs _ (AttendClaims.below _ (Host.reduce_andi_all _ _ _ _ _ h0 i))

/-- What the precondition's program states of shapes. -/
theorem facts : Cert.Pre_finite_gradient.Facts where
  bcast_S_S3x4096x2048 := by decide
  reducesTo_S3x4096x2048_S_d0_1_2 := by decide
  h_S_ := by decide

open Cert.DnconvBwdIdeal Cert.DnconvBwdIdeal.Gen in
theorem algebraic [Cert.Pre_finite_gradient.Facts] : Cert.algebraic_DnconvBwdIdeal_DnconvBwdRefIdeal_pre_finite_gradient := by
  intro m g m' g' hpre hargs
  refine ⟨fun c => gradRows (m ((c : Thread nD τ).loc main_arg0)) (m ((c : Thread nD τ).loc main_arg1)) (m ((c : Thread nD τ).loc main_arg2)),
    fun c => gradWeights (m ((c : Thread nD τ).loc main_arg0)) (m ((c : Thread nD τ).loc main_arg1)) (m ((c : Thread nD τ).loc main_arg2)), ?_, ?_⟩
  · refine (θ_run defs _ _).mono (fun r h c => ⟨((h c).1 6).trans (rows m c), ((h c).1 7).trans (sums m c), ?_, ?_, ?_⟩) (run_main m g)
    · exact ((h c).1 0).trans (((dats m 0 c).arrAt_in 0 rfl _).trans ((A_eq m c 0).trans (V_main_arg0 m c)))
    · exact ((h c).1 3).trans (((dats m 0 c).arrAt_in 3 rfl _).trans ((A_eq m c 3).trans (V_main_arg1 m c)))
    · exact ((h c).1 5).trans (((dats m 0 c).arrAt_in 5 rfl _).trans ((A_eq m c 5).trans (V_main_arg2 m c)))
  · refine (θ_run Cert.DnconvBwdRefIdeal.defs _ _).mono (fun r h c => ⟨(h c).1.trans ?_, (h c).2.1.trans ?_, (h c).2.2⟩)
      (Cert.DnconvBwdRefIdeal.Value.run (F := Ideal) m' g')
    · unfold Cert.DnconvBwdRefIdeal.Value.res_main_v87
      rw [(hargs c).1, (hargs c).2.1, (hargs c).2.2]
      exact rows_reference _ _ _ (real _ _ _ (hpre c))
    · unfold Cert.DnconvBwdRefIdeal.Value.res_main_v81
      rw [(hargs c).1, (hargs c).2.1, (hargs c).2.2]
      exact sums_reference _ _ _ (real _ _ _ (hpre c))

theorem frame : Cert.quiescent_DnconvBwd := fun m ρ _ => Cert.DnconvBwd.Gen.frame m ρ

theorem frame_ideal : Cert.quiescent_DnconvBwdIdeal := fun m ρ _ => Cert.DnconvBwdIdeal.Gen.frame m ρ

theorem frame_ideal_finite [Cert.Pre_finite_gradient.Facts] : Cert.quiescent_DnconvBwdIdeal_pre_finite_gradient :=
  fun m ρ _ => Cert.DnconvBwdIdeal.Gen.frame m ρ

theorem frame_reference : Cert.quiescent_DnconvBwdRefIdeal := fun m ρ _ =>
  (θ_run Cert.DnconvBwdRefIdeal.defs _ _).mono (fun r h => ⟨fun c => (h c).2.2,
      Idealize.ShloMosaic.sem_eq_zero_of_no_sems (by decide) r.2⟩)
    (Cert.DnconvBwdRefIdeal.Value.run (F := Ideal) m ρ)

theorem frame_reference_finite [Cert.Pre_finite_gradient.Facts] : Cert.quiescent_DnconvBwdRefIdeal_pre_finite_gradient :=
  fun m ρ _ => frame_reference m ρ trivial

end Cert.ConvBackward
end
-- ==== Proof.Loss.lean ====
module
public import proofs.«01_k».proof.Defs
public import proofs.«01_k».proof.Proof.Gen.LossHead.Frame
public import proofs.«01_k».proof.Proof.Gen.LossHeadIdeal.Frame
public import proofs.«01_k».proof.Proof.Gen.LossHeadRefIdeal.Run
public import proofs.«01_k».proof.Proof.Norm
public import Idealize.ShloMosaic.Lib.Quiescent

/-! `LossHead`: half the sum over the rows of the mean square of the difference, and its gradient. -/

@[expose] public section

set_option maxRecDepth 16384

noncomputable section

namespace Cert.Loss

open Idealize.ShloMosaic Idealize.ShloMosaic.TcCoe Idealize.SL.Sem

/-! The numbers that the programs print: a half, two, and the inverse of the row's length. -/

theorem half_eq : Ideal.ofBits .f32 0x3F000000#32 = ((1 / 2 : ℝ) : EReal) := by
  simp [Ideal.ofBits, Ideal.ieee]
  rw [← EReal.coe_mul]
  norm_num

theorem two_eq : Ideal.ofBits .f32 0x40000000#32 = ((2 : ℝ) : EReal) := by
  simp [Ideal.ofBits, Ideal.ieee]
  rw [← EReal.coe_mul]
  norm_num

theorem inverse_eq : Ideal.ofBits .f32 0x3A000000#32 = ((1 / 2048 : ℝ) : EReal) := by
  simp [Ideal.ofBits, Ideal.ieee]
  rw [← EReal.coe_mul]
  norm_num

theorem half_mul_sum {n : ℕ} (f : Fin n → EReal) :
    Ideal.ofBits .f32 0x3F000000#32 * ∑ j, f j = ∑ j, Ideal.ofBits .f32 0x3F000000#32 * f j := by
  refine Finset.induction_on (Finset.univ : Finset (Fin n)) (by simp) fun a s ha ih => ?_
  rw [Finset.sum_insert ha, Finset.sum_insert ha, half_eq, Norm.mul_add_real _ (by norm_num), ← half_eq, ih]

/-- The mean square of a row's differences. -/
def meanSquare {N : ℕ} (H T : FVec Ideal ⟨2, ![N, 2048]⟩ .f32) (r : Fin N) : EReal :=
  Ideal.div (∑ l : Fin 2048, (H (ix2 r l) - T (ix2 r l)) * (H (ix2 r l) - T (ix2 r l))) Norm.length

/-- The loss of `N` rows. -/
def total {N : ℕ} (H T : FVec Ideal ⟨2, ![N, 2048]⟩ .f32) : EReal :=
  ∑ r : Fin N, Ideal.ofBits .f32 0x3F000000#32 * meanSquare H T r

def loss (H T : FVec Ideal ⟨2, ![4096, 2048]⟩ .f32) : FVec Ideal ⟨0, ![]⟩ .f32 := fun _ => total H T

/-- Its gradient in the rows `H`. -/
def grad (H T : FVec Ideal ⟨2, ![4096, 2048]⟩ .f32) : FVec Ideal ⟨2, ![4096, 2048]⟩ .f32 :=
  fun i => (H i - T i) * Ideal.ofBits .f32 0x3A000000#32

section Kernel

open Cert.LossHeadIdeal Cert.LossHeadIdeal.Gen

variable (m : (ℓ : Loc nD τ sig) → Buf (Elt Ideal) ℓ)

theorem grad_at (x y : Vec Ideal S256x2048 .f32) (j : S256x2048.Idx) :
    k0_pay2 x y j = (x j - y j) * Ideal.ofBits .f32 0x3A000000#32 := by
  pointwise [k0_pay2, k0_pay1]

theorem zero_at (j : S1x1.Idx) : k0_pay3 (F := Ideal) j = 0 := by pointwise [k0_pay3]

theorem part_at (x y : Vec Ideal S256x2048 .f32) (acc : Vec Ideal S1x1 .f32) (j : S1x1.Idx) :
    k0_pay4 x y acc j = acc j + total x y := by
  unfold total
  rw [← half_mul_sum]
  unfold meanSquare
  pointwise [k0_pay4, k0_pay1]

theorem places : ∀ t : Fin cfg0.N, win0_0.index t = ![t.val, 0] ∧ win0_1.index t = ![t.val, 0] ∧ win0_2.index t = ![t.val, 0]
    ∧ win0_3.index t = ![0, 0] :=
  (by decide +kernel : ∀ t : Fin grid0.N, _)

theorem rows (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  have e : (outsAt0 m c t.val t.isLt).1 = k0_pay2 (iblk m c 0 t) (iblk m c 1 t) := by
    by_cases h : t.val % 16 = 0
    · rw [outsAt0_A m c t h]
      frame_out
    · rw [outsAt0_B m c t h]
      frame_out
  rw [e, grad_at]
  unfold grad
  blk_point [iblk, V, places t]

theorem step (c : Dev nD) (t : Fin cfg0.N) (h : ¬t.val % 16 = 0) (j : S1x1.Idx) :
    (outsAt0 m c t.val t.isLt).2 j
      = (outsAt0 m c (t.val - 1) (Nat.lt_of_le_of_lt (Nat.sub_le _ _) t.isLt)).2 j
        + total (show Vec Ideal S256x2048 .f32 from iblk m c 0 t) (iblk m c 1 t) := by
  rw [outsAt0_B m c t h]
  frame_out
  rw [part_at]

theorem sum (c : Dev nD) : (dats m 0 c).arrAt 3 cfg0.N
    = fun _ : S1x1.Idx => total (N := 4096) (m ((c : Thread nD τ).loc main_arg0)) (m ((c : Thread nD τ).loc main_arg1)) := by
  refine (dats m 0 c).arrAt_eq_of_covers 3 _ (by decide +kernel) fun t hf y => ?_
  have ht := (flush0_3 t).mp hf
  blk_simp
  rw [after0_3, Pipeline.eq_sum_fin_of_reset_step_apply_of_flush (fun n h => (outsAt0 m c n h).2) 16 (fun _ => 0) _
    (fun t h j => by
      rw [outsAt0_A m c t h]
      frame_out
      rw [part_at, zero_at])
    (fun t h j => step m c t h j) t ht _, zero_add]
  unfold total
  refine Fin.sum_mul_add_congr fun s k hl => ?_
  unfold meanSquare
  blk_point [iblk, V, places t, places ⟨_, Pipeline.run_point_lt_of_flush t ht s⟩]

/-- The sum, handed out as a number. -/
theorem handed (c : Dev nD) : Pipeline.afterTail₀ cfgs (dats m) 0 (V0 m) [hostOps1] c main_v1
    = loss (m ((c : Thread nD τ).loc main_arg0)) (m ((c : Thread nD τ).loc main_arg1)) := by
  unfold Pipeline.afterTail₀
  rw [show [hostOps1 (F := Ideal)].flatten = hostOps1 from rfl]
  have e : Pipeline.withArrays (cfgs 0).spec c (V0 m c) (fun w => (dats m 0 c).arrAt w (cfgs 0).N) (Proc.devRef .tc main_v0_1)
      = (dats m 0 c).arrAt 3 cfg0.N :=
    Pipeline.withArrays_arr (cfgs 0).spec (by decide) c (V0 m c) (fun w => (dats m 0 c).arrAt w (cfgs 0).N) 3
  after_results_simp
  rw [e, sum]
  rfl

end Kernel

section Reference

open Cert.LossHeadRefIdeal Cert.LossHeadRefIdeal.Gen

variable (H T : FVec Ideal S4096x2048 .f32)

theorem loss_reference : mulf (constant S_ .f32 0x3F000000#32) (Host.reduceAdd (Host.divf (Host.reduceAdd (mulf (subf H T) (subf H T)) (constant S_ .f32 0x00000000#32) reducesTo_S4096x2048_S4096_d1 h_S_) (broadcastInDim S4096 ![] bcast_S_S4096 (constant S_ .f32 0x45000000#32))) (constant S_ .f32 0x00000000#32) reducesTo_S4096_S_d0 h_S_)
    = loss H T := by
  funext i
  unfold loss total
  rw [← half_mul_sum]
  unfold meanSquare
  pointwise []

theorem grad_reference : mulf (broadcastInDim S4096x2048 ![0] bcast_S4096_S4096x2048_0 (Host.divf (broadcastInDim S4096 ![] bcast_S_S4096 (mulf (constant S_ .f32 0x3F000000#32) (constant S_ .f32 0x3F800000#32))) (broadcastInDim S4096 ![] bcast_S_S4096 (constant S_ .f32 0x45000000#32)))) (mulf (broadcastInDim S4096x2048 ![] bcast_S_S4096x2048 (constant S_ .f32 0x40000000#32)) (subf H T))
    = grad H T := by
  funext i
  unfold grad
  pointwise []
  rw [← mul_assoc, mul_comm (H i - T i)]
  congr 1
  rw [half_eq, two_eq, inverse_eq, show Ideal.ofBits .f32 0x45000000#32 = ((2048 : ℝ) : EReal) from Norm.length_eq]
  unfold Ideal.div
  norm_cast
  norm_num
  rw [← EReal.coe_inv, ← EReal.coe_mul, ← EReal.coe_mul]
  norm_num

end Reference

open Cert.LossHeadIdeal Cert.LossHeadIdeal.Gen in
theorem algebraic : Cert.algebraic_LossHeadIdeal_LossHeadRefIdeal := by
  intro m g m' g' _ hargs
  refine ⟨fun c => loss (m ((c : Thread nD τ).loc main_arg0)) (m ((c : Thread nD τ).loc main_arg1)),
    fun c => grad (m ((c : Thread nD τ).loc main_arg0)) (m ((c : Thread nD τ).loc main_arg1)), ?_, ?_⟩
  · refine (θ_run defs _ _).mono (fun r h c => ⟨?_, ((h c).1 2).trans (rows m c), ?_, ?_⟩) (run_main m g)
    · exact ((h c).2 main_v1 (Pipeline.mem_restRefs_of main_v1 (by decide) (by decide))).trans (handed m c)
    · exact ((h c).1 0).trans (((dats m 0 c).arrAt_in 0 rfl _).trans ((A_eq m c 0).trans rfl))
    · exact ((h c).1 1).trans (((dats m 0 c).arrAt_in 1 rfl _).trans ((A_eq m c 1).trans rfl))
  · refine (θ_run Cert.LossHeadRefIdeal.defs _ _).mono (fun r h c => ⟨(h c).1.trans ?_, (h c).2.1.trans ?_, (h c).2.2⟩)
      (Cert.LossHeadRefIdeal.Value.run (F := Ideal) m' g')
    · rw [(hargs c).1, (hargs c).2]
      exact loss_reference _ _
    · rw [(hargs c).1, (hargs c).2]
      exact grad_reference _ _

theorem frame : Cert.quiescent_LossHead := fun m ρ _ => Cert.LossHead.Gen.frame m ρ

theorem frame_ideal : Cert.quiescent_LossHeadIdeal := fun m ρ _ => Cert.LossHeadIdeal.Gen.frame m ρ

theorem frame_reference : Cert.quiescent_LossHeadRefIdeal := fun m ρ _ =>
  (θ_run Cert.LossHeadRefIdeal.defs _ _).mono (fun r h => ⟨fun c => (h c).2.2,
      Idealize.ShloMosaic.sem_eq_zero_of_no_sems (by decide) r.2⟩)
    (Cert.LossHeadRefIdeal.Value.run (F := Ideal) m ρ)

end Cert.Loss
end
-- ==== Proof.Products.lean ====
module
public import Idealize.ShloMosaic.Lib.Pipeline.ValueKit
public import Idealize.ShloMosaic.Lib.Pointwise

/-! The three matrix products of the training step, as sums over the contracted index.

Each is stated once for every size. The modules `Product*` show of one call of the tiled kernel, and of its
reference, that the result is one of these three sums of the call's two operands. -/

@[expose] public section

noncomputable section

namespace Cert.Products

open Idealize.ShloMosaic

variable {M K N : ℕ}

/-- `X · Y`: the forward product of activations and weights. -/
def times (d : FTy) (X : FVec Ideal ⟨2, ![M, K]⟩ .bf16) (Y : FVec Ideal ⟨2, ![K, N]⟩ .bf16) :
    FVec Ideal ⟨2, ![M, N]⟩ d := fun i => ∑ l : Fin K, X (ix2 (i 0) l) * Y (ix2 l (i 1))

/-- `X · Yᵀ`: the gradient of a product in its activations, `X` being the gradient of the result. -/
def timesT (d : FTy) (X : FVec Ideal ⟨2, ![M, K]⟩ .bf16) (Y : FVec Ideal ⟨2, ![N, K]⟩ .bf16) :
    FVec Ideal ⟨2, ![M, N]⟩ d := fun i => ∑ l : Fin K, X (ix2 (i 0) l) * Y (ix2 (i 1) l)

/-- `Xᵀ · Y`: the gradient of a product in its weights, `Y` being the gradient of the result. -/
def tTimes (d : FTy) (X : FVec Ideal ⟨2, ![K, M]⟩ .bf16) (Y : FVec Ideal ⟨2, ![K, N]⟩ .bf16) :
    FVec Ideal ⟨2, ![M, N]⟩ d := fun i => ∑ l : Fin K, X (ix2 l (i 0)) * Y (ix2 l (i 1))

end Cert.Products
end
-- ==== Proof.ProductProjDx.lean ====
module
public import proofs.«01_k».proof.Defs
public import proofs.«01_k».proof.Proof.Gen.ProjDx.Frame
public import proofs.«01_k».proof.Proof.Gen.ProjDxIdeal.Frame
public import proofs.«01_k».proof.Proof.Gen.ProjDxRefIdeal.Run
public import proofs.«01_k».proof.Proof.Products
public import Idealize.ShloMosaic.Lib.Quiescent

/-! `ProjDx`: the tiled product `X · Yᵀ` of sizes 4096 × 16384 × 2048 equals the reference's. -/

@[expose] public section

set_option maxRecDepth 16384

noncomputable section

namespace Cert.ProjDxProduct

open Idealize.ShloMosaic Idealize.ShloMosaic.TcCoe Idealize.SL.Sem

section Kernel

open Cert.ProjDxIdeal Cert.ProjDxIdeal.Gen

variable (m : (ℓ : Loc nD τ sig) → Buf (Elt Ideal) ℓ)

theorem zero_at (j : S512x1024.Idx) : k0_pay1 (F := Ideal) j = 0 := by pointwise [k0_pay1]

/-- One grid point adds its tile's part of the sum. -/
theorem step_at (acc : Vec Ideal S512x1024 .f32) (a : Vec Ideal S512x2048 .bf16) (b : Vec Ideal S1024x2048 .bf16) (j : S512x1024.Idx) :
    k0_pay2 acc a b j = acc j + ∑ k : Fin 2048, a (ix2 (j 0) k) * b (ix2 (j 1) k) := by pointwise [k0_pay2]

/-- The tiles of the two operands and of the result at each grid point. -/
theorem places : ∀ t : Fin cfg0.N, win0_0.index t = ![t.val / 16, t.val % 8] ∧ win0_1.index t = ![t.val / 8 % 2, t.val % 8]
    ∧ win0_2.index t = ![t.val / 16, t.val / 8 % 2] := (by decide +kernel : ∀ t : Fin grid0.N, _)

/-- The accumulator after a point that does not start a result tile: the point's part added to what was there. -/
theorem scratch_step (c : Dev nD) (t : Fin cfg0.N) (h : ¬t.val % 8 = 0) (j : S512x1024.Idx) :
    (outsAt0 m c t.val t.isLt).2 j
      = (outsAt0 m c (t.val - 1) (Nat.lt_of_le_of_lt (Nat.sub_le _ _) t.isLt)).2 j
        + ∑ k : Fin 2048, (show Vec Ideal S512x2048 .bf16 from iblk m c 0 t) (ix2 (j 0) k) * (show Vec Ideal S1024x2048 .bf16 from iblk m c 1 t) (ix2 (j 1) k) := by
  by_cases h1 : t.val % 8 = 7
  · rw [outsAt0_C m c t h h1]
    frame_out
    rw [step_at]
    exact congrArg (· + _) (congrFun (Memref.IsWhole.read_unread (m := scM0_0) (Memref.isWhole_whole _) _) j)
  · rw [outsAt0_B m c t h h1]
    frame_out
    rw [step_at]
    exact congrArg (· + _) (congrFun (Memref.IsWhole.read_unread (m := scM0_0) (Memref.isWhole_whole _) _) j)

/-- The last point of a result tile writes the accumulator out. -/
theorem written (c : Dev nD) (t : Fin cfg0.N) (h : t.val % 8 = 7) (j : S512x1024.Idx) :
    (outsAt0 m c t.val t.isLt).1 j = (outsAt0 m c t.val t.isLt).2 j := by
  rw [outsAt0_C m c t (by omega) h]
  frame_out

/-- The result array after the whole grid. -/
theorem result (c : Dev nD) : (dats m 0 c).arrAt 2 cfg0.N
    = Products.timesT .f32 (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, written m c t ht, Pipeline.eq_sum_fin_of_reset_step_apply_of_flush (fun n h => (outsAt0 m c n h).2) 8 (fun _ => 0) _
    (fun t h j => by
      rw [outsAt0_A m c t h (by omega)]
      frame_out
      rw [step_at, zero_at])
    (fun t h j => scratch_step m c t h j) t ht _, zero_add]
  refine Fin.sum_mul_add_congr fun s k hl => ?_
  blk_point [iblk, V, places t, places ⟨_, Pipeline.run_point_lt_of_flush t ht s⟩]

end Kernel

section Reference

open Cert.ProjDxRefIdeal Cert.ProjDxRefIdeal.Gen

theorem reference (X : FVec Ideal S4096x16384 .bf16) (Y : FVec Ideal S2048x16384 .bf16) :
    Host.dotGeneral dot_S4096x16384_S2048x16384_S4096x2048_1_1_0_0_n_n none (extf .f32 X bitsLt_bf16_f32) (extf .f32 Y bitsLt_bf16_f32)
      = Products.timesT .f32 X Y := by
  funext i
  unfold Products.timesT
  pointwise []

end Reference

open Cert.ProjDxIdeal Cert.ProjDxIdeal.Gen in
theorem algebraic : Cert.algebraic_ProjDxIdeal_ProjDxRefIdeal := by
  intro m g m' g' _ hargs
  refine ⟨fun c => Products.timesT .f32 (m ((c : Thread nD τ).loc main_arg0)) (m ((c : Thread nD τ).loc main_arg1)), ?_, ?_⟩
  · refine (θ_run defs _ _).mono (fun r h c => ⟨((h c).1 2).trans (result m c), ?_, ?_⟩) (run_main m g)
    · exact ((h c).1 0).trans (((dats m 0 c).arrAt_in 0 rfl _).trans ((A_eq m c 0).trans (V_main_arg0 m c)))
    · exact ((h c).1 1).trans (((dats m 0 c).arrAt_in 1 rfl _).trans ((A_eq m c 1).trans (V_main_arg1 m c)))
  · refine (θ_run Cert.ProjDxRefIdeal.defs _ _).mono (fun r h c => ⟨(h c).1.trans ?_, (h c).2⟩)
      (Cert.ProjDxRefIdeal.Value.run (F := Ideal) m' g')
    rw [(hargs c).1, (hargs c).2]
    exact reference _ _

theorem frame : Cert.quiescent_ProjDx := fun m ρ _ => Cert.ProjDx.Gen.frame m ρ

theorem frame_ideal : Cert.quiescent_ProjDxIdeal := fun m ρ _ => Cert.ProjDxIdeal.Gen.frame m ρ

theorem frame_reference : Cert.quiescent_ProjDxRefIdeal := fun m ρ _ =>
  (θ_run Cert.ProjDxRefIdeal.defs _ _).mono (fun r h => ⟨fun c => (h c).2,
      Idealize.ShloMosaic.sem_eq_zero_of_no_sems (by decide) r.2⟩)
    (Cert.ProjDxRefIdeal.Value.run (F := Ideal) m ρ)

end Cert.ProjDxProduct
end
-- ==== Proof.ProductProjDw.lean ====
module
public import proofs.«01_k».proof.Defs
public import proofs.«01_k».proof.Proof.Gen.ProjDw.Frame
public import proofs.«01_k».proof.Proof.Gen.ProjDwIdeal.Frame
public import proofs.«01_k».proof.Proof.Gen.ProjDwRefIdeal.Run
public import proofs.«01_k».proof.Proof.Products
public import Idealize.ShloMosaic.Lib.Quiescent

/-! `ProjDw`: the tiled product `Xᵀ · Y` of sizes 2048 × 4096 × 16384 equals the reference's. -/

@[expose] public section

set_option maxRecDepth 16384

noncomputable section

namespace Cert.ProjDwProduct

open Idealize.ShloMosaic Idealize.ShloMosaic.TcCoe Idealize.SL.Sem

section Kernel

open Cert.ProjDwIdeal Cert.ProjDwIdeal.Gen

variable (m : (ℓ : Loc nD τ sig) → Buf (Elt Ideal) ℓ)

theorem zero_at (j : S512x1024.Idx) : k0_pay1 (F := Ideal) j = 0 := by pointwise [k0_pay1]

/-- One grid point adds its tile's part of the sum. -/
theorem step_at (acc : Vec Ideal S512x1024 .f32) (a : Vec Ideal S2048x512 .bf16) (b : Vec Ideal S2048x1024 .bf16) (j : S512x1024.Idx) :
    k0_pay2 acc a b j = acc j + ∑ k : Fin 2048, a (ix2 k (j 0)) * b (ix2 k (j 1)) := by pointwise [k0_pay2]

/-- The tiles of the two operands and of the result at each grid point. -/
theorem places : ∀ t : Fin cfg0.N, win0_0.index t = ![t.val % 2, t.val / 32] ∧ win0_1.index t = ![t.val % 2, t.val / 2 % 16]
    ∧ win0_2.index t = ![t.val / 32, t.val / 2 % 16] := (by decide +kernel : ∀ t : Fin grid0.N, _)

/-- The accumulator after a point that does not start a result tile: the point's part added to what was there. -/
theorem scratch_step (c : Dev nD) (t : Fin cfg0.N) (h : ¬t.val % 2 = 0) (j : S512x1024.Idx) :
    (outsAt0 m c t.val t.isLt).2 j
      = (outsAt0 m c (t.val - 1) (Nat.lt_of_le_of_lt (Nat.sub_le _ _) t.isLt)).2 j
        + ∑ k : Fin 2048, (show Vec Ideal S2048x512 .bf16 from iblk m c 0 t) (ix2 k (j 0)) * (show Vec Ideal S2048x1024 .bf16 from iblk m c 1 t) (ix2 k (j 1)) := by
  rw [outsAt0_B m c t h (by omega)]
  frame_out
  rw [step_at]
  exact congrArg (· + _) (congrFun (Memref.IsWhole.read_unread (m := scM0_0) (Memref.isWhole_whole _) _) j)

/-- The last point of a result tile writes the accumulator out. -/
theorem written (c : Dev nD) (t : Fin cfg0.N) (h : t.val % 2 = 1) (j : S512x1024.Idx) :
    (outsAt0 m c t.val t.isLt).1 j = (outsAt0 m c t.val t.isLt).2 j := by
  rw [outsAt0_B m c t (by omega) h]
  frame_out

/-- The result array after the whole grid. -/
theorem result (c : Dev nD) : (dats m 0 c).arrAt 2 cfg0.N
    = Products.tTimes .f32 (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, written m c t ht, Pipeline.eq_sum_fin_of_reset_step_apply_of_flush (fun n h => (outsAt0 m c n h).2) 2 (fun _ => 0) _
    (fun t h j => by
      rw [outsAt0_A m c t h (by omega)]
      frame_out
      rw [step_at, zero_at])
    (fun t h j => scratch_step m c t h j) t ht _, zero_add]
  refine Fin.sum_mul_add_congr fun s k hl => ?_
  blk_point [iblk, V, places t, places ⟨_, Pipeline.run_point_lt_of_flush t ht s⟩]

end Kernel

section Reference

open Cert.ProjDwRefIdeal Cert.ProjDwRefIdeal.Gen

theorem reference (X : FVec Ideal S4096x2048 .bf16) (Y : FVec Ideal S4096x16384 .bf16) :
    transpose S2048x16384 [1, 0] (Host.dotGeneral dot_S4096x16384_S4096x2048_S16384x2048_0_0_1_1_n_n none (extf .f32 Y bitsLt_bf16_f32) (extf .f32 X bitsLt_bf16_f32)) transposes_S16384x2048_S2048x16384_1_0
      = Products.tTimes .f32 X Y := by
  funext i
  unfold Products.tTimes
  pointwise []
  exact Finset.sum_congr rfl fun l _ => mul_comm _ _

end Reference

open Cert.ProjDwIdeal Cert.ProjDwIdeal.Gen in
theorem algebraic : Cert.algebraic_ProjDwIdeal_ProjDwRefIdeal := by
  intro m g m' g' _ hargs
  refine ⟨fun c => Products.tTimes .f32 (m ((c : Thread nD τ).loc main_arg0)) (m ((c : Thread nD τ).loc main_arg1)), ?_, ?_⟩
  · refine (θ_run defs _ _).mono (fun r h c => ⟨((h c).1 2).trans (result m c), ?_, ?_⟩) (run_main m g)
    · exact ((h c).1 0).trans (((dats m 0 c).arrAt_in 0 rfl _).trans ((A_eq m c 0).trans (V_main_arg0 m c)))
    · exact ((h c).1 1).trans (((dats m 0 c).arrAt_in 1 rfl _).trans ((A_eq m c 1).trans (V_main_arg1 m c)))
  · refine (θ_run Cert.ProjDwRefIdeal.defs _ _).mono (fun r h c => ⟨(h c).1.trans ?_, (h c).2⟩)
      (Cert.ProjDwRefIdeal.Value.run (F := Ideal) m' g')
    rw [(hargs c).1, (hargs c).2]
    exact reference _ _

theorem frame : Cert.quiescent_ProjDw := fun m ρ _ => Cert.ProjDw.Gen.frame m ρ

theorem frame_ideal : Cert.quiescent_ProjDwIdeal := fun m ρ _ => Cert.ProjDwIdeal.Gen.frame m ρ

theorem frame_reference : Cert.quiescent_ProjDwRefIdeal := fun m ρ _ =>
  (θ_run Cert.ProjDwRefIdeal.defs _ _).mono (fun r h => ⟨fun c => (h c).2,
      Idealize.ShloMosaic.sem_eq_zero_of_no_sems (by decide) r.2⟩)
    (Cert.ProjDwRefIdeal.Value.run (F := Ideal) m ρ)

end Cert.ProjDwProduct
end
-- ==== Proof.ProductBranch.lean ====
module
public import proofs.«01_k».proof.Defs
public import proofs.«01_k».proof.Proof.Gen.Branch.Frame
public import proofs.«01_k».proof.Proof.Gen.BranchIdeal.Frame
public import proofs.«01_k».proof.Proof.Gen.BranchRefIdeal.Run
public import proofs.«01_k».proof.Proof.Products
public import Idealize.ShloMosaic.Lib.Quiescent

/-! `Branch`: the tiled product `X · Y` of sizes 4096 × 2048 × 2048 equals the reference's. -/

@[expose] public section

set_option maxRecDepth 16384

noncomputable section

namespace Cert.BranchProduct

open Idealize.ShloMosaic Idealize.ShloMosaic.TcCoe Idealize.SL.Sem

section Kernel

open Cert.BranchIdeal Cert.BranchIdeal.Gen

variable (m : (ℓ : Loc nD τ sig) → Buf (Elt Ideal) ℓ)

theorem zero_at (j : S512x1024.Idx) : k0_pay1 (F := Ideal) j = 0 := by pointwise [k0_pay1]

/-- One grid point adds its tile's part of the sum. -/
theorem step_at (acc : Vec Ideal S512x1024 .f32) (a : Vec Ideal S512x2048 .bf16) (b : Vec Ideal S2048x1024 .bf16) (j : S512x1024.Idx) :
    k0_pay2 acc a b j = acc j + ∑ k : Fin 2048, a (ix2 (j 0) k) * b (ix2 k (j 1)) := by pointwise [k0_pay2]

/-- The tiles of the two operands and of the result at each grid point. -/
theorem places : ∀ t : Fin cfg0.N, win0_0.index t = ![t.val / 2, 0] ∧ win0_1.index t = ![0, t.val % 2]
    ∧ win0_2.index t = ![t.val / 2, t.val % 2] := (by decide +kernel : ∀ t : Fin grid0.N, _)

/-- Every point computes its result tile whole. -/
theorem written (c : Dev nD) (t : Fin cfg0.N) (j : S512x1024.Idx) :
    outsAt0 m c t j = ∑ k : Fin 2048, (show Vec Ideal S512x2048 .bf16 from iblk m c 0 t) (ix2 (j 0) k) * (show Vec Ideal S2048x1024 .bf16 from iblk m c 1 t) (ix2 k (j 1)) := by
  unfold outsAt0
  frame_out
  rw [step_at, zero_at, zero_add]

/-- The result array after the whole grid. -/
theorem result (c : Dev nD) : (dats m 0 c).arrAt 2 cfg0.N
    = Products.times .f32 (m ((c : Thread nD τ).loc main_arg0)) (m ((c : Thread nD τ).loc main_arg1)) := by
  refine (dats m 0 c).arrAt_eq_of_covers 2 _ (by decide +kernel) fun t hf y => ?_
  blk_simp
  rw [after0_2, written m c t]
  refine Finset.sum_congr (M := EReal) rfl fun k _ => ?_
  blk_point [iblk, V, places t]

end Kernel

section Reference

open Cert.BranchRefIdeal Cert.BranchRefIdeal.Gen

theorem reference (X : FVec Ideal S4096x2048 .bf16) (Y : FVec Ideal S2048x2048 .bf16) :
    Host.dotGeneral dot_S4096x2048_S2048x2048_S4096x2048_1_0_0_1_n_n none (extf .f32 X bitsLt_bf16_f32) (extf .f32 Y bitsLt_bf16_f32)
      = Products.times .f32 X Y := by
  funext i
  unfold Products.times
  pointwise []

end Reference

open Cert.BranchIdeal Cert.BranchIdeal.Gen in
theorem algebraic : Cert.algebraic_BranchIdeal_BranchRefIdeal := by
  intro m g m' g' _ hargs
  refine ⟨fun c => Products.times .f32 (m ((c : Thread nD τ).loc main_arg0)) (m ((c : Thread nD τ).loc main_arg1)), ?_, ?_⟩
  · refine (θ_run defs _ _).mono (fun r h c => ⟨((h c).1 2).trans (result m c), ?_, ?_⟩) (run_main m g)
    · exact ((h c).1 0).trans (((dats m 0 c).arrAt_in 0 rfl _).trans ((A_eq m c 0).trans (V_main_arg0 m c)))
    · exact ((h c).1 1).trans (((dats m 0 c).arrAt_in 1 rfl _).trans ((A_eq m c 1).trans (V_main_arg1 m c)))
  · refine (θ_run Cert.BranchRefIdeal.defs _ _).mono (fun r h c => ⟨(h c).1.trans ?_, (h c).2⟩)
      (Cert.BranchRefIdeal.Value.run (F := Ideal) m' g')
    rw [(hargs c).1, (hargs c).2]
    exact reference _ _

theorem frame : Cert.quiescent_Branch := fun m ρ _ => Cert.Branch.Gen.frame m ρ

theorem frame_ideal : Cert.quiescent_BranchIdeal := fun m ρ _ => Cert.BranchIdeal.Gen.frame m ρ

theorem frame_reference : Cert.quiescent_BranchRefIdeal := fun m ρ _ =>
  (θ_run Cert.BranchRefIdeal.defs _ _).mono (fun r h => ⟨fun c => (h c).2,
      Idealize.ShloMosaic.sem_eq_zero_of_no_sems (by decide) r.2⟩)
    (Cert.BranchRefIdeal.Value.run (F := Ideal) m ρ)

end Cert.BranchProduct
end
-- ==== Proof.ProductBranchDx.lean ====
module
public import proofs.«01_k».proof.Defs
public import proofs.«01_k».proof.Proof.Gen.BranchDx.Frame
public import proofs.«01_k».proof.Proof.Gen.BranchDxIdeal.Frame
public import proofs.«01_k».proof.Proof.Gen.BranchDxRefIdeal.Run
public import proofs.«01_k».proof.Proof.Products
public import Idealize.ShloMosaic.Lib.Quiescent

/-! `BranchDx`: the tiled product `X · Yᵀ` of sizes 4096 × 2048 × 2048 equals the reference's. -/

@[expose] public section

set_option maxRecDepth 16384

noncomputable section

namespace Cert.BranchDxProduct

open Idealize.ShloMosaic Idealize.ShloMosaic.TcCoe Idealize.SL.Sem

section Kernel

open Cert.BranchDxIdeal Cert.BranchDxIdeal.Gen

variable (m : (ℓ : Loc nD τ sig) → Buf (Elt Ideal) ℓ)

theorem zero_at (j : S512x1024.Idx) : k0_pay1 (F := Ideal) j = 0 := by pointwise [k0_pay1]

/-- One grid point adds its tile's part of the sum. -/
theorem step_at (acc : Vec Ideal S512x1024 .f32) (a : Vec Ideal S512x2048 .bf16) (b : Vec Ideal S1024x2048 .bf16) (j : S512x1024.Idx) :
    k0_pay2 acc a b j = acc j + ∑ k : Fin 2048, a (ix2 (j 0) k) * b (ix2 (j 1) k) := by pointwise [k0_pay2]

/-- The tiles of the two operands and of the result at each grid point. -/
theorem places : ∀ t : Fin cfg0.N, win0_0.index t = ![t.val / 2, 0] ∧ win0_1.index t = ![t.val % 2, 0]
    ∧ win0_2.index t = ![t.val / 2, t.val % 2] := (by decide +kernel : ∀ t : Fin grid0.N, _)

/-- Every point computes its result tile whole. -/
theorem written (c : Dev nD) (t : Fin cfg0.N) (j : S512x1024.Idx) :
    outsAt0 m c t j = ∑ k : Fin 2048, (show Vec Ideal S512x2048 .bf16 from iblk m c 0 t) (ix2 (j 0) k) * (show Vec Ideal S1024x2048 .bf16 from iblk m c 1 t) (ix2 (j 1) k) := by
  unfold outsAt0
  frame_out
  rw [show ∀ v : Vec Ideal S512x1024 .f32, k0_pay3 v = v from fun _ => rfl, step_at, zero_at, zero_add]

/-- The result array after the whole grid. -/
theorem result (c : Dev nD) : (dats m 0 c).arrAt 2 cfg0.N
    = Products.timesT .bf16 (m ((c : Thread nD τ).loc main_arg0)) (m ((c : Thread nD τ).loc main_arg1)) := by
  refine (dats m 0 c).arrAt_eq_of_covers 2 _ (by decide +kernel) fun t hf y => ?_
  blk_simp
  rw [after0_2, written m c t]
  refine Finset.sum_congr (M := EReal) rfl fun k _ => ?_
  blk_point [iblk, V, places t]

end Kernel

section Reference

open Cert.BranchDxRefIdeal Cert.BranchDxRefIdeal.Gen

theorem reference (X : FVec Ideal S4096x2048 .bf16) (Y : FVec Ideal S2048x2048 .bf16) :
    truncf .bf16 (Host.dotGeneral dot_S4096x2048_S2048x2048_S4096x2048_1_1_0_0_n_n none (extf .f32 X bitsLt_bf16_f32) (extf .f32 Y bitsLt_bf16_f32)) bitsLt_bf16_f32
      = Products.timesT .bf16 X Y := by
  funext i
  unfold Products.timesT
  pointwise []

end Reference

open Cert.BranchDxIdeal Cert.BranchDxIdeal.Gen in
theorem algebraic : Cert.algebraic_BranchDxIdeal_BranchDxRefIdeal := by
  intro m g m' g' _ hargs
  refine ⟨fun c => Products.timesT .bf16 (m ((c : Thread nD τ).loc main_arg0)) (m ((c : Thread nD τ).loc main_arg1)), ?_, ?_⟩
  · refine (θ_run defs _ _).mono (fun r h c => ⟨((h c).1 2).trans (result m c), ?_, ?_⟩) (run_main m g)
    · exact ((h c).1 0).trans (((dats m 0 c).arrAt_in 0 rfl _).trans ((A_eq m c 0).trans (V_main_arg0 m c)))
    · exact ((h c).1 1).trans (((dats m 0 c).arrAt_in 1 rfl _).trans ((A_eq m c 1).trans (V_main_arg1 m c)))
  · refine (θ_run Cert.BranchDxRefIdeal.defs _ _).mono (fun r h c => ⟨(h c).1.trans ?_, (h c).2⟩)
      (Cert.BranchDxRefIdeal.Value.run (F := Ideal) m' g')
    rw [(hargs c).1, (hargs c).2]
    exact reference _ _

theorem frame : Cert.quiescent_BranchDx := fun m ρ _ => Cert.BranchDx.Gen.frame m ρ

theorem frame_ideal : Cert.quiescent_BranchDxIdeal := fun m ρ _ => Cert.BranchDxIdeal.Gen.frame m ρ

theorem frame_reference : Cert.quiescent_BranchDxRefIdeal := fun m ρ _ =>
  (θ_run Cert.BranchDxRefIdeal.defs _ _).mono (fun r h => ⟨fun c => (h c).2,
      Idealize.ShloMosaic.sem_eq_zero_of_no_sems (by decide) r.2⟩)
    (Cert.BranchDxRefIdeal.Value.run (F := Ideal) m ρ)

end Cert.BranchDxProduct
end
-- ==== Proof.ProductMixDx.lean ====
module
public import proofs.«01_k».proof.Defs
public import proofs.«01_k».proof.Proof.Gen.MixDx.Frame
public import proofs.«01_k».proof.Proof.Gen.MixDxIdeal.Frame
public import proofs.«01_k».proof.Proof.Gen.MixDxRefIdeal.Run
public import proofs.«01_k».proof.Proof.Products
public import Idealize.ShloMosaic.Lib.Quiescent

/-! `MixDx`: the tiled product `X · Yᵀ` of sizes 4096 × 2048 × 2048 equals the reference's. -/

@[expose] public section

set_option maxRecDepth 16384

noncomputable section

namespace Cert.MixDxProduct

open Idealize.ShloMosaic Idealize.ShloMosaic.TcCoe Idealize.SL.Sem

section Kernel

open Cert.MixDxIdeal Cert.MixDxIdeal.Gen

variable (m : (ℓ : Loc nD τ sig) → Buf (Elt Ideal) ℓ)

theorem zero_at (j : S512x1024.Idx) : k0_pay1 (F := Ideal) j = 0 := by pointwise [k0_pay1]

/-- One grid point adds its tile's part of the sum. -/
theorem step_at (acc : Vec Ideal S512x1024 .f32) (a : Vec Ideal S512x2048 .bf16) (b : Vec Ideal S1024x2048 .bf16) (j : S512x1024.Idx) :
    k0_pay2 acc a b j = acc j + ∑ k : Fin 2048, a (ix2 (j 0) k) * b (ix2 (j 1) k) := by pointwise [k0_pay2]

/-- The tiles of the two operands and of the result at each grid point. -/
theorem places : ∀ t : Fin cfg0.N, win0_0.index t = ![t.val / 2, 0] ∧ win0_1.index t = ![t.val % 2, 0]
    ∧ win0_2.index t = ![t.val / 2, t.val % 2] := (by decide +kernel : ∀ t : Fin grid0.N, _)

/-- Every point computes its result tile whole. -/
theorem written (c : Dev nD) (t : Fin cfg0.N) (j : S512x1024.Idx) :
    outsAt0 m c t j = ∑ k : Fin 2048, (show Vec Ideal S512x2048 .bf16 from iblk m c 0 t) (ix2 (j 0) k) * (show Vec Ideal S1024x2048 .bf16 from iblk m c 1 t) (ix2 (j 1) k) := by
  unfold outsAt0
  frame_out
  rw [step_at, zero_at, zero_add]

/-- The result array after the whole grid. -/
theorem result (c : Dev nD) : (dats m 0 c).arrAt 2 cfg0.N
    = Products.timesT .f32 (m ((c : Thread nD τ).loc main_arg0)) (m ((c : Thread nD τ).loc main_arg1)) := by
  refine (dats m 0 c).arrAt_eq_of_covers 2 _ (by decide +kernel) fun t hf y => ?_
  blk_simp
  rw [after0_2, written m c t]
  refine Finset.sum_congr (M := EReal) rfl fun k _ => ?_
  blk_point [iblk, V, places t]

end Kernel

section Reference

open Cert.MixDxRefIdeal Cert.MixDxRefIdeal.Gen

theorem reference (X : FVec Ideal S4096x2048 .bf16) (Y : FVec Ideal S2048x2048 .bf16) :
    Host.dotGeneral dot_S4096x2048_S2048x2048_S4096x2048_1_1_0_0_n_n none (extf .f32 X bitsLt_bf16_f32) (extf .f32 Y bitsLt_bf16_f32)
      = Products.timesT .f32 X Y := by
  funext i
  unfold Products.timesT
  pointwise []

end Reference

open Cert.MixDxIdeal Cert.MixDxIdeal.Gen in
theorem algebraic : Cert.algebraic_MixDxIdeal_MixDxRefIdeal := by
  intro m g m' g' _ hargs
  refine ⟨fun c => Products.timesT .f32 (m ((c : Thread nD τ).loc main_arg0)) (m ((c : Thread nD τ).loc main_arg1)), ?_, ?_⟩
  · refine (θ_run defs _ _).mono (fun r h c => ⟨((h c).1 2).trans (result m c), ?_, ?_⟩) (run_main m g)
    · exact ((h c).1 0).trans (((dats m 0 c).arrAt_in 0 rfl _).trans ((A_eq m c 0).trans (V_main_arg0 m c)))
    · exact ((h c).1 1).trans (((dats m 0 c).arrAt_in 1 rfl _).trans ((A_eq m c 1).trans (V_main_arg1 m c)))
  · refine (θ_run Cert.MixDxRefIdeal.defs _ _).mono (fun r h c => ⟨(h c).1.trans ?_, (h c).2⟩)
      (Cert.MixDxRefIdeal.Value.run (F := Ideal) m' g')
    rw [(hargs c).1, (hargs c).2]
    exact reference _ _

theorem frame : Cert.quiescent_MixDx := fun m ρ _ => Cert.MixDx.Gen.frame m ρ

theorem frame_ideal : Cert.quiescent_MixDxIdeal := fun m ρ _ => Cert.MixDxIdeal.Gen.frame m ρ

theorem frame_reference : Cert.quiescent_MixDxRefIdeal := fun m ρ _ =>
  (θ_run Cert.MixDxRefIdeal.defs _ _).mono (fun r h => ⟨fun c => (h c).2,
      Idealize.ShloMosaic.sem_eq_zero_of_no_sems (by decide) r.2⟩)
    (Cert.MixDxRefIdeal.Value.run (F := Ideal) m ρ)

end Cert.MixDxProduct
end
-- ==== Proof.ProductSquareDw.lean ====
module
public import proofs.«01_k».proof.Defs
public import proofs.«01_k».proof.Proof.Gen.SquareDw.Frame
public import proofs.«01_k».proof.Proof.Gen.SquareDwIdeal.Frame
public import proofs.«01_k».proof.Proof.Gen.SquareDwRefIdeal.Run
public import proofs.«01_k».proof.Proof.Products
public import Idealize.ShloMosaic.Lib.Quiescent

/-! `SquareDw`: the tiled product `Xᵀ · Y` of sizes 2048 × 4096 × 2048 equals the reference's. -/

@[expose] public section

set_option maxRecDepth 16384

noncomputable section

namespace Cert.SquareDwProduct

open Idealize.ShloMosaic Idealize.ShloMosaic.TcCoe Idealize.SL.Sem

section Kernel

open Cert.SquareDwIdeal Cert.SquareDwIdeal.Gen

variable (m : (ℓ : Loc nD τ sig) → Buf (Elt Ideal) ℓ)

theorem zero_at (j : S512x1024.Idx) : k0_pay1 (F := Ideal) j = 0 := by pointwise [k0_pay1]

/-- One grid point adds its tile's part of the sum. -/
theorem step_at (acc : Vec Ideal S512x1024 .f32) (a : Vec Ideal S2048x512 .bf16) (b : Vec Ideal S2048x1024 .bf16) (j : S512x1024.Idx) :
    k0_pay2 acc a b j = acc j + ∑ k : Fin 2048, a (ix2 k (j 0)) * b (ix2 k (j 1)) := by pointwise [k0_pay2]

/-- The tiles of the two operands and of the result at each grid point. -/
theorem places : ∀ t : Fin cfg0.N, win0_0.index t = ![t.val % 2, t.val / 4] ∧ win0_1.index t = ![t.val % 2, t.val / 2 % 2]
    ∧ win0_2.index t = ![t.val / 4, t.val / 2 % 2] := (by decide +kernel : ∀ t : Fin grid0.N, _)

/-- The accumulator after a point that does not start a result tile: the point's part added to what was there. -/
theorem scratch_step (c : Dev nD) (t : Fin cfg0.N) (h : ¬t.val % 2 = 0) (j : S512x1024.Idx) :
    (outsAt0 m c t.val t.isLt).2 j
      = (outsAt0 m c (t.val - 1) (Nat.lt_of_le_of_lt (Nat.sub_le _ _) t.isLt)).2 j
        + ∑ k : Fin 2048, (show Vec Ideal S2048x512 .bf16 from iblk m c 0 t) (ix2 k (j 0)) * (show Vec Ideal S2048x1024 .bf16 from iblk m c 1 t) (ix2 k (j 1)) := by
  rw [outsAt0_B m c t h (by omega)]
  frame_out
  rw [step_at]
  exact congrArg (· + _) (congrFun (Memref.IsWhole.read_unread (m := scM0_0) (Memref.isWhole_whole _) _) j)

/-- The last point of a result tile writes the accumulator out. -/
theorem written (c : Dev nD) (t : Fin cfg0.N) (h : t.val % 2 = 1) (j : S512x1024.Idx) :
    (outsAt0 m c t.val t.isLt).1 j = (outsAt0 m c t.val t.isLt).2 j := by
  rw [outsAt0_B m c t (by omega) h]
  frame_out

/-- The result array after the whole grid. -/
theorem result (c : Dev nD) : (dats m 0 c).arrAt 2 cfg0.N
    = Products.tTimes .f32 (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, written m c t ht, Pipeline.eq_sum_fin_of_reset_step_apply_of_flush (fun n h => (outsAt0 m c n h).2) 2 (fun _ => 0) _
    (fun t h j => by
      rw [outsAt0_A m c t h (by omega)]
      frame_out
      rw [step_at, zero_at])
    (fun t h j => scratch_step m c t h j) t ht _, zero_add]
  refine Fin.sum_mul_add_congr fun s k hl => ?_
  blk_point [iblk, V, places t, places ⟨_, Pipeline.run_point_lt_of_flush t ht s⟩]

end Kernel

section Reference

open Cert.SquareDwRefIdeal Cert.SquareDwRefIdeal.Gen

theorem reference (X : FVec Ideal S4096x2048 .bf16) (Y : FVec Ideal S4096x2048 .bf16) :
    transpose S2048x2048 [1, 0] (Host.dotGeneral dot_S4096x2048_S4096x2048_S2048x2048_0_0_1_1_n_n none (extf .f32 Y bitsLt_bf16_f32) (extf .f32 X bitsLt_bf16_f32)) transposes_S2048x2048_S2048x2048_1_0
      = Products.tTimes .f32 X Y := by
  funext i
  unfold Products.tTimes
  pointwise []
  exact Finset.sum_congr rfl fun l _ => mul_comm _ _

end Reference

open Cert.SquareDwIdeal Cert.SquareDwIdeal.Gen in
theorem algebraic : Cert.algebraic_SquareDwIdeal_SquareDwRefIdeal := by
  intro m g m' g' _ hargs
  refine ⟨fun c => Products.tTimes .f32 (m ((c : Thread nD τ).loc main_arg0)) (m ((c : Thread nD τ).loc main_arg1)), ?_, ?_⟩
  · refine (θ_run defs _ _).mono (fun r h c => ⟨((h c).1 2).trans (result m c), ?_, ?_⟩) (run_main m g)
    · exact ((h c).1 0).trans (((dats m 0 c).arrAt_in 0 rfl _).trans ((A_eq m c 0).trans (V_main_arg0 m c)))
    · exact ((h c).1 1).trans (((dats m 0 c).arrAt_in 1 rfl _).trans ((A_eq m c 1).trans (V_main_arg1 m c)))
  · refine (θ_run Cert.SquareDwRefIdeal.defs _ _).mono (fun r h c => ⟨(h c).1.trans ?_, (h c).2⟩)
      (Cert.SquareDwRefIdeal.Value.run (F := Ideal) m' g')
    rw [(hargs c).1, (hargs c).2]
    exact reference _ _

theorem frame : Cert.quiescent_SquareDw := fun m ρ _ => Cert.SquareDw.Gen.frame m ρ

theorem frame_ideal : Cert.quiescent_SquareDwIdeal := fun m ρ _ => Cert.SquareDwIdeal.Gen.frame m ρ

theorem frame_reference : Cert.quiescent_SquareDwRefIdeal := fun m ρ _ =>
  (θ_run Cert.SquareDwRefIdeal.defs _ _).mono (fun r h => ⟨fun c => (h c).2,
      Idealize.ShloMosaic.sem_eq_zero_of_no_sems (by decide) r.2⟩)
    (Cert.SquareDwRefIdeal.Value.run (F := Ideal) m ρ)

end Cert.SquareDwProduct
end
-- ==== Proof.ProductDown.lean ====
module
public import proofs.«01_k».proof.Defs
public import proofs.«01_k».proof.Proof.Gen.Down.Frame
public import proofs.«01_k».proof.Proof.Gen.DownIdeal.Frame
public import proofs.«01_k».proof.Proof.Gen.DownRefIdeal.Run
public import proofs.«01_k».proof.Proof.Products
public import Idealize.ShloMosaic.Lib.Quiescent

/-! `Down`: the tiled product `X · Y` of sizes 4096 × 5632 × 2048 equals the reference's. -/

@[expose] public section

set_option maxRecDepth 16384

noncomputable section

namespace Cert.DownProduct

open Idealize.ShloMosaic Idealize.ShloMosaic.TcCoe Idealize.SL.Sem

section Kernel

open Cert.DownIdeal Cert.DownIdeal.Gen

variable (m : (ℓ : Loc nD τ sig) → Buf (Elt Ideal) ℓ)

theorem zero_at (j : S512x1024.Idx) : k0_pay1 (F := Ideal) j = 0 := by pointwise [k0_pay1]

/-- One grid point adds its tile's part of the sum. -/
theorem step_at (acc : Vec Ideal S512x1024 .f32) (a : Vec Ideal S512x2816 .bf16) (b : Vec Ideal S2816x1024 .bf16) (j : S512x1024.Idx) :
    k0_pay2 acc a b j = acc j + ∑ k : Fin 2816, a (ix2 (j 0) k) * b (ix2 k (j 1)) := by pointwise [k0_pay2]

/-- The tiles of the two operands and of the result at each grid point. -/
theorem places : ∀ t : Fin cfg0.N, win0_0.index t = ![t.val / 4, t.val % 2] ∧ win0_1.index t = ![t.val % 2, t.val / 2 % 2]
    ∧ win0_2.index t = ![t.val / 4, t.val / 2 % 2] := (by decide +kernel : ∀ t : Fin grid0.N, _)

/-- The accumulator after a point that does not start a result tile: the point's part added to what was there. -/
theorem scratch_step (c : Dev nD) (t : Fin cfg0.N) (h : ¬t.val % 2 = 0) (j : S512x1024.Idx) :
    (outsAt0 m c t.val t.isLt).2 j
      = (outsAt0 m c (t.val - 1) (Nat.lt_of_le_of_lt (Nat.sub_le _ _) t.isLt)).2 j
        + ∑ k : Fin 2816, (show Vec Ideal S512x2816 .bf16 from iblk m c 0 t) (ix2 (j 0) k) * (show Vec Ideal S2816x1024 .bf16 from iblk m c 1 t) (ix2 k (j 1)) := by
  rw [outsAt0_B m c t h (by omega)]
  frame_out
  rw [step_at]
  exact congrArg (· + _) (congrFun (Memref.IsWhole.read_unread (m := scM0_0) (Memref.isWhole_whole _) _) j)

/-- The last point of a result tile writes the accumulator out. -/
theorem written (c : Dev nD) (t : Fin cfg0.N) (h : t.val % 2 = 1) (j : S512x1024.Idx) :
    (outsAt0 m c t.val t.isLt).1 j = (outsAt0 m c t.val t.isLt).2 j := by
  rw [outsAt0_B m c t (by omega) h]
  frame_out

/-- The result array after the whole grid. -/
theorem result (c : Dev nD) : (dats m 0 c).arrAt 2 cfg0.N
    = Products.times .f32 (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, written m c t ht, Pipeline.eq_sum_fin_of_reset_step_apply_of_flush (fun n h => (outsAt0 m c n h).2) 2 (fun _ => 0) _
    (fun t h j => by
      rw [outsAt0_A m c t h (by omega)]
      frame_out
      rw [step_at, zero_at])
    (fun t h j => scratch_step m c t h j) t ht _, zero_add]
  refine Fin.sum_mul_add_congr fun s k hl => ?_
  blk_point [iblk, V, places t, places ⟨_, Pipeline.run_point_lt_of_flush t ht s⟩]

end Kernel

section Reference

open Cert.DownRefIdeal Cert.DownRefIdeal.Gen

theorem reference (X : FVec Ideal S4096x5632 .bf16) (Y : FVec Ideal S5632x2048 .bf16) :
    Host.dotGeneral dot_S4096x5632_S5632x2048_S4096x2048_1_0_0_1_n_n none (extf .f32 X bitsLt_bf16_f32) (extf .f32 Y bitsLt_bf16_f32)
      = Products.times .f32 X Y := by
  funext i
  unfold Products.times
  pointwise []

end Reference

open Cert.DownIdeal Cert.DownIdeal.Gen in
theorem algebraic : Cert.algebraic_DownIdeal_DownRefIdeal := by
  intro m g m' g' _ hargs
  refine ⟨fun c => Products.times .f32 (m ((c : Thread nD τ).loc main_arg0)) (m ((c : Thread nD τ).loc main_arg1)), ?_, ?_⟩
  · refine (θ_run defs _ _).mono (fun r h c => ⟨((h c).1 2).trans (result m c), ?_, ?_⟩) (run_main m g)
    · exact ((h c).1 0).trans (((dats m 0 c).arrAt_in 0 rfl _).trans ((A_eq m c 0).trans (V_main_arg0 m c)))
    · exact ((h c).1 1).trans (((dats m 0 c).arrAt_in 1 rfl _).trans ((A_eq m c 1).trans (V_main_arg1 m c)))
  · refine (θ_run Cert.DownRefIdeal.defs _ _).mono (fun r h c => ⟨(h c).1.trans ?_, (h c).2⟩)
      (Cert.DownRefIdeal.Value.run (F := Ideal) m' g')
    rw [(hargs c).1, (hargs c).2]
    exact reference _ _

theorem frame : Cert.quiescent_Down := fun m ρ _ => Cert.Down.Gen.frame m ρ

theorem frame_ideal : Cert.quiescent_DownIdeal := fun m ρ _ => Cert.DownIdeal.Gen.frame m ρ

theorem frame_reference : Cert.quiescent_DownRefIdeal := fun m ρ _ =>
  (θ_run Cert.DownRefIdeal.defs _ _).mono (fun r h => ⟨fun c => (h c).2,
      Idealize.ShloMosaic.sem_eq_zero_of_no_sems (by decide) r.2⟩)
    (Cert.DownRefIdeal.Value.run (F := Ideal) m ρ)

end Cert.DownProduct
end
-- ==== Proof.ProductDownDx.lean ====
module
public import proofs.«01_k».proof.Defs
public import proofs.«01_k».proof.Proof.Gen.DownDx.Frame
public import proofs.«01_k».proof.Proof.Gen.DownDxIdeal.Frame
public import proofs.«01_k».proof.Proof.Gen.DownDxRefIdeal.Run
public import proofs.«01_k».proof.Proof.Products
public import Idealize.ShloMosaic.Lib.Quiescent

/-! `DownDx`: the tiled product `X · Yᵀ` of sizes 4096 × 2048 × 5632 equals the reference's. -/

@[expose] public section

set_option maxRecDepth 16384

noncomputable section

namespace Cert.DownDxProduct

open Idealize.ShloMosaic Idealize.ShloMosaic.TcCoe Idealize.SL.Sem

section Kernel

open Cert.DownDxIdeal Cert.DownDxIdeal.Gen

variable (m : (ℓ : Loc nD τ sig) → Buf (Elt Ideal) ℓ)

theorem zero_at (j : S512x512.Idx) : k0_pay1 (F := Ideal) j = 0 := by pointwise [k0_pay1]

/-- One grid point adds its tile's part of the sum. -/
theorem step_at (acc : Vec Ideal S512x512 .f32) (a : Vec Ideal S512x2048 .bf16) (b : Vec Ideal S512x2048 .bf16) (j : S512x512.Idx) :
    k0_pay2 acc a b j = acc j + ∑ k : Fin 2048, a (ix2 (j 0) k) * b (ix2 (j 1) k) := by pointwise [k0_pay2]

/-- The tiles of the two operands and of the result at each grid point. -/
theorem places : ∀ t : Fin cfg0.N, win0_0.index t = ![t.val / 11, 0] ∧ win0_1.index t = ![t.val % 11, 0]
    ∧ win0_2.index t = ![t.val / 11, t.val % 11] := (by decide +kernel : ∀ t : Fin grid0.N, _)

/-- Every point computes its result tile whole. -/
theorem written (c : Dev nD) (t : Fin cfg0.N) (j : S512x512.Idx) :
    outsAt0 m c t j = ∑ k : Fin 2048, (show Vec Ideal S512x2048 .bf16 from iblk m c 0 t) (ix2 (j 0) k) * (show Vec Ideal S512x2048 .bf16 from iblk m c 1 t) (ix2 (j 1) k) := by
  unfold outsAt0
  frame_out
  rw [step_at, zero_at, zero_add]

/-- The result array after the whole grid. -/
theorem result (c : Dev nD) : (dats m 0 c).arrAt 2 cfg0.N
    = Products.timesT .f32 (m ((c : Thread nD τ).loc main_arg0)) (m ((c : Thread nD τ).loc main_arg1)) := by
  refine (dats m 0 c).arrAt_eq_of_covers 2 _ (by decide +kernel) fun t hf y => ?_
  blk_simp
  rw [after0_2, written m c t]
  refine Finset.sum_congr (M := EReal) rfl fun k _ => ?_
  blk_point [iblk, V, places t]

end Kernel

section Reference

open Cert.DownDxRefIdeal Cert.DownDxRefIdeal.Gen

theorem reference (X : FVec Ideal S4096x2048 .bf16) (Y : FVec Ideal S5632x2048 .bf16) :
    Host.dotGeneral dot_S4096x2048_S5632x2048_S4096x5632_1_1_0_0_n_n none (extf .f32 X bitsLt_bf16_f32) (extf .f32 Y bitsLt_bf16_f32)
      = Products.timesT .f32 X Y := by
  funext i
  unfold Products.timesT
  pointwise []

end Reference

open Cert.DownDxIdeal Cert.DownDxIdeal.Gen in
theorem algebraic : Cert.algebraic_DownDxIdeal_DownDxRefIdeal := by
  intro m g m' g' _ hargs
  refine ⟨fun c => Products.timesT .f32 (m ((c : Thread nD τ).loc main_arg0)) (m ((c : Thread nD τ).loc main_arg1)), ?_, ?_⟩
  · refine (θ_run defs _ _).mono (fun r h c => ⟨((h c).1 2).trans (result m c), ?_, ?_⟩) (run_main m g)
    · exact ((h c).1 0).trans (((dats m 0 c).arrAt_in 0 rfl _).trans ((A_eq m c 0).trans (V_main_arg0 m c)))
    · exact ((h c).1 1).trans (((dats m 0 c).arrAt_in 1 rfl _).trans ((A_eq m c 1).trans (V_main_arg1 m c)))
  · refine (θ_run Cert.DownDxRefIdeal.defs _ _).mono (fun r h c => ⟨(h c).1.trans ?_, (h c).2⟩)
      (Cert.DownDxRefIdeal.Value.run (F := Ideal) m' g')
    rw [(hargs c).1, (hargs c).2]
    exact reference _ _

theorem frame : Cert.quiescent_DownDx := fun m ρ _ => Cert.DownDx.Gen.frame m ρ

theorem frame_ideal : Cert.quiescent_DownDxIdeal := fun m ρ _ => Cert.DownDxIdeal.Gen.frame m ρ

theorem frame_reference : Cert.quiescent_DownDxRefIdeal := fun m ρ _ =>
  (θ_run Cert.DownDxRefIdeal.defs _ _).mono (fun r h => ⟨fun c => (h c).2,
      Idealize.ShloMosaic.sem_eq_zero_of_no_sems (by decide) r.2⟩)
    (Cert.DownDxRefIdeal.Value.run (F := Ideal) m ρ)

end Cert.DownDxProduct
end
-- ==== Proof.ProductDownDw.lean ====
module
public import proofs.«01_k».proof.Defs
public import proofs.«01_k».proof.Proof.Gen.DownDw.Frame
public import proofs.«01_k».proof.Proof.Gen.DownDwIdeal.Frame
public import proofs.«01_k».proof.Proof.Gen.DownDwRefIdeal.Run
public import proofs.«01_k».proof.Proof.Products
public import Idealize.ShloMosaic.Lib.Quiescent

/-! `DownDw`: the tiled product `Xᵀ · Y` of sizes 5632 × 4096 × 2048 equals the reference's. -/

@[expose] public section

set_option maxRecDepth 16384

noncomputable section

namespace Cert.DownDwProduct

open Idealize.ShloMosaic Idealize.ShloMosaic.TcCoe Idealize.SL.Sem

section Kernel

open Cert.DownDwIdeal Cert.DownDwIdeal.Gen

variable (m : (ℓ : Loc nD τ sig) → Buf (Elt Ideal) ℓ)

theorem zero_at (j : S512x1024.Idx) : k0_pay1 (F := Ideal) j = 0 := by pointwise [k0_pay1]

/-- One grid point adds its tile's part of the sum. -/
theorem step_at (acc : Vec Ideal S512x1024 .f32) (a : Vec Ideal S2048x512 .bf16) (b : Vec Ideal S2048x1024 .bf16) (j : S512x1024.Idx) :
    k0_pay2 acc a b j = acc j + ∑ k : Fin 2048, a (ix2 k (j 0)) * b (ix2 k (j 1)) := by pointwise [k0_pay2]

/-- The tiles of the two operands and of the result at each grid point. -/
theorem places : ∀ t : Fin cfg0.N, win0_0.index t = ![t.val % 2, t.val / 4] ∧ win0_1.index t = ![t.val % 2, t.val / 2 % 2]
    ∧ win0_2.index t = ![t.val / 4, t.val / 2 % 2] := (by decide +kernel : ∀ t : Fin grid0.N, _)

/-- The accumulator after a point that does not start a result tile: the point's part added to what was there. -/
theorem scratch_step (c : Dev nD) (t : Fin cfg0.N) (h : ¬t.val % 2 = 0) (j : S512x1024.Idx) :
    (outsAt0 m c t.val t.isLt).2 j
      = (outsAt0 m c (t.val - 1) (Nat.lt_of_le_of_lt (Nat.sub_le _ _) t.isLt)).2 j
        + ∑ k : Fin 2048, (show Vec Ideal S2048x512 .bf16 from iblk m c 0 t) (ix2 k (j 0)) * (show Vec Ideal S2048x1024 .bf16 from iblk m c 1 t) (ix2 k (j 1)) := by
  rw [outsAt0_B m c t h (by omega)]
  frame_out
  rw [step_at]
  exact congrArg (· + _) (congrFun (Memref.IsWhole.read_unread (m := scM0_0) (Memref.isWhole_whole _) _) j)

/-- The last point of a result tile writes the accumulator out. -/
theorem written (c : Dev nD) (t : Fin cfg0.N) (h : t.val % 2 = 1) (j : S512x1024.Idx) :
    (outsAt0 m c t.val t.isLt).1 j = (outsAt0 m c t.val t.isLt).2 j := by
  rw [outsAt0_B m c t (by omega) h]
  frame_out

/-- The result array after the whole grid. -/
theorem result (c : Dev nD) : (dats m 0 c).arrAt 2 cfg0.N
    = Products.tTimes .f32 (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, written m c t ht, Pipeline.eq_sum_fin_of_reset_step_apply_of_flush (fun n h => (outsAt0 m c n h).2) 2 (fun _ => 0) _
    (fun t h j => by
      rw [outsAt0_A m c t h (by omega)]
      frame_out
      rw [step_at, zero_at])
    (fun t h j => scratch_step m c t h j) t ht _, zero_add]
  refine Fin.sum_mul_add_congr fun s k hl => ?_
  blk_point [iblk, V, places t, places ⟨_, Pipeline.run_point_lt_of_flush t ht s⟩]

end Kernel

section Reference

open Cert.DownDwRefIdeal Cert.DownDwRefIdeal.Gen

theorem reference (X : FVec Ideal S4096x5632 .bf16) (Y : FVec Ideal S4096x2048 .bf16) :
    transpose S5632x2048 [1, 0] (Host.dotGeneral dot_S4096x2048_S4096x5632_S2048x5632_0_0_1_1_n_n none (extf .f32 Y bitsLt_bf16_f32) (extf .f32 X bitsLt_bf16_f32)) transposes_S2048x5632_S5632x2048_1_0
      = Products.tTimes .f32 X Y := by
  funext i
  unfold Products.tTimes
  pointwise []
  exact Finset.sum_congr rfl fun l _ => mul_comm _ _

end Reference

open Cert.DownDwIdeal Cert.DownDwIdeal.Gen in
theorem algebraic : Cert.algebraic_DownDwIdeal_DownDwRefIdeal := by
  intro m g m' g' _ hargs
  refine ⟨fun c => Products.tTimes .f32 (m ((c : Thread nD τ).loc main_arg0)) (m ((c : Thread nD τ).loc main_arg1)), ?_, ?_⟩
  · refine (θ_run defs _ _).mono (fun r h c => ⟨((h c).1 2).trans (result m c), ?_, ?_⟩) (run_main m g)
    · exact ((h c).1 0).trans (((dats m 0 c).arrAt_in 0 rfl _).trans ((A_eq m c 0).trans (V_main_arg0 m c)))
    · exact ((h c).1 1).trans (((dats m 0 c).arrAt_in 1 rfl _).trans ((A_eq m c 1).trans (V_main_arg1 m c)))
  · refine (θ_run Cert.DownDwRefIdeal.defs _ _).mono (fun r h c => ⟨(h c).1.trans ?_, (h c).2⟩)
      (Cert.DownDwRefIdeal.Value.run (F := Ideal) m' g')
    rw [(hargs c).1, (hargs c).2]
    exact reference _ _

theorem frame : Cert.quiescent_DownDw := fun m ρ _ => Cert.DownDw.Gen.frame m ρ

theorem frame_ideal : Cert.quiescent_DownDwIdeal := fun m ρ _ => Cert.DownDwIdeal.Gen.frame m ρ

theorem frame_reference : Cert.quiescent_DownDwRefIdeal := fun m ρ _ =>
  (θ_run Cert.DownDwRefIdeal.defs _ _).mono (fun r h => ⟨fun c => (h c).2,
      Idealize.ShloMosaic.sem_eq_zero_of_no_sems (by decide) r.2⟩)
    (Cert.DownDwRefIdeal.Value.run (F := Ideal) m ρ)

end Cert.DownDwProduct
end
-- ==== Proof.ProductUp.lean ====
module
public import proofs.«01_k».proof.Defs
public import proofs.«01_k».proof.Proof.Gen.Up.Frame
public import proofs.«01_k».proof.Proof.Gen.UpIdeal.Frame
public import proofs.«01_k».proof.Proof.Gen.UpRefIdeal.Run
public import proofs.«01_k».proof.Proof.Products
public import Idealize.ShloMosaic.Lib.Quiescent

/-! `Up`: the tiled product `X · Y` of sizes 4096 × 2048 × 11264 equals the reference's. -/

@[expose] public section

set_option maxRecDepth 16384

noncomputable section

namespace Cert.UpProduct

open Idealize.ShloMosaic Idealize.ShloMosaic.TcCoe Idealize.SL.Sem

section Kernel

open Cert.UpIdeal Cert.UpIdeal.Gen

variable (m : (ℓ : Loc nD τ sig) → Buf (Elt Ideal) ℓ)

theorem zero_at (j : S512x1024.Idx) : k0_pay1 (F := Ideal) j = 0 := by pointwise [k0_pay1]

/-- One grid point adds its tile's part of the sum. -/
theorem step_at (acc : Vec Ideal S512x1024 .f32) (a : Vec Ideal S512x2048 .bf16) (b : Vec Ideal S2048x1024 .bf16) (j : S512x1024.Idx) :
    k0_pay2 acc a b j = acc j + ∑ k : Fin 2048, a (ix2 (j 0) k) * b (ix2 k (j 1)) := by pointwise [k0_pay2]

/-- The tiles of the two operands and of the result at each grid point. -/
theorem places : ∀ t : Fin cfg0.N, win0_0.index t = ![t.val / 11, 0] ∧ win0_1.index t = ![0, t.val % 11]
    ∧ win0_2.index t = ![t.val / 11, t.val % 11] := (by decide +kernel : ∀ t : Fin grid0.N, _)

/-- Every point computes its result tile whole. -/
theorem written (c : Dev nD) (t : Fin cfg0.N) (j : S512x1024.Idx) :
    outsAt0 m c t j = ∑ k : Fin 2048, (show Vec Ideal S512x2048 .bf16 from iblk m c 0 t) (ix2 (j 0) k) * (show Vec Ideal S2048x1024 .bf16 from iblk m c 1 t) (ix2 k (j 1)) := by
  unfold outsAt0
  frame_out
  rw [step_at, zero_at, zero_add]

/-- The result array after the whole grid. -/
theorem result (c : Dev nD) : (dats m 0 c).arrAt 2 cfg0.N
    = Products.times .f32 (m ((c : Thread nD τ).loc main_arg0)) (m ((c : Thread nD τ).loc main_arg1)) := by
  refine (dats m 0 c).arrAt_eq_of_covers 2 _ (by decide +kernel) fun t hf y => ?_
  blk_simp
  rw [after0_2, written m c t]
  refine Finset.sum_congr (M := EReal) rfl fun k _ => ?_
  blk_point [iblk, V, places t]

end Kernel

section Reference

open Cert.UpRefIdeal Cert.UpRefIdeal.Gen

theorem reference (X : FVec Ideal S4096x2048 .bf16) (Y : FVec Ideal S2048x11264 .bf16) :
    Host.dotGeneral dot_S4096x2048_S2048x11264_S4096x11264_1_0_0_1_n_n none (extf .f32 X bitsLt_bf16_f32) (extf .f32 Y bitsLt_bf16_f32)
      = Products.times .f32 X Y := by
  funext i
  unfold Products.times
  pointwise []

end Reference

open Cert.UpIdeal Cert.UpIdeal.Gen in
theorem algebraic : Cert.algebraic_UpIdeal_UpRefIdeal := by
  intro m g m' g' _ hargs
  refine ⟨fun c => Products.times .f32 (m ((c : Thread nD τ).loc main_arg0)) (m ((c : Thread nD τ).loc main_arg1)), ?_, ?_⟩
  · refine (θ_run defs _ _).mono (fun r h c => ⟨((h c).1 2).trans (result m c), ?_, ?_⟩) (run_main m g)
    · exact ((h c).1 0).trans (((dats m 0 c).arrAt_in 0 rfl _).trans ((A_eq m c 0).trans (V_main_arg0 m c)))
    · exact ((h c).1 1).trans (((dats m 0 c).arrAt_in 1 rfl _).trans ((A_eq m c 1).trans (V_main_arg1 m c)))
  · refine (θ_run Cert.UpRefIdeal.defs _ _).mono (fun r h c => ⟨(h c).1.trans ?_, (h c).2⟩)
      (Cert.UpRefIdeal.Value.run (F := Ideal) m' g')
    rw [(hargs c).1, (hargs c).2]
    exact reference _ _

theorem frame : Cert.quiescent_Up := fun m ρ _ => Cert.Up.Gen.frame m ρ

theorem frame_ideal : Cert.quiescent_UpIdeal := fun m ρ _ => Cert.UpIdeal.Gen.frame m ρ

theorem frame_reference : Cert.quiescent_UpRefIdeal := fun m ρ _ =>
  (θ_run Cert.UpRefIdeal.defs _ _).mono (fun r h => ⟨fun c => (h c).2,
      Idealize.ShloMosaic.sem_eq_zero_of_no_sems (by decide) r.2⟩)
    (Cert.UpRefIdeal.Value.run (F := Ideal) m ρ)

end Cert.UpProduct
end
-- ==== Proof.ProductUpDx.lean ====
module
public import proofs.«01_k».proof.Defs
public import proofs.«01_k».proof.Proof.Gen.UpDx.Frame
public import proofs.«01_k».proof.Proof.Gen.UpDxIdeal.Frame
public import proofs.«01_k».proof.Proof.Gen.UpDxRefIdeal.Run
public import proofs.«01_k».proof.Proof.Products
public import Idealize.ShloMosaic.Lib.Quiescent

/-! `UpDx`: the tiled product `X · Yᵀ` of sizes 4096 × 11264 × 2048 equals the reference's. -/

@[expose] public section

set_option maxRecDepth 16384

noncomputable section

namespace Cert.UpDxProduct

open Idealize.ShloMosaic Idealize.ShloMosaic.TcCoe Idealize.SL.Sem

section Kernel

open Cert.UpDxIdeal Cert.UpDxIdeal.Gen

variable (m : (ℓ : Loc nD τ sig) → Buf (Elt Ideal) ℓ)

theorem zero_at (j : S512x1024.Idx) : k0_pay1 (F := Ideal) j = 0 := by pointwise [k0_pay1]

/-- One grid point adds its tile's part of the sum. -/
theorem step_at (acc : Vec Ideal S512x1024 .f32) (a : Vec Ideal S512x2816 .bf16) (b : Vec Ideal S1024x2816 .bf16) (j : S512x1024.Idx) :
    k0_pay2 acc a b j = acc j + ∑ k : Fin 2816, a (ix2 (j 0) k) * b (ix2 (j 1) k) := by pointwise [k0_pay2]

/-- The tiles of the two operands and of the result at each grid point. -/
theorem places : ∀ t : Fin cfg0.N, win0_0.index t = ![t.val / 8, t.val % 4] ∧ win0_1.index t = ![t.val / 4 % 2, t.val % 4]
    ∧ win0_2.index t = ![t.val / 8, t.val / 4 % 2] := (by decide +kernel : ∀ t : Fin grid0.N, _)

/-- The accumulator after a point that does not start a result tile: the point's part added to what was there. -/
theorem scratch_step (c : Dev nD) (t : Fin cfg0.N) (h : ¬t.val % 4 = 0) (j : S512x1024.Idx) :
    (outsAt0 m c t.val t.isLt).2 j
      = (outsAt0 m c (t.val - 1) (Nat.lt_of_le_of_lt (Nat.sub_le _ _) t.isLt)).2 j
        + ∑ k : Fin 2816, (show Vec Ideal S512x2816 .bf16 from iblk m c 0 t) (ix2 (j 0) k) * (show Vec Ideal S1024x2816 .bf16 from iblk m c 1 t) (ix2 (j 1) k) := by
  by_cases h1 : t.val % 4 = 3
  · rw [outsAt0_C m c t h h1]
    frame_out
    rw [step_at]
    exact congrArg (· + _) (congrFun (Memref.IsWhole.read_unread (m := scM0_0) (Memref.isWhole_whole _) _) j)
  · rw [outsAt0_B m c t h h1]
    frame_out
    rw [step_at]
    exact congrArg (· + _) (congrFun (Memref.IsWhole.read_unread (m := scM0_0) (Memref.isWhole_whole _) _) j)

/-- The last point of a result tile writes the accumulator out. -/
theorem written (c : Dev nD) (t : Fin cfg0.N) (h : t.val % 4 = 3) (j : S512x1024.Idx) :
    (outsAt0 m c t.val t.isLt).1 j = (outsAt0 m c t.val t.isLt).2 j := by
  rw [outsAt0_C m c t (by omega) h]
  frame_out

/-- The result array after the whole grid. -/
theorem result (c : Dev nD) : (dats m 0 c).arrAt 2 cfg0.N
    = Products.timesT .f32 (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, written m c t ht, Pipeline.eq_sum_fin_of_reset_step_apply_of_flush (fun n h => (outsAt0 m c n h).2) 4 (fun _ => 0) _
    (fun t h j => by
      rw [outsAt0_A m c t h (by omega)]
      frame_out
      rw [step_at, zero_at])
    (fun t h j => scratch_step m c t h j) t ht _, zero_add]
  refine Fin.sum_mul_add_congr fun s k hl => ?_
  blk_point [iblk, V, places t, places ⟨_, Pipeline.run_point_lt_of_flush t ht s⟩]

end Kernel

section Reference

open Cert.UpDxRefIdeal Cert.UpDxRefIdeal.Gen

theorem reference (X : FVec Ideal S4096x11264 .bf16) (Y : FVec Ideal S2048x11264 .bf16) :
    Host.dotGeneral dot_S4096x11264_S2048x11264_S4096x2048_1_1_0_0_n_n none (extf .f32 X bitsLt_bf16_f32) (extf .f32 Y bitsLt_bf16_f32)
      = Products.timesT .f32 X Y := by
  funext i
  unfold Products.timesT
  pointwise []

end Reference

open Cert.UpDxIdeal Cert.UpDxIdeal.Gen in
theorem algebraic : Cert.algebraic_UpDxIdeal_UpDxRefIdeal := by
  intro m g m' g' _ hargs
  refine ⟨fun c => Products.timesT .f32 (m ((c : Thread nD τ).loc main_arg0)) (m ((c : Thread nD τ).loc main_arg1)), ?_, ?_⟩
  · refine (θ_run defs _ _).mono (fun r h c => ⟨((h c).1 2).trans (result m c), ?_, ?_⟩) (run_main m g)
    · exact ((h c).1 0).trans (((dats m 0 c).arrAt_in 0 rfl _).trans ((A_eq m c 0).trans (V_main_arg0 m c)))
    · exact ((h c).1 1).trans (((dats m 0 c).arrAt_in 1 rfl _).trans ((A_eq m c 1).trans (V_main_arg1 m c)))
  · refine (θ_run Cert.UpDxRefIdeal.defs _ _).mono (fun r h c => ⟨(h c).1.trans ?_, (h c).2⟩)
      (Cert.UpDxRefIdeal.Value.run (F := Ideal) m' g')
    rw [(hargs c).1, (hargs c).2]
    exact reference _ _

theorem frame : Cert.quiescent_UpDx := fun m ρ _ => Cert.UpDx.Gen.frame m ρ

theorem frame_ideal : Cert.quiescent_UpDxIdeal := fun m ρ _ => Cert.UpDxIdeal.Gen.frame m ρ

theorem frame_reference : Cert.quiescent_UpDxRefIdeal := fun m ρ _ =>
  (θ_run Cert.UpDxRefIdeal.defs _ _).mono (fun r h => ⟨fun c => (h c).2,
      Idealize.ShloMosaic.sem_eq_zero_of_no_sems (by decide) r.2⟩)
    (Cert.UpDxRefIdeal.Value.run (F := Ideal) m ρ)

end Cert.UpDxProduct
end
-- ==== Proof.ProductUpDw.lean ====
module
public import proofs.«01_k».proof.Defs
public import proofs.«01_k».proof.Proof.Gen.UpDw.Frame
public import proofs.«01_k».proof.Proof.Gen.UpDwIdeal.Frame
public import proofs.«01_k».proof.Proof.Gen.UpDwRefIdeal.Run
public import proofs.«01_k».proof.Proof.Products
public import Idealize.ShloMosaic.Lib.Quiescent

/-! `UpDw`: the tiled product `Xᵀ · Y` of sizes 2048 × 4096 × 11264 equals the reference's. -/

@[expose] public section

set_option maxRecDepth 16384

noncomputable section

namespace Cert.UpDwProduct

open Idealize.ShloMosaic Idealize.ShloMosaic.TcCoe Idealize.SL.Sem

section Kernel

open Cert.UpDwIdeal Cert.UpDwIdeal.Gen

variable (m : (ℓ : Loc nD τ sig) → Buf (Elt Ideal) ℓ)

theorem zero_at (j : S512x1024.Idx) : k0_pay1 (F := Ideal) j = 0 := by pointwise [k0_pay1]

/-- One grid point adds its tile's part of the sum. -/
theorem step_at (acc : Vec Ideal S512x1024 .f32) (a : Vec Ideal S2048x512 .bf16) (b : Vec Ideal S2048x1024 .bf16) (j : S512x1024.Idx) :
    k0_pay2 acc a b j = acc j + ∑ k : Fin 2048, a (ix2 k (j 0)) * b (ix2 k (j 1)) := by pointwise [k0_pay2]

/-- The tiles of the two operands and of the result at each grid point. -/
theorem places : ∀ t : Fin cfg0.N, win0_0.index t = ![t.val % 2, t.val / 22] ∧ win0_1.index t = ![t.val % 2, t.val / 2 % 11]
    ∧ win0_2.index t = ![t.val / 22, t.val / 2 % 11] := (by decide +kernel : ∀ t : Fin grid0.N, _)

/-- The accumulator after a point that does not start a result tile: the point's part added to what was there. -/
theorem scratch_step (c : Dev nD) (t : Fin cfg0.N) (h : ¬t.val % 2 = 0) (j : S512x1024.Idx) :
    (outsAt0 m c t.val t.isLt).2 j
      = (outsAt0 m c (t.val - 1) (Nat.lt_of_le_of_lt (Nat.sub_le _ _) t.isLt)).2 j
        + ∑ k : Fin 2048, (show Vec Ideal S2048x512 .bf16 from iblk m c 0 t) (ix2 k (j 0)) * (show Vec Ideal S2048x1024 .bf16 from iblk m c 1 t) (ix2 k (j 1)) := by
  rw [outsAt0_B m c t h (by omega)]
  frame_out
  rw [step_at]
  exact congrArg (· + _) (congrFun (Memref.IsWhole.read_unread (m := scM0_0) (Memref.isWhole_whole _) _) j)

/-- The last point of a result tile writes the accumulator out. -/
theorem written (c : Dev nD) (t : Fin cfg0.N) (h : t.val % 2 = 1) (j : S512x1024.Idx) :
    (outsAt0 m c t.val t.isLt).1 j = (outsAt0 m c t.val t.isLt).2 j := by
  rw [outsAt0_B m c t (by omega) h]
  frame_out

/-- The result array after the whole grid. -/
theorem result (c : Dev nD) : (dats m 0 c).arrAt 2 cfg0.N
    = Products.tTimes .f32 (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, written m c t ht, Pipeline.eq_sum_fin_of_reset_step_apply_of_flush (fun n h => (outsAt0 m c n h).2) 2 (fun _ => 0) _
    (fun t h j => by
      rw [outsAt0_A m c t h (by omega)]
      frame_out
      rw [step_at, zero_at])
    (fun t h j => scratch_step m c t h j) t ht _, zero_add]
  refine Fin.sum_mul_add_congr fun s k hl => ?_
  blk_point [iblk, V, places t, places ⟨_, Pipeline.run_point_lt_of_flush t ht s⟩]

end Kernel

section Reference

open Cert.UpDwRefIdeal Cert.UpDwRefIdeal.Gen

theorem reference (X : FVec Ideal S4096x2048 .bf16) (Y : FVec Ideal S4096x11264 .bf16) :
    transpose S2048x11264 [1, 0] (Host.dotGeneral dot_S4096x11264_S4096x2048_S11264x2048_0_0_1_1_n_n none (extf .f32 Y bitsLt_bf16_f32) (extf .f32 X bitsLt_bf16_f32)) transposes_S11264x2048_S2048x11264_1_0
      = Products.tTimes .f32 X Y := by
  funext i
  unfold Products.tTimes
  pointwise []
  exact Finset.sum_congr rfl fun l _ => mul_comm _ _

end Reference

open Cert.UpDwIdeal Cert.UpDwIdeal.Gen in
theorem algebraic : Cert.algebraic_UpDwIdeal_UpDwRefIdeal := by
  intro m g m' g' _ hargs
  refine ⟨fun c => Products.tTimes .f32 (m ((c : Thread nD τ).loc main_arg0)) (m ((c : Thread nD τ).loc main_arg1)), ?_, ?_⟩
  · refine (θ_run defs _ _).mono (fun r h c => ⟨((h c).1 2).trans (result m c), ?_, ?_⟩) (run_main m g)
    · exact ((h c).1 0).trans (((dats m 0 c).arrAt_in 0 rfl _).trans ((A_eq m c 0).trans (V_main_arg0 m c)))
    · exact ((h c).1 1).trans (((dats m 0 c).arrAt_in 1 rfl _).trans ((A_eq m c 1).trans (V_main_arg1 m c)))
  · refine (θ_run Cert.UpDwRefIdeal.defs _ _).mono (fun r h c => ⟨(h c).1.trans ?_, (h c).2⟩)
      (Cert.UpDwRefIdeal.Value.run (F := Ideal) m' g')
    rw [(hargs c).1, (hargs c).2]
    exact reference _ _

theorem frame : Cert.quiescent_UpDw := fun m ρ _ => Cert.UpDw.Gen.frame m ρ

theorem frame_ideal : Cert.quiescent_UpDwIdeal := fun m ρ _ => Cert.UpDwIdeal.Gen.frame m ρ

theorem frame_reference : Cert.quiescent_UpDwRefIdeal := fun m ρ _ =>
  (θ_run Cert.UpDwRefIdeal.defs _ _).mono (fun r h => ⟨fun c => (h c).2,
      Idealize.ShloMosaic.sem_eq_zero_of_no_sems (by decide) r.2⟩)
    (Cert.UpDwRefIdeal.Value.run (F := Ideal) m ρ)

end Cert.UpDwProduct
end
-- ==== Proof.ProductProj.lean ====
module
public import proofs.«01_k».proof.Defs
public import proofs.«01_k».proof.Proof.Gen.Proj.Frame
public import proofs.«01_k».proof.Proof.Gen.ProjIdeal.Frame
public import proofs.«01_k».proof.Proof.Gen.ProjRefIdeal.Run
public import proofs.«01_k».proof.Proof.Products
public import Idealize.ShloMosaic.Lib.Quiescent

/-! `Proj`: the tiled product `X · Y` of sizes 4096 × 2048 × 15360 equals the reference's. -/

@[expose] public section

set_option maxRecDepth 16384

noncomputable section

namespace Cert.ProjProduct

open Idealize.ShloMosaic Idealize.ShloMosaic.TcCoe Idealize.SL.Sem

section Kernel

open Cert.ProjIdeal Cert.ProjIdeal.Gen

variable (m : (ℓ : Loc nD τ sig) → Buf (Elt Ideal) ℓ)

theorem zero_at (j : S512x1024.Idx) : k0_pay1 (F := Ideal) j = 0 := by pointwise [k0_pay1]

/-- One grid point adds its tile's part of the sum. -/
theorem step_at (acc : Vec Ideal S512x1024 .f32) (a : Vec Ideal S512x2048 .bf16) (b : Vec Ideal S2048x1024 .bf16) (j : S512x1024.Idx) :
    k0_pay2 acc a b j = acc j + ∑ k : Fin 2048, a (ix2 (j 0) k) * b (ix2 k (j 1)) := by pointwise [k0_pay2]

/-- The tiles of the two operands and of the result at each grid point. -/
theorem places : ∀ t : Fin cfg0.N, win0_0.index t = ![t.val / 15, 0] ∧ win0_1.index t = ![0, t.val % 15]
    ∧ win0_2.index t = ![t.val / 15, t.val % 15] := (by decide +kernel : ∀ t : Fin grid0.N, _)

/-- Every point computes its result tile whole. -/
theorem written (c : Dev nD) (t : Fin cfg0.N) (j : S512x1024.Idx) :
    outsAt0 m c t j = ∑ k : Fin 2048, (show Vec Ideal S512x2048 .bf16 from iblk m c 0 t) (ix2 (j 0) k) * (show Vec Ideal S2048x1024 .bf16 from iblk m c 1 t) (ix2 k (j 1)) := by
  unfold outsAt0
  frame_out
  rw [step_at, zero_at, zero_add]

/-- The result array after the whole grid. -/
theorem result (c : Dev nD) : (dats m 0 c).arrAt 2 cfg0.N
    = Products.times .f32 (m ((c : Thread nD τ).loc main_arg0)) (m ((c : Thread nD τ).loc main_arg1)) := by
  refine (dats m 0 c).arrAt_eq_of_covers 2 _ (by decide +kernel) fun t hf y => ?_
  blk_simp
  rw [after0_2, written m c t]
  refine Finset.sum_congr (M := EReal) rfl fun k _ => ?_
  blk_point [iblk, V, places t]

end Kernel

section Reference

open Cert.ProjRefIdeal Cert.ProjRefIdeal.Gen

theorem reference (X : FVec Ideal S4096x2048 .bf16) (Y : FVec Ideal S2048x15360 .bf16) :
    Host.dotGeneral dot_S4096x2048_S2048x15360_S4096x15360_1_0_0_1_n_n none (extf .f32 X bitsLt_bf16_f32) (extf .f32 Y bitsLt_bf16_f32)
      = Products.times .f32 X Y := by
  funext i
  unfold Products.times
  pointwise []

end Reference

open Cert.ProjIdeal Cert.ProjIdeal.Gen in
theorem algebraic : Cert.algebraic_ProjIdeal_ProjRefIdeal := by
  intro m g m' g' _ hargs
  refine ⟨fun c => Products.times .f32 (m ((c : Thread nD τ).loc main_arg0)) (m ((c : Thread nD τ).loc main_arg1)), ?_, ?_⟩
  · refine (θ_run defs _ _).mono (fun r h c => ⟨((h c).1 2).trans (result m c), ?_, ?_⟩) (run_main m g)
    · exact ((h c).1 0).trans (((dats m 0 c).arrAt_in 0 rfl _).trans ((A_eq m c 0).trans (V_main_arg0 m c)))
    · exact ((h c).1 1).trans (((dats m 0 c).arrAt_in 1 rfl _).trans ((A_eq m c 1).trans (V_main_arg1 m c)))
  · refine (θ_run Cert.ProjRefIdeal.defs _ _).mono (fun r h c => ⟨(h c).1.trans ?_, (h c).2⟩)
      (Cert.ProjRefIdeal.Value.run (F := Ideal) m' g')
    rw [(hargs c).1, (hargs c).2]
    exact reference _ _

theorem frame : Cert.quiescent_Proj := fun m ρ _ => Cert.Proj.Gen.frame m ρ

theorem frame_ideal : Cert.quiescent_ProjIdeal := fun m ρ _ => Cert.ProjIdeal.Gen.frame m ρ

theorem frame_reference : Cert.quiescent_ProjRefIdeal := fun m ρ _ =>
  (θ_run Cert.ProjRefIdeal.defs _ _).mono (fun r h => ⟨fun c => (h c).2,
      Idealize.ShloMosaic.sem_eq_zero_of_no_sems (by decide) r.2⟩)
    (Cert.ProjRefIdeal.Value.run (F := Ideal) m ρ)

end Cert.ProjProduct
end
-- ==== Proof.Update.lean ====
module
public import Idealize.ShloMosaic.Lib.Pipeline.ValueKit
public import Idealize.ShloMosaic.Lib.Pointwise

/-! The optimiser's update of one weight, as functions of the weight, its gradient and its two moments, with the
constants of the step as the words that both programs print. The modules `Update*` show of one array's call, and of its
reference, that every element is updated by these functions. -/

@[expose] public section

noncomputable section

namespace Cert.Update

open Idealize.ShloMosaic

/-- The new first moment. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- The change of the weight. -/
def change (w g m v : EReal) : EReal :=
  Ideal.ofBits .f32 0xBA83126F#32
    * (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

variable {s : Shape}

def firsts (g m : FVec Ideal s .f32) : FVec Ideal s .f32 := fun i => first (g i) (m i)

def seconds (g v : FVec Ideal s .f32) : FVec Ideal s .f32 := fun i => second (g i) (v i)

def changes (w g m v : FVec Ideal s .f32) : FVec Ideal s .f32 := fun i => change (w i) (g i) (m i) (v i)

end Cert.Update
end
-- ==== Proof.UpdateIn.lean ====
module
public import proofs.«01_k».proof.Defs
public import proofs.«01_k».proof.Proof.Gen.AdamIn.Frame
public import proofs.«01_k».proof.Proof.Gen.AdamInIdeal.Frame
public import proofs.«01_k».proof.Proof.Gen.AdamInRefIdeal.Run
public import proofs.«01_k».proof.Proof.Update
public import Idealize.ShloMosaic.Lib.Quiescent

/-! `AdamIn`: the optimiser's call on an array of 4 × 2048 × 3848 updates every element as the reference does. -/

@[expose] public section

set_option maxRecDepth 16384

noncomputable section

namespace Cert.AdamInUpdate

open Idealize.ShloMosaic Idealize.ShloMosaic.TcCoe Idealize.SL.Sem

section Kernel

open Cert.AdamInIdeal Cert.AdamInIdeal.Gen

/-- The gradient's columns without those that pad it to a whole number of tiles. -/
def cut (G : FVec Ideal S4x2048x4096 .f32) : FVec Ideal S4x2048x3848 .f32 :=
  fun i => G (ix3 (i 0) (i 1) ⟨(i 2).val, (i 2).isLt.trans (by decide : 3848 < 4096)⟩)

variable (m : (ℓ : Loc nD τ sig) → Buf (Elt Ideal) ℓ)

/-! One point's tile. -/

theorem grad_at (g : Vec Ideal S1x64x3848 .f32) (j : S1x64x3848.Idx) : k0_pay7 g j = g j := by
  pointwise [k0_pay7, k0_pay4]

theorem change_at (w g m v : Vec Ideal S1x64x3848 .f32) (j : S1x64x3848.Idx) :
    k0_pay1 (k0_pay8 g m v w) (Scalar.ofBits .f32 0xBA83126F#32) j = Update.change (w j) (g j) (m j) (v j) := by
  unfold Update.change Update.first Update.second
  pointwise [k0_pay1, k0_pay8, k0_pay5, k0_pay6, k0_pay4]

theorem first_at (g m : Vec Ideal S1x64x3848 .f32) (j : S1x64x3848.Idx) : k0_pay2 (k0_pay5 g m) j = Update.first (g j) (m j) := by
  unfold Update.first
  pointwise [k0_pay2, k0_pay5, k0_pay4]

theorem second_at (g v : Vec Ideal S1x64x3848 .f32) (j : S1x64x3848.Idx) : k0_pay3 (k0_pay6 g v) j = Update.second (g j) (v j) := by
  unfold Update.second
  pointwise [k0_pay3, k0_pay6, k0_pay4]

/-! The arrays after the whole grid. -/

theorem places : ∀ t : Fin cfg0.N, win0_0.index t = ![t.val / 32, t.val % 32, 0] ∧ win0_1.index t = ![t.val / 32, t.val % 32, 0] ∧ win0_2.index t = ![t.val / 32, t.val % 32, 0]
    ∧ win0_3.index t = ![t.val / 32, t.val % 32, 0] ∧ win0_4.index t = ![t.val / 32, t.val % 32, 0] ∧ win0_5.index t = ![t.val / 32, t.val % 32, 0] ∧ win0_6.index t = ![t.val / 32, t.val % 32, 0]
    ∧ win0_7.index t = ![t.val / 32, t.val % 32, 0] := (by decide +kernel : ∀ t : Fin grid0.N, _)

theorem grads (c : Dev nD) : (dats m 0 c).arrAt 4 cfg0.N = cut (m ((c : Thread nD τ).loc main_arg1)) := by
  refine (dats m 0 c).arrAt_eq_of_covers 4 _ (by decide +kernel) fun t hf y => ?_
  blk_simp
  rw [after0_4]
  unfold out0_4
  frame_out
  rw [grad_at]
  unfold cut
  blk_point [iblk, V, places t]

theorem changes (c : Dev nD) : (dats m 0 c).arrAt 5 cfg0.N = Update.changes (m ((c : Thread nD τ).loc main_arg0)) (cut (m ((c : Thread nD τ).loc main_arg1))) (m ((c : Thread nD τ).loc main_arg2)) (m ((c : Thread nD τ).loc main_arg3)) := by
  refine (dats m 0 c).arrAt_eq_of_covers 5 _ (by decide +kernel) fun t hf y => ?_
  blk_simp
  rw [after0_5]
  unfold out0_5
  frame_out
  rw [change_at]
  unfold Update.changes cut
  blk_point [iblk, V, places t]

theorem firsts (c : Dev nD) : (dats m 0 c).arrAt 6 cfg0.N = Update.firsts (cut (m ((c : Thread nD τ).loc main_arg1))) (m ((c : Thread nD τ).loc main_arg2)) := by
  refine (dats m 0 c).arrAt_eq_of_covers 6 _ (by decide +kernel) fun t hf y => ?_
  blk_simp
  rw [after0_6]
  unfold out0_6
  frame_out
  rw [first_at]
  unfold Update.firsts cut
  blk_point [iblk, V, places t]

theorem seconds (c : Dev nD) : (dats m 0 c).arrAt 7 cfg0.N = Update.seconds (cut (m ((c : Thread nD τ).loc main_arg1))) (m ((c : Thread nD τ).loc main_arg3)) := by
  refine (dats m 0 c).arrAt_eq_of_covers 7 _ (by decide +kernel) fun t hf y => ?_
  blk_simp
  rw [after0_7]
  unfold out0_7
  frame_out
  rw [second_at]
  unfold Update.seconds cut
  blk_point [iblk, V, places t]

end Kernel

section Reference

open Cert.AdamInRefIdeal Cert.AdamInRefIdeal.Gen

variable (W : FVec Ideal S4x2048x3848 .f32) (G : FVec Ideal S4x2048x4096 .f32) (M V : FVec Ideal S4x2048x3848 .f32)

theorem reference_grads : extractStridedSlice S4x2048x3848 ![0, 0, 0] G slices_S4x2048x4096_S4x2048x3848_0_0_0 = cut G := by
  funext i
  unfold cut
  pointwise []

theorem reference_changes : mulf (broadcastInDim S4x2048x3848 ![] bcast_S_S4x2048x3848 (constant S_ .f32 0xBA83126F#32)) (addf (Host.divf (Host.divf (addf (mulf (broadcastInDim S4x2048x3848 ![] bcast_S_S4x2048x3848 (constant S_ .f32 0x3F666666#32)) M) (mulf (broadcastInDim S4x2048x3848 ![] bcast_S_S4x2048x3848 (constant S_ .f32 0x3DCCCCCD#32)) (extractStridedSlice S4x2048x3848 ![0, 0, 0] G slices_S4x2048x4096_S4x2048x3848_0_0_0))) (broadcastInDim S4x2048x3848 ![] bcast_S_S4x2048x3848 (constant S_ .f32 0x3F26BD02#32))) (addf (Host.sqrt (Host.divf (addf (mulf (broadcastInDim S4x2048x3848 ![] bcast_S_S4x2048x3848 (constant S_ .f32 0x3F7FBE77#32)) V) (mulf (broadcastInDim S4x2048x3848 ![] bcast_S_S4x2048x3848 (constant S_ .f32 0x3A83126F#32)) (mulf (extractStridedSlice S4x2048x3848 ![0, 0, 0] G slices_S4x2048x4096_S4x2048x3848_0_0_0) (extractStridedSlice S4x2048x3848 ![0, 0, 0] G slices_S4x2048x4096_S4x2048x3848_0_0_0)))) (broadcastInDim S4x2048x3848 ![] bcast_S_S4x2048x3848 (constant S_ .f32 0x3C231ACC#32)))) (broadcastInDim S4x2048x3848 ![] bcast_S_S4x2048x3848 (constant S_ .f32 0x322BCC77#32)))) (mulf (broadcastInDim S4x2048x3848 ![] bcast_S_S4x2048x3848 (constant S_ .f32 0x3C23D70A#32)) W)) = Update.changes W (cut G) M V := by
  funext i
  unfold Update.changes Update.change Update.first Update.second cut
  pointwise []

theorem reference_firsts : addf (mulf (broadcastInDim S4x2048x3848 ![] bcast_S_S4x2048x3848 (constant S_ .f32 0x3F666666#32)) M) (mulf (broadcastInDim S4x2048x3848 ![] bcast_S_S4x2048x3848 (constant S_ .f32 0x3DCCCCCD#32)) (extractStridedSlice S4x2048x3848 ![0, 0, 0] G slices_S4x2048x4096_S4x2048x3848_0_0_0)) = Update.firsts (cut G) M := by
  funext i
  unfold Update.firsts Update.first cut
  pointwise []

theorem reference_seconds : addf (mulf (broadcastInDim S4x2048x3848 ![] bcast_S_S4x2048x3848 (constant S_ .f32 0x3F7FBE77#32)) V) (mulf (broadcastInDim S4x2048x3848 ![] bcast_S_S4x2048x3848 (constant S_ .f32 0x3A83126F#32)) (mulf (extractStridedSlice S4x2048x3848 ![0, 0, 0] G slices_S4x2048x4096_S4x2048x3848_0_0_0) (extractStridedSlice S4x2048x3848 ![0, 0, 0] G slices_S4x2048x4096_S4x2048x3848_0_0_0))) = Update.seconds (cut G) V := by
  funext i
  unfold Update.seconds Update.second cut
  pointwise []

end Reference

open Cert.AdamInIdeal Cert.AdamInIdeal.Gen in
theorem algebraic : Cert.algebraic_AdamInIdeal_AdamInRefIdeal := by
  intro m g m' g' _ hargs
  refine ⟨fun c => cut (m ((c : Thread nD τ).loc main_arg1)),
    fun c => Update.changes (m ((c : Thread nD τ).loc main_arg0)) (cut (m ((c : Thread nD τ).loc main_arg1))) (m ((c : Thread nD τ).loc main_arg2)) (m ((c : Thread nD τ).loc main_arg3)),
    fun c => Update.firsts (cut (m ((c : Thread nD τ).loc main_arg1))) (m ((c : Thread nD τ).loc main_arg2)),
    fun c => Update.seconds (cut (m ((c : Thread nD τ).loc main_arg1))) (m ((c : Thread nD τ).loc main_arg3)), ?_, ?_⟩
  · refine (θ_run defs _ _).mono (fun r h c => ⟨((h c).1 4).trans (grads m c), ((h c).1 5).trans (changes m c),
      ((h c).1 6).trans (firsts m c), ((h c).1 7).trans (seconds m c), ?_, ?_, ?_, ?_⟩) (run_main m g)
    · exact ((h c).1 0).trans (((dats m 0 c).arrAt_in 0 rfl _).trans ((A_eq m c 0).trans (V_main_arg0 m c)))
    · exact ((h c).1 1).trans (((dats m 0 c).arrAt_in 1 rfl _).trans ((A_eq m c 1).trans (V_main_arg1 m c)))
    · exact ((h c).1 2).trans (((dats m 0 c).arrAt_in 2 rfl _).trans ((A_eq m c 2).trans (V_main_arg2 m c)))
    · exact ((h c).1 3).trans (((dats m 0 c).arrAt_in 3 rfl _).trans ((A_eq m c 3).trans (V_main_arg3 m c)))
  · refine (θ_run Cert.AdamInRefIdeal.defs _ _).mono (fun r h c => ⟨(h c).1.trans ?_, (h c).2.1.trans ?_,
      (h c).2.2.1.trans ?_, (h c).2.2.2.1.trans ?_, (h c).2.2.2.2⟩) (Cert.AdamInRefIdeal.Value.run (F := Ideal) m' g')
    · rw [(hargs c).2.1]
      exact reference_grads _
    · rw [(hargs c).1, (hargs c).2.1, (hargs c).2.2.1, (hargs c).2.2.2]
      exact reference_changes _ _ _ _
    · rw [(hargs c).2.1, (hargs c).2.2.1]
      exact reference_firsts _ _
    · rw [(hargs c).2.1, (hargs c).2.2.2]
      exact reference_seconds _ _

theorem frame : Cert.quiescent_AdamIn := fun m ρ _ => Cert.AdamIn.Gen.frame m ρ

theorem frame_ideal : Cert.quiescent_AdamInIdeal := fun m ρ _ => Cert.AdamInIdeal.Gen.frame m ρ

theorem frame_reference : Cert.quiescent_AdamInRefIdeal := fun m ρ _ =>
  (θ_run Cert.AdamInRefIdeal.defs _ _).mono (fun r h => ⟨fun c => (h c).2.2.2.2,
      Idealize.ShloMosaic.sem_eq_zero_of_no_sems (by decide) r.2⟩)
    (Cert.AdamInRefIdeal.Value.run (F := Ideal) m ρ)

end Cert.AdamInUpdate
end
-- ==== Proof.UpdateSquare.lean ====
module
public import proofs.«01_k».proof.Defs
public import proofs.«01_k».proof.Proof.Gen.AdamSquare.Frame
public import proofs.«01_k».proof.Proof.Gen.AdamSquareIdeal.Frame
public import proofs.«01_k».proof.Proof.Gen.AdamSquareRefIdeal.Run
public import proofs.«01_k».proof.Proof.Update
public import Idealize.ShloMosaic.Lib.Quiescent

/-! `AdamSquare`: the optimiser's call on an array of 4 × 512 × 2048 updates every element as the reference does. -/

@[expose] public section

set_option maxRecDepth 16384

noncomputable section

namespace Cert.AdamSquareUpdate

open Idealize.ShloMosaic Idealize.ShloMosaic.TcCoe Idealize.SL.Sem

section Kernel

open Cert.AdamSquareIdeal Cert.AdamSquareIdeal.Gen

variable (m : (ℓ : Loc nD τ sig) → Buf (Elt Ideal) ℓ)

/-! One point's tile. -/

theorem grad_at (g : Vec Ideal S1x128x2048 .f32) (j : S1x128x2048.Idx) : k0_pay7 g j = g j := by
  pointwise [k0_pay7, k0_pay4]

theorem change_at (w g m v : Vec Ideal S1x128x2048 .f32) (j : S1x128x2048.Idx) :
    k0_pay1 (k0_pay8 g m v w) (Scalar.ofBits .f32 0xBA83126F#32) j = Update.change (w j) (g j) (m j) (v j) := by
  unfold Update.change Update.first Update.second
  pointwise [k0_pay1, k0_pay8, k0_pay5, k0_pay6, k0_pay4]

theorem first_at (g m : Vec Ideal S1x128x2048 .f32) (j : S1x128x2048.Idx) : k0_pay2 (k0_pay5 g m) j = Update.first (g j) (m j) := by
  unfold Update.first
  pointwise [k0_pay2, k0_pay5, k0_pay4]

theorem second_at (g v : Vec Ideal S1x128x2048 .f32) (j : S1x128x2048.Idx) : k0_pay3 (k0_pay6 g v) j = Update.second (g j) (v j) := by
  unfold Update.second
  pointwise [k0_pay3, k0_pay6, k0_pay4]

/-! The arrays after the whole grid. -/

theorem places : ∀ t : Fin cfg0.N, win0_0.index t = ![t.val / 4, t.val % 4, 0] ∧ win0_1.index t = ![t.val / 4, t.val % 4, 0] ∧ win0_2.index t = ![t.val / 4, t.val % 4, 0]
    ∧ win0_3.index t = ![t.val / 4, t.val % 4, 0] ∧ win0_4.index t = ![t.val / 4, t.val % 4, 0] ∧ win0_5.index t = ![t.val / 4, t.val % 4, 0] ∧ win0_6.index t = ![t.val / 4, t.val % 4, 0]
    ∧ win0_7.index t = ![t.val / 4, t.val % 4, 0] := (by decide +kernel : ∀ t : Fin grid0.N, _)

theorem grads (c : Dev nD) : (dats m 0 c).arrAt 4 cfg0.N = m ((c : Thread nD τ).loc main_arg1) := by
  refine (dats m 0 c).arrAt_eq_of_covers 4 _ (by decide +kernel) fun t hf y => ?_
  blk_simp
  rw [after0_4]
  unfold out0_4
  frame_out
  rw [grad_at]
  blk_point [iblk, V, places t]

theorem changes (c : Dev nD) : (dats m 0 c).arrAt 5 cfg0.N = Update.changes (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold out0_5
  frame_out
  rw [change_at]
  unfold Update.changes
  blk_point [iblk, V, places t]

theorem firsts (c : Dev nD) : (dats m 0 c).arrAt 6 cfg0.N = Update.firsts (m ((c : Thread nD τ).loc main_arg1)) (m ((c : Thread nD τ).loc main_arg2)) := by
  refine (dats m 0 c).arrAt_eq_of_covers 6 _ (by decide +kernel) fun t hf y => ?_
  blk_simp
  rw [after0_6]
  unfold out0_6
  frame_out
  rw [first_at]
  unfold Update.firsts
  blk_point [iblk, V, places t]

theorem seconds (c : Dev nD) : (dats m 0 c).arrAt 7 cfg0.N = Update.seconds (m ((c : Thread nD τ).loc main_arg1)) (m ((c : Thread nD τ).loc main_arg3)) := by
  refine (dats m 0 c).arrAt_eq_of_covers 7 _ (by decide +kernel) fun t hf y => ?_
  blk_simp
  rw [after0_7]
  unfold out0_7
  frame_out
  rw [second_at]
  unfold Update.seconds
  blk_point [iblk, V, places t]

end Kernel

section Reference

open Cert.AdamSquareRefIdeal Cert.AdamSquareRefIdeal.Gen

variable (W : FVec Ideal S4x512x2048 .f32) (G : FVec Ideal S4x512x2048 .f32) (M V : FVec Ideal S4x512x2048 .f32)

theorem reference_changes : mulf (broadcastInDim S4x512x2048 ![] bcast_S_S4x512x2048 (constant S_ .f32 0xBA83126F#32)) (addf (Host.divf (Host.divf (addf (mulf (broadcastInDim S4x512x2048 ![] bcast_S_S4x512x2048 (constant S_ .f32 0x3F666666#32)) M) (mulf (broadcastInDim S4x512x2048 ![] bcast_S_S4x512x2048 (constant S_ .f32 0x3DCCCCCD#32)) G)) (broadcastInDim S4x512x2048 ![] bcast_S_S4x512x2048 (constant S_ .f32 0x3F26BD02#32))) (addf (Host.sqrt (Host.divf (addf (mulf (broadcastInDim S4x512x2048 ![] bcast_S_S4x512x2048 (constant S_ .f32 0x3F7FBE77#32)) V) (mulf (broadcastInDim S4x512x2048 ![] bcast_S_S4x512x2048 (constant S_ .f32 0x3A83126F#32)) (mulf G G))) (broadcastInDim S4x512x2048 ![] bcast_S_S4x512x2048 (constant S_ .f32 0x3C231ACC#32)))) (broadcastInDim S4x512x2048 ![] bcast_S_S4x512x2048 (constant S_ .f32 0x322BCC77#32)))) (mulf (broadcastInDim S4x512x2048 ![] bcast_S_S4x512x2048 (constant S_ .f32 0x3C23D70A#32)) W)) = Update.changes W G M V := by
  funext i
  unfold Update.changes Update.change Update.first Update.second
  pointwise []

theorem reference_firsts : addf (mulf (broadcastInDim S4x512x2048 ![] bcast_S_S4x512x2048 (constant S_ .f32 0x3F666666#32)) M) (mulf (broadcastInDim S4x512x2048 ![] bcast_S_S4x512x2048 (constant S_ .f32 0x3DCCCCCD#32)) G) = Update.firsts G M := by
  funext i
  unfold Update.firsts Update.first
  pointwise []

theorem reference_seconds : addf (mulf (broadcastInDim S4x512x2048 ![] bcast_S_S4x512x2048 (constant S_ .f32 0x3F7FBE77#32)) V) (mulf (broadcastInDim S4x512x2048 ![] bcast_S_S4x512x2048 (constant S_ .f32 0x3A83126F#32)) (mulf G G)) = Update.seconds G V := by
  funext i
  unfold Update.seconds Update.second
  pointwise []

end Reference

open Cert.AdamSquareIdeal Cert.AdamSquareIdeal.Gen in
theorem algebraic : Cert.algebraic_AdamSquareIdeal_AdamSquareRefIdeal := by
  intro m g m' g' _ hargs
  refine ⟨fun c => m ((c : Thread nD τ).loc main_arg1),
    fun c => Update.changes (m ((c : Thread nD τ).loc main_arg0)) (m ((c : Thread nD τ).loc main_arg1)) (m ((c : Thread nD τ).loc main_arg2)) (m ((c : Thread nD τ).loc main_arg3)),
    fun c => Update.firsts (m ((c : Thread nD τ).loc main_arg1)) (m ((c : Thread nD τ).loc main_arg2)),
    fun c => Update.seconds (m ((c : Thread nD τ).loc main_arg1)) (m ((c : Thread nD τ).loc main_arg3)), ?_, ?_⟩
  · refine (θ_run defs _ _).mono (fun r h c => ⟨((h c).1 4).trans (grads m c), ((h c).1 5).trans (changes m c),
      ((h c).1 6).trans (firsts m c), ((h c).1 7).trans (seconds m c), ?_, ?_, ?_, ?_⟩) (run_main m g)
    · exact ((h c).1 0).trans (((dats m 0 c).arrAt_in 0 rfl _).trans ((A_eq m c 0).trans (V_main_arg0 m c)))
    · exact ((h c).1 1).trans (((dats m 0 c).arrAt_in 1 rfl _).trans ((A_eq m c 1).trans (V_main_arg1 m c)))
    · exact ((h c).1 2).trans (((dats m 0 c).arrAt_in 2 rfl _).trans ((A_eq m c 2).trans (V_main_arg2 m c)))
    · exact ((h c).1 3).trans (((dats m 0 c).arrAt_in 3 rfl _).trans ((A_eq m c 3).trans (V_main_arg3 m c)))
  · refine (θ_run Cert.AdamSquareRefIdeal.defs _ _).mono (fun r h c => ⟨(h c).1.trans ?_, (h c).2.1.trans ?_,
      (h c).2.2.1.trans ?_, (h c).2.2.2.1.trans ?_, (h c).2.2.2.2⟩) (Cert.AdamSquareRefIdeal.Value.run (F := Ideal) m' g')
    · rw [(hargs c).2.1]
    · rw [(hargs c).1, (hargs c).2.1, (hargs c).2.2.1, (hargs c).2.2.2]
      exact reference_changes _ _ _ _
    · rw [(hargs c).2.1, (hargs c).2.2.1]
      exact reference_firsts _ _
    · rw [(hargs c).2.1, (hargs c).2.2.2]
      exact reference_seconds _ _

theorem frame : Cert.quiescent_AdamSquare := fun m ρ _ => Cert.AdamSquare.Gen.frame m ρ

theorem frame_ideal : Cert.quiescent_AdamSquareIdeal := fun m ρ _ => Cert.AdamSquareIdeal.Gen.frame m ρ

theorem frame_reference : Cert.quiescent_AdamSquareRefIdeal := fun m ρ _ =>
  (θ_run Cert.AdamSquareRefIdeal.defs _ _).mono (fun r h => ⟨fun c => (h c).2.2.2.2,
      Idealize.ShloMosaic.sem_eq_zero_of_no_sems (by decide) r.2⟩)
    (Cert.AdamSquareRefIdeal.Value.run (F := Ideal) m ρ)

end Cert.AdamSquareUpdate
end
-- ==== Proof.UpdateUp.lean ====
module
public import proofs.«01_k».proof.Defs
public import proofs.«01_k».proof.Proof.Gen.AdamUp.Frame
public import proofs.«01_k».proof.Proof.Gen.AdamUpIdeal.Frame
public import proofs.«01_k».proof.Proof.Gen.AdamUpRefIdeal.Run
public import proofs.«01_k».proof.Proof.Update
public import Idealize.ShloMosaic.Lib.Quiescent

/-! `AdamUp`: the optimiser's call on an array of 4 × 2048 × 2816 updates every element as the reference does. -/

@[expose] public section

set_option maxRecDepth 16384

noncomputable section

namespace Cert.AdamUpUpdate

open Idealize.ShloMosaic Idealize.ShloMosaic.TcCoe Idealize.SL.Sem

section Kernel

open Cert.AdamUpIdeal Cert.AdamUpIdeal.Gen

variable (m : (ℓ : Loc nD τ sig) → Buf (Elt Ideal) ℓ)

/-! One point's tile. -/

theorem grad_at (g : Vec Ideal S1x64x2816 .f32) (j : S1x64x2816.Idx) : k0_pay7 g j = g j := by
  pointwise [k0_pay7, k0_pay4]

theorem change_at (w g m v : Vec Ideal S1x64x2816 .f32) (j : S1x64x2816.Idx) :
    k0_pay1 (k0_pay8 g m v w) (Scalar.ofBits .f32 0xBA83126F#32) j = Update.change (w j) (g j) (m j) (v j) := by
  unfold Update.change Update.first Update.second
  pointwise [k0_pay1, k0_pay8, k0_pay5, k0_pay6, k0_pay4]

theorem first_at (g m : Vec Ideal S1x64x2816 .f32) (j : S1x64x2816.Idx) : k0_pay2 (k0_pay5 g m) j = Update.first (g j) (m j) := by
  unfold Update.first
  pointwise [k0_pay2, k0_pay5, k0_pay4]

theorem second_at (g v : Vec Ideal S1x64x2816 .f32) (j : S1x64x2816.Idx) : k0_pay3 (k0_pay6 g v) j = Update.second (g j) (v j) := by
  unfold Update.second
  pointwise [k0_pay3, k0_pay6, k0_pay4]

/-! The arrays after the whole grid. -/

theorem places : ∀ t : Fin cfg0.N, win0_0.index t = ![t.val / 32, t.val % 32, 0] ∧ win0_1.index t = ![t.val / 32, t.val % 32, 0] ∧ win0_2.index t = ![t.val / 32, t.val % 32, 0]
    ∧ win0_3.index t = ![t.val / 32, t.val % 32, 0] ∧ win0_4.index t = ![t.val / 32, t.val % 32, 0] ∧ win0_5.index t = ![t.val / 32, t.val % 32, 0] ∧ win0_6.index t = ![t.val / 32, t.val % 32, 0]
    ∧ win0_7.index t = ![t.val / 32, t.val % 32, 0] := (by decide +kernel : ∀ t : Fin grid0.N, _)

theorem grads (c : Dev nD) : (dats m 0 c).arrAt 4 cfg0.N = m ((c : Thread nD τ).loc main_arg1) := by
  refine (dats m 0 c).arrAt_eq_of_covers 4 _ (by decide +kernel) fun t hf y => ?_
  blk_simp
  rw [after0_4]
  unfold out0_4
  frame_out
  rw [grad_at]
  blk_point [iblk, V, places t]

theorem changes (c : Dev nD) : (dats m 0 c).arrAt 5 cfg0.N = Update.changes (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold out0_5
  frame_out
  rw [change_at]
  unfold Update.changes
  blk_point [iblk, V, places t]

theorem firsts (c : Dev nD) : (dats m 0 c).arrAt 6 cfg0.N = Update.firsts (m ((c : Thread nD τ).loc main_arg1)) (m ((c : Thread nD τ).loc main_arg2)) := by
  refine (dats m 0 c).arrAt_eq_of_covers 6 _ (by decide +kernel) fun t hf y => ?_
  blk_simp
  rw [after0_6]
  unfold out0_6
  frame_out
  rw [first_at]
  unfold Update.firsts
  blk_point [iblk, V, places t]

theorem seconds (c : Dev nD) : (dats m 0 c).arrAt 7 cfg0.N = Update.seconds (m ((c : Thread nD τ).loc main_arg1)) (m ((c : Thread nD τ).loc main_arg3)) := by
  refine (dats m 0 c).arrAt_eq_of_covers 7 _ (by decide +kernel) fun t hf y => ?_
  blk_simp
  rw [after0_7]
  unfold out0_7
  frame_out
  rw [second_at]
  unfold Update.seconds
  blk_point [iblk, V, places t]

end Kernel

section Reference

open Cert.AdamUpRefIdeal Cert.AdamUpRefIdeal.Gen

variable (W : FVec Ideal S4x2048x2816 .f32) (G : FVec Ideal S4x2048x2816 .f32) (M V : FVec Ideal S4x2048x2816 .f32)

theorem reference_changes : mulf (broadcastInDim S4x2048x2816 ![] bcast_S_S4x2048x2816 (constant S_ .f32 0xBA83126F#32)) (addf (Host.divf (Host.divf (addf (mulf (broadcastInDim S4x2048x2816 ![] bcast_S_S4x2048x2816 (constant S_ .f32 0x3F666666#32)) M) (mulf (broadcastInDim S4x2048x2816 ![] bcast_S_S4x2048x2816 (constant S_ .f32 0x3DCCCCCD#32)) G)) (broadcastInDim S4x2048x2816 ![] bcast_S_S4x2048x2816 (constant S_ .f32 0x3F26BD02#32))) (addf (Host.sqrt (Host.divf (addf (mulf (broadcastInDim S4x2048x2816 ![] bcast_S_S4x2048x2816 (constant S_ .f32 0x3F7FBE77#32)) V) (mulf (broadcastInDim S4x2048x2816 ![] bcast_S_S4x2048x2816 (constant S_ .f32 0x3A83126F#32)) (mulf G G))) (broadcastInDim S4x2048x2816 ![] bcast_S_S4x2048x2816 (constant S_ .f32 0x3C231ACC#32)))) (broadcastInDim S4x2048x2816 ![] bcast_S_S4x2048x2816 (constant S_ .f32 0x322BCC77#32)))) (mulf (broadcastInDim S4x2048x2816 ![] bcast_S_S4x2048x2816 (constant S_ .f32 0x3C23D70A#32)) W)) = Update.changes W G M V := by
  funext i
  unfold Update.changes Update.change Update.first Update.second
  pointwise []

theorem reference_firsts : addf (mulf (broadcastInDim S4x2048x2816 ![] bcast_S_S4x2048x2816 (constant S_ .f32 0x3F666666#32)) M) (mulf (broadcastInDim S4x2048x2816 ![] bcast_S_S4x2048x2816 (constant S_ .f32 0x3DCCCCCD#32)) G) = Update.firsts G M := by
  funext i
  unfold Update.firsts Update.first
  pointwise []

theorem reference_seconds : addf (mulf (broadcastInDim S4x2048x2816 ![] bcast_S_S4x2048x2816 (constant S_ .f32 0x3F7FBE77#32)) V) (mulf (broadcastInDim S4x2048x2816 ![] bcast_S_S4x2048x2816 (constant S_ .f32 0x3A83126F#32)) (mulf G G)) = Update.seconds G V := by
  funext i
  unfold Update.seconds Update.second
  pointwise []

end Reference

open Cert.AdamUpIdeal Cert.AdamUpIdeal.Gen in
theorem algebraic : Cert.algebraic_AdamUpIdeal_AdamUpRefIdeal := by
  intro m g m' g' _ hargs
  refine ⟨fun c => m ((c : Thread nD τ).loc main_arg1),
    fun c => Update.changes (m ((c : Thread nD τ).loc main_arg0)) (m ((c : Thread nD τ).loc main_arg1)) (m ((c : Thread nD τ).loc main_arg2)) (m ((c : Thread nD τ).loc main_arg3)),
    fun c => Update.firsts (m ((c : Thread nD τ).loc main_arg1)) (m ((c : Thread nD τ).loc main_arg2)),
    fun c => Update.seconds (m ((c : Thread nD τ).loc main_arg1)) (m ((c : Thread nD τ).loc main_arg3)), ?_, ?_⟩
  · refine (θ_run defs _ _).mono (fun r h c => ⟨((h c).1 4).trans (grads m c), ((h c).1 5).trans (changes m c),
      ((h c).1 6).trans (firsts m c), ((h c).1 7).trans (seconds m c), ?_, ?_, ?_, ?_⟩) (run_main m g)
    · exact ((h c).1 0).trans (((dats m 0 c).arrAt_in 0 rfl _).trans ((A_eq m c 0).trans (V_main_arg0 m c)))
    · exact ((h c).1 1).trans (((dats m 0 c).arrAt_in 1 rfl _).trans ((A_eq m c 1).trans (V_main_arg1 m c)))
    · exact ((h c).1 2).trans (((dats m 0 c).arrAt_in 2 rfl _).trans ((A_eq m c 2).trans (V_main_arg2 m c)))
    · exact ((h c).1 3).trans (((dats m 0 c).arrAt_in 3 rfl _).trans ((A_eq m c 3).trans (V_main_arg3 m c)))
  · refine (θ_run Cert.AdamUpRefIdeal.defs _ _).mono (fun r h c => ⟨(h c).1.trans ?_, (h c).2.1.trans ?_,
      (h c).2.2.1.trans ?_, (h c).2.2.2.1.trans ?_, (h c).2.2.2.2⟩) (Cert.AdamUpRefIdeal.Value.run (F := Ideal) m' g')
    · rw [(hargs c).2.1]
    · rw [(hargs c).1, (hargs c).2.1, (hargs c).2.2.1, (hargs c).2.2.2]
      exact reference_changes _ _ _ _
    · rw [(hargs c).2.1, (hargs c).2.2.1]
      exact reference_firsts _ _
    · rw [(hargs c).2.1, (hargs c).2.2.2]
      exact reference_seconds _ _

theorem frame : Cert.quiescent_AdamUp := fun m ρ _ => Cert.AdamUp.Gen.frame m ρ

theorem frame_ideal : Cert.quiescent_AdamUpIdeal := fun m ρ _ => Cert.AdamUpIdeal.Gen.frame m ρ

theorem frame_reference : Cert.quiescent_AdamUpRefIdeal := fun m ρ _ =>
  (θ_run Cert.AdamUpRefIdeal.defs _ _).mono (fun r h => ⟨fun c => (h c).2.2.2.2,
      Idealize.ShloMosaic.sem_eq_zero_of_no_sems (by decide) r.2⟩)
    (Cert.AdamUpRefIdeal.Value.run (F := Ideal) m ρ)

end Cert.AdamUpUpdate
end
-- ==== Proof.UpdateDown.lean ====
module
public import proofs.«01_k».proof.Defs
public import proofs.«01_k».proof.Proof.Gen.AdamDown.Frame
public import proofs.«01_k».proof.Proof.Gen.AdamDownIdeal.Frame
public import proofs.«01_k».proof.Proof.Gen.AdamDownRefIdeal.Run
public import proofs.«01_k».proof.Proof.Update
public import Idealize.ShloMosaic.Lib.Quiescent

/-! `AdamDown`: the optimiser's call on an array of 4 × 1408 × 2048 updates every element as the reference does. -/

@[expose] public section

set_option maxRecDepth 16384

noncomputable section

namespace Cert.AdamDownUpdate

open Idealize.ShloMosaic Idealize.ShloMosaic.TcCoe Idealize.SL.Sem

section Kernel

open Cert.AdamDownIdeal Cert.AdamDownIdeal.Gen

variable (m : (ℓ : Loc nD τ sig) → Buf (Elt Ideal) ℓ)

/-! One point's tile. -/

theorem grad_at (g : Vec Ideal S1x128x2048 .f32) (j : S1x128x2048.Idx) : k0_pay7 g j = g j := by
  pointwise [k0_pay7, k0_pay4]

theorem change_at (w g m v : Vec Ideal S1x128x2048 .f32) (j : S1x128x2048.Idx) :
    k0_pay1 (k0_pay8 g m v w) (Scalar.ofBits .f32 0xBA83126F#32) j = Update.change (w j) (g j) (m j) (v j) := by
  unfold Update.change Update.first Update.second
  pointwise [k0_pay1, k0_pay8, k0_pay5, k0_pay6, k0_pay4]

theorem first_at (g m : Vec Ideal S1x128x2048 .f32) (j : S1x128x2048.Idx) : k0_pay2 (k0_pay5 g m) j = Update.first (g j) (m j) := by
  unfold Update.first
  pointwise [k0_pay2, k0_pay5, k0_pay4]

theorem second_at (g v : Vec Ideal S1x128x2048 .f32) (j : S1x128x2048.Idx) : k0_pay3 (k0_pay6 g v) j = Update.second (g j) (v j) := by
  unfold Update.second
  pointwise [k0_pay3, k0_pay6, k0_pay4]

/-! The arrays after the whole grid. -/

theorem places : ∀ t : Fin cfg0.N, win0_0.index t = ![t.val / 11, t.val % 11, 0] ∧ win0_1.index t = ![t.val / 11, t.val % 11, 0] ∧ win0_2.index t = ![t.val / 11, t.val % 11, 0]
    ∧ win0_3.index t = ![t.val / 11, t.val % 11, 0] ∧ win0_4.index t = ![t.val / 11, t.val % 11, 0] ∧ win0_5.index t = ![t.val / 11, t.val % 11, 0] ∧ win0_6.index t = ![t.val / 11, t.val % 11, 0]
    ∧ win0_7.index t = ![t.val / 11, t.val % 11, 0] := (by decide +kernel : ∀ t : Fin grid0.N, _)

theorem grads (c : Dev nD) : (dats m 0 c).arrAt 4 cfg0.N = m ((c : Thread nD τ).loc main_arg1) := by
  refine (dats m 0 c).arrAt_eq_of_covers 4 _ (by decide +kernel) fun t hf y => ?_
  blk_simp
  rw [after0_4]
  unfold out0_4
  frame_out
  rw [grad_at]
  blk_point [iblk, V, places t]

theorem changes (c : Dev nD) : (dats m 0 c).arrAt 5 cfg0.N = Update.changes (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold out0_5
  frame_out
  rw [change_at]
  unfold Update.changes
  blk_point [iblk, V, places t]

theorem firsts (c : Dev nD) : (dats m 0 c).arrAt 6 cfg0.N = Update.firsts (m ((c : Thread nD τ).loc main_arg1)) (m ((c : Thread nD τ).loc main_arg2)) := by
  refine (dats m 0 c).arrAt_eq_of_covers 6 _ (by decide +kernel) fun t hf y => ?_
  blk_simp
  rw [after0_6]
  unfold out0_6
  frame_out
  rw [first_at]
  unfold Update.firsts
  blk_point [iblk, V, places t]

theorem seconds (c : Dev nD) : (dats m 0 c).arrAt 7 cfg0.N = Update.seconds (m ((c : Thread nD τ).loc main_arg1)) (m ((c : Thread nD τ).loc main_arg3)) := by
  refine (dats m 0 c).arrAt_eq_of_covers 7 _ (by decide +kernel) fun t hf y => ?_
  blk_simp
  rw [after0_7]
  unfold out0_7
  frame_out
  rw [second_at]
  unfold Update.seconds
  blk_point [iblk, V, places t]

end Kernel

section Reference

open Cert.AdamDownRefIdeal Cert.AdamDownRefIdeal.Gen

variable (W : FVec Ideal S4x1408x2048 .f32) (G : FVec Ideal S4x1408x2048 .f32) (M V : FVec Ideal S4x1408x2048 .f32)

theorem reference_changes : mulf (broadcastInDim S4x1408x2048 ![] bcast_S_S4x1408x2048 (constant S_ .f32 0xBA83126F#32)) (addf (Host.divf (Host.divf (addf (mulf (broadcastInDim S4x1408x2048 ![] bcast_S_S4x1408x2048 (constant S_ .f32 0x3F666666#32)) M) (mulf (broadcastInDim S4x1408x2048 ![] bcast_S_S4x1408x2048 (constant S_ .f32 0x3DCCCCCD#32)) G)) (broadcastInDim S4x1408x2048 ![] bcast_S_S4x1408x2048 (constant S_ .f32 0x3F26BD02#32))) (addf (Host.sqrt (Host.divf (addf (mulf (broadcastInDim S4x1408x2048 ![] bcast_S_S4x1408x2048 (constant S_ .f32 0x3F7FBE77#32)) V) (mulf (broadcastInDim S4x1408x2048 ![] bcast_S_S4x1408x2048 (constant S_ .f32 0x3A83126F#32)) (mulf G G))) (broadcastInDim S4x1408x2048 ![] bcast_S_S4x1408x2048 (constant S_ .f32 0x3C231ACC#32)))) (broadcastInDim S4x1408x2048 ![] bcast_S_S4x1408x2048 (constant S_ .f32 0x322BCC77#32)))) (mulf (broadcastInDim S4x1408x2048 ![] bcast_S_S4x1408x2048 (constant S_ .f32 0x3C23D70A#32)) W)) = Update.changes W G M V := by
  funext i
  unfold Update.changes Update.change Update.first Update.second
  pointwise []

theorem reference_firsts : addf (mulf (broadcastInDim S4x1408x2048 ![] bcast_S_S4x1408x2048 (constant S_ .f32 0x3F666666#32)) M) (mulf (broadcastInDim S4x1408x2048 ![] bcast_S_S4x1408x2048 (constant S_ .f32 0x3DCCCCCD#32)) G) = Update.firsts G M := by
  funext i
  unfold Update.firsts Update.first
  pointwise []

theorem reference_seconds : addf (mulf (broadcastInDim S4x1408x2048 ![] bcast_S_S4x1408x2048 (constant S_ .f32 0x3F7FBE77#32)) V) (mulf (broadcastInDim S4x1408x2048 ![] bcast_S_S4x1408x2048 (constant S_ .f32 0x3A83126F#32)) (mulf G G)) = Update.seconds G V := by
  funext i
  unfold Update.seconds Update.second
  pointwise []

end Reference

open Cert.AdamDownIdeal Cert.AdamDownIdeal.Gen in
theorem algebraic : Cert.algebraic_AdamDownIdeal_AdamDownRefIdeal := by
  intro m g m' g' _ hargs
  refine ⟨fun c => m ((c : Thread nD τ).loc main_arg1),
    fun c => Update.changes (m ((c : Thread nD τ).loc main_arg0)) (m ((c : Thread nD τ).loc main_arg1)) (m ((c : Thread nD τ).loc main_arg2)) (m ((c : Thread nD τ).loc main_arg3)),
    fun c => Update.firsts (m ((c : Thread nD τ).loc main_arg1)) (m ((c : Thread nD τ).loc main_arg2)),
    fun c => Update.seconds (m ((c : Thread nD τ).loc main_arg1)) (m ((c : Thread nD τ).loc main_arg3)), ?_, ?_⟩
  · refine (θ_run defs _ _).mono (fun r h c => ⟨((h c).1 4).trans (grads m c), ((h c).1 5).trans (changes m c),
      ((h c).1 6).trans (firsts m c), ((h c).1 7).trans (seconds m c), ?_, ?_, ?_, ?_⟩) (run_main m g)
    · exact ((h c).1 0).trans (((dats m 0 c).arrAt_in 0 rfl _).trans ((A_eq m c 0).trans (V_main_arg0 m c)))
    · exact ((h c).1 1).trans (((dats m 0 c).arrAt_in 1 rfl _).trans ((A_eq m c 1).trans (V_main_arg1 m c)))
    · exact ((h c).1 2).trans (((dats m 0 c).arrAt_in 2 rfl _).trans ((A_eq m c 2).trans (V_main_arg2 m c)))
    · exact ((h c).1 3).trans (((dats m 0 c).arrAt_in 3 rfl _).trans ((A_eq m c 3).trans (V_main_arg3 m c)))
  · refine (θ_run Cert.AdamDownRefIdeal.defs _ _).mono (fun r h c => ⟨(h c).1.trans ?_, (h c).2.1.trans ?_,
      (h c).2.2.1.trans ?_, (h c).2.2.2.1.trans ?_, (h c).2.2.2.2⟩) (Cert.AdamDownRefIdeal.Value.run (F := Ideal) m' g')
    · rw [(hargs c).2.1]
    · rw [(hargs c).1, (hargs c).2.1, (hargs c).2.2.1, (hargs c).2.2.2]
      exact reference_changes _ _ _ _
    · rw [(hargs c).2.1, (hargs c).2.2.1]
      exact reference_firsts _ _
    · rw [(hargs c).2.1, (hargs c).2.2.2]
      exact reference_seconds _ _

theorem frame : Cert.quiescent_AdamDown := fun m ρ _ => Cert.AdamDown.Gen.frame m ρ

theorem frame_ideal : Cert.quiescent_AdamDownIdeal := fun m ρ _ => Cert.AdamDownIdeal.Gen.frame m ρ

theorem frame_reference : Cert.quiescent_AdamDownRefIdeal := fun m ρ _ =>
  (θ_run Cert.AdamDownRefIdeal.defs _ _).mono (fun r h => ⟨fun c => (h c).2.2.2.2,
      Idealize.ShloMosaic.sem_eq_zero_of_no_sems (by decide) r.2⟩)
    (Cert.AdamDownRefIdeal.Value.run (F := Ideal) m ρ)

end Cert.AdamDownUpdate
end
-- ==== Proof.UpdateDnConv.lean ====
module
public import proofs.«01_k».proof.Defs
public import proofs.«01_k».proof.Proof.Gen.AdamDnConv.Frame
public import proofs.«01_k».proof.Proof.Gen.AdamDnConvIdeal.Frame
public import proofs.«01_k».proof.Proof.Gen.AdamDnConvRefIdeal.Run
public import proofs.«01_k».proof.Proof.Update
public import Idealize.ShloMosaic.Lib.Quiescent

/-! `AdamDnConv`: the optimiser's call on an array of 4 × 4 × 1536 updates every element as the reference does. -/

@[expose] public section

set_option maxRecDepth 16384

noncomputable section

namespace Cert.AdamDnConvUpdate

open Idealize.ShloMosaic Idealize.ShloMosaic.TcCoe Idealize.SL.Sem

section Kernel

open Cert.AdamDnConvIdeal Cert.AdamDnConvIdeal.Gen

variable (m : (ℓ : Loc nD τ sig) → Buf (Elt Ideal) ℓ)

/-! One point's tile. -/

theorem grad_at (g : Vec Ideal S1x4x1536 .f32) (j : S1x4x1536.Idx) : k0_pay7 g j = g j := by
  pointwise [k0_pay7, k0_pay4]

theorem change_at (w g m v : Vec Ideal S1x4x1536 .f32) (j : S1x4x1536.Idx) :
    k0_pay1 (k0_pay8 g m v w) (Scalar.ofBits .f32 0xBA83126F#32) j = Update.change (w j) (g j) (m j) (v j) := by
  unfold Update.change Update.first Update.second
  pointwise [k0_pay1, k0_pay8, k0_pay5, k0_pay6, k0_pay4]

theorem first_at (g m : Vec Ideal S1x4x1536 .f32) (j : S1x4x1536.Idx) : k0_pay2 (k0_pay5 g m) j = Update.first (g j) (m j) := by
  unfold Update.first
  pointwise [k0_pay2, k0_pay5, k0_pay4]

theorem second_at (g v : Vec Ideal S1x4x1536 .f32) (j : S1x4x1536.Idx) : k0_pay3 (k0_pay6 g v) j = Update.second (g j) (v j) := by
  unfold Update.second
  pointwise [k0_pay3, k0_pay6, k0_pay4]

/-! The arrays after the whole grid. -/

theorem places : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]
    ∧ win0_7.index t = ![t.val, 0, 0] := (by decide +kernel : ∀ t : Fin grid0.N, _)

theorem grads (c : Dev nD) : (dats m 0 c).arrAt 4 cfg0.N = m ((c : Thread nD τ).loc main_arg1) := by
  refine (dats m 0 c).arrAt_eq_of_covers 4 _ (by decide +kernel) fun t hf y => ?_
  blk_simp
  rw [after0_4]
  unfold out0_4
  frame_out
  rw [grad_at]
  blk_point [iblk, V, places t]

theorem changes (c : Dev nD) : (dats m 0 c).arrAt 5 cfg0.N = Update.changes (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold out0_5
  frame_out
  rw [change_at]
  unfold Update.changes
  blk_point [iblk, V, places t]

theorem firsts (c : Dev nD) : (dats m 0 c).arrAt 6 cfg0.N = Update.firsts (m ((c : Thread nD τ).loc main_arg1)) (m ((c : Thread nD τ).loc main_arg2)) := by
  refine (dats m 0 c).arrAt_eq_of_covers 6 _ (by decide +kernel) fun t hf y => ?_
  blk_simp
  rw [after0_6]
  unfold out0_6
  frame_out
  rw [first_at]
  unfold Update.firsts
  blk_point [iblk, V, places t]

theorem seconds (c : Dev nD) : (dats m 0 c).arrAt 7 cfg0.N = Update.seconds (m ((c : Thread nD τ).loc main_arg1)) (m ((c : Thread nD τ).loc main_arg3)) := by
  refine (dats m 0 c).arrAt_eq_of_covers 7 _ (by decide +kernel) fun t hf y => ?_
  blk_simp
  rw [after0_7]
  unfold out0_7
  frame_out
  rw [second_at]
  unfold Update.seconds
  blk_point [iblk, V, places t]

end Kernel

section Reference

open Cert.AdamDnConvRefIdeal Cert.AdamDnConvRefIdeal.Gen

variable (W : FVec Ideal S4x4x1536 .f32) (G : FVec Ideal S4x4x1536 .f32) (M V : FVec Ideal S4x4x1536 .f32)

theorem reference_changes : mulf (broadcastInDim S4x4x1536 ![] bcast_S_S4x4x1536 (constant S_ .f32 0xBA83126F#32)) (addf (Host.divf (Host.divf (addf (mulf (broadcastInDim S4x4x1536 ![] bcast_S_S4x4x1536 (constant S_ .f32 0x3F666666#32)) M) (mulf (broadcastInDim S4x4x1536 ![] bcast_S_S4x4x1536 (constant S_ .f32 0x3DCCCCCD#32)) G)) (broadcastInDim S4x4x1536 ![] bcast_S_S4x4x1536 (constant S_ .f32 0x3F26BD02#32))) (addf (Host.sqrt (Host.divf (addf (mulf (broadcastInDim S4x4x1536 ![] bcast_S_S4x4x1536 (constant S_ .f32 0x3F7FBE77#32)) V) (mulf (broadcastInDim S4x4x1536 ![] bcast_S_S4x4x1536 (constant S_ .f32 0x3A83126F#32)) (mulf G G))) (broadcastInDim S4x4x1536 ![] bcast_S_S4x4x1536 (constant S_ .f32 0x3C231ACC#32)))) (broadcastInDim S4x4x1536 ![] bcast_S_S4x4x1536 (constant S_ .f32 0x322BCC77#32)))) (mulf (broadcastInDim S4x4x1536 ![] bcast_S_S4x4x1536 (constant S_ .f32 0x3C23D70A#32)) W)) = Update.changes W G M V := by
  funext i
  unfold Update.changes Update.change Update.first Update.second
  pointwise []

theorem reference_firsts : addf (mulf (broadcastInDim S4x4x1536 ![] bcast_S_S4x4x1536 (constant S_ .f32 0x3F666666#32)) M) (mulf (broadcastInDim S4x4x1536 ![] bcast_S_S4x4x1536 (constant S_ .f32 0x3DCCCCCD#32)) G) = Update.firsts G M := by
  funext i
  unfold Update.firsts Update.first
  pointwise []

theorem reference_seconds : addf (mulf (broadcastInDim S4x4x1536 ![] bcast_S_S4x4x1536 (constant S_ .f32 0x3F7FBE77#32)) V) (mulf (broadcastInDim S4x4x1536 ![] bcast_S_S4x4x1536 (constant S_ .f32 0x3A83126F#32)) (mulf G G)) = Update.seconds G V := by
  funext i
  unfold Update.seconds Update.second
  pointwise []

end Reference

open Cert.AdamDnConvIdeal Cert.AdamDnConvIdeal.Gen in
theorem algebraic : Cert.algebraic_AdamDnConvIdeal_AdamDnConvRefIdeal := by
  intro m g m' g' _ hargs
  refine ⟨fun c => m ((c : Thread nD τ).loc main_arg1),
    fun c => Update.changes (m ((c : Thread nD τ).loc main_arg0)) (m ((c : Thread nD τ).loc main_arg1)) (m ((c : Thread nD τ).loc main_arg2)) (m ((c : Thread nD τ).loc main_arg3)),
    fun c => Update.firsts (m ((c : Thread nD τ).loc main_arg1)) (m ((c : Thread nD τ).loc main_arg2)),
    fun c => Update.seconds (m ((c : Thread nD τ).loc main_arg1)) (m ((c : Thread nD τ).loc main_arg3)), ?_, ?_⟩
  · refine (θ_run defs _ _).mono (fun r h c => ⟨((h c).1 4).trans (grads m c), ((h c).1 5).trans (changes m c),
      ((h c).1 6).trans (firsts m c), ((h c).1 7).trans (seconds m c), ?_, ?_, ?_, ?_⟩) (run_main m g)
    · exact ((h c).1 0).trans (((dats m 0 c).arrAt_in 0 rfl _).trans ((A_eq m c 0).trans (V_main_arg0 m c)))
    · exact ((h c).1 1).trans (((dats m 0 c).arrAt_in 1 rfl _).trans ((A_eq m c 1).trans (V_main_arg1 m c)))
    · exact ((h c).1 2).trans (((dats m 0 c).arrAt_in 2 rfl _).trans ((A_eq m c 2).trans (V_main_arg2 m c)))
    · exact ((h c).1 3).trans (((dats m 0 c).arrAt_in 3 rfl _).trans ((A_eq m c 3).trans (V_main_arg3 m c)))
  · refine (θ_run Cert.AdamDnConvRefIdeal.defs _ _).mono (fun r h c => ⟨(h c).1.trans ?_, (h c).2.1.trans ?_,
      (h c).2.2.1.trans ?_, (h c).2.2.2.1.trans ?_, (h c).2.2.2.2⟩) (Cert.AdamDnConvRefIdeal.Value.run (F := Ideal) m' g')
    · rw [(hargs c).2.1]
    · rw [(hargs c).1, (hargs c).2.1, (hargs c).2.2.1, (hargs c).2.2.2]
      exact reference_changes _ _ _ _
    · rw [(hargs c).2.1, (hargs c).2.2.1]
      exact reference_firsts _ _
    · rw [(hargs c).2.1, (hargs c).2.2.2]
      exact reference_seconds _ _

theorem frame : Cert.quiescent_AdamDnConv := fun m ρ _ => Cert.AdamDnConv.Gen.frame m ρ

theorem frame_ideal : Cert.quiescent_AdamDnConvIdeal := fun m ρ _ => Cert.AdamDnConvIdeal.Gen.frame m ρ

theorem frame_reference : Cert.quiescent_AdamDnConvRefIdeal := fun m ρ _ =>
  (θ_run Cert.AdamDnConvRefIdeal.defs _ _).mono (fun r h => ⟨fun c => (h c).2.2.2.2,
      Idealize.ShloMosaic.sem_eq_zero_of_no_sems (by decide) r.2⟩)
    (Cert.AdamDnConvRefIdeal.Value.run (F := Ideal) m ρ)

end Cert.AdamDnConvUpdate
end
-- ==== Proof.UpdateFfnConv.lean ====
module
public import proofs.«01_k».proof.Defs
public import proofs.«01_k».proof.Proof.Gen.AdamFfnConv.Frame
public import proofs.«01_k».proof.Proof.Gen.AdamFfnConvIdeal.Frame
public import proofs.«01_k».proof.Proof.Gen.AdamFfnConvRefIdeal.Run
public import proofs.«01_k».proof.Proof.Update
public import Idealize.ShloMosaic.Lib.Quiescent

/-! `AdamFfnConv`: the optimiser's call on an array of 4 × 3 × 2816 updates every element as the reference does. -/

@[expose] public section

set_option maxRecDepth 16384

noncomputable section

namespace Cert.AdamFfnConvUpdate

open Idealize.ShloMosaic Idealize.ShloMosaic.TcCoe Idealize.SL.Sem

section Kernel

open Cert.AdamFfnConvIdeal Cert.AdamFfnConvIdeal.Gen

variable (m : (ℓ : Loc nD τ sig) → Buf (Elt Ideal) ℓ)

/-! One point's tile. -/

theorem grad_at (g : Vec Ideal S1x3x2816 .f32) (j : S1x3x2816.Idx) : k0_pay7 g j = g j := by
  pointwise [k0_pay7, k0_pay4]

theorem change_at (w g m v : Vec Ideal S1x3x2816 .f32) (j : S1x3x2816.Idx) :
    k0_pay1 (k0_pay8 g m v w) (Scalar.ofBits .f32 0xBA83126F#32) j = Update.change (w j) (g j) (m j) (v j) := by
  unfold Update.change Update.first Update.second
  pointwise [k0_pay1, k0_pay8, k0_pay5, k0_pay6, k0_pay4]

theorem first_at (g m : Vec Ideal S1x3x2816 .f32) (j : S1x3x2816.Idx) : k0_pay2 (k0_pay5 g m) j = Update.first (g j) (m j) := by
  unfold Update.first
  pointwise [k0_pay2, k0_pay5, k0_pay4]

theorem second_at (g v : Vec Ideal S1x3x2816 .f32) (j : S1x3x2816.Idx) : k0_pay3 (k0_pay6 g v) j = Update.second (g j) (v j) := by
  unfold Update.second
  pointwise [k0_pay3, k0_pay6, k0_pay4]

/-! The arrays after the whole grid. -/

theorem places : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]
    ∧ win0_7.index t = ![t.val, 0, 0] := (by decide +kernel : ∀ t : Fin grid0.N, _)

theorem grads (c : Dev nD) : (dats m 0 c).arrAt 4 cfg0.N = m ((c : Thread nD τ).loc main_arg1) := by
  refine (dats m 0 c).arrAt_eq_of_covers 4 _ (by decide +kernel) fun t hf y => ?_
  blk_simp
  rw [after0_4]
  unfold out0_4
  frame_out
  rw [grad_at]
  blk_point [iblk, V, places t]

theorem changes (c : Dev nD) : (dats m 0 c).arrAt 5 cfg0.N = Update.changes (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold out0_5
  frame_out
  rw [change_at]
  unfold Update.changes
  blk_point [iblk, V, places t]

theorem firsts (c : Dev nD) : (dats m 0 c).arrAt 6 cfg0.N = Update.firsts (m ((c : Thread nD τ).loc main_arg1)) (m ((c : Thread nD τ).loc main_arg2)) := by
  refine (dats m 0 c).arrAt_eq_of_covers 6 _ (by decide +kernel) fun t hf y => ?_
  blk_simp
  rw [after0_6]
  unfold out0_6
  frame_out
  rw [first_at]
  unfold Update.firsts
  blk_point [iblk, V, places t]

theorem seconds (c : Dev nD) : (dats m 0 c).arrAt 7 cfg0.N = Update.seconds (m ((c : Thread nD τ).loc main_arg1)) (m ((c : Thread nD τ).loc main_arg3)) := by
  refine (dats m 0 c).arrAt_eq_of_covers 7 _ (by decide +kernel) fun t hf y => ?_
  blk_simp
  rw [after0_7]
  unfold out0_7
  frame_out
  rw [second_at]
  unfold Update.seconds
  blk_point [iblk, V, places t]

end Kernel

section Reference

open Cert.AdamFfnConvRefIdeal Cert.AdamFfnConvRefIdeal.Gen

variable (W : FVec Ideal S4x3x2816 .f32) (G : FVec Ideal S4x3x2816 .f32) (M V : FVec Ideal S4x3x2816 .f32)

theorem reference_changes : mulf (broadcastInDim S4x3x2816 ![] bcast_S_S4x3x2816 (constant S_ .f32 0xBA83126F#32)) (addf (Host.divf (Host.divf (addf (mulf (broadcastInDim S4x3x2816 ![] bcast_S_S4x3x2816 (constant S_ .f32 0x3F666666#32)) M) (mulf (broadcastInDim S4x3x2816 ![] bcast_S_S4x3x2816 (constant S_ .f32 0x3DCCCCCD#32)) G)) (broadcastInDim S4x3x2816 ![] bcast_S_S4x3x2816 (constant S_ .f32 0x3F26BD02#32))) (addf (Host.sqrt (Host.divf (addf (mulf (broadcastInDim S4x3x2816 ![] bcast_S_S4x3x2816 (constant S_ .f32 0x3F7FBE77#32)) V) (mulf (broadcastInDim S4x3x2816 ![] bcast_S_S4x3x2816 (constant S_ .f32 0x3A83126F#32)) (mulf G G))) (broadcastInDim S4x3x2816 ![] bcast_S_S4x3x2816 (constant S_ .f32 0x3C231ACC#32)))) (broadcastInDim S4x3x2816 ![] bcast_S_S4x3x2816 (constant S_ .f32 0x322BCC77#32)))) (mulf (broadcastInDim S4x3x2816 ![] bcast_S_S4x3x2816 (constant S_ .f32 0x3C23D70A#32)) W)) = Update.changes W G M V := by
  funext i
  unfold Update.changes Update.change Update.first Update.second
  pointwise []

theorem reference_firsts : addf (mulf (broadcastInDim S4x3x2816 ![] bcast_S_S4x3x2816 (constant S_ .f32 0x3F666666#32)) M) (mulf (broadcastInDim S4x3x2816 ![] bcast_S_S4x3x2816 (constant S_ .f32 0x3DCCCCCD#32)) G) = Update.firsts G M := by
  funext i
  unfold Update.firsts Update.first
  pointwise []

theorem reference_seconds : addf (mulf (broadcastInDim S4x3x2816 ![] bcast_S_S4x3x2816 (constant S_ .f32 0x3F7FBE77#32)) V) (mulf (broadcastInDim S4x3x2816 ![] bcast_S_S4x3x2816 (constant S_ .f32 0x3A83126F#32)) (mulf G G)) = Update.seconds G V := by
  funext i
  unfold Update.seconds Update.second
  pointwise []

end Reference

open Cert.AdamFfnConvIdeal Cert.AdamFfnConvIdeal.Gen in
theorem algebraic : Cert.algebraic_AdamFfnConvIdeal_AdamFfnConvRefIdeal := by
  intro m g m' g' _ hargs
  refine ⟨fun c => m ((c : Thread nD τ).loc main_arg1),
    fun c => Update.changes (m ((c : Thread nD τ).loc main_arg0)) (m ((c : Thread nD τ).loc main_arg1)) (m ((c : Thread nD τ).loc main_arg2)) (m ((c : Thread nD τ).loc main_arg3)),
    fun c => Update.firsts (m ((c : Thread nD τ).loc main_arg1)) (m ((c : Thread nD τ).loc main_arg2)),
    fun c => Update.seconds (m ((c : Thread nD τ).loc main_arg1)) (m ((c : Thread nD τ).loc main_arg3)), ?_, ?_⟩
  · refine (θ_run defs _ _).mono (fun r h c => ⟨((h c).1 4).trans (grads m c), ((h c).1 5).trans (changes m c),
      ((h c).1 6).trans (firsts m c), ((h c).1 7).trans (seconds m c), ?_, ?_, ?_, ?_⟩) (run_main m g)
    · exact ((h c).1 0).trans (((dats m 0 c).arrAt_in 0 rfl _).trans ((A_eq m c 0).trans (V_main_arg0 m c)))
    · exact ((h c).1 1).trans (((dats m 0 c).arrAt_in 1 rfl _).trans ((A_eq m c 1).trans (V_main_arg1 m c)))
    · exact ((h c).1 2).trans (((dats m 0 c).arrAt_in 2 rfl _).trans ((A_eq m c 2).trans (V_main_arg2 m c)))
    · exact ((h c).1 3).trans (((dats m 0 c).arrAt_in 3 rfl _).trans ((A_eq m c 3).trans (V_main_arg3 m c)))
  · refine (θ_run Cert.AdamFfnConvRefIdeal.defs _ _).mono (fun r h c => ⟨(h c).1.trans ?_, (h c).2.1.trans ?_,
      (h c).2.2.1.trans ?_, (h c).2.2.2.1.trans ?_, (h c).2.2.2.2⟩) (Cert.AdamFfnConvRefIdeal.Value.run (F := Ideal) m' g')
    · rw [(hargs c).2.1]
    · rw [(hargs c).1, (hargs c).2.1, (hargs c).2.2.1, (hargs c).2.2.2]
      exact reference_changes _ _ _ _
    · rw [(hargs c).2.1, (hargs c).2.2.1]
      exact reference_firsts _ _
    · rw [(hargs c).2.1, (hargs c).2.2.2]
      exact reference_seconds _ _

theorem frame : Cert.quiescent_AdamFfnConv := fun m ρ _ => Cert.AdamFfnConv.Gen.frame m ρ

theorem frame_ideal : Cert.quiescent_AdamFfnConvIdeal := fun m ρ _ => Cert.AdamFfnConvIdeal.Gen.frame m ρ

theorem frame_reference : Cert.quiescent_AdamFfnConvRefIdeal := fun m ρ _ =>
  (θ_run Cert.AdamFfnConvRefIdeal.defs _ _).mono (fun r h => ⟨fun c => (h c).2.2.2.2,
      Idealize.ShloMosaic.sem_eq_zero_of_no_sems (by decide) r.2⟩)
    (Cert.AdamFfnConvRefIdeal.Value.run (F := Ideal) m ρ)

end Cert.AdamFfnConvUpdate
end
-- ==== Proof.UpdateSmall.lean ====
module
public import proofs.«01_k».proof.Defs
public import proofs.«01_k».proof.Proof.Gen.AdamSmall.Frame
public import proofs.«01_k».proof.Proof.Gen.AdamSmallIdeal.Frame
public import proofs.«01_k».proof.Proof.Gen.AdamSmallRefIdeal.Run
public import proofs.«01_k».proof.Proof.Update
public import Idealize.ShloMosaic.Lib.Quiescent

/-! `AdamSmall`: the optimiser's call on an array of 1 × 80 × 1024 updates every element as the reference does. -/

@[expose] public section

set_option maxRecDepth 16384

noncomputable section

namespace Cert.AdamSmallUpdate

open Idealize.ShloMosaic Idealize.ShloMosaic.TcCoe Idealize.SL.Sem

section Kernel

open Cert.AdamSmallIdeal Cert.AdamSmallIdeal.Gen

variable (m : (ℓ : Loc nD τ sig) → Buf (Elt Ideal) ℓ)

/-! One point's tile. -/

theorem grad_at (g : Vec Ideal S1x80x1024 .f32) (j : S1x80x1024.Idx) : k0_pay7 g j = g j := by
  pointwise [k0_pay7, k0_pay4]

theorem change_at (w g m v : Vec Ideal S1x80x1024 .f32) (j : S1x80x1024.Idx) :
    k0_pay1 (k0_pay8 g m v w) (Scalar.ofBits .f32 0xBA83126F#32) j = Update.change (w j) (g j) (m j) (v j) := by
  unfold Update.change Update.first Update.second
  pointwise [k0_pay1, k0_pay8, k0_pay5, k0_pay6, k0_pay4]

theorem first_at (g m : Vec Ideal S1x80x1024 .f32) (j : S1x80x1024.Idx) : k0_pay2 (k0_pay5 g m) j = Update.first (g j) (m j) := by
  unfold Update.first
  pointwise [k0_pay2, k0_pay5, k0_pay4]

theorem second_at (g v : Vec Ideal S1x80x1024 .f32) (j : S1x80x1024.Idx) : k0_pay3 (k0_pay6 g v) j = Update.second (g j) (v j) := by
  unfold Update.second
  pointwise [k0_pay3, k0_pay6, k0_pay4]

/-! The arrays after the whole grid. -/

theorem places : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]
    ∧ win0_7.index t = ![t.val, 0, 0] := (by decide +kernel : ∀ t : Fin grid0.N, _)

theorem grads (c : Dev nD) : (dats m 0 c).arrAt 4 cfg0.N = m ((c : Thread nD τ).loc main_arg1) := by
  refine (dats m 0 c).arrAt_eq_of_covers 4 _ (by decide +kernel) fun t hf y => ?_
  blk_simp
  rw [after0_4]
  unfold out0_4
  frame_out
  rw [grad_at]
  blk_point [iblk, V, places t]

theorem changes (c : Dev nD) : (dats m 0 c).arrAt 5 cfg0.N = Update.changes (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold out0_5
  frame_out
  rw [change_at]
  unfold Update.changes
  blk_point [iblk, V, places t]

theorem firsts (c : Dev nD) : (dats m 0 c).arrAt 6 cfg0.N = Update.firsts (m ((c : Thread nD τ).loc main_arg1)) (m ((c : Thread nD τ).loc main_arg2)) := by
  refine (dats m 0 c).arrAt_eq_of_covers 6 _ (by decide +kernel) fun t hf y => ?_
  blk_simp
  rw [after0_6]
  unfold out0_6
  frame_out
  rw [first_at]
  unfold Update.firsts
  blk_point [iblk, V, places t]

theorem seconds (c : Dev nD) : (dats m 0 c).arrAt 7 cfg0.N = Update.seconds (m ((c : Thread nD τ).loc main_arg1)) (m ((c : Thread nD τ).loc main_arg3)) := by
  refine (dats m 0 c).arrAt_eq_of_covers 7 _ (by decide +kernel) fun t hf y => ?_
  blk_simp
  rw [after0_7]
  unfold out0_7
  frame_out
  rw [second_at]
  unfold Update.seconds
  blk_point [iblk, V, places t]

end Kernel

section Reference

open Cert.AdamSmallRefIdeal Cert.AdamSmallRefIdeal.Gen

variable (W : FVec Ideal S1x80x1024 .f32) (G : FVec Ideal S1x80x1024 .f32) (M V : FVec Ideal S1x80x1024 .f32)

theorem reference_changes : mulf (broadcastInDim S1x80x1024 ![] bcast_S_S1x80x1024 (constant S_ .f32 0xBA83126F#32)) (addf (Host.divf (Host.divf (addf (mulf (broadcastInDim S1x80x1024 ![] bcast_S_S1x80x1024 (constant S_ .f32 0x3F666666#32)) M) (mulf (broadcastInDim S1x80x1024 ![] bcast_S_S1x80x1024 (constant S_ .f32 0x3DCCCCCD#32)) G)) (broadcastInDim S1x80x1024 ![] bcast_S_S1x80x1024 (constant S_ .f32 0x3F26BD02#32))) (addf (Host.sqrt (Host.divf (addf (mulf (broadcastInDim S1x80x1024 ![] bcast_S_S1x80x1024 (constant S_ .f32 0x3F7FBE77#32)) V) (mulf (broadcastInDim S1x80x1024 ![] bcast_S_S1x80x1024 (constant S_ .f32 0x3A83126F#32)) (mulf G G))) (broadcastInDim S1x80x1024 ![] bcast_S_S1x80x1024 (constant S_ .f32 0x3C231ACC#32)))) (broadcastInDim S1x80x1024 ![] bcast_S_S1x80x1024 (constant S_ .f32 0x322BCC77#32)))) (mulf (broadcastInDim S1x80x1024 ![] bcast_S_S1x80x1024 (constant S_ .f32 0x3C23D70A#32)) W)) = Update.changes W G M V := by
  funext i
  unfold Update.changes Update.change Update.first Update.second
  pointwise []

theorem reference_firsts : addf (mulf (broadcastInDim S1x80x1024 ![] bcast_S_S1x80x1024 (constant S_ .f32 0x3F666666#32)) M) (mulf (broadcastInDim S1x80x1024 ![] bcast_S_S1x80x1024 (constant S_ .f32 0x3DCCCCCD#32)) G) = Update.firsts G M := by
  funext i
  unfold Update.firsts Update.first
  pointwise []

theorem reference_seconds : addf (mulf (broadcastInDim S1x80x1024 ![] bcast_S_S1x80x1024 (constant S_ .f32 0x3F7FBE77#32)) V) (mulf (broadcastInDim S1x80x1024 ![] bcast_S_S1x80x1024 (constant S_ .f32 0x3A83126F#32)) (mulf G G)) = Update.seconds G V := by
  funext i
  unfold Update.seconds Update.second
  pointwise []

end Reference

open Cert.AdamSmallIdeal Cert.AdamSmallIdeal.Gen in
theorem algebraic : Cert.algebraic_AdamSmallIdeal_AdamSmallRefIdeal := by
  intro m g m' g' _ hargs
  refine ⟨fun c => m ((c : Thread nD τ).loc main_arg1),
    fun c => Update.changes (m ((c : Thread nD τ).loc main_arg0)) (m ((c : Thread nD τ).loc main_arg1)) (m ((c : Thread nD τ).loc main_arg2)) (m ((c : Thread nD τ).loc main_arg3)),
    fun c => Update.firsts (m ((c : Thread nD τ).loc main_arg1)) (m ((c : Thread nD τ).loc main_arg2)),
    fun c => Update.seconds (m ((c : Thread nD τ).loc main_arg1)) (m ((c : Thread nD τ).loc main_arg3)), ?_, ?_⟩
  · refine (θ_run defs _ _).mono (fun r h c => ⟨((h c).1 4).trans (grads m c), ((h c).1 5).trans (changes m c),
      ((h c).1 6).trans (firsts m c), ((h c).1 7).trans (seconds m c), ?_, ?_, ?_, ?_⟩) (run_main m g)
    · exact ((h c).1 0).trans (((dats m 0 c).arrAt_in 0 rfl _).trans ((A_eq m c 0).trans (V_main_arg0 m c)))
    · exact ((h c).1 1).trans (((dats m 0 c).arrAt_in 1 rfl _).trans ((A_eq m c 1).trans (V_main_arg1 m c)))
    · exact ((h c).1 2).trans (((dats m 0 c).arrAt_in 2 rfl _).trans ((A_eq m c 2).trans (V_main_arg2 m c)))
    · exact ((h c).1 3).trans (((dats m 0 c).arrAt_in 3 rfl _).trans ((A_eq m c 3).trans (V_main_arg3 m c)))
  · refine (θ_run Cert.AdamSmallRefIdeal.defs _ _).mono (fun r h c => ⟨(h c).1.trans ?_, (h c).2.1.trans ?_,
      (h c).2.2.1.trans ?_, (h c).2.2.2.1.trans ?_, (h c).2.2.2.2⟩) (Cert.AdamSmallRefIdeal.Value.run (F := Ideal) m' g')
    · rw [(hargs c).2.1]
    · rw [(hargs c).1, (hargs c).2.1, (hargs c).2.2.1, (hargs c).2.2.2]
      exact reference_changes _ _ _ _
    · rw [(hargs c).2.1, (hargs c).2.2.1]
      exact reference_firsts _ _
    · rw [(hargs c).2.1, (hargs c).2.2.2]
      exact reference_seconds _ _

theorem frame : Cert.quiescent_AdamSmall := fun m ρ _ => Cert.AdamSmall.Gen.frame m ρ

theorem frame_ideal : Cert.quiescent_AdamSmallIdeal := fun m ρ _ => Cert.AdamSmallIdeal.Gen.frame m ρ

theorem frame_reference : Cert.quiescent_AdamSmallRefIdeal := fun m ρ _ =>
  (θ_run Cert.AdamSmallRefIdeal.defs _ _).mono (fun r h => ⟨fun c => (h c).2.2.2.2,
      Idealize.ShloMosaic.sem_eq_zero_of_no_sems (by decide) r.2⟩)
    (Cert.AdamSmallRefIdeal.Value.run (F := Ideal) m ρ)

end Cert.AdamSmallUpdate
end
-- ==== Proof.lean ====
module
public import proofs.«01_k».proof.Defs
public import proofs.«01_k».proof.Proof.Gen.AttnFwdRefIdeal.Run
public import proofs.«01_k».proof.Proof.Gen.AttnFwdRefIdeal.Read
public import proofs.«01_k».proof.Proof.Gen.AttnFwd.Frame
public import proofs.«01_k».proof.Proof.Gen.AttnFwdIdeal.Frame
public import proofs.«01_k».proof.Proof.AttendClaims
public import proofs.«01_k».proof.Proof.NormBackward
public import proofs.«01_k».proof.Proof.NormBackwardAdd
public import proofs.«01_k».proof.Proof.NormForward
public import proofs.«01_k».proof.Proof.NormForwardAdd
public import proofs.«01_k».proof.Proof.MergeForward
public import proofs.«01_k».proof.Proof.MergeBackward
public import proofs.«01_k».proof.Proof.UnitForward
public import proofs.«01_k».proof.Proof.ConvForward
public import proofs.«01_k».proof.Proof.ConvBackward
public import proofs.«01_k».proof.Proof.Loss
public import proofs.«01_k».proof.Proof.ProductProjDx
public import proofs.«01_k».proof.Proof.ProductProjDw
public import proofs.«01_k».proof.Proof.ProductBranch
public import proofs.«01_k».proof.Proof.ProductBranchDx
public import proofs.«01_k».proof.Proof.ProductMixDx
public import proofs.«01_k».proof.Proof.ProductSquareDw
public import proofs.«01_k».proof.Proof.ProductDown
public import proofs.«01_k».proof.Proof.ProductDownDx
public import proofs.«01_k».proof.Proof.ProductDownDw
public import proofs.«01_k».proof.Proof.ProductUp
public import proofs.«01_k».proof.Proof.ProductUpDx
public import proofs.«01_k».proof.Proof.ProductUpDw
public import proofs.«01_k».proof.Proof.ProductProj
public import proofs.«01_k».proof.Proof.UpdateIn
public import proofs.«01_k».proof.Proof.UpdateSquare
public import proofs.«01_k».proof.Proof.UpdateUp
public import proofs.«01_k».proof.Proof.UpdateDown
public import proofs.«01_k».proof.Proof.UpdateDnConv
public import proofs.«01_k».proof.Proof.UpdateFfnConv
public import proofs.«01_k».proof.Proof.UpdateSmall

/-! The certificate: the claims of `Defs.lean`, each proved in the module of its program. -/

@[expose] public section

noncomputable section

namespace Cert.Proof

theorem claim : Cert.Claim :=
  ⟨Cert.RmsBwd.Gen.facts, Cert.RmsBwdIdeal.Gen.facts, Cert.RmsBwdRefIdeal.Gen.facts,
    Cert.RmsBwdAdd.Gen.facts, Cert.RmsBwdAddIdeal.Gen.facts, Cert.RmsBwdAddRefIdeal.Gen.facts,
    Cert.RmsFwd.Gen.facts, Cert.RmsFwdIdeal.Gen.facts, Cert.RmsFwdRefIdeal.Gen.facts,
    Cert.RmsFwdRes.Gen.facts, Cert.RmsFwdResIdeal.Gen.facts, Cert.RmsFwdResRefIdeal.Gen.facts,
    Cert.MergeFwd.Gen.facts, Cert.MergeFwdIdeal.Gen.facts, Cert.MergeFwdRefIdeal.Gen.facts,
    Cert.MergeBwd.Gen.facts, Cert.MergeBwdIdeal.Gen.facts, Cert.MergeBwdRefIdeal.Gen.facts,
    Cert.GluFwd.Gen.facts, Cert.GluFwdIdeal.Gen.facts, Cert.GluFwdRefIdeal.Gen.facts,
    Cert.DnconvFwd.Gen.facts, Cert.DnconvFwdIdeal.Gen.facts, Cert.DnconvFwdRefIdeal.Gen.facts,
    Cert.DnconvBwd.Gen.facts, Cert.DnconvBwdIdeal.Gen.facts, Cert.DnconvBwdRefIdeal.Gen.facts,
    Cert.LossHead.Gen.facts, Cert.LossHeadIdeal.Gen.facts, Cert.LossHeadRefIdeal.Gen.facts,
    Cert.AttnFwd.Gen.facts, Cert.AttnFwdIdeal.Gen.facts, Cert.AttnFwdRefIdeal.Gen.facts,
    Cert.ProjDx.Gen.facts, Cert.ProjDxIdeal.Gen.facts, Cert.ProjDxRefIdeal.Gen.facts,
    Cert.ProjDw.Gen.facts, Cert.ProjDwIdeal.Gen.facts, Cert.ProjDwRefIdeal.Gen.facts,
    Cert.Branch.Gen.facts, Cert.BranchIdeal.Gen.facts, Cert.BranchRefIdeal.Gen.facts,
    Cert.BranchDx.Gen.facts, Cert.BranchDxIdeal.Gen.facts, Cert.BranchDxRefIdeal.Gen.facts,
    Cert.MixDx.Gen.facts, Cert.MixDxIdeal.Gen.facts, Cert.MixDxRefIdeal.Gen.facts,
    Cert.SquareDw.Gen.facts, Cert.SquareDwIdeal.Gen.facts, Cert.SquareDwRefIdeal.Gen.facts,
    Cert.Down.Gen.facts, Cert.DownIdeal.Gen.facts, Cert.DownRefIdeal.Gen.facts,
    Cert.DownDx.Gen.facts, Cert.DownDxIdeal.Gen.facts, Cert.DownDxRefIdeal.Gen.facts,
    Cert.DownDw.Gen.facts, Cert.DownDwIdeal.Gen.facts, Cert.DownDwRefIdeal.Gen.facts,
    Cert.Up.Gen.facts, Cert.UpIdeal.Gen.facts, Cert.UpRefIdeal.Gen.facts,
    Cert.UpDx.Gen.facts, Cert.UpDxIdeal.Gen.facts, Cert.UpDxRefIdeal.Gen.facts,
    Cert.UpDw.Gen.facts, Cert.UpDwIdeal.Gen.facts, Cert.UpDwRefIdeal.Gen.facts,
    Cert.Proj.Gen.facts, Cert.ProjIdeal.Gen.facts, Cert.ProjRefIdeal.Gen.facts,
    Cert.AdamIn.Gen.facts, Cert.AdamInIdeal.Gen.facts, Cert.AdamInRefIdeal.Gen.facts,
    Cert.AdamSquare.Gen.facts, Cert.AdamSquareIdeal.Gen.facts, Cert.AdamSquareRefIdeal.Gen.facts,
    Cert.AdamUp.Gen.facts, Cert.AdamUpIdeal.Gen.facts, Cert.AdamUpRefIdeal.Gen.facts,
    Cert.AdamDown.Gen.facts, Cert.AdamDownIdeal.Gen.facts, Cert.AdamDownRefIdeal.Gen.facts,
    Cert.AdamDnConv.Gen.facts, Cert.AdamDnConvIdeal.Gen.facts, Cert.AdamDnConvRefIdeal.Gen.facts,
    Cert.AdamFfnConv.Gen.facts, Cert.AdamFfnConvIdeal.Gen.facts, Cert.AdamFfnConvRefIdeal.Gen.facts,
    Cert.AdamSmall.Gen.facts, Cert.AdamSmallIdeal.Gen.facts, Cert.AdamSmallRefIdeal.Gen.facts,
    Cert.ConvBackward.facts,
    Cert.AttendClaims.facts,
    Cert.NormBackward.frame, Cert.NormBackward.frame_ideal, Cert.NormBackward.frame_reference,
    Cert.NormBackwardAdd.frame, Cert.NormBackwardAdd.frame_ideal, Cert.NormBackwardAdd.frame_reference,
    Cert.NormForward.frame, Cert.NormForward.frame_ideal, Cert.NormForward.frame_reference,
    Cert.NormForwardAdd.frame, Cert.NormForwardAdd.frame_ideal, Cert.NormForwardAdd.frame_reference,
    Cert.MergeForward.frame, Cert.MergeForward.frame_ideal, Cert.MergeForward.frame_reference,
    Cert.MergeBackward.frame, Cert.MergeBackward.frame_ideal, Cert.MergeBackward.frame_reference,
    Cert.UnitForward.frame, Cert.UnitForward.frame_ideal, Cert.UnitForward.frame_reference,
    Cert.ConvForward.frame, Cert.ConvForward.frame_ideal, Cert.ConvForward.frame_reference,
    Cert.ConvBackward.frame, Cert.ConvBackward.frame_ideal, (haveI := Cert.ConvBackward.facts; Cert.ConvBackward.frame_ideal_finite), Cert.ConvBackward.frame_reference, (haveI := Cert.ConvBackward.facts; Cert.ConvBackward.frame_reference_finite),
    Cert.Loss.frame, Cert.Loss.frame_ideal, Cert.Loss.frame_reference,
    Cert.AttendClaims.frame, Cert.AttendClaims.frame_ideal, (haveI := Cert.AttendClaims.facts; Cert.AttendClaims.frame_ideal_finite), Cert.AttendClaims.frame_reference, (haveI := Cert.AttendClaims.facts; Cert.AttendClaims.frame_reference_finite),
    Cert.ProjDxProduct.frame, Cert.ProjDxProduct.frame_ideal, Cert.ProjDxProduct.frame_reference,
    Cert.ProjDwProduct.frame, Cert.ProjDwProduct.frame_ideal, Cert.ProjDwProduct.frame_reference,
    Cert.BranchProduct.frame, Cert.BranchProduct.frame_ideal, Cert.BranchProduct.frame_reference,
    Cert.BranchDxProduct.frame, Cert.BranchDxProduct.frame_ideal, Cert.BranchDxProduct.frame_reference,
    Cert.MixDxProduct.frame, Cert.MixDxProduct.frame_ideal, Cert.MixDxProduct.frame_reference,
    Cert.SquareDwProduct.frame, Cert.SquareDwProduct.frame_ideal, Cert.SquareDwProduct.frame_reference,
    Cert.DownProduct.frame, Cert.DownProduct.frame_ideal, Cert.DownProduct.frame_reference,
    Cert.DownDxProduct.frame, Cert.DownDxProduct.frame_ideal, Cert.DownDxProduct.frame_reference,
    Cert.DownDwProduct.frame, Cert.DownDwProduct.frame_ideal, Cert.DownDwProduct.frame_reference,
    Cert.UpProduct.frame, Cert.UpProduct.frame_ideal, Cert.UpProduct.frame_reference,
    Cert.UpDxProduct.frame, Cert.UpDxProduct.frame_ideal, Cert.UpDxProduct.frame_reference,
    Cert.UpDwProduct.frame, Cert.UpDwProduct.frame_ideal, Cert.UpDwProduct.frame_reference,
    Cert.ProjProduct.frame, Cert.ProjProduct.frame_ideal, Cert.ProjProduct.frame_reference,
    Cert.AdamInUpdate.frame, Cert.AdamInUpdate.frame_ideal, Cert.AdamInUpdate.frame_reference,
    Cert.AdamSquareUpdate.frame, Cert.AdamSquareUpdate.frame_ideal, Cert.AdamSquareUpdate.frame_reference,
    Cert.AdamUpUpdate.frame, Cert.AdamUpUpdate.frame_ideal, Cert.AdamUpUpdate.frame_reference,
    Cert.AdamDownUpdate.frame, Cert.AdamDownUpdate.frame_ideal, Cert.AdamDownUpdate.frame_reference,
    Cert.AdamDnConvUpdate.frame, Cert.AdamDnConvUpdate.frame_ideal, Cert.AdamDnConvUpdate.frame_reference,
    Cert.AdamFfnConvUpdate.frame, Cert.AdamFfnConvUpdate.frame_ideal, Cert.AdamFfnConvUpdate.frame_reference,
    Cert.AdamSmallUpdate.frame, Cert.AdamSmallUpdate.frame_ideal, Cert.AdamSmallUpdate.frame_reference,
    trivial, Cert.NormBackward.algebraic,
    trivial, Cert.NormBackwardAdd.algebraic,
    trivial, Cert.NormForward.algebraic,
    trivial, Cert.NormForwardAdd.algebraic,
    trivial, Cert.MergeForward.algebraic,
    trivial, Cert.MergeBackward.algebraic,
    trivial, Cert.UnitForward.algebraic,
    trivial, Cert.ConvForward.algebraic,
    trivial, (haveI := Cert.ConvBackward.facts; Cert.ConvBackward.algebraic),
    trivial, Cert.Loss.algebraic,
    Cert.AttendClaims.preserves, (haveI := Cert.AttendClaims.facts; Cert.AttendClaims.algebraic),
    trivial, Cert.ProjDxProduct.algebraic,
    trivial, Cert.ProjDwProduct.algebraic,
    trivial, Cert.BranchProduct.algebraic,
    trivial, Cert.BranchDxProduct.algebraic,
    trivial, Cert.MixDxProduct.algebraic,
    trivial, Cert.SquareDwProduct.algebraic,
    trivial, Cert.DownProduct.algebraic,
    trivial, Cert.DownDxProduct.algebraic,
    trivial, Cert.DownDwProduct.algebraic,
    trivial, Cert.UpProduct.algebraic,
    trivial, Cert.UpDxProduct.algebraic,
    trivial, Cert.UpDwProduct.algebraic,
    trivial, Cert.ProjProduct.algebraic,
    trivial, Cert.AdamInUpdate.algebraic,
    trivial, Cert.AdamSquareUpdate.algebraic,
    trivial, Cert.AdamUpUpdate.algebraic,
    trivial, Cert.AdamDownUpdate.algebraic,
    trivial, Cert.AdamDnConvUpdate.algebraic,
    trivial, Cert.AdamFfnConvUpdate.algebraic,
    trivial, Cert.AdamSmallUpdate.algebraic⟩

end Cert.Proof

end
